-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v849) = v0 c
          ∧ r.2.mem ((c.tc : Thread Cert.ReferenceIdeal.nD Cert.ReferenceIdeal.τ).loc Cert.ReferenceIdeal.main_v847) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x32x32x32 : Shape := ⟨4, ![16, 32, 32, 32]⟩
abbrev S8192x32 : Shape := ⟨2, ![8192, 32]⟩
abbrev S4x32x32x3x3 : Shape := ⟨5, ![4, 32, 32, 3, 3]⟩
abbrev S4x32 : Shape := ⟨2, ![4, 32]⟩
abbrev S_ : Shape := ⟨0, ![]⟩
abbrev S16x32x1x32x1x32 : Shape := ⟨6, ![16, 32, 1, 32, 1, 32]⟩
abbrev S16x32x1x1 : Shape := ⟨4, ![16, 32, 1, 1]⟩
abbrev S16x1x1x32 : Shape := ⟨4, ![16, 1, 1, 32]⟩
abbrev S16x32 : Shape := ⟨2, ![16, 32]⟩
abbrev S16 : Shape := ⟨1, ![16]⟩
abbrev S16x1 : Shape := ⟨2, ![16, 1]⟩
abbrev S8192 : Shape := ⟨1, ![8192]⟩
abbrev S32x8192 : Shape := ⟨2, ![32, 8192]⟩
abbrev S16x8192 : Shape := ⟨2, ![16, 8192]⟩
abbrev S1x8192 : Shape := ⟨2, ![1, 8192]⟩
abbrev S16x1x1 : Shape := ⟨3, ![16, 1, 1]⟩
abbrev S16x1x1x1 : Shape := ⟨4, ![16, 1, 1, 1]⟩
abbrev S32 : Shape := ⟨1, ![32]⟩
abbrev S1x32 : Shape := ⟨2, ![1, 32]⟩
abbrev S1 : Shape := ⟨1, ![1]⟩
abbrev S1x1 : Shape := ⟨2, ![1, 1]⟩
abbrev S16x32x1x1x1 : Shape := ⟨5, ![16, 32, 1, 1, 1]⟩
abbrev S1x1x1x32x1 : Shape := ⟨5, ![1, 1, 1, 32, 1]⟩
abbrev S16x32x1x32x1 : Shape := ⟨5, ![16, 32, 1, 32, 1]⟩
abbrev S16x32x32x1 : Shape := ⟨4, ![16, 32, 32, 1]⟩
abbrev S16x32x32x1x1 : Shape := ⟨5, ![16, 32, 32, 1, 1]⟩
abbrev S1x1x1x1x32 : Shape := ⟨5, ![1, 1, 1, 1, 32]⟩
abbrev S16x32x32x1x32 : Shape := ⟨5, ![16, 32, 32, 1, 32]⟩
abbrev S1x32x32x3x3 : Shape := ⟨5, ![1, 32, 32, 3, 3]⟩
abbrev S32x32x3x3 : Shape := ⟨4, ![32, 32, 3, 3]⟩
abbrev S16x32x34x34 : Shape := ⟨4, ![16, 32, 34, 34]⟩
abbrev S32x32x1x1 : Shape := ⟨4, ![32, 32, 1, 1]⟩
abbrev S32x32 : Shape := ⟨2, ![32, 32]⟩
abbrev S1x32x1x1 : Shape := ⟨4, ![1, 32, 1, 1]⟩
abbrev S16x32x2x16x2x16 : Shape := ⟨6, ![16, 32, 2, 16, 2, 16]⟩
abbrev S16x32x2x2 : Shape := ⟨4, ![16, 32, 2, 2]⟩
abbrev S16x2x2x32 : Shape := ⟨4, ![16, 2, 2, 32]⟩
abbrev S64x32 : Shape := ⟨2, ![64, 32]⟩
abbrev S64 : Shape := ⟨1, ![64]⟩
abbrev S64x1 : Shape := ⟨2, ![64, 1]⟩
abbrev S64x8192 : Shape := ⟨2, ![64, 8192]⟩
abbrev S16x2x2 : Shape := ⟨3, ![16, 2, 2]⟩
abbrev S16x2x2x1 : Shape := ⟨4, ![16, 2, 2, 1]⟩
abbrev S2 : Shape := ⟨1, ![2]⟩
abbrev S2x1 : Shape := ⟨2, ![2, 1]⟩
abbrev S2x32 : Shape := ⟨2, ![2, 32]⟩
abbrev S16x32x2x1x2 : Shape := ⟨5, ![16, 32, 2, 1, 2]⟩
abbrev S1x1x2x32x1 : Shape := ⟨5, ![1, 1, 2, 32, 1]⟩
abbrev S16x32x2x32x2 : Shape := ⟨5, ![16, 32, 2, 32, 2]⟩
abbrev S16x32x32x2 : Shape := ⟨4, ![16, 32, 32, 2]⟩
abbrev S16x32x32x2x1 : Shape := ⟨5, ![16, 32, 32, 2, 1]⟩
abbrev S1x1x1x2x32 : Shape := ⟨5, ![1, 1, 1, 2, 32]⟩
abbrev S16x32x32x2x32 : Shape := ⟨5, ![16, 32, 32, 2, 32]⟩
abbrev S16x32x4x8x4x8 : Shape := ⟨6, ![16, 32, 4, 8, 4, 8]⟩
abbrev S16x32x4x4 : Shape := ⟨4, ![16, 32, 4, 4]⟩
abbrev S16x4x4x32 : Shape := ⟨4, ![16, 4, 4, 32]⟩
abbrev S256x32 : Shape := ⟨2, ![256, 32]⟩
abbrev S256 : Shape := ⟨1, ![256]⟩
abbrev S256x1 : Shape := ⟨2, ![256, 1]⟩
abbrev S256x8192 : Shape := ⟨2, ![256, 8192]⟩
abbrev S16x4x4 : Shape := ⟨3, ![16, 4, 4]⟩
abbrev S16x4x4x1 : Shape := ⟨4, ![16, 4, 4, 1]⟩
abbrev S4 : Shape := ⟨1, ![4]⟩
abbrev S4x1 : Shape := ⟨2, ![4, 1]⟩
abbrev S16x32x4x1x4 : Shape := ⟨5, ![16, 32, 4, 1, 4]⟩
abbrev S1x1x4x32x1 : Shape := ⟨5, ![1, 1, 4, 32, 1]⟩
abbrev S16x32x4x32x4 : Shape := ⟨5, ![16, 32, 4, 32, 4]⟩
abbrev S16x32x32x4 : Shape := ⟨4, ![16, 32, 32, 4]⟩
abbrev S16x32x32x4x1 : Shape := ⟨5, ![16, 32, 32, 4, 1]⟩
abbrev S1x1x1x4x32 : Shape := ⟨5, ![1, 1, 1, 4, 32]⟩
abbrev S16x32x32x4x32 : Shape := ⟨5, ![16, 32, 32, 4, 32]⟩
abbrev S16x32x8x4x8x4 : Shape := ⟨6, ![16, 32, 8, 4, 8, 4]⟩
abbrev S16x32x8x8 : Shape := ⟨4, ![16, 32, 8, 8]⟩
abbrev S16x8x8x32 : Shape := ⟨4, ![16, 8, 8, 32]⟩
abbrev S1024x32 : Shape := ⟨2, ![1024, 32]⟩
abbrev S1024 : Shape := ⟨1, ![1024]⟩
abbrev S1024x1 : Shape := ⟨2, ![1024, 1]⟩
abbrev S1024x8192 : Shape := ⟨2, ![1024, 8192]⟩
abbrev S16x8x8 : Shape := ⟨3, ![16, 8, 8]⟩
abbrev S16x8x8x1 : Shape := ⟨4, ![16, 8, 8, 1]⟩
abbrev S8 : Shape := ⟨1, ![8]⟩
abbrev S8x1 : Shape := ⟨2, ![8, 1]⟩
abbrev S8x32 : Shape := ⟨2, ![8, 32]⟩
abbrev S16x32x8x1x8 : Shape := ⟨5, ![16, 32, 8, 1, 8]⟩
abbrev S1x1x8x32x1 : Shape := ⟨5, ![1, 1, 8, 32, 1]⟩
abbrev S16x32x8x32x8 : Shape := ⟨5, ![16, 32, 8, 32, 8]⟩
abbrev S16x32x32x8 : Shape := ⟨4, ![16, 32, 32, 8]⟩
abbrev S16x32x32x8x1 : Shape := ⟨5, ![16, 32, 32, 8, 1]⟩
abbrev S1x1x1x8x32 : Shape := ⟨5, ![1, 1, 1, 8, 32]⟩
abbrev S16x32x32x8x32 : Shape := ⟨5, ![16, 32, 32, 8, 32]⟩
abbrev S16x32x16x2x16x2 : Shape := ⟨6, ![16, 32, 16, 2, 16, 2]⟩
abbrev S16x32x16x16 : Shape := ⟨4, ![16, 32, 16, 16]⟩
abbrev S16x16x16x32 : Shape := ⟨4, ![16, 16, 16, 32]⟩
abbrev S4096x32 : Shape := ⟨2, ![4096, 32]⟩
abbrev S4096 : Shape := ⟨1, ![4096]⟩
abbrev S4096x1 : Shape := ⟨2, ![4096, 1]⟩
abbrev S4096x8192 : Shape := ⟨2, ![4096, 8192]⟩
abbrev S16x16x16 : Shape := ⟨3, ![16, 16, 16]⟩
abbrev S16x16x16x1 : Shape := ⟨4, ![16, 16, 16, 1]⟩
abbrev S16x32x16x1x16 : Shape := ⟨5, ![16, 32, 16, 1, 16]⟩
abbrev S1x1x16x32x1 : Shape := ⟨5, ![1, 1, 16, 32, 1]⟩
abbrev S16x32x16x32x16 : Shape := ⟨5, ![16, 32, 16, 32, 16]⟩
abbrev S16x32x32x16 : Shape := ⟨4, ![16, 32, 32, 16]⟩
abbrev S16x32x32x16x1 : Shape := ⟨5, ![16, 32, 32, 16, 1]⟩
abbrev S1x1x1x16x32 : Shape := ⟨5, ![1, 1, 1, 16, 32]⟩
abbrev S16x32x32x16x32 : Shape := ⟨5, ![16, 32, 32, 16, 32]⟩
abbrev S16384x32 : Shape := ⟨2, ![16384, 32]⟩
abbrev S16384 : Shape := ⟨1, ![16384]⟩
abbrev S16384x1 : Shape := ⟨2, ![16384, 1]⟩
abbrev S16384x8192 : Shape := ⟨2, ![16384, 8192]⟩
abbrev S131072x1024 : Shape := ⟨2, ![131072, 1024]⟩
abbrev S131072 : Shape := ⟨1, ![131072]⟩
abbrev S131072x1 : Shape := ⟨2, ![131072, 1]⟩

class Facts : Prop where
  bcast_S_S8192x32 : S_.BroadcastsInDim S8192x32 (![] : Fin 0 → Fin S8192x32.rank)
  reducesTo_S8192x32_S_d0_1 : S8192x32.ReducesTo [0, 1] S_
  h_S_ : 0 < S_.numel
  shapeCasts_S16x32x32x32_S16x32x1x32x1x32 : S16x32x32x32.ShapeCasts S16x32x1x32x1x32
  reducesTo_S16x32x1x32x1x32_S16x32x1x1_d3_5 : S16x32x1x32x1x32.ReducesTo [3, 5] S16x32x1x1
  bcast_S_S16x32x1x1 : S_.BroadcastsInDim S16x32x1x1 (![] : Fin 0 → Fin S16x32x1x1.rank)
  transposes_S16x32x1x1_S16x1x1x32_0_2_3_1 : S16x32x1x1.Transposes [0, 2, 3, 1] S16x1x1x32
  shapeCasts_S16x1x1x32_S16x32 : S16x1x1x32.ShapeCasts S16x32
  reducesTo_S16x32_S16_d1 : S16x32.ReducesTo [1] S16
  bcast_S16_S16x1_0 : S16.BroadcastsInDim S16x1 (![0] : Fin 1 → Fin S16x1.rank)
  reducesTo_S8192x32_S8192_d1 : S8192x32.ReducesTo [1] S8192
  transposes_S8192x32_S32x8192_1_0 : S8192x32.Transposes [1, 0] S32x8192
  bcast_S8192_S1x8192_1 : S8192.BroadcastsInDim S1x8192 (![1] : Fin 1 → Fin S1x8192.rank)
  bcast_S16x1_S16x8192_0_1 : S16x1.BroadcastsInDim S16x8192 (![0, 1] : Fin 2 → Fin S16x8192.rank)
  bcast_S1x8192_S16x8192_0_1 : S1x8192.BroadcastsInDim S16x8192 (![0, 1] : Fin 2 → Fin S16x8192.rank)
  bcast_S_S16x8192 : S_.BroadcastsInDim S16x8192 (![] : Fin 0 → Fin S16x8192.rank)
  reducesTo_S16x8192_S16_d1 : S16x8192.ReducesTo [1] S16
  natLt_1_32 : 1 < 32
  bcast_S_S16 : S_.BroadcastsInDim S16 (![] : Fin 0 → Fin S16.rank)
  reducesTo_S16_S_d0 : S16.ReducesTo [0] S_
  shapeCasts_S16_S16x1x1 : S16.ShapeCasts S16x1x1
  bcast_S16x1x1_S16x1x1x1_0_1_2 : S16x1x1.BroadcastsInDim S16x1x1x1 (![0, 1, 2] : Fin 3 → Fin S16x1x1x1.rank)
  transposes_S16x1x1x32_S16x32x1x1_0_3_1_2 : S16x1x1x32.Transposes [0, 3, 1, 2] S16x32x1x1
  bcast_S_S32 : S_.BroadcastsInDim S32 (![] : Fin 0 → Fin S32.rank)
  bcast_S32_S1x32_1 : S32.BroadcastsInDim S1x32 (![1] : Fin 1 → Fin S1x32.rank)
  bcast_S1_S1x1_0 : S1.BroadcastsInDim S1x1 (![0] : Fin 1 → Fin S1x1.rank)
  bcast_S1x1_S1x32_0_1 : S1x1.BroadcastsInDim S1x32 (![0, 1] : Fin 2 → Fin S1x32.rank)
  bcast_S_S1x32 : S_.BroadcastsInDim S1x32 (![] : Fin 0 → Fin S1x32.rank)
  reducesTo_S1x32_S32_d0 : S1x32.ReducesTo [0] S32
  bcast_S16x32x1x1_S16x32x1x1x1_0_1_2_4 : S16x32x1x1.BroadcastsInDim S16x32x1x1x1 (![0, 1, 2, 4] : Fin 4 → Fin S16x32x1x1x1.rank)
  bcast_S1x32_S1x1x1x32x1_2_3 : S1x32.BroadcastsInDim S1x1x1x32x1 (![2, 3] : Fin 2 → Fin S1x1x1x32x1.rank)
  bcast_S16x32x1x1x1_S16x32x1x32x1_0_1_2_3_4 : S16x32x1x1x1.BroadcastsInDim S16x32x1x32x1 (![0, 1, 2, 3, 4] : Fin 5 → Fin S16x32x1x32x1.rank)
  bcast_S1x1x1x32x1_S16x32x1x32x1_0_1_2_3_4 : S1x1x1x32x1.BroadcastsInDim S16x32x1x32x1 (![0, 1, 2, 3, 4] : Fin 5 → Fin S16x32x1x32x1.rank)
  reducesTo_S16x32x1x32x1_S16x32x32x1_d2 : S16x32x1x32x1.ReducesTo [2] S16x32x32x1
  bcast_S16x32x32x1_S16x32x32x1x1_0_1_2_3 : S16x32x32x1.BroadcastsInDim S16x32x32x1x1 (![0, 1, 2, 3] : Fin 4 → Fin S16x32x32x1x1.rank)
  bcast_S1x32_S1x1x1x1x32_3_4 : S1x32.BroadcastsInDim S1x1x1x1x32 (![3, 4] : Fin 2 → Fin S1x1x1x1x32.rank)
  bcast_S16x32x32x1x1_S16x32x32x1x32_0_1_2_3_4 : S16x32x32x1x1.BroadcastsInDim S16x32x32x1x32 (![0, 1, 2, 3, 4] : Fin 5 → Fin S16x32x32x1x32.rank)
  bcast_S1x1x1x1x32_S16x32x32x1x32_0_1_2_3_4 : S1x1x1x1x32.BroadcastsInDim S16x32x32x1x32 (![0, 1, 2, 3, 4] : Fin 5 → Fin S16x32x32x1x32.rank)
  reducesTo_S16x32x32x1x32_S16x32x32x32_d3 : S16x32x32x1x32.ReducesTo [3] S16x32x32x32
  slices_S4x32x32x3x3_S1x32x32x3x3_0_0_0_0_0 : S4x32x32x3x3.Slices ![0, 0, 0, 0, 0] S1x32x32x3x3
  shapeCasts_S1x32x32x3x3_S32x32x3x3 : S1x32x32x3x3.ShapeCasts S32x32x3x3
  slices_S4x32_S1x32_0_0 : S4x32.Slices ![0, 0] S1x32
  shapeCasts_S1x32_S32 : S1x32.ShapeCasts S32
  pads_S16x32x32x32_S16x32x34x34_000_000_110_110 : S16x32x32x32.Pads (![0, 0, 1, 1] : Fin 4 → Nat) ![0, 0, 1, 1] ![0, 0, 0, 0] S16x32x34x34
  slices_S16x32x34x34_S16x32x32x32_0_0_0_0 : S16x32x34x34.Slices ![0, 0, 0, 0] S16x32x32x32
  slices_S32x32x3x3_S32x32x1x1_0_0_0_0 : S32x32x3x3.Slices ![0, 0, 0, 0] S32x32x1x1
  shapeCasts_S32x32x1x1_S32x32 : S32x32x1x1.ShapeCasts S32x32
  slices_S16x32x34x34_S16x32x32x32_0_0_0_1 : S16x32x34x34.Slices ![0, 0, 0, 1] S16x32x32x32
  slices_S32x32x3x3_S32x32x1x1_0_0_0_1 : S32x32x3x3.Slices ![0, 0, 0, 1] S32x32x1x1
  slices_S16x32x34x34_S16x32x32x32_0_0_0_2 : S16x32x34x34.Slices ![0, 0, 0, 2] S16x32x32x32
  slices_S32x32x3x3_S32x32x1x1_0_0_0_2 : S32x32x3x3.Slices ![0, 0, 0, 2] S32x32x1x1
  slices_S16x32x34x34_S16x32x32x32_0_0_1_0 : S16x32x34x34.Slices ![0, 0, 1, 0] S16x32x32x32
  slices_S32x32x3x3_S32x32x1x1_0_0_1_0 : S32x32x3x3.Slices ![0, 0, 1, 0] S32x32x1x1
  slices_S16x32x34x34_S16x32x32x32_0_0_1_1 : S16x32x34x34.Slices ![0, 0, 1, 1] S16x32x32x32
  slices_S32x32x3x3_S32x32x1x1_0_0_1_1 : S32x32x3x3.Slices ![0, 0, 1, 1] S32x32x1x1
  slices_S16x32x34x34_S16x32x32x32_0_0_1_2 : S16x32x34x34.Slices ![0, 0, 1, 2] S16x32x32x32
  slices_S32x32x3x3_S32x32x1x1_0_0_1_2 : S32x32x3x3.Slices ![0, 0, 1, 2] S32x32x1x1
  slices_S16x32x34x34_S16x32x32x32_0_0_2_0 : S16x32x34x34.Slices ![0, 0, 2, 0] S16x32x32x32
  slices_S32x32x3x3_S32x32x1x1_0_0_2_0 : S32x32x3x3.Slices ![0, 0, 2, 0] S32x32x1x1
  slices_S16x32x34x34_S16x32x32x32_0_0_2_1 : S16x32x34x34.Slices ![0, 0, 2, 1] S16x32x32x32
  slices_S32x32x3x3_S32x32x1x1_0_0_2_1 : S32x32x3x3.Slices ![0, 0, 2, 1] S32x32x1x1
  slices_S16x32x34x34_S16x32x32x32_0_0_2_2 : S16x32x34x34.Slices ![0, 0, 2, 2] S16x32x32x32
  slices_S32x32x3x3_S32x32x1x1_0_0_2_2 : S32x32x3x3.Slices ![0, 0, 2, 2] S32x32x1x1
  transposes_S16x32x32x32_S16x32x32x32_0_3_1_2 : S16x32x32x32.Transposes [0, 3, 1, 2] S16x32x32x32
  bcast_S32_S1x32x1x1_1 : S32.BroadcastsInDim S1x32x1x1 (![1] : Fin 1 → Fin S1x32x1x1.rank)
  bcast_S1x32x1x1_S16x32x32x32_0_1_2_3 : S1x32x1x1.BroadcastsInDim S16x32x32x32 (![0, 1, 2, 3] : Fin 4 → Fin S16x32x32x32.rank)
  bcast_S_S16x32x32x32 : S_.BroadcastsInDim S16x32x32x32 (![] : Fin 0 → Fin S16x32x32x32.rank)
  shapeCasts_S16x32x32x32_S16x32x2x16x2x16 : S16x32x32x32.ShapeCasts S16x32x2x16x2x16
  reducesTo_S16x32x2x16x2x16_S16x32x2x2_d3_5 : S16x32x2x16x2x16.ReducesTo [3, 5] S16x32x2x2
  bcast_S_S16x32x2x2 : S_.BroadcastsInDim S16x32x2x2 (![] : Fin 0 → Fin S16x32x2x2.rank)
  transposes_S16x32x2x2_S16x2x2x32_0_2_3_1 : S16x32x2x2.Transposes [0, 2, 3, 1] S16x2x2x32
  shapeCasts_S16x2x2x32_S64x32 : S16x2x2x32.ShapeCasts S64x32
  reducesTo_S64x32_S64_d1 : S64x32.ReducesTo [1] S64
  bcast_S64_S64x1_0 : S64.BroadcastsInDim S64x1 (![0] : Fin 1 → Fin S64x1.rank)
  bcast_S64x1_S64x8192_0_1 : S64x1.BroadcastsInDim S64x8192 (![0, 1] : Fin 2 → Fin S64x8192.rank)
  bcast_S1x8192_S64x8192_0_1 : S1x8192.BroadcastsInDim S64x8192 (![0, 1] : Fin 2 → Fin S64x8192.rank)
  bcast_S_S64x8192 : S_.BroadcastsInDim S64x8192 (![] : Fin 0 → Fin S64x8192.rank)
  reducesTo_S64x8192_S64_d1 : S64x8192.ReducesTo [1] S64
  bcast_S_S64 : S_.BroadcastsInDim S64 (![] : Fin 0 → Fin S64.rank)
  reducesTo_S64_S_d0 : S64.ReducesTo [0] S_
  shapeCasts_S64_S16x2x2 : S64.ShapeCasts S16x2x2
  bcast_S16x2x2_S16x2x2x1_0_1_2 : S16x2x2.BroadcastsInDim S16x2x2x1 (![0, 1, 2] : Fin 3 → Fin S16x2x2x1.rank)
  transposes_S16x2x2x32_S16x32x2x2_0_3_1_2 : S16x2x2x32.Transposes [0, 3, 1, 2] S16x32x2x2
  bcast_S2_S2x1_0 : S2.BroadcastsInDim S2x1 (![0] : Fin 1 → Fin S2x1.rank)
  bcast_S1x32_S2x32_0_1 : S1x32.BroadcastsInDim S2x32 (![0, 1] : Fin 2 → Fin S2x32.rank)
  bcast_S2x1_S2x32_0_1 : S2x1.BroadcastsInDim S2x32 (![0, 1] : Fin 2 → Fin S2x32.rank)
  bcast_S_S2x32 : S_.BroadcastsInDim S2x32 (![] : Fin 0 → Fin S2x32.rank)
  reducesTo_S2x32_S32_d0 : S2x32.ReducesTo [0] S32
  bcast_S16x32x2x2_S16x32x2x1x2_0_1_2_4 : S16x32x2x2.BroadcastsInDim S16x32x2x1x2 (![0, 1, 2, 4] : Fin 4 → Fin S16x32x2x1x2.rank)
  bcast_S2x32_S1x1x2x32x1_2_3 : S2x32.BroadcastsInDim S1x1x2x32x1 (![2, 3] : Fin 2 → Fin S1x1x2x32x1.rank)
  bcast_S16x32x2x1x2_S16x32x2x32x2_0_1_2_3_4 : S16x32x2x1x2.BroadcastsInDim S16x32x2x32x2 (![0, 1, 2, 3, 4] : Fin 5 → Fin S16x32x2x32x2.rank)
  bcast_S1x1x2x32x1_S16x32x2x32x2_0_1_2_3_4 : S1x1x2x32x1.BroadcastsInDim S16x32x2x32x2 (![0, 1, 2, 3, 4] : Fin 5 → Fin S16x32x2x32x2.rank)
  reducesTo_S16x32x2x32x2_S16x32x32x2_d2 : S16x32x2x32x2.ReducesTo [2] S16x32x32x2
  bcast_S16x32x32x2_S16x32x32x2x1_0_1_2_3 : S16x32x32x2.BroadcastsInDim S16x32x32x2x1 (![0, 1, 2, 3] : Fin 4 → Fin S16x32x32x2x1.rank)
  bcast_S2x32_S1x1x1x2x32_3_4 : S2x32.BroadcastsInDim S1x1x1x2x32 (![3, 4] : Fin 2 → Fin S1x1x1x2x32.rank)
  bcast_S16x32x32x2x1_S16x32x32x2x32_0_1_2_3_4 : S16x32x32x2x1.BroadcastsInDim S16x32x32x2x32 (![0, 1, 2, 3, 4] : Fin 5 → Fin S16x32x32x2x32.rank)
  bcast_S1x1x1x2x32_S16x32x32x2x32_0_1_2_3_4 : S1x1x1x2x32.BroadcastsInDim S16x32x32x2x32 (![0, 1, 2, 3, 4] : Fin 5 → Fin S16x32x32x2x32.rank)
  reducesTo_S16x32x32x2x32_S16x32x32x32_d3 : S16x32x32x2x32.ReducesTo [3] S16x32x32x32
  shapeCasts_S16x32x32x32_S16x32x4x8x4x8 : S16x32x32x32.ShapeCasts S16x32x4x8x4x8
  reducesTo_S16x32x4x8x4x8_S16x32x4x4_d3_5 : S16x32x4x8x4x8.ReducesTo [3, 5] S16x32x4x4
  bcast_S_S16x32x4x4 : S_.BroadcastsInDim S16x32x4x4 (![] : Fin 0 → Fin S16x32x4x4.rank)
  transposes_S16x32x4x4_S16x4x4x32_0_2_3_1 : S16x32x4x4.Transposes [0, 2, 3, 1] S16x4x4x32
  shapeCasts_S16x4x4x32_S256x32 : S16x4x4x32.ShapeCasts S256x32
  reducesTo_S256x32_S256_d1 : S256x32.ReducesTo [1] S256
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  bcast_S1x8192_S256x8192_0_1 : S1x8192.BroadcastsInDim S256x8192 (![0, 1] : Fin 2 → Fin S256x8192.rank)
  bcast_S_S256x8192 : S_.BroadcastsInDim S256x8192 (![] : Fin 0 → Fin S256x8192.rank)
  reducesTo_S256x8192_S256_d1 : S256x8192.ReducesTo [1] S256
  bcast_S_S256 : S_.BroadcastsInDim S256 (![] : Fin 0 → Fin S256.rank)
  reducesTo_S256_S_d0 : S256.ReducesTo [0] S_
  shapeCasts_S256_S16x4x4 : S256.ShapeCasts S16x4x4
  bcast_S16x4x4_S16x4x4x1_0_1_2 : S16x4x4.BroadcastsInDim S16x4x4x1 (![0, 1, 2] : Fin 3 → Fin S16x4x4x1.rank)
  transposes_S16x4x4x32_S16x32x4x4_0_3_1_2 : S16x4x4x32.Transposes [0, 3, 1, 2] S16x32x4x4
  bcast_S4_S4x1_0 : S4.BroadcastsInDim S4x1 (![0] : Fin 1 → Fin S4x1.rank)
  bcast_S1x32_S4x32_0_1 : S1x32.BroadcastsInDim S4x32 (![0, 1] : Fin 2 → Fin S4x32.rank)
  bcast_S4x1_S4x32_0_1 : S4x1.BroadcastsInDim S4x32 (![0, 1] : Fin 2 → Fin S4x32.rank)
  bcast_S_S4x32 : S_.BroadcastsInDim S4x32 (![] : Fin 0 → Fin S4x32.rank)
  reducesTo_S4x32_S32_d0 : S4x32.ReducesTo [0] S32
  bcast_S16x32x4x4_S16x32x4x1x4_0_1_2_4 : S16x32x4x4.BroadcastsInDim S16x32x4x1x4 (![0, 1, 2, 4] : Fin 4 → Fin S16x32x4x1x4.rank)
  bcast_S4x32_S1x1x4x32x1_2_3 : S4x32.BroadcastsInDim S1x1x4x32x1 (![2, 3] : Fin 2 → Fin S1x1x4x32x1.rank)
  bcast_S16x32x4x1x4_S16x32x4x32x4_0_1_2_3_4 : S16x32x4x1x4.BroadcastsInDim S16x32x4x32x4 (![0, 1, 2, 3, 4] : Fin 5 → Fin S16x32x4x32x4.rank)
  bcast_S1x1x4x32x1_S16x32x4x32x4_0_1_2_3_4 : S1x1x4x32x1.BroadcastsInDim S16x32x4x32x4 (![0, 1, 2, 3, 4] : Fin 5 → Fin S16x32x4x32x4.rank)
  reducesTo_S16x32x4x32x4_S16x32x32x4_d2 : S16x32x4x32x4.ReducesTo [2] S16x32x32x4
  bcast_S16x32x32x4_S16x32x32x4x1_0_1_2_3 : S16x32x32x4.BroadcastsInDim S16x32x32x4x1 (![0, 1, 2, 3] : Fin 4 → Fin S16x32x32x4x1.rank)
  bcast_S4x32_S1x1x1x4x32_3_4 : S4x32.BroadcastsInDim S1x1x1x4x32 (![3, 4] : Fin 2 → Fin S1x1x1x4x32.rank)
  bcast_S16x32x32x4x1_S16x32x32x4x32_0_1_2_3_4 : S16x32x32x4x1.BroadcastsInDim S16x32x32x4x32 (![0, 1, 2, 3, 4] : Fin 5 → Fin S16x32x32x4x32.rank)
  bcast_S1x1x1x4x32_S16x32x32x4x32_0_1_2_3_4 : S1x1x1x4x32.BroadcastsInDim S16x32x32x4x32 (![0, 1, 2, 3, 4] : Fin 5 → Fin S16x32x32x4x32.rank)
  reducesTo_S16x32x32x4x32_S16x32x32x32_d3 : S16x32x32x4x32.ReducesTo [3] S16x32x32x32
  slices_S4x32x32x3x3_S1x32x32x3x3_1_0_0_0_0 : S4x32x32x3x3.Slices ![1, 0, 0, 0, 0] S1x32x32x3x3
  slices_S4x32_S1x32_1_0 : S4x32.Slices ![1, 0] S1x32
  shapeCasts_S16x32x32x32_S16x32x8x4x8x4 : S16x32x32x32.ShapeCasts S16x32x8x4x8x4
  reducesTo_S16x32x8x4x8x4_S16x32x8x8_d3_5 : S16x32x8x4x8x4.ReducesTo [3, 5] S16x32x8x8
  bcast_S_S16x32x8x8 : S_.BroadcastsInDim S16x32x8x8 (![] : Fin 0 → Fin S16x32x8x8.rank)
  transposes_S16x32x8x8_S16x8x8x32_0_2_3_1 : S16x32x8x8.Transposes [0, 2, 3, 1] S16x8x8x32
  shapeCasts_S16x8x8x32_S1024x32 : S16x8x8x32.ShapeCasts S1024x32
  reducesTo_S1024x32_S1024_d1 : S1024x32.ReducesTo [1] S1024
  bcast_S1024_S1024x1_0 : S1024.BroadcastsInDim S1024x1 (![0] : Fin 1 → Fin S1024x1.rank)
  bcast_S1024x1_S1024x8192_0_1 : S1024x1.BroadcastsInDim S1024x8192 (![0, 1] : Fin 2 → Fin S1024x8192.rank)
  bcast_S1x8192_S1024x8192_0_1 : S1x8192.BroadcastsInDim S1024x8192 (![0, 1] : Fin 2 → Fin S1024x8192.rank)
  bcast_S_S1024x8192 : S_.BroadcastsInDim S1024x8192 (![] : Fin 0 → Fin S1024x8192.rank)
  reducesTo_S1024x8192_S1024_d1 : S1024x8192.ReducesTo [1] S1024
  bcast_S_S1024 : S_.BroadcastsInDim S1024 (![] : Fin 0 → Fin S1024.rank)
  reducesTo_S1024_S_d0 : S1024.ReducesTo [0] S_
  shapeCasts_S1024_S16x8x8 : S1024.ShapeCasts S16x8x8
  bcast_S16x8x8_S16x8x8x1_0_1_2 : S16x8x8.BroadcastsInDim S16x8x8x1 (![0, 1, 2] : Fin 3 → Fin S16x8x8x1.rank)
  transposes_S16x8x8x32_S16x32x8x8_0_3_1_2 : S16x8x8x32.Transposes [0, 3, 1, 2] S16x32x8x8
  bcast_S8_S8x1_0 : S8.BroadcastsInDim S8x1 (![0] : Fin 1 → Fin S8x1.rank)
  bcast_S1x32_S8x32_0_1 : S1x32.BroadcastsInDim S8x32 (![0, 1] : Fin 2 → Fin S8x32.rank)
  bcast_S8x1_S8x32_0_1 : S8x1.BroadcastsInDim S8x32 (![0, 1] : Fin 2 → Fin S8x32.rank)
  bcast_S_S8x32 : S_.BroadcastsInDim S8x32 (![] : Fin 0 → Fin S8x32.rank)
  reducesTo_S8x32_S32_d0 : S8x32.ReducesTo [0] S32
  bcast_S16x32x8x8_S16x32x8x1x8_0_1_2_4 : S16x32x8x8.BroadcastsInDim S16x32x8x1x8 (![0, 1, 2, 4] : Fin 4 → Fin S16x32x8x1x8.rank)
  bcast_S8x32_S1x1x8x32x1_2_3 : S8x32.BroadcastsInDim S1x1x8x32x1 (![2, 3] : Fin 2 → Fin S1x1x8x32x1.rank)
  bcast_S16x32x8x1x8_S16x32x8x32x8_0_1_2_3_4 : S16x32x8x1x8.BroadcastsInDim S16x32x8x32x8 (![0, 1, 2, 3, 4] : Fin 5 → Fin S16x32x8x32x8.rank)
  bcast_S1x1x8x32x1_S16x32x8x32x8_0_1_2_3_4 : S1x1x8x32x1.BroadcastsInDim S16x32x8x32x8 (![0, 1, 2, 3, 4] : Fin 5 → Fin S16x32x8x32x8.rank)
  reducesTo_S16x32x8x32x8_S16x32x32x8_d2 : S16x32x8x32x8.ReducesTo [2] S16x32x32x8
  bcast_S16x32x32x8_S16x32x32x8x1_0_1_2_3 : S16x32x32x8.BroadcastsInDim S16x32x32x8x1 (![0, 1, 2, 3] : Fin 4 → Fin S16x32x32x8x1.rank)
  bcast_S8x32_S1x1x1x8x32_3_4 : S8x32.BroadcastsInDim S1x1x1x8x32 (![3, 4] : Fin 2 → Fin S1x1x1x8x32.rank)
  bcast_S16x32x32x8x1_S16x32x32x8x32_0_1_2_3_4 : S16x32x32x8x1.BroadcastsInDim S16x32x32x8x32 (![0, 1, 2, 3, 4] : Fin 5 → Fin S16x32x32x8x32.rank)
  bcast_S1x1x1x8x32_S16x32x32x8x32_0_1_2_3_4 : S1x1x1x8x32.BroadcastsInDim S16x32x32x8x32 (![0, 1, 2, 3, 4] : Fin 5 → Fin S16x32x32x8x32.rank)
  reducesTo_S16x32x32x8x32_S16x32x32x32_d3 : S16x32x32x8x32.ReducesTo [3] S16x32x32x32
  slices_S4x32x32x3x3_S1x32x32x3x3_2_0_0_0_0 : S4x32x32x3x3.Slices ![2, 0, 0, 0, 0] S1x32x32x3x3
  slices_S4x32_S1x32_2_0 : S4x32.Slices ![2, 0] S1x32
  shapeCasts_S16x32x32x32_S16x32x16x2x16x2 : S16x32x32x32.ShapeCasts S16x32x16x2x16x2
  reducesTo_S16x32x16x2x16x2_S16x32x16x16_d3_5 : S16x32x16x2x16x2.ReducesTo [3, 5] S16x32x16x16
  bcast_S_S16x32x16x16 : S_.BroadcastsInDim S16x32x16x16 (![] : Fin 0 → Fin S16x32x16x16.rank)
  transposes_S16x32x16x16_S16x16x16x32_0_2_3_1 : S16x32x16x16.Transposes [0, 2, 3, 1] S16x16x16x32
  shapeCasts_S16x16x16x32_S4096x32 : S16x16x16x32.ShapeCasts S4096x32
  reducesTo_S4096x32_S4096_d1 : S4096x32.ReducesTo [1] S4096
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  bcast_S1x8192_S4096x8192_0_1 : S1x8192.BroadcastsInDim S4096x8192 (![0, 1] : Fin 2 → Fin S4096x8192.rank)
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  reducesTo_S4096_S_d0 : S4096.ReducesTo [0] S_
  shapeCasts_S4096_S16x16x16 : S4096.ShapeCasts S16x16x16
  bcast_S16x16x16_S16x16x16x1_0_1_2 : S16x16x16.BroadcastsInDim S16x16x16x1 (![0, 1, 2] : Fin 3 → Fin S16x16x16x1.rank)
  transposes_S16x16x16x32_S16x32x16x16_0_3_1_2 : S16x16x16x32.Transposes [0, 3, 1, 2] S16x32x16x16
  bcast_S1x32_S16x32_0_1 : S1x32.BroadcastsInDim S16x32 (![0, 1] : Fin 2 → Fin S16x32.rank)
  bcast_S16x1_S16x32_0_1 : S16x1.BroadcastsInDim S16x32 (![0, 1] : Fin 2 → Fin S16x32.rank)
  bcast_S_S16x32 : S_.BroadcastsInDim S16x32 (![] : Fin 0 → Fin S16x32.rank)
  reducesTo_S16x32_S32_d0 : S16x32.ReducesTo [0] S32
  bcast_S16x32x16x16_S16x32x16x1x16_0_1_2_4 : S16x32x16x16.BroadcastsInDim S16x32x16x1x16 (![0, 1, 2, 4] : Fin 4 → Fin S16x32x16x1x16.rank)
  bcast_S16x32_S1x1x16x32x1_2_3 : S16x32.BroadcastsInDim S1x1x16x32x1 (![2, 3] : Fin 2 → Fin S1x1x16x32x1.rank)
  bcast_S16x32x16x1x16_S16x32x16x32x16_0_1_2_3_4 : S16x32x16x1x16.BroadcastsInDim S16x32x16x32x16 (![0, 1, 2, 3, 4] : Fin 5 → Fin S16x32x16x32x16.rank)
  bcast_S1x1x16x32x1_S16x32x16x32x16_0_1_2_3_4 : S1x1x16x32x1.BroadcastsInDim S16x32x16x32x16 (![0, 1, 2, 3, 4] : Fin 5 → Fin S16x32x16x32x16.rank)
  reducesTo_S16x32x16x32x16_S16x32x32x16_d2 : S16x32x16x32x16.ReducesTo [2] S16x32x32x16
  bcast_S16x32x32x16_S16x32x32x16x1_0_1_2_3 : S16x32x32x16.BroadcastsInDim S16x32x32x16x1 (![0, 1, 2, 3] : Fin 4 → Fin S16x32x32x16x1.rank)
  bcast_S16x32_S1x1x1x16x32_3_4 : S16x32.BroadcastsInDim S1x1x1x16x32 (![3, 4] : Fin 2 → Fin S1x1x1x16x32.rank)
  bcast_S16x32x32x16x1_S16x32x32x16x32_0_1_2_3_4 : S16x32x32x16x1.BroadcastsInDim S16x32x32x16x32 (![0, 1, 2, 3, 4] : Fin 5 → Fin S16x32x32x16x32.rank)
  bcast_S1x1x1x16x32_S16x32x32x16x32_0_1_2_3_4 : S1x1x1x16x32.BroadcastsInDim S16x32x32x16x32 (![0, 1, 2, 3, 4] : Fin 5 → Fin S16x32x32x16x32.rank)
  reducesTo_S16x32x32x16x32_S16x32x32x32_d3 : S16x32x32x16x32.ReducesTo [3] S16x32x32x32
  slices_S4x32x32x3x3_S1x32x32x3x3_3_0_0_0_0 : S4x32x32x3x3.Slices ![3, 0, 0, 0, 0] S1x32x32x3x3
  slices_S4x32_S1x32_3_0 : S4x32.Slices ![3, 0] S1x32
  transposes_S16x32x32x32_S16x32x32x32_0_2_3_1 : S16x32x32x32.Transposes [0, 2, 3, 1] S16x32x32x32
  shapeCasts_S16x32x32x32_S16384x32 : S16x32x32x32.ShapeCasts S16384x32
  reducesTo_S16384x32_S16384_d1 : S16384x32.ReducesTo [1] S16384
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  bcast_S_S16384x8192 : S_.BroadcastsInDim S16384x8192 (![] : Fin 0 → Fin S16384x8192.rank)
  reducesTo_S16384x8192_S16384_d1 : S16384x8192.ReducesTo [1] S16384
  bcast_S_S16384 : S_.BroadcastsInDim S16384 (![] : Fin 0 → Fin S16384.rank)
  reducesTo_S16384_S_d0 : S16384.ReducesTo [0] S_
  shapeCasts_S16384x8192_S131072x1024 : S16384x8192.ShapeCasts S131072x1024
  reducesTo_S131072x1024_S131072_d1 : S131072x1024.ReducesTo [1] S131072
  bcast_S131072_S131072x1_0 : S131072.BroadcastsInDim S131072x1 (![0] : Fin 1 → Fin S131072x1.rank)
  bcast_S131072x1_S131072x1024_0_1 : S131072x1.BroadcastsInDim S131072x1024 (![0, 1] : Fin 2 → Fin S131072x1024.rank)
  bcast_S_S131072 : S_.BroadcastsInDim S131072 (![] : Fin 0 → Fin S131072.rank)
  reducesTo_S131072_S_d0 : S131072.ReducesTo [0] S_
  dot_S16x32_S32x8192_S16x8192_1_0_0_1_n_n_wf : DotDims.WF S16x32 S32x8192 S16x8192 [1] [0] [0] [1] [] []
  gather_S8192x32_S16x1x1x1_S16x1x1x32_3_0_n_n_0_3_132_wf : GatherDims.WF S8192x32 S16x1x1x1 S16x1x1x32 [3] [0] [] [0] [] 3 ![1, 32]
  dot_S16x32x32x32_S32x32_S16x32x32x32_1_1_023_0_n_n_wf : DotDims.WF S16x32x32x32 S32x32 S16x32x32x32 [1] [1] [0, 2, 3] [0] [] []
  dot_S64x32_S32x8192_S64x8192_1_0_0_1_n_n_wf : DotDims.WF S64x32 S32x8192 S64x8192 [1] [0] [0] [1] [] []
  gather_S8192x32_S16x2x2x1_S16x2x2x32_3_0_n_n_0_3_132_wf : GatherDims.WF S8192x32 S16x2x2x1 S16x2x2x32 [3] [0] [] [0] [] 3 ![1, 32]
  dot_S256x32_S32x8192_S256x8192_1_0_0_1_n_n_wf : DotDims.WF S256x32 S32x8192 S256x8192 [1] [0] [0] [1] [] []
  gather_S8192x32_S16x4x4x1_S16x4x4x32_3_0_n_n_0_3_132_wf : GatherDims.WF S8192x32 S16x4x4x1 S16x4x4x32 [3] [0] [] [0] [] 3 ![1, 32]
  dot_S1024x32_S32x8192_S1024x8192_1_0_0_1_n_n_wf : DotDims.WF S1024x32 S32x8192 S1024x8192 [1] [0] [0] [1] [] []
  gather_S8192x32_S16x8x8x1_S16x8x8x32_3_0_n_n_0_3_132_wf : GatherDims.WF S8192x32 S16x8x8x1 S16x8x8x32 [3] [0] [] [0] [] 3 ![1, 32]
  dot_S4096x32_S32x8192_S4096x8192_1_0_0_1_n_n_wf : DotDims.WF S4096x32 S32x8192 S4096x8192 [1] [0] [0] [1] [] []
  gather_S8192x32_S16x16x16x1_S16x16x16x32_3_0_n_n_0_3_132_wf : GatherDims.WF S8192x32 S16x16x16x1 S16x16x16x32 [3] [0] [] [0] [] 3 ![1, 32]
  dot_S16384x32_S32x8192_S16384x8192_1_0_0_1_n_n_wf : DotDims.WF S16384x32 S32x8192 S16384x8192 [1] [0] [0] [1] [] []

variable [Facts]

def dot_S16x32_S32x8192_S16x8192_1_0_0_1_n_n : DotDims S16x32 S32x8192 S16x8192 where
  lhsContracting := [1]
  rhsContracting := [0]
  lhsNonContracting := [0]
  rhsNonContracting := [1]
  lhsBatch := []
  rhsBatch := []
  wf := dot_S16x32_S32x8192_S16x8192_1_0_0_1_n_n_wf
def gather_S8192x32_S16x1x1x1_S16x1x1x32_3_0_n_n_0_3_132 : GatherDims S8192x32 S16x1x1x1 S16x1x1x32 where
  offsetDims := [3]
  collapsedSliceDims := [0]
  operandBatchingDims := []
  startIndicesBatchingDims := []
  startIndexMap := [0]
  indexVectorDim := 3
  sliceSizes := ![1, 32]
  wf := gather_S8192x32_S16x1x1x1_S16x1x1x32_3_0_n_n_0_3_132_wf
def dot_S16x32x32x32_S32x32_S16x32x32x32_1_1_023_0_n_n : DotDims S16x32x32x32 S32x32 S16x32x32x32 where
  lhsContracting := [1]
  rhsContracting := [1]
  lhsNonContracting := [0, 2, 3]
  rhsNonContracting := [0]
  lhsBatch := []
  rhsBatch := []
  wf := dot_S16x32x32x32_S32x32_S16x32x32x32_1_1_023_0_n_n_wf
def dot_S64x32_S32x8192_S64x8192_1_0_0_1_n_n : DotDims S64x32 S32x8192 S64x8192 where
  lhsContracting := [1]
  rhsContracting := [0]
  lhsNonContracting := [0]
  rhsNonContracting := [1]
  lhsBatch := []
  rhsBatch := []
  wf := dot_S64x32_S32x8192_S64x8192_1_0_0_1_n_n_wf
def gather_S8192x32_S16x2x2x1_S16x2x2x32_3_0_n_n_0_3_132 : GatherDims S8192x32 S16x2x2x1 S16x2x2x32 where
  offsetDims := [3]
  collapsedSliceDims := [0]
  operandBatchingDims := []
  startIndicesBatchingDims := []
  startIndexMap := [0]
  indexVectorDim := 3
  sliceSizes := ![1, 32]
  wf := gather_S8192x32_S16x2x2x1_S16x2x2x32_3_0_n_n_0_3_132_wf
def dot_S256x32_S32x8192_S256x8192_1_0_0_1_n_n : DotDims S256x32 S32x8192 S256x8192 where
  lhsContracting := [1]
  rhsContracting := [0]
  lhsNonContracting := [0]
  rhsNonContracting := [1]
  lhsBatch := []
  rhsBatch := []
  wf := dot_S256x32_S32x8192_S256x8192_1_0_0_1_n_n_wf
def gather_S8192x32_S16x4x4x1_S16x4x4x32_3_0_n_n_0_3_132 : GatherDims S8192x32 S16x4x4x1 S16x4x4x32 where
  offsetDims := [3]
  collapsedSliceDims := [0]
  operandBatchingDims := []
  startIndicesBatchingDims := []
  startIndexMap := [0]
  indexVectorDim := 3
  sliceSizes := ![1, 32]
  wf := gather_S8192x32_S16x4x4x1_S16x4x4x32_3_0_n_n_0_3_132_wf
def dot_S1024x32_S32x8192_S1024x8192_1_0_0_1_n_n : DotDims S1024x32 S32x8192 S1024x8192 where
  lhsContracting := [1]
  rhsContracting := [0]
  lhsNonContracting := [0]
  rhsNonContracting := [1]
  lhsBatch := []
  rhsBatch := []
  wf := dot_S1024x32_S32x8192_S1024x8192_1_0_0_1_n_n_wf
def gather_S8192x32_S16x8x8x1_S16x8x8x32_3_0_n_n_0_3_132 : GatherDims S8192x32 S16x8x8x1 S16x8x8x32 where
  offsetDims := [3]
  collapsedSliceDims := [0]
  operandBatchingDims := []
  startIndicesBatchingDims := []
  startIndexMap := [0]
  indexVectorDim := 3
  sliceSizes := ![1, 32]
  wf := gather_S8192x32_S16x8x8x1_S16x8x8x32_3_0_n_n_0_3_132_wf
def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def gather_S8192x32_S16x16x16x1_S16x16x16x32_3_0_n_n_0_3_132 : GatherDims S8192x32 S16x16x16x1 S16x16x16x32 where
  offsetDims := [3]
  collapsedSliceDims := [0]
  operandBatchingDims := []
  startIndicesBatchingDims := []
  startIndexMap := [0]
  indexVectorDim := 3
  sliceSizes := ![1, 32]
  wf := gather_S8192x32_S16x16x16x1_S16x16x16x32_3_0_n_n_0_3_132_wf
def dot_S16384x32_S32x8192_S16384x8192_1_0_0_1_n_n : DotDims S16384x32 S32x8192 S16384x8192 where
  lhsContracting := [1]
  rhsContracting := [0]
  lhsNonContracting := [0]
  rhsNonContracting := [1]
  lhsBatch := []
  rhsBatch := []
  wf := dot_S16384x32_S32x8192_S16384x8192_1_0_0_1_n_n_wf
def fn_where {F : FTy → Type} [FloatOps F] (arg0 : IVec S16x8192 1) (arg1 : IVec S16x8192 32) (arg2 : IVec S_ 32) : IVec S16x8192 32 :=
  let v0 : IVec S_ 32 := id arg2
  let v1 : IVec S16x8192 32 := broadcastInDim S16x8192 ![] bcast_S_S16x8192 v0
  let v2 : IVec S16x8192 32 := select arg0 arg1 v1
  v2

def fn_take {F : FTy → Type} [FloatOps F] (arg0 : FVec F S8192x32 .f32) (arg1 : IVec S16x1x1 32) : FVec F S16x1x1x32 .f32 :=
  let v0 : IVec S16x1x1x1 32 := broadcastInDim S16x1x1x1 ![0, 1, 2] bcast_S16x1x1_S16x1x1x1_0_1_2 arg1
  let v1 : FVec F S16x1x1x32 .f32 := (fun x i => Host.gather gather_S8192x32_S16x1x1x1_S16x1x1x32_3_0_n_n_0_3_132 x i) arg0 v0
  v1

def fn_where_0 {F : FTy → Type} [FloatOps F] (arg0 : IVec S1x32 1) (arg1 : FVec F S1x32 .f32) (arg2 : FVec F S1x32 .f32) : FVec F S1x32 .f32 :=
  let v0 : FVec F S1x32 .f32 := select arg0 arg1 arg2
  v0

def fn_where_1 {F : FTy → Type} [FloatOps F] (arg0 : IVec S1x32 1) (arg1 : FVec F S_ .f32) (arg2 : FVec F S1x32 .f32) : FVec F S1x32 .f32 :=
  let v0 : FVec F S_ .f32 := id arg1
  let v1 : FVec F S1x32 .f32 := broadcastInDim S1x32 ![] bcast_S_S1x32 v0
  let v2 : FVec F S1x32 .f32 := select arg0 v1 arg2
  v2

def fn_pad {F : FTy → Type} [FloatOps F] (arg0 : FVec F S16x32x32x32 .f32) (arg1 : IVec S_ 32) : FVec F S16x32x34x34 .f32 :=
  let v0 : FVec F S_ .f32 := sitofp .f32 arg1
  let v1 : FVec F S16x32x34x34 .f32 := (fun x v => pad S16x32x34x34 ![0, 0, 1, 1] ![0, 0, 1, 1] ![0, 0, 0, 0] x v pads_S16x32x32x32_S16x32x34x34_000_000_110_110 h_S_) arg0 v0
  v1

def fn_where_2 {F : FTy → Type} [FloatOps F] (arg0 : IVec S64x8192 1) (arg1 : IVec S64x8192 32) (arg2 : IVec S_ 32) : IVec S64x8192 32 :=
  let v0 : IVec S_ 32 := id arg2
  let v1 : IVec S64x8192 32 := broadcastInDim S64x8192 ![] bcast_S_S64x8192 v0
  let v2 : IVec S64x8192 32 := select arg0 arg1 v1
  v2

def fn_take_3 {F : FTy → Type} [FloatOps F] (arg0 : FVec F S8192x32 .f32) (arg1 : IVec S16x2x2 32) : FVec F S16x2x2x32 .f32 :=
  let v0 : IVec S16x2x2x1 32 := broadcastInDim S16x2x2x1 ![0, 1, 2] bcast_S16x2x2_S16x2x2x1_0_1_2 arg1
  let v1 : FVec F S16x2x2x32 .f32 := (fun x i => Host.gather gather_S8192x32_S16x2x2x1_S16x2x2x32_3_0_n_n_0_3_132 x i) arg0 v0
  v1

def fn_where_4 {F : FTy → Type} [FloatOps F] (arg0 : IVec S2x32 1) (arg1 : FVec F S2x32 .f32) (arg2 : FVec F S2x32 .f32) : FVec F S2x32 .f32 :=
  let v0 : FVec F S2x32 .f32 := select arg0 arg1 arg2
  v0

def fn_where_5 {F : FTy → Type} [FloatOps F] (arg0 : IVec S2x32 1) (arg1 : FVec F S_ .f32) (arg2 : FVec F S2x32 .f32) : FVec F S2x32 .f32 :=
  let v0 : FVec F S_ .f32 := id arg1
  let v1 : FVec F S2x32 .f32 := broadcastInDim S2x32 ![] bcast_S_S2x32 v0
  let v2 : FVec F S2x32 .f32 := select arg0 v1 arg2
  v2

def fn_where_6 {F : FTy → Type} [FloatOps F] (arg0 : IVec S256x8192 1) (arg1 : IVec S256x8192 32) (arg2 : IVec S_ 32) : IVec S256x8192 32 :=
  let v0 : IVec S_ 32 := id arg2
  let v1 : IVec S256x8192 32 := broadcastInDim S256x8192 ![] bcast_S_S256x8192 v0
  let v2 : IVec S256x8192 32 := select arg0 arg1 v1
  v2

def fn_take_7 {F : FTy → Type} [FloatOps F] (arg0 : FVec F S8192x32 .f32) (arg1 : IVec S16x4x4 32) : FVec F S16x4x4x32 .f32 :=
  let v0 : IVec S16x4x4x1 32 := broadcastInDim S16x4x4x1 ![0, 1, 2] bcast_S16x4x4_S16x4x4x1_0_1_2 arg1
  let v1 : FVec F S16x4x4x32 .f32 := (fun x i => Host.gather gather_S8192x32_S16x4x4x1_S16x4x4x32_3_0_n_n_0_3_132 x i) arg0 v0
  v1

def fn_where_8 {F : FTy → Type} [FloatOps F] (arg0 : IVec S4x32 1) (arg1 : FVec F S4x32 .f32) (arg2 : FVec F S4x32 .f32) : FVec F S4x32 .f32 :=
  let v0 : FVec F S4x32 .f32 := select arg0 arg1 arg2
  v0

def fn_where_9 {F : FTy → Type} [FloatOps F] (arg0 : IVec S4x32 1) (arg1 : FVec F S_ .f32) (arg2 : FVec F S4x32 .f32) : FVec F S4x32 .f32 :=
  let v0 : FVec F S_ .f32 := id arg1
  let v1 : FVec F S4x32 .f32 := broadcastInDim S4x32 ![] bcast_S_S4x32 v0
  let v2 : FVec F S4x32 .f32 := select arg0 v1 arg2
  v2

def fn_where_10 {F : FTy → Type} [FloatOps F] (arg0 : IVec S1024x8192 1) (arg1 : IVec S1024x8192 32) (arg2 : IVec S_ 32) : IVec S1024x8192 32 :=
  let v0 : IVec S_ 32 := id arg2
  let v1 : IVec S1024x8192 32 := broadcastInDim S1024x8192 ![] bcast_S_S1024x8192 v0
  let v2 : IVec S1024x8192 32 := select arg0 arg1 v1
  v2

def fn_take_11 {F : FTy → Type} [FloatOps F] (arg0 : FVec F S8192x32 .f32) (arg1 : IVec S16x8x8 32) : FVec F S16x8x8x32 .f32 :=
  let v0 : IVec S16x8x8x1 32 := broadcastInDim S16x8x8x1 ![0, 1, 2] bcast_S16x8x8_S16x8x8x1_0_1_2 arg1
  let v1 : FVec F S16x8x8x32 .f32 := (fun x i => Host.gather gather_S8192x32_S16x8x8x1_S16x8x8x32_3_0_n_n_0_3_132 x i) arg0 v0
  v1

def fn_where_12 {F : FTy → Type} [FloatOps F] (arg0 : IVec S8x32 1) (arg1 : FVec F S8x32 .f32) (arg2 : FVec F S8x32 .f32) : FVec F S8x32 .f32 :=
  let v0 : FVec F S8x32 .f32 := select arg0 arg1 arg2
  v0

def fn_where_13 {F : FTy → Type} [FloatOps F] (arg0 : IVec S8x32 1) (arg1 : FVec F S_ .f32) (arg2 : FVec F S8x32 .f32) : FVec F S8x32 .f32 :=
  let v0 : FVec F S_ .f32 := id arg1
  let v1 : FVec F S8x32 .f32 := broadcastInDim S8x32 ![] bcast_S_S8x32 v0
  let v2 : FVec F S8x32 .f32 := select arg0 v1 arg2
  v2

def fn_where_14 {F : FTy → Type} [FloatOps F] (arg0 : IVec S4096x8192 1) (arg1 : IVec S4096x8192 32) (arg2 : IVec S_ 32) : IVec S4096x8192 32 :=
  let v0 : IVec S_ 32 := id arg2
  let v1 : IVec S4096x8192 32 := broadcastInDim S4096x8192 ![] bcast_S_S4096x8192 v0
  let v2 : IVec S4096x8192 32 := select arg0 arg1 v1
  v2

def fn_take_15 {F : FTy → Type} [FloatOps F] (arg0 : FVec F S8192x32 .f32) (arg1 : IVec S16x16x16 32) : FVec F S16x16x16x32 .f32 :=
  let v0 : IVec S16x16x16x1 32 := broadcastInDim S16x16x16x1 ![0, 1, 2] bcast_S16x16x16_S16x16x16x1_0_1_2 arg1
  let v1 : FVec F S16x16x16x32 .f32 := (fun x i => Host.gather gather_S8192x32_S16x16x16x1_S16x16x16x32_3_0_n_n_0_3_132 x i) arg0 v0
  v1

def fn_where_16 {F : FTy → Type} [FloatOps F] (arg0 : IVec S16x32 1) (arg1 : FVec F S16x32 .f32) (arg2 : FVec F S16x32 .f32) : FVec F S16x32 .f32 :=
  let v0 : FVec F S16x32 .f32 := select arg0 arg1 arg2
  v0

def fn_where_17 {F : FTy → Type} [FloatOps F] (arg0 : IVec S16x32 1) (arg1 : FVec F S_ .f32) (arg2 : FVec F S16x32 .f32) : FVec F S16x32 .f32 :=
  let v0 : FVec F S_ .f32 := id arg1
  let v1 : FVec F S16x32 .f32 := broadcastInDim S16x32 ![] bcast_S_S16x32 v0
  let v2 : FVec F S16x32 .f32 := select arg0 v1 arg2
  v2

def fn_part40 {F : FTy → Type} [FloatOps F] (main_v792 : IVec S_ 1) (main_v793 : FVec F S131072x1024 .f32) (main_v794 : FVec F S131072 .f32) : IVec S_ 1 :=
  let main_v795 : FVec F S131072x1 .f32 := broadcastInDim S131072x1 ![0] bcast_S131072_S131072x1_0 main_v794
  let main_v796 : FVec F S131072x1024 .f32 := broadcastInDim S131072x1024 ![0, 1] bcast_S131072x1_S131072x1024_0_1 main_v795
  let main_v797 : IVec S131072x1024 1 := cmpf .oeq main_v793 main_v796
  let main_v798 : IVec S131072x1024 32 := (extui 32 · natLt_1_32) main_v797
  let main_c_163 : IVec S_ 32 := constantI S_ 32 0#32
  let main_v799 : IVec S131072 32 := (fun x v => Host.reduce IntOp.addi x v reducesTo_S131072x1024_S131072_d1 h_S_) main_v798 main_c_163
  let main_c_164 : IVec S_ 32 := constantI S_ 32 1#32
  let main_v800 : IVec S131072 32 := broadcastInDim S131072 ![] bcast_S_S131072 main_c_164
  let main_v801 : IVec S131072 1 := cmpi .eq main_v799 main_v800
  let main_c_165 : IVec S_ 1 := constantI S_ 1 1#1
  let main_v802 : IVec S_ 1 := (fun x v => Host.reduce IntOp.andi x v reducesTo_S131072_S_d0 h_S_) main_v801 main_c_165
  let main_v803 : IVec S_ 1 := andi main_v792 main_v802
  main_v803

def fn_part39 {F : FTy → Type} [FloatOps F] (main_v643 : IVec S_ 1) (main_v771 : FVec F S16384x1 .f32) (main_v775 : FVec F S16384x8192 .f32) (main_v776 : FVec F S1x8192 .f32) : IVec S_ 1 :=
  let main_v777 : FVec F S16384x8192 .f32 := broadcastInDim S16384x8192 ![0, 1] bcast_S16384x1_S16384x8192_0_1 main_v771
  let main_v778 : FVec F S16384x8192 .f32 := broadcastInDim S16384x8192 ![0, 1] bcast_S1x8192_S16384x8192_0_1 main_v776
  let main_v779 : FVec F S16384x8192 .f32 := addf main_v777 main_v778
  let main_cst_157 : FVec F S_ .f32 := constant S_ .f32 0x40000000#32
  let main_v780 : FVec F S16384x8192 .f32 := broadcastInDim S16384x8192 ![] bcast_S_S16384x8192 main_cst_157
  let main_v781 : FVec F S16384x8192 .f32 := mulf main_v780 main_v775
  let main_v782 : FVec F S16384x8192 .f32 := subf main_v779 main_v781
  let main_cst_158 : FVec F S_ .f32 := constant S_ .f32 0x7F800000#32
  let main_v783 : FVec F S16384 .f32 := (fun x v => Host.reduce FloatOps.minimumf x v reducesTo_S16384x8192_S16384_d1 h_S_) main_v782 main_cst_158
  let main_v784 : FVec F S16384x1 .f32 := broadcastInDim S16384x1 ![0] bcast_S16384_S16384x1_0 main_v783
  let main_v785 : FVec F S16384x8192 .f32 := broadcastInDim S16384x8192 ![0, 1] bcast_S16384x1_S16384x8192_0_1 main_v784
  let main_v786 : IVec S16384x8192 1 := cmpf .oeq main_v782 main_v785
  let main_v787 : IVec S16384x8192 32 := (extui 32 · natLt_1_32) main_v786
  let main_c_159 : IVec S_ 32 := constantI S_ 32 0#32
  let main_v788 : IVec S16384 32 := (fun x v => Host.reduce IntOp.addi x v reducesTo_S16384x8192_S16384_d1 h_S_) main_v787 main_c_159
  let main_c_160 : IVec S_ 32 := constantI S_ 32 1#32
  let main_v789 : IVec S16384 32 := broadcastInDim S16384 ![] bcast_S_S16384 main_c_160
  let main_v790 : IVec S16384 1 := cmpi .eq main_v788 main_v789
  let main_c_161 : IVec S_ 1 := constantI S_ 1 1#1
  let main_v791 : IVec S_ 1 := (fun x v => Host.reduce IntOp.andi x v reducesTo_S16384_S_d0 h_S_) main_v790 main_c_161
  let main_v792 : IVec S_ 1 := andi main_v643 main_v791
  let main_v793 : FVec F S131072x1024 .f32 := shapeCast S131072x1024 main_v782 shapeCasts_S16384x8192_S131072x1024
  let main_cst_162 : FVec F S_ .f32 := constant S_ .f32 0x7F800000#32
  let main_v794 : FVec F S131072 .f32 := (fun x v => Host.reduce FloatOps.minimumf x v reducesTo_S131072x1024_S131072_d1 h_S_) main_v793 main_cst_162
  fn_part40 (F := F) main_v792 main_v793 main_v794

def fn_part38 {F : FTy → Type} [FloatOps F] (main_arg1 : FVec F S8192x32 .f32) (main_v613 : FVec F S16x32x32x32 .f32) (main_v643 : IVec S_ 1) (main_v707 : FVec F S16x32x32x32 .f32) (main_v711 : FVec F S32 .f32) (main_v756 : FVec F S16x32x32x32 .f32) : IVec S_ 1 :=
  let main_v757 : FVec F S16x32x32x32 .f32 := (transpose S16x32x32x32 [0, 3, 1, 2] · transposes_S16x32x32x32_S16x32x32x32_0_3_1_2) main_v756
  let main_v758 : FVec F S1x32x1x1 .f32 := broadcastInDim S1x32x1x1 ![1] bcast_S32_S1x32x1x1_1 main_v711
  let main_v759 : FVec F S16x32x32x32 .f32 := broadcastInDim S16x32x32x32 ![0, 1, 2, 3] bcast_S1x32x1x1_S16x32x32x32_0_1_2_3 main_v758
  let main_v760 : FVec F S16x32x32x32 .f32 := addf main_v757 main_v759
  let main_cst_153 : FVec F S_ .f32 := constant S_ .f32 0x3F000000#32
  let main_v761 : FVec F S16x32x32x32 .f32 := broadcastInDim S16x32x32x32 ![] bcast_S_S16x32x32x32 main_cst_153
  let main_v762 : FVec F S16x32x32x32 .f32 := mulf main_v707 main_v761
  let main_cst_154 : FVec F S_ .f32 := constant S_ .f32 0x3F000000#32
  let main_v763 : FVec F S16x32x32x32 .f32 := broadcastInDim S16x32x32x32 ![] bcast_S_S16x32x32x32 main_cst_154
  let main_v764 : FVec F S16x32x32x32 .f32 := mulf main_v760 main_v763
  let main_v765 : FVec F S16x32x32x32 .f32 := addf main_v762 main_v764
  let main_v766 : FVec F S16x32x32x32 .f32 := subf main_v613 main_v765
  let main_v767 : FVec F S16x32x32x32 .f32 := (transpose S16x32x32x32 [0, 2, 3, 1] · transposes_S16x32x32x32_S16x32x32x32_0_2_3_1) main_v766
  let main_v768 : FVec F S16384x32 .f32 := shapeCast S16384x32 main_v767 shapeCasts_S16x32x32x32_S16384x32
  let main_v769 : FVec F S16384x32 .f32 := mulf main_v768 main_v768
  let main_cst_155 : FVec F S_ .f32 := constant S_ .f32 0x00000000#32
  let main_v770 : FVec F S16384 .f32 := (fun x v => Host.reduceAdd x v reducesTo_S16384x32_S16384_d1 h_S_) main_v769 main_cst_155
  let main_v771 : FVec F S16384x1 .f32 := broadcastInDim S16384x1 ![0] bcast_S16384_S16384x1_0 main_v770
  let main_v772 : FVec F S8192x32 .f32 := mulf main_arg1 main_arg1
  let main_cst_156 : FVec F S_ .f32 := constant S_ .f32 0x00000000#32
  let main_v773 : FVec F S8192 .f32 := (fun x v => Host.reduceAdd x v reducesTo_S8192x32_S8192_d1 h_S_) main_v772 main_cst_156
  let main_v774 : FVec F S32x8192 .f32 := (transpose S32x8192 [1, 0] · transposes_S8192x32_S32x8192_1_0) main_arg1
  let main_v775 : FVec F S16384x8192 .f32 := (fun l r => Host.dotGeneral dot_S16384x32_S32x8192_S16384x8192_1_0_0_1_n_n none l r) main_v768 main_v774
  let main_v776 : FVec F S1x8192 .f32 := broadcastInDim S1x8192 ![1] bcast_S8192_S1x8192_1 main_v773
  fn_part39 (F := F) main_v643 main_v771 main_v775 main_v776

def fn_part37 {F : FTy → Type} [FloatOps F] (main_arg1 : FVec F S8192x32 .f32) (main_v613 : FVec F S16x32x32x32 .f32) (main_v643 : IVec S_ 1) (main_v707 : FVec F S16x32x32x32 .f32) (main_v709 : FVec F S32x32x3x3 .f32) (main_v711 : FVec F S32 .f32) (main_v712 : FVec F S16x32x34x34 .f32) (main_v731 : FVec F S16x32x32x32 .f32) (main_v732 : FVec F S16x32x32x32 .f32) : IVec S_ 1 :=
  let main_v733 : FVec F S32x32x1x1 .f32 := (extractStridedSlice S32x32x1x1 ![0, 0, 1, 1] · slices_S32x32x3x3_S32x32x1x1_0_0_1_1) main_v709
  let main_v734 : FVec F S32x32 .f32 := shapeCast S32x32 main_v733 shapeCasts_S32x32x1x1_S32x32
  let main_v735 : FVec F S16x32x32x32 .f32 := (fun l r => Host.dotGeneral dot_S16x32x32x32_S32x32_S16x32x32x32_1_1_023_0_n_n none l r) main_v732 main_v734
  let main_v736 : FVec F S16x32x32x32 .f32 := addf main_v731 main_v735
  let main_v737 : FVec F S16x32x32x32 .f32 := (extractStridedSlice S16x32x32x32 ![0, 0, 1, 2] · slices_S16x32x34x34_S16x32x32x32_0_0_1_2) main_v712
  let main_v738 : FVec F S32x32x1x1 .f32 := (extractStridedSlice S32x32x1x1 ![0, 0, 1, 2] · slices_S32x32x3x3_S32x32x1x1_0_0_1_2) main_v709
  let main_v739 : FVec F S32x32 .f32 := shapeCast S32x32 main_v738 shapeCasts_S32x32x1x1_S32x32
  let main_v740 : FVec F S16x32x32x32 .f32 := (fun l r => Host.dotGeneral dot_S16x32x32x32_S32x32_S16x32x32x32_1_1_023_0_n_n none l r) main_v737 main_v739
  let main_v741 : FVec F S16x32x32x32 .f32 := addf main_v736 main_v740
  let main_v742 : FVec F S16x32x32x32 .f32 := (extractStridedSlice S16x32x32x32 ![0, 0, 2, 0] · slices_S16x32x34x34_S16x32x32x32_0_0_2_0) main_v712
  let main_v743 : FVec F S32x32x1x1 .f32 := (extractStridedSlice S32x32x1x1 ![0, 0, 2, 0] · slices_S32x32x3x3_S32x32x1x1_0_0_2_0) main_v709
  let main_v744 : FVec F S32x32 .f32 := shapeCast S32x32 main_v743 shapeCasts_S32x32x1x1_S32x32
  let main_v745 : FVec F S16x32x32x32 .f32 := (fun l r => Host.dotGeneral dot_S16x32x32x32_S32x32_S16x32x32x32_1_1_023_0_n_n none l r) main_v742 main_v744
  let main_v746 : FVec F S16x32x32x32 .f32 := addf main_v741 main_v745
  let main_v747 : FVec F S16x32x32x32 .f32 := (extractStridedSlice S16x32x32x32 ![0, 0, 2, 1] · slices_S16x32x34x34_S16x32x32x32_0_0_2_1) main_v712
  let main_v748 : FVec F S32x32x1x1 .f32 := (extractStridedSlice S32x32x1x1 ![0, 0, 2, 1] · slices_S32x32x3x3_S32x32x1x1_0_0_2_1) main_v709
  let main_v749 : FVec F S32x32 .f32 := shapeCast S32x32 main_v748 shapeCasts_S32x32x1x1_S32x32
  let main_v750 : FVec F S16x32x32x32 .f32 := (fun l r => Host.dotGeneral dot_S16x32x32x32_S32x32_S16x32x32x32_1_1_023_0_n_n none l r) main_v747 main_v749
  let main_v751 : FVec F S16x32x32x32 .f32 := addf main_v746 main_v750
  let main_v752 : FVec F S16x32x32x32 .f32 := (extractStridedSlice S16x32x32x32 ![0, 0, 2, 2] · slices_S16x32x34x34_S16x32x32x32_0_0_2_2) main_v712
  let main_v753 : FVec F S32x32x1x1 .f32 := (extractStridedSlice S32x32x1x1 ![0, 0, 2, 2] · slices_S32x32x3x3_S32x32x1x1_0_0_2_2) main_v709
  let main_v754 : FVec F S32x32 .f32 := shapeCast S32x32 main_v753 shapeCasts_S32x32x1x1_S32x32
  let main_v755 : FVec F S16x32x32x32 .f32 := (fun l r => Host.dotGeneral dot_S16x32x32x32_S32x32_S16x32x32x32_1_1_023_0_n_n none l r) main_v752 main_v754
  let main_v756 : FVec F S16x32x32x32 .f32 := addf main_v751 main_v755
  fn_part38 (F := F) main_arg1 main_v613 main_v643 main_v707 main_v711 main_v756

def fn_part36 {F : FTy → Type} [FloatOps F] (main_arg1 : FVec F S8192x32 .f32) (main_arg3 : FVec F S4x32 .f32) (main_v613 : FVec F S16x32x32x32 .f32) (main_v643 : IVec S_ 1) (main_v707 : FVec F S16x32x32x32 .f32) (main_v709 : FVec F S32x32x3x3 .f32) : IVec S_ 1 :=
  let main_v710 : FVec F S1x32 .f32 := (extractStridedSlice S1x32 ![3, 0] · slices_S4x32_S1x32_3_0) main_arg3
  let main_v711 : FVec F S32 .f32 := shapeCast S32 main_v710 shapeCasts_S1x32_S32
  let main_c_152 : IVec S_ 32 := constantI S_ 32 0#32
  let main_v712 : FVec F S16x32x34x34 .f32 := fn_pad (F := F) main_v707 main_c_152
  let main_v713 : FVec F S16x32x32x32 .f32 := (extractStridedSlice S16x32x32x32 ![0, 0, 0, 0] · slices_S16x32x34x34_S16x32x32x32_0_0_0_0) main_v712
  let main_v714 : FVec F S32x32x1x1 .f32 := (extractStridedSlice S32x32x1x1 ![0, 0, 0, 0] · slices_S32x32x3x3_S32x32x1x1_0_0_0_0) main_v709
  let main_v715 : FVec F S32x32 .f32 := shapeCast S32x32 main_v714 shapeCasts_S32x32x1x1_S32x32
  let main_v716 : FVec F S16x32x32x32 .f32 := (fun l r => Host.dotGeneral dot_S16x32x32x32_S32x32_S16x32x32x32_1_1_023_0_n_n none l r) main_v713 main_v715
  let main_v717 : FVec F S16x32x32x32 .f32 := (extractStridedSlice S16x32x32x32 ![0, 0, 0, 1] · slices_S16x32x34x34_S16x32x32x32_0_0_0_1) main_v712
  let main_v718 : FVec F S32x32x1x1 .f32 := (extractStridedSlice S32x32x1x1 ![0, 0, 0, 1] · slices_S32x32x3x3_S32x32x1x1_0_0_0_1) main_v709
  let main_v719 : FVec F S32x32 .f32 := shapeCast S32x32 main_v718 shapeCasts_S32x32x1x1_S32x32
  let main_v720 : FVec F S16x32x32x32 .f32 := (fun l r => Host.dotGeneral dot_S16x32x32x32_S32x32_S16x32x32x32_1_1_023_0_n_n none l r) main_v717 main_v719
  let main_v721 : FVec F S16x32x32x32 .f32 := addf main_v716 main_v720
  let main_v722 : FVec F S16x32x32x32 .f32 := (extractStridedSlice S16x32x32x32 ![0, 0, 0, 2] · slices_S16x32x34x34_S16x32x32x32_0_0_0_2) main_v712
  let main_v723 : FVec F S32x32x1x1 .f32 := (extractStridedSlice S32x32x1x1 ![0, 0, 0, 2] · slices_S32x32x3x3_S32x32x1x1_0_0_0_2) main_v709
  let main_v724 : FVec F S32x32 .f32 := shapeCast S32x32 main_v723 shapeCasts_S32x32x1x1_S32x32
  let main_v725 : FVec F S16x32x32x32 .f32 := (fun l r => Host.dotGeneral dot_S16x32x32x32_S32x32_S16x32x32x32_1_1_023_0_n_n none l r) main_v722 main_v724
  let main_v726 : FVec F S16x32x32x32 .f32 := addf main_v721 main_v725
  let main_v727 : FVec F S16x32x32x32 .f32 := (extractStridedSlice S16x32x32x32 ![0, 0, 1, 0] · slices_S16x32x34x34_S16x32x32x32_0_0_1_0) main_v712
  let main_v728 : FVec F S32x32x1x1 .f32 := (extractStridedSlice S32x32x1x1 ![0, 0, 1, 0] · slices_S32x32x3x3_S32x32x1x1_0_0_1_0) main_v709
  let main_v729 : FVec F S32x32 .f32 := shapeCast S32x32 main_v728 shapeCasts_S32x32x1x1_S32x32
  let main_v730 : FVec F S16x32x32x32 .f32 := (fun l r => Host.dotGeneral dot_S16x32x32x32_S32x32_S16x32x32x32_1_1_023_0_n_n none l r) main_v727 main_v729
  let main_v731 : FVec F S16x32x32x32 .f32 := addf main_v726 main_v730
  let main_v732 : FVec F S16x32x32x32 .f32 := (extractStridedSlice S16x32x32x32 ![0, 0, 1, 1] · slices_S16x32x34x34_S16x32x32x32_0_0_1_1) main_v712
  fn_part37 (F := F) main_arg1 main_v613 main_v643 main_v707 main_v709 main_v711 main_v712 main_v731 main_v732

def fn_part35 {F : FTy → Type} [FloatOps F] (main_arg1 : FVec F S8192x32 .f32) (main_arg2 : FVec F S4x32x32x3x3 .f32) (main_arg3 : FVec F S4x32 .f32) (main_v613 : FVec F S16x32x32x32 .f32) (main_v643 : IVec S_ 1) (main_v653 : FVec F S16x32x16x16 .f32) (main_v667 : FVec F S16x32 .f32) (main_v688 : FVec F S16x32 .f32) (main_v689 : FVec F S16x32 .f32) : IVec S_ 1 :=
  let main_v690 : IVec S16x32 1 := cmpf .oge main_v667 main_v689
  let main_cst_148 : FVec F S_ .f32 := constant S_ .f32 0x00000000#32
  let main_v691 : FVec F S16x32 .f32 := fn_where_17 (F := F) main_v690 main_cst_148 main_v688
  let main_cst_149 : FVec F S_ .f32 := constant S_ .f32 0x00000000#32
  let main_v692 : FVec F S32 .f32 := (fun x v => Host.reduceAdd x v reducesTo_S16x32_S32_d0 h_S_) main_v691 main_cst_149
  let main_v693 : FVec F S1x32 .f32 := broadcastInDim S1x32 ![1] bcast_S32_S1x32_1 main_v692
  let main_v694 : FVec F S16x32 .f32 := broadcastInDim S16x32 ![0, 1] bcast_S1x32_S16x32_0_1 main_v693
  let main_v695 : FVec F S16x32 .f32 := Host.divf main_v691 main_v694
  let main_v696 : FVec F S16x32x16x1x16 .f32 := broadcastInDim S16x32x16x1x16 ![0, 1, 2, 4] bcast_S16x32x16x16_S16x32x16x1x16_0_1_2_4 main_v653
  let main_v697 : FVec F S1x1x16x32x1 .f32 := broadcastInDim S1x1x16x32x1 ![2, 3] bcast_S16x32_S1x1x16x32x1_2_3 main_v695
  let main_v698 : FVec F S16x32x16x32x16 .f32 := broadcastInDim S16x32x16x32x16 ![0, 1, 2, 3, 4] bcast_S16x32x16x1x16_S16x32x16x32x16_0_1_2_3_4 main_v696
  let main_v699 : FVec F S16x32x16x32x16 .f32 := broadcastInDim S16x32x16x32x16 ![0, 1, 2, 3, 4] bcast_S1x1x16x32x1_S16x32x16x32x16_0_1_2_3_4 main_v697
  let main_v700 : FVec F S16x32x16x32x16 .f32 := mulf main_v698 main_v699
  let main_cst_150 : FVec F S_ .f32 := constant S_ .f32 0x00000000#32
  let main_v701 : FVec F S16x32x32x16 .f32 := (fun x v => Host.reduceAdd x v reducesTo_S16x32x16x32x16_S16x32x32x16_d2 h_S_) main_v700 main_cst_150
  let main_v702 : FVec F S16x32x32x16x1 .f32 := broadcastInDim S16x32x32x16x1 ![0, 1, 2, 3] bcast_S16x32x32x16_S16x32x32x16x1_0_1_2_3 main_v701
  let main_v703 : FVec F S1x1x1x16x32 .f32 := broadcastInDim S1x1x1x16x32 ![3, 4] bcast_S16x32_S1x1x1x16x32_3_4 main_v695
  let main_v704 : FVec F S16x32x32x16x32 .f32 := broadcastInDim S16x32x32x16x32 ![0, 1, 2, 3, 4] bcast_S16x32x32x16x1_S16x32x32x16x32_0_1_2_3_4 main_v702
  let main_v705 : FVec F S16x32x32x16x32 .f32 := broadcastInDim S16x32x32x16x32 ![0, 1, 2, 3, 4] bcast_S1x1x1x16x32_S16x32x32x16x32_0_1_2_3_4 main_v703
  let main_v706 : FVec F S16x32x32x16x32 .f32 := mulf main_v704 main_v705
  let main_cst_151 : FVec F S_ .f32 := constant S_ .f32 0x00000000#32
  let main_v707 : FVec F S16x32x32x32 .f32 := (fun x v => Host.reduceAdd x v reducesTo_S16x32x32x16x32_S16x32x32x32_d3 h_S_) main_v706 main_cst_151
  let main_v708 : FVec F S1x32x32x3x3 .f32 := (extractStridedSlice S1x32x32x3x3 ![3, 0, 0, 0, 0] · slices_S4x32x32x3x3_S1x32x32x3x3_3_0_0_0_0) main_arg2
  let main_v709 : FVec F S32x32x3x3 .f32 := shapeCast S32x32x3x3 main_v708 shapeCasts_S1x32x32x3x3_S32x32x3x3
  fn_part36 (F := F) main_arg1 main_arg3 main_v613 main_v643 main_v707 main_v709

def fn_part34 {F : FTy → Type} [FloatOps F] (main_arg1 : FVec F S8192x32 .f32) (main_arg2 : FVec F S4x32x32x3x3 .f32) (main_arg3 : FVec F S4x32 .f32) (main_v613 : FVec F S16x32x32x32 .f32) (main_v643 : IVec S_ 1) (main_v653 : FVec F S16x32x16x16 .f32) (main_v667 : FVec F S16x32 .f32) (main_v672 : FVec F S16x32 .f32) : IVec S_ 1 :=
  let main_v673 : FVec F S16x32 .f32 := mulf main_v672 main_v667
  let main_cst_141 : FVec F S_ .f32 := constant S_ .f32 0x3F800000#32
  let main_v674 : FVec F S16x32 .f32 := broadcastInDim S16x32 ![] bcast_S_S16x32 main_cst_141
  let main_v675 : FVec F S16x32 .f32 := addf main_v673 main_v674
  let main_cst_142 : FVec F S_ .f32 := constant S_ .f32 0x3F800000#32
  let main_v676 : FVec F S16x32 .f32 := broadcastInDim S16x32 ![] bcast_S_S16x32 main_cst_142
  let main_v677 : IVec S16x32 1 := cmpf .oge main_v667 main_v676
  let main_cst_143 : FVec F S_ .f32 := constant S_ .f32 0xBF000000#32
  let main_v678 : FVec F S16x32 .f32 := broadcastInDim S16x32 ![] bcast_S_S16x32 main_cst_143
  let main_v679 : FVec F S16x32 .f32 := mulf main_v678 main_v667
  let main_cst_144 : FVec F S_ .f32 := constant S_ .f32 0x40200000#32
  let main_v680 : FVec F S16x32 .f32 := broadcastInDim S16x32 ![] bcast_S_S16x32 main_cst_144
  let main_v681 : FVec F S16x32 .f32 := addf main_v679 main_v680
  let main_v682 : FVec F S16x32 .f32 := mulf main_v681 main_v667
  let main_cst_145 : FVec F S_ .f32 := constant S_ .f32 0x40800000#32
  let main_v683 : FVec F S16x32 .f32 := broadcastInDim S16x32 ![] bcast_S_S16x32 main_cst_145
  let main_v684 : FVec F S16x32 .f32 := subf main_v682 main_v683
  let main_v685 : FVec F S16x32 .f32 := mulf main_v684 main_v667
  let main_cst_146 : FVec F S_ .f32 := constant S_ .f32 0x40000000#32
  let main_v686 : FVec F S16x32 .f32 := broadcastInDim S16x32 ![] bcast_S_S16x32 main_cst_146
  let main_v687 : FVec F S16x32 .f32 := addf main_v685 main_v686
  let main_v688 : FVec F S16x32 .f32 := fn_where_16 (F := F) main_v677 main_v687 main_v675
  let main_cst_147 : FVec F S_ .f32 := constant S_ .f32 0x40000000#32
  let main_v689 : FVec F S16x32 .f32 := broadcastInDim S16x32 ![] bcast_S_S16x32 main_cst_147
  fn_part35 (F := F) main_arg1 main_arg2 main_arg3 main_v613 main_v643 main_v653 main_v667 main_v688 main_v689

def fn_part33 {F : FTy → Type} [FloatOps F] (main_arg1 : FVec F S8192x32 .f32) (main_arg2 : FVec F S4x32x32x3x3 .f32) (main_arg3 : FVec F S4x32 .f32) (main_v613 : FVec F S16x32x32x32 .f32) (main_v643 : IVec S_ 1) (main_v653 : FVec F S16x32x16x16 .f32) : IVec S_ 1 :=
  let main_v654 : FVec F S32 .f32 := sitofp .f32 (iotaInDim S32 32 0)
  let main_cst_136 : FVec F S_ .f32 := constant S_ .f32 0x3F000000#32
  let main_v655 : FVec F S32 .f32 := broadcastInDim S32 ![] bcast_S_S32 main_cst_136
  let main_v656 : FVec F S32 .f32 := addf main_v654 main_v655
  let main_cst_137 : FVec F S_ .f32 := constant S_ .f32 0x3F000000#32
  let main_v657 : FVec F S32 .f32 := broadcastInDim S32 ![] bcast_S_S32 main_cst_137
  let main_v658 : FVec F S32 .f32 := mulf main_v656 main_v657
  let main_cst_138 : FVec F S_ .f32 := constant S_ .f32 0x3F000000#32
  let main_v659 : FVec F S32 .f32 := broadcastInDim S32 ![] bcast_S_S32 main_cst_138
  let main_v660 : FVec F S32 .f32 := subf main_v658 main_v659
  let main_v661 : FVec F S1x32 .f32 := broadcastInDim S1x32 ![1] bcast_S32_S1x32_1 main_v660
  let main_v662 : FVec F S16 .f32 := sitofp .f32 (iotaInDim S16 32 0)
  let main_v663 : FVec F S16x1 .f32 := broadcastInDim S16x1 ![0] bcast_S16_S16x1_0 main_v662
  let main_v664 : FVec F S16x32 .f32 := broadcastInDim S16x32 ![0, 1] bcast_S1x32_S16x32_0_1 main_v661
  let main_v665 : FVec F S16x32 .f32 := broadcastInDim S16x32 ![0, 1] bcast_S16x1_S16x32_0_1 main_v663
  let main_v666 : FVec F S16x32 .f32 := subf main_v664 main_v665
  let main_v667 : FVec F S16x32 .f32 := Host.absf main_v666
  let main_cst_139 : FVec F S_ .f32 := constant S_ .f32 0x3FC00000#32
  let main_v668 : FVec F S16x32 .f32 := broadcastInDim S16x32 ![] bcast_S_S16x32 main_cst_139
  let main_v669 : FVec F S16x32 .f32 := mulf main_v668 main_v667
  let main_cst_140 : FVec F S_ .f32 := constant S_ .f32 0x40200000#32
  let main_v670 : FVec F S16x32 .f32 := broadcastInDim S16x32 ![] bcast_S_S16x32 main_cst_140
  let main_v671 : FVec F S16x32 .f32 := subf main_v669 main_v670
  let main_v672 : FVec F S16x32 .f32 := mulf main_v671 main_v667
  fn_part34 (F := F) main_arg1 main_arg2 main_arg3 main_v613 main_v643 main_v653 main_v667 main_v672

def fn_part32 {F : FTy → Type} [FloatOps F] (main_arg1 : FVec F S8192x32 .f32) (main_arg2 : FVec F S4x32x32x3x3 .f32) (main_arg3 : FVec F S4x32 .f32) (main_v490 : IVec S_ 1) (main_v613 : FVec F S16x32x32x32 .f32) (main_v633 : FVec F S4096x8192 .f32) (main_v635 : FVec F S4096x1 .f32) : IVec S_ 1 :=
  let main_v636 : FVec F S4096x8192 .f32 := broadcastInDim S4096x8192 ![0, 1] bcast_S4096x1_S4096x8192_0_1 main_v635
  let main_v637 : IVec S4096x8192 1 := cmpf .oeq main_v633 main_v636
  let main_v638 : IVec S4096x8192 32 := (extui 32 · natLt_1_32) main_v637
  let main_c_130 : IVec S_ 32 := constantI S_ 32 0#32
  let main_v639 : IVec S4096 32 := (fun x v => Host.reduce IntOp.addi x v reducesTo_S4096x8192_S4096_d1 h_S_) main_v638 main_c_130
  let main_c_131 : IVec S_ 32 := constantI S_ 32 1#32
  let main_v640 : IVec S4096 32 := broadcastInDim S4096 ![] bcast_S_S4096 main_c_131
  let main_v641 : IVec S4096 1 := cmpi .eq main_v639 main_v640
  let main_c_132 : IVec S_ 1 := constantI S_ 1 1#1
  let main_v642 : IVec S_ 1 := (fun x v => Host.reduce IntOp.andi x v reducesTo_S4096_S_d0 h_S_) main_v641 main_c_132
  let main_v643 : IVec S_ 1 := andi main_v490 main_v642
  let main_v644 : IVec S4096x8192 32 := iotaInDim S4096x8192 32 1
  let main_cst_133 : FVec F S_ .f32 := constant S_ .f32 0x7F800000#32
  let main_v645 : FVec F S4096 .f32 := (fun x v => Host.reduce FloatOps.minimumf x v reducesTo_S4096x8192_S4096_d1 h_S_) main_v633 main_cst_133
  let main_v646 : FVec F S4096x1 .f32 := broadcastInDim S4096x1 ![0] bcast_S4096_S4096x1_0 main_v645
  let main_v647 : FVec F S4096x8192 .f32 := broadcastInDim S4096x8192 ![0, 1] bcast_S4096x1_S4096x8192_0_1 main_v646
  let main_v648 : IVec S4096x8192 1 := cmpf .oeq main_v633 main_v647
  let main_c_134 : IVec S_ 32 := constantI S_ 32 8192#32
  let main_v649 : IVec S4096x8192 32 := fn_where_14 (F := F) main_v648 main_v644 main_c_134
  let main_c_135 : IVec S_ 32 := constantI S_ 32 2147483647#32
  let main_v650 : IVec S4096 32 := (fun x v => Host.reduce IntOp.minsi x v reducesTo_S4096x8192_S4096_d1 h_S_) main_v649 main_c_135
  let main_v651 : IVec S16x16x16 32 := shapeCast S16x16x16 main_v650 shapeCasts_S4096_S16x16x16
  let main_v652 : FVec F S16x16x16x32 .f32 := fn_take_15 (F := F) main_arg1 main_v651
  let main_v653 : FVec F S16x32x16x16 .f32 := (transpose S16x32x16x16 [0, 3, 1, 2] · transposes_S16x16x16x32_S16x32x16x16_0_3_1_2) main_v652
  fn_part33 (F := F) main_arg1 main_arg2 main_arg3 main_v613 main_v643 main_v653

def fn_part31 {F : FTy → Type} [FloatOps F] (main_arg1 : FVec F S8192x32 .f32) (main_arg2 : FVec F S4x32x32x3x3 .f32) (main_arg3 : FVec F S4x32 .f32) (main_v490 : IVec S_ 1) (main_v613 : FVec F S16x32x32x32 .f32) (main_v615 : FVec F S16x32x16x16 .f32) (main_cst_125 : FVec F S_ .f32) : IVec S_ 1 :=
  let main_v616 : FVec F S16x32x16x16 .f32 := broadcastInDim S16x32x16x16 ![] bcast_S_S16x32x16x16 main_cst_125
  let main_v617 : FVec F S16x32x16x16 .f32 := Host.divf main_v615 main_v616
  let main_v618 : FVec F S16x16x16x32 .f32 := (transpose S16x16x16x32 [0, 2, 3, 1] · transposes_S16x32x16x16_S16x16x16x32_0_2_3_1) main_v617
  let main_v619 : FVec F S4096x32 .f32 := shapeCast S4096x32 main_v618 shapeCasts_S16x16x16x32_S4096x32
  let main_v620 : FVec F S4096x32 .f32 := mulf main_v619 main_v619
  let main_cst_126 : FVec F S_ .f32 := constant S_ .f32 0x00000000#32
  let main_v621 : FVec F S4096 .f32 := (fun x v => Host.reduceAdd x v reducesTo_S4096x32_S4096_d1 h_S_) main_v620 main_cst_126
  let main_v622 : FVec F S4096x1 .f32 := broadcastInDim S4096x1 ![0] bcast_S4096_S4096x1_0 main_v621
  let main_v623 : FVec F S8192x32 .f32 := mulf main_arg1 main_arg1
  let main_cst_127 : FVec F S_ .f32 := constant S_ .f32 0x00000000#32
  let main_v624 : FVec F S8192 .f32 := (fun x v => Host.reduceAdd x v reducesTo_S8192x32_S8192_d1 h_S_) main_v623 main_cst_127
  let main_v625 : FVec F S32x8192 .f32 := (transpose S32x8192 [1, 0] · transposes_S8192x32_S32x8192_1_0) main_arg1
  let main_v626 : FVec F S4096x8192 .f32 := (fun l r => Host.dotGeneral dot_S4096x32_S32x8192_S4096x8192_1_0_0_1_n_n none l r) main_v619 main_v625
  let main_v627 : FVec F S1x8192 .f32 := broadcastInDim S1x8192 ![1] bcast_S8192_S1x8192_1 main_v624
  let main_v628 : FVec F S4096x8192 .f32 := broadcastInDim S4096x8192 ![0, 1] bcast_S4096x1_S4096x8192_0_1 main_v622
  let main_v629 : FVec F S4096x8192 .f32 := broadcastInDim S4096x8192 ![0, 1] bcast_S1x8192_S4096x8192_0_1 main_v627
  let main_v630 : FVec F S4096x8192 .f32 := addf main_v628 main_v629
  let main_cst_128 : FVec F S_ .f32 := constant S_ .f32 0x40000000#32
  let main_v631 : FVec F S4096x8192 .f32 := broadcastInDim S4096x8192 ![] bcast_S_S4096x8192 main_cst_128
  let main_v632 : FVec F S4096x8192 .f32 := mulf main_v631 main_v626
  let main_v633 : FVec F S4096x8192 .f32 := subf main_v630 main_v632
  let main_cst_129 : FVec F S_ .f32 := constant S_ .f32 0x7F800000#32
  let main_v634 : FVec F S4096 .f32 := (fun x v => Host.reduce FloatOps.minimumf x v reducesTo_S4096x8192_S4096_d1 h_S_) main_v633 main_cst_129
  let main_v635 : FVec F S4096x1 .f32 := broadcastInDim S4096x1 ![0] bcast_S4096_S4096x1_0 main_v634
  fn_part32 (F := F) main_arg1 main_arg2 main_arg3 main_v490 main_v613 main_v633 main_v635

def fn_part30 {F : FTy → Type} [FloatOps F] (main_arg1 : FVec F S8192x32 .f32) (main_arg2 : FVec F S4x32x32x3x3 .f32) (main_arg3 : FVec F S4x32 .f32) (main_v460 : FVec F S16x32x32x32 .f32) (main_v490 : IVec S_ 1) (main_v554 : FVec F S16x32x32x32 .f32) (main_v556 : FVec F S32x32x3x3 .f32) (main_v558 : FVec F S32 .f32) (main_v559 : FVec F S16x32x34x34 .f32) (main_v593 : FVec F S16x32x32x32 .f32) (main_v594 : FVec F S16x32x32x32 .f32) (main_v595 : FVec F S32x32x1x1 .f32) : IVec S_ 1 :=
  let main_v596 : FVec F S32x32 .f32 := shapeCast S32x32 main_v595 shapeCasts_S32x32x1x1_S32x32
  let main_v597 : FVec F S16x32x32x32 .f32 := (fun l r => Host.dotGeneral dot_S16x32x32x32_S32x32_S16x32x32x32_1_1_023_0_n_n none l r) main_v594 main_v596
  let main_v598 : FVec F S16x32x32x32 .f32 := addf main_v593 main_v597
  let main_v599 : FVec F S16x32x32x32 .f32 := (extractStridedSlice S16x32x32x32 ![0, 0, 2, 2] · slices_S16x32x34x34_S16x32x32x32_0_0_2_2) main_v559
  let main_v600 : FVec F S32x32x1x1 .f32 := (extractStridedSlice S32x32x1x1 ![0, 0, 2, 2] · slices_S32x32x3x3_S32x32x1x1_0_0_2_2) main_v556
  let main_v601 : FVec F S32x32 .f32 := shapeCast S32x32 main_v600 shapeCasts_S32x32x1x1_S32x32
  let main_v602 : FVec F S16x32x32x32 .f32 := (fun l r => Host.dotGeneral dot_S16x32x32x32_S32x32_S16x32x32x32_1_1_023_0_n_n none l r) main_v599 main_v601
  let main_v603 : FVec F S16x32x32x32 .f32 := addf main_v598 main_v602
  let main_v604 : FVec F S16x32x32x32 .f32 := (transpose S16x32x32x32 [0, 3, 1, 2] · transposes_S16x32x32x32_S16x32x32x32_0_3_1_2) main_v603
  let main_v605 : FVec F S1x32x1x1 .f32 := broadcastInDim S1x32x1x1 ![1] bcast_S32_S1x32x1x1_1 main_v558
  let main_v606 : FVec F S16x32x32x32 .f32 := broadcastInDim S16x32x32x32 ![0, 1, 2, 3] bcast_S1x32x1x1_S16x32x32x32_0_1_2_3 main_v605
  let main_v607 : FVec F S16x32x32x32 .f32 := addf main_v604 main_v606
  let main_cst_122 : FVec F S_ .f32 := constant S_ .f32 0x3F000000#32
  let main_v608 : FVec F S16x32x32x32 .f32 := broadcastInDim S16x32x32x32 ![] bcast_S_S16x32x32x32 main_cst_122
  let main_v609 : FVec F S16x32x32x32 .f32 := mulf main_v554 main_v608
  let main_cst_123 : FVec F S_ .f32 := constant S_ .f32 0x3F000000#32
  let main_v610 : FVec F S16x32x32x32 .f32 := broadcastInDim S16x32x32x32 ![] bcast_S_S16x32x32x32 main_cst_123
  let main_v611 : FVec F S16x32x32x32 .f32 := mulf main_v607 main_v610
  let main_v612 : FVec F S16x32x32x32 .f32 := addf main_v609 main_v611
  let main_v613 : FVec F S16x32x32x32 .f32 := subf main_v460 main_v612
  let main_v614 : FVec F S16x32x16x2x16x2 .f32 := shapeCast S16x32x16x2x16x2 main_v613 shapeCasts_S16x32x32x32_S16x32x16x2x16x2
  let main_cst_124 : FVec F S_ .f32 := constant S_ .f32 0x00000000#32
  let main_v615 : FVec F S16x32x16x16 .f32 := (fun x v => Host.reduceAdd x v reducesTo_S16x32x16x2x16x2_S16x32x16x16_d3_5 h_S_) main_v614 main_cst_124
  let main_cst_125 : FVec F S_ .f32 := constant S_ .f32 0x40800000#32
  fn_part31 (F := F) main_arg1 main_arg2 main_arg3 main_v490 main_v613 main_v615 main_cst_125

def fn_part29 {F : FTy → Type} [FloatOps F] (main_arg1 : FVec F S8192x32 .f32) (main_arg2 : FVec F S4x32x32x3x3 .f32) (main_arg3 : FVec F S4x32 .f32) (main_v460 : FVec F S16x32x32x32 .f32) (main_v490 : IVec S_ 1) (main_v554 : FVec F S16x32x32x32 .f32) (main_v556 : FVec F S32x32x3x3 .f32) (main_v558 : FVec F S32 .f32) (main_v559 : FVec F S16x32x34x34 .f32) (main_v568 : FVec F S16x32x32x32 .f32) (main_v569 : FVec F S16x32x32x32 .f32) (main_v571 : FVec F S32x32 .f32) : IVec S_ 1 :=
  let main_v572 : FVec F S16x32x32x32 .f32 := (fun l r => Host.dotGeneral dot_S16x32x32x32_S32x32_S16x32x32x32_1_1_023_0_n_n none l r) main_v569 main_v571
  let main_v573 : FVec F S16x32x32x32 .f32 := addf main_v568 main_v572
  let main_v574 : FVec F S16x32x32x32 .f32 := (extractStridedSlice S16x32x32x32 ![0, 0, 1, 0] · slices_S16x32x34x34_S16x32x32x32_0_0_1_0) main_v559
  let main_v575 : FVec F S32x32x1x1 .f32 := (extractStridedSlice S32x32x1x1 ![0, 0, 1, 0] · slices_S32x32x3x3_S32x32x1x1_0_0_1_0) main_v556
  let main_v576 : FVec F S32x32 .f32 := shapeCast S32x32 main_v575 shapeCasts_S32x32x1x1_S32x32
  let main_v577 : FVec F S16x32x32x32 .f32 := (fun l r => Host.dotGeneral dot_S16x32x32x32_S32x32_S16x32x32x32_1_1_023_0_n_n none l r) main_v574 main_v576
  let main_v578 : FVec F S16x32x32x32 .f32 := addf main_v573 main_v577
  let main_v579 : FVec F S16x32x32x32 .f32 := (extractStridedSlice S16x32x32x32 ![0, 0, 1, 1] · slices_S16x32x34x34_S16x32x32x32_0_0_1_1) main_v559
  let main_v580 : FVec F S32x32x1x1 .f32 := (extractStridedSlice S32x32x1x1 ![0, 0, 1, 1] · slices_S32x32x3x3_S32x32x1x1_0_0_1_1) main_v556
  let main_v581 : FVec F S32x32 .f32 := shapeCast S32x32 main_v580 shapeCasts_S32x32x1x1_S32x32
  let main_v582 : FVec F S16x32x32x32 .f32 := (fun l r => Host.dotGeneral dot_S16x32x32x32_S32x32_S16x32x32x32_1_1_023_0_n_n none l r) main_v579 main_v581
  let main_v583 : FVec F S16x32x32x32 .f32 := addf main_v578 main_v582
  let main_v584 : FVec F S16x32x32x32 .f32 := (extractStridedSlice S16x32x32x32 ![0, 0, 1, 2] · slices_S16x32x34x34_S16x32x32x32_0_0_1_2) main_v559
  let main_v585 : FVec F S32x32x1x1 .f32 := (extractStridedSlice S32x32x1x1 ![0, 0, 1, 2] · slices_S32x32x3x3_S32x32x1x1_0_0_1_2) main_v556
  let main_v586 : FVec F S32x32 .f32 := shapeCast S32x32 main_v585 shapeCasts_S32x32x1x1_S32x32
  let main_v587 : FVec F S16x32x32x32 .f32 := (fun l r => Host.dotGeneral dot_S16x32x32x32_S32x32_S16x32x32x32_1_1_023_0_n_n none l r) main_v584 main_v586
  let main_v588 : FVec F S16x32x32x32 .f32 := addf main_v583 main_v587
  let main_v589 : FVec F S16x32x32x32 .f32 := (extractStridedSlice S16x32x32x32 ![0, 0, 2, 0] · slices_S16x32x34x34_S16x32x32x32_0_0_2_0) main_v559
  let main_v590 : FVec F S32x32x1x1 .f32 := (extractStridedSlice S32x32x1x1 ![0, 0, 2, 0] · slices_S32x32x3x3_S32x32x1x1_0_0_2_0) main_v556
  let main_v591 : FVec F S32x32 .f32 := shapeCast S32x32 main_v590 shapeCasts_S32x32x1x1_S32x32
  let main_v592 : FVec F S16x32x32x32 .f32 := (fun l r => Host.dotGeneral dot_S16x32x32x32_S32x32_S16x32x32x32_1_1_023_0_n_n none l r) main_v589 main_v591
  let main_v593 : FVec F S16x32x32x32 .f32 := addf main_v588 main_v592
  let main_v594 : FVec F S16x32x32x32 .f32 := (extractStridedSlice S16x32x32x32 ![0, 0, 2, 1] · slices_S16x32x34x34_S16x32x32x32_0_0_2_1) main_v559
  let main_v595 : FVec F S32x32x1x1 .f32 := (extractStridedSlice S32x32x1x1 ![0, 0, 2, 1] · slices_S32x32x3x3_S32x32x1x1_0_0_2_1) main_v556
  fn_part30 (F := F) main_arg1 main_arg2 main_arg3 main_v460 main_v490 main_v554 main_v556 main_v558 main_v559 main_v593 main_v594 main_v595

def fn_part28 {F : FTy → Type} [FloatOps F] (main_arg1 : FVec F S8192x32 .f32) (main_arg2 : FVec F S4x32x32x3x3 .f32) (main_arg3 : FVec F S4x32 .f32) (main_v460 : FVec F S16x32x32x32 .f32) (main_v490 : IVec S_ 1) (main_v542 : FVec F S8x32 .f32) (main_v549 : FVec F S16x32x32x8x1 .f32) : IVec S_ 1 :=
  let main_v550 : FVec F S1x1x1x8x32 .f32 := broadcastInDim S1x1x1x8x32 ![3, 4] bcast_S8x32_S1x1x1x8x32_3_4 main_v542
  let main_v551 : FVec F S16x32x32x8x32 .f32 := broadcastInDim S16x32x32x8x32 ![0, 1, 2, 3, 4] bcast_S16x32x32x8x1_S16x32x32x8x32_0_1_2_3_4 main_v549
  let main_v552 : FVec F S16x32x32x8x32 .f32 := broadcastInDim S16x32x32x8x32 ![0, 1, 2, 3, 4] bcast_S1x1x1x8x32_S16x32x32x8x32_0_1_2_3_4 main_v550
  let main_v553 : FVec F S16x32x32x8x32 .f32 := mulf main_v551 main_v552
  let main_cst_120 : FVec F S_ .f32 := constant S_ .f32 0x00000000#32
  let main_v554 : FVec F S16x32x32x32 .f32 := (fun x v => Host.reduceAdd x v reducesTo_S16x32x32x8x32_S16x32x32x32_d3 h_S_) main_v553 main_cst_120
  let main_v555 : FVec F S1x32x32x3x3 .f32 := (extractStridedSlice S1x32x32x3x3 ![2, 0, 0, 0, 0] · slices_S4x32x32x3x3_S1x32x32x3x3_2_0_0_0_0) main_arg2
  let main_v556 : FVec F S32x32x3x3 .f32 := shapeCast S32x32x3x3 main_v555 shapeCasts_S1x32x32x3x3_S32x32x3x3
  let main_v557 : FVec F S1x32 .f32 := (extractStridedSlice S1x32 ![2, 0] · slices_S4x32_S1x32_2_0) main_arg3
  let main_v558 : FVec F S32 .f32 := shapeCast S32 main_v557 shapeCasts_S1x32_S32
  let main_c_121 : IVec S_ 32 := constantI S_ 32 0#32
  let main_v559 : FVec F S16x32x34x34 .f32 := fn_pad (F := F) main_v554 main_c_121
  let main_v560 : FVec F S16x32x32x32 .f32 := (extractStridedSlice S16x32x32x32 ![0, 0, 0, 0] · slices_S16x32x34x34_S16x32x32x32_0_0_0_0) main_v559
  let main_v561 : FVec F S32x32x1x1 .f32 := (extractStridedSlice S32x32x1x1 ![0, 0, 0, 0] · slices_S32x32x3x3_S32x32x1x1_0_0_0_0) main_v556
  let main_v562 : FVec F S32x32 .f32 := shapeCast S32x32 main_v561 shapeCasts_S32x32x1x1_S32x32
  let main_v563 : FVec F S16x32x32x32 .f32 := (fun l r => Host.dotGeneral dot_S16x32x32x32_S32x32_S16x32x32x32_1_1_023_0_n_n none l r) main_v560 main_v562
  let main_v564 : FVec F S16x32x32x32 .f32 := (extractStridedSlice S16x32x32x32 ![0, 0, 0, 1] · slices_S16x32x34x34_S16x32x32x32_0_0_0_1) main_v559
  let main_v565 : FVec F S32x32x1x1 .f32 := (extractStridedSlice S32x32x1x1 ![0, 0, 0, 1] · slices_S32x32x3x3_S32x32x1x1_0_0_0_1) main_v556
  let main_v566 : FVec F S32x32 .f32 := shapeCast S32x32 main_v565 shapeCasts_S32x32x1x1_S32x32
  let main_v567 : FVec F S16x32x32x32 .f32 := (fun l r => Host.dotGeneral dot_S16x32x32x32_S32x32_S16x32x32x32_1_1_023_0_n_n none l r) main_v564 main_v566
  let main_v568 : FVec F S16x32x32x32 .f32 := addf main_v563 main_v567
  let main_v569 : FVec F S16x32x32x32 .f32 := (extractStridedSlice S16x32x32x32 ![0, 0, 0, 2] · slices_S16x32x34x34_S16x32x32x32_0_0_0_2) main_v559
  let main_v570 : FVec F S32x32x1x1 .f32 := (extractStridedSlice S32x32x1x1 ![0, 0, 0, 2] · slices_S32x32x3x3_S32x32x1x1_0_0_0_2) main_v556
  let main_v571 : FVec F S32x32 .f32 := shapeCast S32x32 main_v570 shapeCasts_S32x32x1x1_S32x32
  fn_part29 (F := F) main_arg1 main_arg2 main_arg3 main_v460 main_v490 main_v554 main_v556 main_v558 main_v559 main_v568 main_v569 main_v571

def fn_part27 {F : FTy → Type} [FloatOps F] (main_arg1 : FVec F S8192x32 .f32) (main_arg2 : FVec F S4x32x32x3x3 .f32) (main_arg3 : FVec F S4x32 .f32) (main_v460 : FVec F S16x32x32x32 .f32) (main_v490 : IVec S_ 1) (main_v500 : FVec F S16x32x8x8 .f32) (main_v514 : FVec F S8x32 .f32) (main_v522 : FVec F S8x32 .f32) (main_v524 : IVec S8x32 1) (main_v529 : FVec F S8x32 .f32) (main_v530 : FVec F S8x32 .f32) : IVec S_ 1 :=
  let main_v531 : FVec F S8x32 .f32 := subf main_v529 main_v530
  let main_v532 : FVec F S8x32 .f32 := mulf main_v531 main_v514
  let main_cst_115 : FVec F S_ .f32 := constant S_ .f32 0x40000000#32
  let main_v533 : FVec F S8x32 .f32 := broadcastInDim S8x32 ![] bcast_S_S8x32 main_cst_115
  let main_v534 : FVec F S8x32 .f32 := addf main_v532 main_v533
  let main_v535 : FVec F S8x32 .f32 := fn_where_12 (F := F) main_v524 main_v534 main_v522
  let main_cst_116 : FVec F S_ .f32 := constant S_ .f32 0x40000000#32
  let main_v536 : FVec F S8x32 .f32 := broadcastInDim S8x32 ![] bcast_S_S8x32 main_cst_116
  let main_v537 : IVec S8x32 1 := cmpf .oge main_v514 main_v536
  let main_cst_117 : FVec F S_ .f32 := constant S_ .f32 0x00000000#32
  let main_v538 : FVec F S8x32 .f32 := fn_where_13 (F := F) main_v537 main_cst_117 main_v535
  let main_cst_118 : FVec F S_ .f32 := constant S_ .f32 0x00000000#32
  let main_v539 : FVec F S32 .f32 := (fun x v => Host.reduceAdd x v reducesTo_S8x32_S32_d0 h_S_) main_v538 main_cst_118
  let main_v540 : FVec F S1x32 .f32 := broadcastInDim S1x32 ![1] bcast_S32_S1x32_1 main_v539
  let main_v541 : FVec F S8x32 .f32 := broadcastInDim S8x32 ![0, 1] bcast_S1x32_S8x32_0_1 main_v540
  let main_v542 : FVec F S8x32 .f32 := Host.divf main_v538 main_v541
  let main_v543 : FVec F S16x32x8x1x8 .f32 := broadcastInDim S16x32x8x1x8 ![0, 1, 2, 4] bcast_S16x32x8x8_S16x32x8x1x8_0_1_2_4 main_v500
  let main_v544 : FVec F S1x1x8x32x1 .f32 := broadcastInDim S1x1x8x32x1 ![2, 3] bcast_S8x32_S1x1x8x32x1_2_3 main_v542
  let main_v545 : FVec F S16x32x8x32x8 .f32 := broadcastInDim S16x32x8x32x8 ![0, 1, 2, 3, 4] bcast_S16x32x8x1x8_S16x32x8x32x8_0_1_2_3_4 main_v543
  let main_v546 : FVec F S16x32x8x32x8 .f32 := broadcastInDim S16x32x8x32x8 ![0, 1, 2, 3, 4] bcast_S1x1x8x32x1_S16x32x8x32x8_0_1_2_3_4 main_v544
  let main_v547 : FVec F S16x32x8x32x8 .f32 := mulf main_v545 main_v546
  let main_cst_119 : FVec F S_ .f32 := constant S_ .f32 0x00000000#32
  let main_v548 : FVec F S16x32x32x8 .f32 := (fun x v => Host.reduceAdd x v reducesTo_S16x32x8x32x8_S16x32x32x8_d2 h_S_) main_v547 main_cst_119
  let main_v549 : FVec F S16x32x32x8x1 .f32 := broadcastInDim S16x32x32x8x1 ![0, 1, 2, 3] bcast_S16x32x32x8_S16x32x32x8x1_0_1_2_3 main_v548
  fn_part28 (F := F) main_arg1 main_arg2 main_arg3 main_v460 main_v490 main_v542 main_v549

def fn_part26 {F : FTy → Type} [FloatOps F] (main_arg1 : FVec F S8192x32 .f32) (main_arg2 : FVec F S4x32x32x3x3 .f32) (main_arg3 : FVec F S4x32 .f32) (main_v460 : FVec F S16x32x32x32 .f32) (main_v490 : IVec S_ 1) (main_v500 : FVec F S16x32x8x8 .f32) (main_v513 : FVec F S8x32 .f32) : IVec S_ 1 :=
  let main_v514 : FVec F S8x32 .f32 := Host.absf main_v513
  let main_cst_108 : FVec F S_ .f32 := constant S_ .f32 0x3FC00000#32
  let main_v515 : FVec F S8x32 .f32 := broadcastInDim S8x32 ![] bcast_S_S8x32 main_cst_108
  let main_v516 : FVec F S8x32 .f32 := mulf main_v515 main_v514
  let main_cst_109 : FVec F S_ .f32 := constant S_ .f32 0x40200000#32
  let main_v517 : FVec F S8x32 .f32 := broadcastInDim S8x32 ![] bcast_S_S8x32 main_cst_109
  let main_v518 : FVec F S8x32 .f32 := subf main_v516 main_v517
  let main_v519 : FVec F S8x32 .f32 := mulf main_v518 main_v514
  let main_v520 : FVec F S8x32 .f32 := mulf main_v519 main_v514
  let main_cst_110 : FVec F S_ .f32 := constant S_ .f32 0x3F800000#32
  let main_v521 : FVec F S8x32 .f32 := broadcastInDim S8x32 ![] bcast_S_S8x32 main_cst_110
  let main_v522 : FVec F S8x32 .f32 := addf main_v520 main_v521
  let main_cst_111 : FVec F S_ .f32 := constant S_ .f32 0x3F800000#32
  let main_v523 : FVec F S8x32 .f32 := broadcastInDim S8x32 ![] bcast_S_S8x32 main_cst_111
  let main_v524 : IVec S8x32 1 := cmpf .oge main_v514 main_v523
  let main_cst_112 : FVec F S_ .f32 := constant S_ .f32 0xBF000000#32
  let main_v525 : FVec F S8x32 .f32 := broadcastInDim S8x32 ![] bcast_S_S8x32 main_cst_112
  let main_v526 : FVec F S8x32 .f32 := mulf main_v525 main_v514
  let main_cst_113 : FVec F S_ .f32 := constant S_ .f32 0x40200000#32
  let main_v527 : FVec F S8x32 .f32 := broadcastInDim S8x32 ![] bcast_S_S8x32 main_cst_113
  let main_v528 : FVec F S8x32 .f32 := addf main_v526 main_v527
  let main_v529 : FVec F S8x32 .f32 := mulf main_v528 main_v514
  let main_cst_114 : FVec F S_ .f32 := constant S_ .f32 0x40800000#32
  let main_v530 : FVec F S8x32 .f32 := broadcastInDim S8x32 ![] bcast_S_S8x32 main_cst_114
  fn_part27 (F := F) main_arg1 main_arg2 main_arg3 main_v460 main_v490 main_v500 main_v514 main_v522 main_v524 main_v529 main_v530

def fn_part25 {F : FTy → Type} [FloatOps F] (main_arg1 : FVec F S8192x32 .f32) (main_arg2 : FVec F S4x32x32x3x3 .f32) (main_arg3 : FVec F S4x32 .f32) (main_v460 : FVec F S16x32x32x32 .f32) (main_v480 : FVec F S1024x8192 .f32) (main_v490 : IVec S_ 1) (main_v491 : IVec S1024x8192 32) (main_v494 : FVec F S1024x8192 .f32) : IVec S_ 1 :=
  let main_v495 : IVec S1024x8192 1 := cmpf .oeq main_v480 main_v494
  let main_c_103 : IVec S_ 32 := constantI S_ 32 8192#32
  let main_v496 : IVec S1024x8192 32 := fn_where_10 (F := F) main_v495 main_v491 main_c_103
  let main_c_104 : IVec S_ 32 := constantI S_ 32 2147483647#32
  let main_v497 : IVec S1024 32 := (fun x v => Host.reduce IntOp.minsi x v reducesTo_S1024x8192_S1024_d1 h_S_) main_v496 main_c_104
  let main_v498 : IVec S16x8x8 32 := shapeCast S16x8x8 main_v497 shapeCasts_S1024_S16x8x8
  let main_v499 : FVec F S16x8x8x32 .f32 := fn_take_11 (F := F) main_arg1 main_v498
  let main_v500 : FVec F S16x32x8x8 .f32 := (transpose S16x32x8x8 [0, 3, 1, 2] · transposes_S16x8x8x32_S16x32x8x8_0_3_1_2) main_v499
  let main_v501 : FVec F S32 .f32 := sitofp .f32 (iotaInDim S32 32 0)
  let main_cst_105 : FVec F S_ .f32 := constant S_ .f32 0x3F000000#32
  let main_v502 : FVec F S32 .f32 := broadcastInDim S32 ![] bcast_S_S32 main_cst_105
  let main_v503 : FVec F S32 .f32 := addf main_v501 main_v502
  let main_cst_106 : FVec F S_ .f32 := constant S_ .f32 0x3E800000#32
  let main_v504 : FVec F S32 .f32 := broadcastInDim S32 ![] bcast_S_S32 main_cst_106
  let main_v505 : FVec F S32 .f32 := mulf main_v503 main_v504
  let main_cst_107 : FVec F S_ .f32 := constant S_ .f32 0x3F000000#32
  let main_v506 : FVec F S32 .f32 := broadcastInDim S32 ![] bcast_S_S32 main_cst_107
  let main_v507 : FVec F S32 .f32 := subf main_v505 main_v506
  let main_v508 : FVec F S1x32 .f32 := broadcastInDim S1x32 ![1] bcast_S32_S1x32_1 main_v507
  let main_v509 : FVec F S8 .f32 := sitofp .f32 (iotaInDim S8 32 0)
  let main_v510 : FVec F S8x1 .f32 := broadcastInDim S8x1 ![0] bcast_S8_S8x1_0 main_v509
  let main_v511 : FVec F S8x32 .f32 := broadcastInDim S8x32 ![0, 1] bcast_S1x32_S8x32_0_1 main_v508
  let main_v512 : FVec F S8x32 .f32 := broadcastInDim S8x32 ![0, 1] bcast_S8x1_S8x32_0_1 main_v510
  let main_v513 : FVec F S8x32 .f32 := subf main_v511 main_v512
  fn_part26 (F := F) main_arg1 main_arg2 main_arg3 main_v460 main_v490 main_v500 main_v513

def fn_part24 {F : FTy → Type} [FloatOps F] (main_arg1 : FVec F S8192x32 .f32) (main_arg2 : FVec F S4x32x32x3x3 .f32) (main_arg3 : FVec F S4x32 .f32) (main_v337 : IVec S_ 1) (main_v460 : FVec F S16x32x32x32 .f32) (main_v473 : FVec F S1024x8192 .f32) (main_v475 : FVec F S1024x8192 .f32) (main_v476 : FVec F S1024x8192 .f32) : IVec S_ 1 :=
  let main_v477 : FVec F S1024x8192 .f32 := addf main_v475 main_v476
  let main_cst_97 : FVec F S_ .f32 := constant S_ .f32 0x40000000#32
  let main_v478 : FVec F S1024x8192 .f32 := broadcastInDim S1024x8192 ![] bcast_S_S1024x8192 main_cst_97
  let main_v479 : FVec F S1024x8192 .f32 := mulf main_v478 main_v473
  let main_v480 : FVec F S1024x8192 .f32 := subf main_v477 main_v479
  let main_cst_98 : FVec F S_ .f32 := constant S_ .f32 0x7F800000#32
  let main_v481 : FVec F S1024 .f32 := (fun x v => Host.reduce FloatOps.minimumf x v reducesTo_S1024x8192_S1024_d1 h_S_) main_v480 main_cst_98
  let main_v482 : FVec F S1024x1 .f32 := broadcastInDim S1024x1 ![0] bcast_S1024_S1024x1_0 main_v481
  let main_v483 : FVec F S1024x8192 .f32 := broadcastInDim S1024x8192 ![0, 1] bcast_S1024x1_S1024x8192_0_1 main_v482
  let main_v484 : IVec S1024x8192 1 := cmpf .oeq main_v480 main_v483
  let main_v485 : IVec S1024x8192 32 := (extui 32 · natLt_1_32) main_v484
  let main_c_99 : IVec S_ 32 := constantI S_ 32 0#32
  let main_v486 : IVec S1024 32 := (fun x v => Host.reduce IntOp.addi x v reducesTo_S1024x8192_S1024_d1 h_S_) main_v485 main_c_99
  let main_c_100 : IVec S_ 32 := constantI S_ 32 1#32
  let main_v487 : IVec S1024 32 := broadcastInDim S1024 ![] bcast_S_S1024 main_c_100
  let main_v488 : IVec S1024 1 := cmpi .eq main_v486 main_v487
  let main_c_101 : IVec S_ 1 := constantI S_ 1 1#1
  let main_v489 : IVec S_ 1 := (fun x v => Host.reduce IntOp.andi x v reducesTo_S1024_S_d0 h_S_) main_v488 main_c_101
  let main_v490 : IVec S_ 1 := andi main_v337 main_v489
  let main_v491 : IVec S1024x8192 32 := iotaInDim S1024x8192 32 1
  let main_cst_102 : FVec F S_ .f32 := constant S_ .f32 0x7F800000#32
  let main_v492 : FVec F S1024 .f32 := (fun x v => Host.reduce FloatOps.minimumf x v reducesTo_S1024x8192_S1024_d1 h_S_) main_v480 main_cst_102
  let main_v493 : FVec F S1024x1 .f32 := broadcastInDim S1024x1 ![0] bcast_S1024_S1024x1_0 main_v492
  let main_v494 : FVec F S1024x8192 .f32 := broadcastInDim S1024x8192 ![0, 1] bcast_S1024x1_S1024x8192_0_1 main_v493
  fn_part25 (F := F) main_arg1 main_arg2 main_arg3 main_v460 main_v480 main_v490 main_v491 main_v494

def fn_part23 {F : FTy → Type} [FloatOps F] (main_arg1 : FVec F S8192x32 .f32) (main_arg2 : FVec F S4x32x32x3x3 .f32) (main_arg3 : FVec F S4x32 .f32) (main_v307 : FVec F S16x32x32x32 .f32) (main_v337 : IVec S_ 1) (main_v454 : FVec F S16x32x32x32 .f32) (main_v456 : FVec F S16x32x32x32 .f32) (main_cst_92 : FVec F S_ .f32) : IVec S_ 1 :=
  let main_v457 : FVec F S16x32x32x32 .f32 := broadcastInDim S16x32x32x32 ![] bcast_S_S16x32x32x32 main_cst_92
  let main_v458 : FVec F S16x32x32x32 .f32 := mulf main_v454 main_v457
  let main_v459 : FVec F S16x32x32x32 .f32 := addf main_v456 main_v458
  let main_v460 : FVec F S16x32x32x32 .f32 := subf main_v307 main_v459
  let main_v461 : FVec F S16x32x8x4x8x4 .f32 := shapeCast S16x32x8x4x8x4 main_v460 shapeCasts_S16x32x32x32_S16x32x8x4x8x4
  let main_cst_93 : FVec F S_ .f32 := constant S_ .f32 0x00000000#32
  let main_v462 : FVec F S16x32x8x8 .f32 := (fun x v => Host.reduceAdd x v reducesTo_S16x32x8x4x8x4_S16x32x8x8_d3_5 h_S_) main_v461 main_cst_93
  let main_cst_94 : FVec F S_ .f32 := constant S_ .f32 0x41800000#32
  let main_v463 : FVec F S16x32x8x8 .f32 := broadcastInDim S16x32x8x8 ![] bcast_S_S16x32x8x8 main_cst_94
  let main_v464 : FVec F S16x32x8x8 .f32 := Host.divf main_v462 main_v463
  let main_v465 : FVec F S16x8x8x32 .f32 := (transpose S16x8x8x32 [0, 2, 3, 1] · transposes_S16x32x8x8_S16x8x8x32_0_2_3_1) main_v464
  let main_v466 : FVec F S1024x32 .f32 := shapeCast S1024x32 main_v465 shapeCasts_S16x8x8x32_S1024x32
  let main_v467 : FVec F S1024x32 .f32 := mulf main_v466 main_v466
  let main_cst_95 : FVec F S_ .f32 := constant S_ .f32 0x00000000#32
  let main_v468 : FVec F S1024 .f32 := (fun x v => Host.reduceAdd x v reducesTo_S1024x32_S1024_d1 h_S_) main_v467 main_cst_95
  let main_v469 : FVec F S1024x1 .f32 := broadcastInDim S1024x1 ![0] bcast_S1024_S1024x1_0 main_v468
  let main_v470 : FVec F S8192x32 .f32 := mulf main_arg1 main_arg1
  let main_cst_96 : FVec F S_ .f32 := constant S_ .f32 0x00000000#32
  let main_v471 : FVec F S8192 .f32 := (fun x v => Host.reduceAdd x v reducesTo_S8192x32_S8192_d1 h_S_) main_v470 main_cst_96
  let main_v472 : FVec F S32x8192 .f32 := (transpose S32x8192 [1, 0] · transposes_S8192x32_S32x8192_1_0) main_arg1
  let main_v473 : FVec F S1024x8192 .f32 := (fun l r => Host.dotGeneral dot_S1024x32_S32x8192_S1024x8192_1_0_0_1_n_n none l r) main_v466 main_v472
  let main_v474 : FVec F S1x8192 .f32 := broadcastInDim S1x8192 ![1] bcast_S8192_S1x8192_1 main_v471
  let main_v475 : FVec F S1024x8192 .f32 := broadcastInDim S1024x8192 ![0, 1] bcast_S1024x1_S1024x8192_0_1 main_v469
  let main_v476 : FVec F S1024x8192 .f32 := broadcastInDim S1024x8192 ![0, 1] bcast_S1x8192_S1024x8192_0_1 main_v474
  fn_part24 (F := F) main_arg1 main_arg2 main_arg3 main_v337 main_v460 main_v473 main_v475 main_v476

def fn_part22 {F : FTy → Type} [FloatOps F] (main_arg1 : FVec F S8192x32 .f32) (main_arg2 : FVec F S4x32x32x3x3 .f32) (main_arg3 : FVec F S4x32 .f32) (main_v307 : FVec F S16x32x32x32 .f32) (main_v337 : IVec S_ 1) (main_v401 : FVec F S16x32x32x32 .f32) (main_v403 : FVec F S32x32x3x3 .f32) (main_v405 : FVec F S32 .f32) (main_v406 : FVec F S16x32x34x34 .f32) (main_v430 : FVec F S16x32x32x32 .f32) (main_v434 : FVec F S16x32x32x32 .f32) : IVec S_ 1 :=
  let main_v435 : FVec F S16x32x32x32 .f32 := addf main_v430 main_v434
  let main_v436 : FVec F S16x32x32x32 .f32 := (extractStridedSlice S16x32x32x32 ![0, 0, 2, 0] · slices_S16x32x34x34_S16x32x32x32_0_0_2_0) main_v406
  let main_v437 : FVec F S32x32x1x1 .f32 := (extractStridedSlice S32x32x1x1 ![0, 0, 2, 0] · slices_S32x32x3x3_S32x32x1x1_0_0_2_0) main_v403
  let main_v438 : FVec F S32x32 .f32 := shapeCast S32x32 main_v437 shapeCasts_S32x32x1x1_S32x32
  let main_v439 : FVec F S16x32x32x32 .f32 := (fun l r => Host.dotGeneral dot_S16x32x32x32_S32x32_S16x32x32x32_1_1_023_0_n_n none l r) main_v436 main_v438
  let main_v440 : FVec F S16x32x32x32 .f32 := addf main_v435 main_v439
  let main_v441 : FVec F S16x32x32x32 .f32 := (extractStridedSlice S16x32x32x32 ![0, 0, 2, 1] · slices_S16x32x34x34_S16x32x32x32_0_0_2_1) main_v406
  let main_v442 : FVec F S32x32x1x1 .f32 := (extractStridedSlice S32x32x1x1 ![0, 0, 2, 1] · slices_S32x32x3x3_S32x32x1x1_0_0_2_1) main_v403
  let main_v443 : FVec F S32x32 .f32 := shapeCast S32x32 main_v442 shapeCasts_S32x32x1x1_S32x32
  let main_v444 : FVec F S16x32x32x32 .f32 := (fun l r => Host.dotGeneral dot_S16x32x32x32_S32x32_S16x32x32x32_1_1_023_0_n_n none l r) main_v441 main_v443
  let main_v445 : FVec F S16x32x32x32 .f32 := addf main_v440 main_v444
  let main_v446 : FVec F S16x32x32x32 .f32 := (extractStridedSlice S16x32x32x32 ![0, 0, 2, 2] · slices_S16x32x34x34_S16x32x32x32_0_0_2_2) main_v406
  let main_v447 : FVec F S32x32x1x1 .f32 := (extractStridedSlice S32x32x1x1 ![0, 0, 2, 2] · slices_S32x32x3x3_S32x32x1x1_0_0_2_2) main_v403
  let main_v448 : FVec F S32x32 .f32 := shapeCast S32x32 main_v447 shapeCasts_S32x32x1x1_S32x32
  let main_v449 : FVec F S16x32x32x32 .f32 := (fun l r => Host.dotGeneral dot_S16x32x32x32_S32x32_S16x32x32x32_1_1_023_0_n_n none l r) main_v446 main_v448
  let main_v450 : FVec F S16x32x32x32 .f32 := addf main_v445 main_v449
  let main_v451 : FVec F S16x32x32x32 .f32 := (transpose S16x32x32x32 [0, 3, 1, 2] · transposes_S16x32x32x32_S16x32x32x32_0_3_1_2) main_v450
  let main_v452 : FVec F S1x32x1x1 .f32 := broadcastInDim S1x32x1x1 ![1] bcast_S32_S1x32x1x1_1 main_v405
  let main_v453 : FVec F S16x32x32x32 .f32 := broadcastInDim S16x32x32x32 ![0, 1, 2, 3] bcast_S1x32x1x1_S16x32x32x32_0_1_2_3 main_v452
  let main_v454 : FVec F S16x32x32x32 .f32 := addf main_v451 main_v453
  let main_cst_91 : FVec F S_ .f32 := constant S_ .f32 0x3F000000#32
  let main_v455 : FVec F S16x32x32x32 .f32 := broadcastInDim S16x32x32x32 ![] bcast_S_S16x32x32x32 main_cst_91
  let main_v456 : FVec F S16x32x32x32 .f32 := mulf main_v401 main_v455
  let main_cst_92 : FVec F S_ .f32 := constant S_ .f32 0x3F000000#32
  fn_part23 (F := F) main_arg1 main_arg2 main_arg3 main_v307 main_v337 main_v454 main_v456 main_cst_92

def fn_part21 {F : FTy → Type} [FloatOps F] (main_arg1 : FVec F S8192x32 .f32) (main_arg2 : FVec F S4x32x32x3x3 .f32) (main_arg3 : FVec F S4x32 .f32) (main_v307 : FVec F S16x32x32x32 .f32) (main_v337 : IVec S_ 1) (main_v401 : FVec F S16x32x32x32 .f32) (main_v403 : FVec F S32x32x3x3 .f32) (main_v405 : FVec F S32 .f32) (main_v406 : FVec F S16x32x34x34 .f32) (main_v410 : FVec F S16x32x32x32 .f32) : IVec S_ 1 :=
  let main_v411 : FVec F S16x32x32x32 .f32 := (extractStridedSlice S16x32x32x32 ![0, 0, 0, 1] · slices_S16x32x34x34_S16x32x32x32_0_0_0_1) main_v406
  let main_v412 : FVec F S32x32x1x1 .f32 := (extractStridedSlice S32x32x1x1 ![0, 0, 0, 1] · slices_S32x32x3x3_S32x32x1x1_0_0_0_1) main_v403
  let main_v413 : FVec F S32x32 .f32 := shapeCast S32x32 main_v412 shapeCasts_S32x32x1x1_S32x32
  let main_v414 : FVec F S16x32x32x32 .f32 := (fun l r => Host.dotGeneral dot_S16x32x32x32_S32x32_S16x32x32x32_1_1_023_0_n_n none l r) main_v411 main_v413
  let main_v415 : FVec F S16x32x32x32 .f32 := addf main_v410 main_v414
  let main_v416 : FVec F S16x32x32x32 .f32 := (extractStridedSlice S16x32x32x32 ![0, 0, 0, 2] · slices_S16x32x34x34_S16x32x32x32_0_0_0_2) main_v406
  let main_v417 : FVec F S32x32x1x1 .f32 := (extractStridedSlice S32x32x1x1 ![0, 0, 0, 2] · slices_S32x32x3x3_S32x32x1x1_0_0_0_2) main_v403
  let main_v418 : FVec F S32x32 .f32 := shapeCast S32x32 main_v417 shapeCasts_S32x32x1x1_S32x32
  let main_v419 : FVec F S16x32x32x32 .f32 := (fun l r => Host.dotGeneral dot_S16x32x32x32_S32x32_S16x32x32x32_1_1_023_0_n_n none l r) main_v416 main_v418
  let main_v420 : FVec F S16x32x32x32 .f32 := addf main_v415 main_v419
  let main_v421 : FVec F S16x32x32x32 .f32 := (extractStridedSlice S16x32x32x32 ![0, 0, 1, 0] · slices_S16x32x34x34_S16x32x32x32_0_0_1_0) main_v406
  let main_v422 : FVec F S32x32x1x1 .f32 := (extractStridedSlice S32x32x1x1 ![0, 0, 1, 0] · slices_S32x32x3x3_S32x32x1x1_0_0_1_0) main_v403
  let main_v423 : FVec F S32x32 .f32 := shapeCast S32x32 main_v422 shapeCasts_S32x32x1x1_S32x32
  let main_v424 : FVec F S16x32x32x32 .f32 := (fun l r => Host.dotGeneral dot_S16x32x32x32_S32x32_S16x32x32x32_1_1_023_0_n_n none l r) main_v421 main_v423
  let main_v425 : FVec F S16x32x32x32 .f32 := addf main_v420 main_v424
  let main_v426 : FVec F S16x32x32x32 .f32 := (extractStridedSlice S16x32x32x32 ![0, 0, 1, 1] · slices_S16x32x34x34_S16x32x32x32_0_0_1_1) main_v406
  let main_v427 : FVec F S32x32x1x1 .f32 := (extractStridedSlice S32x32x1x1 ![0, 0, 1, 1] · slices_S32x32x3x3_S32x32x1x1_0_0_1_1) main_v403
  let main_v428 : FVec F S32x32 .f32 := shapeCast S32x32 main_v427 shapeCasts_S32x32x1x1_S32x32
  let main_v429 : FVec F S16x32x32x32 .f32 := (fun l r => Host.dotGeneral dot_S16x32x32x32_S32x32_S16x32x32x32_1_1_023_0_n_n none l r) main_v426 main_v428
  let main_v430 : FVec F S16x32x32x32 .f32 := addf main_v425 main_v429
  let main_v431 : FVec F S16x32x32x32 .f32 := (extractStridedSlice S16x32x32x32 ![0, 0, 1, 2] · slices_S16x32x34x34_S16x32x32x32_0_0_1_2) main_v406
  let main_v432 : FVec F S32x32x1x1 .f32 := (extractStridedSlice S32x32x1x1 ![0, 0, 1, 2] · slices_S32x32x3x3_S32x32x1x1_0_0_1_2) main_v403
  let main_v433 : FVec F S32x32 .f32 := shapeCast S32x32 main_v432 shapeCasts_S32x32x1x1_S32x32
  let main_v434 : FVec F S16x32x32x32 .f32 := (fun l r => Host.dotGeneral dot_S16x32x32x32_S32x32_S16x32x32x32_1_1_023_0_n_n none l r) main_v431 main_v433
  fn_part22 (F := F) main_arg1 main_arg2 main_arg3 main_v307 main_v337 main_v401 main_v403 main_v405 main_v406 main_v430 main_v434

def fn_part20 {F : FTy → Type} [FloatOps F] (main_arg1 : FVec F S8192x32 .f32) (main_arg2 : FVec F S4x32x32x3x3 .f32) (main_arg3 : FVec F S4x32 .f32) (main_v307 : FVec F S16x32x32x32 .f32) (main_v337 : IVec S_ 1) (main_v347 : FVec F S16x32x4x4 .f32) (main_v389 : FVec F S4x32 .f32) : IVec S_ 1 :=
  let main_v390 : FVec F S16x32x4x1x4 .f32 := broadcastInDim S16x32x4x1x4 ![0, 1, 2, 4] bcast_S16x32x4x4_S16x32x4x1x4_0_1_2_4 main_v347
  let main_v391 : FVec F S1x1x4x32x1 .f32 := broadcastInDim S1x1x4x32x1 ![2, 3] bcast_S4x32_S1x1x4x32x1_2_3 main_v389
  let main_v392 : FVec F S16x32x4x32x4 .f32 := broadcastInDim S16x32x4x32x4 ![0, 1, 2, 3, 4] bcast_S16x32x4x1x4_S16x32x4x32x4_0_1_2_3_4 main_v390
  let main_v393 : FVec F S16x32x4x32x4 .f32 := broadcastInDim S16x32x4x32x4 ![0, 1, 2, 3, 4] bcast_S1x1x4x32x1_S16x32x4x32x4_0_1_2_3_4 main_v391
  let main_v394 : FVec F S16x32x4x32x4 .f32 := mulf main_v392 main_v393
  let main_cst_88 : FVec F S_ .f32 := constant S_ .f32 0x00000000#32
  let main_v395 : FVec F S16x32x32x4 .f32 := (fun x v => Host.reduceAdd x v reducesTo_S16x32x4x32x4_S16x32x32x4_d2 h_S_) main_v394 main_cst_88
  let main_v396 : FVec F S16x32x32x4x1 .f32 := broadcastInDim S16x32x32x4x1 ![0, 1, 2, 3] bcast_S16x32x32x4_S16x32x32x4x1_0_1_2_3 main_v395
  let main_v397 : FVec F S1x1x1x4x32 .f32 := broadcastInDim S1x1x1x4x32 ![3, 4] bcast_S4x32_S1x1x1x4x32_3_4 main_v389
  let main_v398 : FVec F S16x32x32x4x32 .f32 := broadcastInDim S16x32x32x4x32 ![0, 1, 2, 3, 4] bcast_S16x32x32x4x1_S16x32x32x4x32_0_1_2_3_4 main_v396
  let main_v399 : FVec F S16x32x32x4x32 .f32 := broadcastInDim S16x32x32x4x32 ![0, 1, 2, 3, 4] bcast_S1x1x1x4x32_S16x32x32x4x32_0_1_2_3_4 main_v397
  let main_v400 : FVec F S16x32x32x4x32 .f32 := mulf main_v398 main_v399
  let main_cst_89 : FVec F S_ .f32 := constant S_ .f32 0x00000000#32
  let main_v401 : FVec F S16x32x32x32 .f32 := (fun x v => Host.reduceAdd x v reducesTo_S16x32x32x4x32_S16x32x32x32_d3 h_S_) main_v400 main_cst_89
  let main_v402 : FVec F S1x32x32x3x3 .f32 := (extractStridedSlice S1x32x32x3x3 ![1, 0, 0, 0, 0] · slices_S4x32x32x3x3_S1x32x32x3x3_1_0_0_0_0) main_arg2
  let main_v403 : FVec F S32x32x3x3 .f32 := shapeCast S32x32x3x3 main_v402 shapeCasts_S1x32x32x3x3_S32x32x3x3
  let main_v404 : FVec F S1x32 .f32 := (extractStridedSlice S1x32 ![1, 0] · slices_S4x32_S1x32_1_0) main_arg3
  let main_v405 : FVec F S32 .f32 := shapeCast S32 main_v404 shapeCasts_S1x32_S32
  let main_c_90 : IVec S_ 32 := constantI S_ 32 0#32
  let main_v406 : FVec F S16x32x34x34 .f32 := fn_pad (F := F) main_v401 main_c_90
  let main_v407 : FVec F S16x32x32x32 .f32 := (extractStridedSlice S16x32x32x32 ![0, 0, 0, 0] · slices_S16x32x34x34_S16x32x32x32_0_0_0_0) main_v406
  let main_v408 : FVec F S32x32x1x1 .f32 := (extractStridedSlice S32x32x1x1 ![0, 0, 0, 0] · slices_S32x32x3x3_S32x32x1x1_0_0_0_0) main_v403
  let main_v409 : FVec F S32x32 .f32 := shapeCast S32x32 main_v408 shapeCasts_S32x32x1x1_S32x32
  let main_v410 : FVec F S16x32x32x32 .f32 := (fun l r => Host.dotGeneral dot_S16x32x32x32_S32x32_S16x32x32x32_1_1_023_0_n_n none l r) main_v407 main_v409
  fn_part21 (F := F) main_arg1 main_arg2 main_arg3 main_v307 main_v337 main_v401 main_v403 main_v405 main_v406 main_v410

def fn_part19 {F : FTy → Type} [FloatOps F] (main_arg1 : FVec F S8192x32 .f32) (main_arg2 : FVec F S4x32x32x3x3 .f32) (main_arg3 : FVec F S4x32 .f32) (main_v307 : FVec F S16x32x32x32 .f32) (main_v337 : IVec S_ 1) (main_v347 : FVec F S16x32x4x4 .f32) (main_v361 : FVec F S4x32 .f32) (main_v369 : FVec F S4x32 .f32) (main_v371 : IVec S4x32 1) (main_cst_81 : FVec F S_ .f32) : IVec S_ 1 :=
  let main_v372 : FVec F S4x32 .f32 := broadcastInDim S4x32 ![] bcast_S_S4x32 main_cst_81
  let main_v373 : FVec F S4x32 .f32 := mulf main_v372 main_v361
  let main_cst_82 : FVec F S_ .f32 := constant S_ .f32 0x40200000#32
  let main_v374 : FVec F S4x32 .f32 := broadcastInDim S4x32 ![] bcast_S_S4x32 main_cst_82
  let main_v375 : FVec F S4x32 .f32 := addf main_v373 main_v374
  let main_v376 : FVec F S4x32 .f32 := mulf main_v375 main_v361
  let main_cst_83 : FVec F S_ .f32 := constant S_ .f32 0x40800000#32
  let main_v377 : FVec F S4x32 .f32 := broadcastInDim S4x32 ![] bcast_S_S4x32 main_cst_83
  let main_v378 : FVec F S4x32 .f32 := subf main_v376 main_v377
  let main_v379 : FVec F S4x32 .f32 := mulf main_v378 main_v361
  let main_cst_84 : FVec F S_ .f32 := constant S_ .f32 0x40000000#32
  let main_v380 : FVec F S4x32 .f32 := broadcastInDim S4x32 ![] bcast_S_S4x32 main_cst_84
  let main_v381 : FVec F S4x32 .f32 := addf main_v379 main_v380
  let main_v382 : FVec F S4x32 .f32 := fn_where_8 (F := F) main_v371 main_v381 main_v369
  let main_cst_85 : FVec F S_ .f32 := constant S_ .f32 0x40000000#32
  let main_v383 : FVec F S4x32 .f32 := broadcastInDim S4x32 ![] bcast_S_S4x32 main_cst_85
  let main_v384 : IVec S4x32 1 := cmpf .oge main_v361 main_v383
  let main_cst_86 : FVec F S_ .f32 := constant S_ .f32 0x00000000#32
  let main_v385 : FVec F S4x32 .f32 := fn_where_9 (F := F) main_v384 main_cst_86 main_v382
  let main_cst_87 : FVec F S_ .f32 := constant S_ .f32 0x00000000#32
  let main_v386 : FVec F S32 .f32 := (fun x v => Host.reduceAdd x v reducesTo_S4x32_S32_d0 h_S_) main_v385 main_cst_87
  let main_v387 : FVec F S1x32 .f32 := broadcastInDim S1x32 ![1] bcast_S32_S1x32_1 main_v386
  let main_v388 : FVec F S4x32 .f32 := broadcastInDim S4x32 ![0, 1] bcast_S1x32_S4x32_0_1 main_v387
  let main_v389 : FVec F S4x32 .f32 := Host.divf main_v385 main_v388
  fn_part20 (F := F) main_arg1 main_arg2 main_arg3 main_v307 main_v337 main_v347 main_v389

def fn_part18 {F : FTy → Type} [FloatOps F] (main_arg1 : FVec F S8192x32 .f32) (main_arg2 : FVec F S4x32x32x3x3 .f32) (main_arg3 : FVec F S4x32 .f32) (main_v307 : FVec F S16x32x32x32 .f32) (main_v337 : IVec S_ 1) (main_v347 : FVec F S16x32x4x4 .f32) (main_v352 : FVec F S32 .f32) (main_cst_76 : FVec F S_ .f32) : IVec S_ 1 :=
  let main_v353 : FVec F S32 .f32 := broadcastInDim S32 ![] bcast_S_S32 main_cst_76
  let main_v354 : FVec F S32 .f32 := subf main_v352 main_v353
  let main_v355 : FVec F S1x32 .f32 := broadcastInDim S1x32 ![1] bcast_S32_S1x32_1 main_v354
  let main_v356 : FVec F S4 .f32 := sitofp .f32 (iotaInDim S4 32 0)
  let main_v357 : FVec F S4x1 .f32 := broadcastInDim S4x1 ![0] bcast_S4_S4x1_0 main_v356
  let main_v358 : FVec F S4x32 .f32 := broadcastInDim S4x32 ![0, 1] bcast_S1x32_S4x32_0_1 main_v355
  let main_v359 : FVec F S4x32 .f32 := broadcastInDim S4x32 ![0, 1] bcast_S4x1_S4x32_0_1 main_v357
  let main_v360 : FVec F S4x32 .f32 := subf main_v358 main_v359
  let main_v361 : FVec F S4x32 .f32 := Host.absf main_v360
  let main_cst_77 : FVec F S_ .f32 := constant S_ .f32 0x3FC00000#32
  let main_v362 : FVec F S4x32 .f32 := broadcastInDim S4x32 ![] bcast_S_S4x32 main_cst_77
  let main_v363 : FVec F S4x32 .f32 := mulf main_v362 main_v361
  let main_cst_78 : FVec F S_ .f32 := constant S_ .f32 0x40200000#32
  let main_v364 : FVec F S4x32 .f32 := broadcastInDim S4x32 ![] bcast_S_S4x32 main_cst_78
  let main_v365 : FVec F S4x32 .f32 := subf main_v363 main_v364
  let main_v366 : FVec F S4x32 .f32 := mulf main_v365 main_v361
  let main_v367 : FVec F S4x32 .f32 := mulf main_v366 main_v361
  let main_cst_79 : FVec F S_ .f32 := constant S_ .f32 0x3F800000#32
  let main_v368 : FVec F S4x32 .f32 := broadcastInDim S4x32 ![] bcast_S_S4x32 main_cst_79
  let main_v369 : FVec F S4x32 .f32 := addf main_v367 main_v368
  let main_cst_80 : FVec F S_ .f32 := constant S_ .f32 0x3F800000#32
  let main_v370 : FVec F S4x32 .f32 := broadcastInDim S4x32 ![] bcast_S_S4x32 main_cst_80
  let main_v371 : IVec S4x32 1 := cmpf .oge main_v361 main_v370
  let main_cst_81 : FVec F S_ .f32 := constant S_ .f32 0xBF000000#32
  fn_part19 (F := F) main_arg1 main_arg2 main_arg3 main_v307 main_v337 main_v347 main_v361 main_v369 main_v371 main_cst_81

def fn_part17 {F : FTy → Type} [FloatOps F] (main_arg1 : FVec F S8192x32 .f32) (main_arg2 : FVec F S4x32x32x3x3 .f32) (main_arg3 : FVec F S4x32 .f32) (main_v184 : IVec S_ 1) (main_v307 : FVec F S16x32x32x32 .f32) (main_v327 : FVec F S256x8192 .f32) (main_v335 : IVec S256 1) : IVec S_ 1 :=
  let main_c_70 : IVec S_ 1 := constantI S_ 1 1#1
  let main_v336 : IVec S_ 1 := (fun x v => Host.reduce IntOp.andi x v reducesTo_S256_S_d0 h_S_) main_v335 main_c_70
  let main_v337 : IVec S_ 1 := andi main_v184 main_v336
  let main_v338 : IVec S256x8192 32 := iotaInDim S256x8192 32 1
  let main_cst_71 : FVec F S_ .f32 := constant S_ .f32 0x7F800000#32
  let main_v339 : FVec F S256 .f32 := (fun x v => Host.reduce FloatOps.minimumf x v reducesTo_S256x8192_S256_d1 h_S_) main_v327 main_cst_71
  let main_v340 : FVec F S256x1 .f32 := broadcastInDim S256x1 ![0] bcast_S256_S256x1_0 main_v339
  let main_v341 : FVec F S256x8192 .f32 := broadcastInDim S256x8192 ![0, 1] bcast_S256x1_S256x8192_0_1 main_v340
  let main_v342 : IVec S256x8192 1 := cmpf .oeq main_v327 main_v341
  let main_c_72 : IVec S_ 32 := constantI S_ 32 8192#32
  let main_v343 : IVec S256x8192 32 := fn_where_6 (F := F) main_v342 main_v338 main_c_72
  let main_c_73 : IVec S_ 32 := constantI S_ 32 2147483647#32
  let main_v344 : IVec S256 32 := (fun x v => Host.reduce IntOp.minsi x v reducesTo_S256x8192_S256_d1 h_S_) main_v343 main_c_73
  let main_v345 : IVec S16x4x4 32 := shapeCast S16x4x4 main_v344 shapeCasts_S256_S16x4x4
  let main_v346 : FVec F S16x4x4x32 .f32 := fn_take_7 (F := F) main_arg1 main_v345
  let main_v347 : FVec F S16x32x4x4 .f32 := (transpose S16x32x4x4 [0, 3, 1, 2] · transposes_S16x4x4x32_S16x32x4x4_0_3_1_2) main_v346
  let main_v348 : FVec F S32 .f32 := sitofp .f32 (iotaInDim S32 32 0)
  let main_cst_74 : FVec F S_ .f32 := constant S_ .f32 0x3F000000#32
  let main_v349 : FVec F S32 .f32 := broadcastInDim S32 ![] bcast_S_S32 main_cst_74
  let main_v350 : FVec F S32 .f32 := addf main_v348 main_v349
  let main_cst_75 : FVec F S_ .f32 := constant S_ .f32 0x3E000000#32
  let main_v351 : FVec F S32 .f32 := broadcastInDim S32 ![] bcast_S_S32 main_cst_75
  let main_v352 : FVec F S32 .f32 := mulf main_v350 main_v351
  let main_cst_76 : FVec F S_ .f32 := constant S_ .f32 0x3F000000#32
  fn_part18 (F := F) main_arg1 main_arg2 main_arg3 main_v307 main_v337 main_v347 main_v352 main_cst_76

def fn_part16 {F : FTy → Type} [FloatOps F] (main_arg1 : FVec F S8192x32 .f32) (main_arg2 : FVec F S4x32x32x3x3 .f32) (main_arg3 : FVec F S4x32 .f32) (main_v184 : IVec S_ 1) (main_v307 : FVec F S16x32x32x32 .f32) (main_v313 : FVec F S256x32 .f32) (main_v316 : FVec F S256x1 .f32) : IVec S_ 1 :=
  let main_v317 : FVec F S8192x32 .f32 := mulf main_arg1 main_arg1
  let main_cst_65 : FVec F S_ .f32 := constant S_ .f32 0x00000000#32
  let main_v318 : FVec F S8192 .f32 := (fun x v => Host.reduceAdd x v reducesTo_S8192x32_S8192_d1 h_S_) main_v317 main_cst_65
  let main_v319 : FVec F S32x8192 .f32 := (transpose S32x8192 [1, 0] · transposes_S8192x32_S32x8192_1_0) main_arg1
  let main_v320 : FVec F S256x8192 .f32 := (fun l r => Host.dotGeneral dot_S256x32_S32x8192_S256x8192_1_0_0_1_n_n none l r) main_v313 main_v319
  let main_v321 : FVec F S1x8192 .f32 := broadcastInDim S1x8192 ![1] bcast_S8192_S1x8192_1 main_v318
  let main_v322 : FVec F S256x8192 .f32 := broadcastInDim S256x8192 ![0, 1] bcast_S256x1_S256x8192_0_1 main_v316
  let main_v323 : FVec F S256x8192 .f32 := broadcastInDim S256x8192 ![0, 1] bcast_S1x8192_S256x8192_0_1 main_v321
  let main_v324 : FVec F S256x8192 .f32 := addf main_v322 main_v323
  let main_cst_66 : FVec F S_ .f32 := constant S_ .f32 0x40000000#32
  let main_v325 : FVec F S256x8192 .f32 := broadcastInDim S256x8192 ![] bcast_S_S256x8192 main_cst_66
  let main_v326 : FVec F S256x8192 .f32 := mulf main_v325 main_v320
  let main_v327 : FVec F S256x8192 .f32 := subf main_v324 main_v326
  let main_cst_67 : FVec F S_ .f32 := constant S_ .f32 0x7F800000#32
  let main_v328 : FVec F S256 .f32 := (fun x v => Host.reduce FloatOps.minimumf x v reducesTo_S256x8192_S256_d1 h_S_) main_v327 main_cst_67
  let main_v329 : FVec F S256x1 .f32 := broadcastInDim S256x1 ![0] bcast_S256_S256x1_0 main_v328
  let main_v330 : FVec F S256x8192 .f32 := broadcastInDim S256x8192 ![0, 1] bcast_S256x1_S256x8192_0_1 main_v329
  let main_v331 : IVec S256x8192 1 := cmpf .oeq main_v327 main_v330
  let main_v332 : IVec S256x8192 32 := (extui 32 · natLt_1_32) main_v331
  let main_c_68 : IVec S_ 32 := constantI S_ 32 0#32
  let main_v333 : IVec S256 32 := (fun x v => Host.reduce IntOp.addi x v reducesTo_S256x8192_S256_d1 h_S_) main_v332 main_c_68
  let main_c_69 : IVec S_ 32 := constantI S_ 32 1#32
  let main_v334 : IVec S256 32 := broadcastInDim S256 ![] bcast_S_S256 main_c_69
  let main_v335 : IVec S256 1 := cmpi .eq main_v333 main_v334
  fn_part17 (F := F) main_arg1 main_arg2 main_arg3 main_v184 main_v307 main_v327 main_v335

def fn_part15 {F : FTy → Type} [FloatOps F] (main_arg1 : FVec F S8192x32 .f32) (main_arg2 : FVec F S4x32x32x3x3 .f32) (main_arg3 : FVec F S4x32 .f32) (main_v154 : FVec F S16x32x32x32 .f32) (main_v184 : IVec S_ 1) (main_v248 : FVec F S16x32x32x32 .f32) (main_v252 : FVec F S32 .f32) (main_v297 : FVec F S16x32x32x32 .f32) : IVec S_ 1 :=
  let main_v298 : FVec F S16x32x32x32 .f32 := (transpose S16x32x32x32 [0, 3, 1, 2] · transposes_S16x32x32x32_S16x32x32x32_0_3_1_2) main_v297
  let main_v299 : FVec F S1x32x1x1 .f32 := broadcastInDim S1x32x1x1 ![1] bcast_S32_S1x32x1x1_1 main_v252
  let main_v300 : FVec F S16x32x32x32 .f32 := broadcastInDim S16x32x32x32 ![0, 1, 2, 3] bcast_S1x32x1x1_S16x32x32x32_0_1_2_3 main_v299
  let main_v301 : FVec F S16x32x32x32 .f32 := addf main_v298 main_v300
  let main_cst_60 : FVec F S_ .f32 := constant S_ .f32 0x3F000000#32
  let main_v302 : FVec F S16x32x32x32 .f32 := broadcastInDim S16x32x32x32 ![] bcast_S_S16x32x32x32 main_cst_60
  let main_v303 : FVec F S16x32x32x32 .f32 := mulf main_v248 main_v302
  let main_cst_61 : FVec F S_ .f32 := constant S_ .f32 0x3F000000#32
  let main_v304 : FVec F S16x32x32x32 .f32 := broadcastInDim S16x32x32x32 ![] bcast_S_S16x32x32x32 main_cst_61
  let main_v305 : FVec F S16x32x32x32 .f32 := mulf main_v301 main_v304
  let main_v306 : FVec F S16x32x32x32 .f32 := addf main_v303 main_v305
  let main_v307 : FVec F S16x32x32x32 .f32 := subf main_v154 main_v306
  let main_v308 : FVec F S16x32x4x8x4x8 .f32 := shapeCast S16x32x4x8x4x8 main_v307 shapeCasts_S16x32x32x32_S16x32x4x8x4x8
  let main_cst_62 : FVec F S_ .f32 := constant S_ .f32 0x00000000#32
  let main_v309 : FVec F S16x32x4x4 .f32 := (fun x v => Host.reduceAdd x v reducesTo_S16x32x4x8x4x8_S16x32x4x4_d3_5 h_S_) main_v308 main_cst_62
  let main_cst_63 : FVec F S_ .f32 := constant S_ .f32 0x42800000#32
  let main_v310 : FVec F S16x32x4x4 .f32 := broadcastInDim S16x32x4x4 ![] bcast_S_S16x32x4x4 main_cst_63
  let main_v311 : FVec F S16x32x4x4 .f32 := Host.divf main_v309 main_v310
  let main_v312 : FVec F S16x4x4x32 .f32 := (transpose S16x4x4x32 [0, 2, 3, 1] · transposes_S16x32x4x4_S16x4x4x32_0_2_3_1) main_v311
  let main_v313 : FVec F S256x32 .f32 := shapeCast S256x32 main_v312 shapeCasts_S16x4x4x32_S256x32
  let main_v314 : FVec F S256x32 .f32 := mulf main_v313 main_v313
  let main_cst_64 : FVec F S_ .f32 := constant S_ .f32 0x00000000#32
  let main_v315 : FVec F S256 .f32 := (fun x v => Host.reduceAdd x v reducesTo_S256x32_S256_d1 h_S_) main_v314 main_cst_64
  let main_v316 : FVec F S256x1 .f32 := broadcastInDim S256x1 ![0] bcast_S256_S256x1_0 main_v315
  fn_part16 (F := F) main_arg1 main_arg2 main_arg3 main_v184 main_v307 main_v313 main_v316

def fn_part14 {F : FTy → Type} [FloatOps F] (main_arg1 : FVec F S8192x32 .f32) (main_arg2 : FVec F S4x32x32x3x3 .f32) (main_arg3 : FVec F S4x32 .f32) (main_v154 : FVec F S16x32x32x32 .f32) (main_v184 : IVec S_ 1) (main_v248 : FVec F S16x32x32x32 .f32) (main_v250 : FVec F S32x32x3x3 .f32) (main_v252 : FVec F S32 .f32) (main_v253 : FVec F S16x32x34x34 .f32) (main_v272 : FVec F S16x32x32x32 .f32) (main_v273 : FVec F S16x32x32x32 .f32) : IVec S_ 1 :=
  let main_v274 : FVec F S32x32x1x1 .f32 := (extractStridedSlice S32x32x1x1 ![0, 0, 1, 1] · slices_S32x32x3x3_S32x32x1x1_0_0_1_1) main_v250
  let main_v275 : FVec F S32x32 .f32 := shapeCast S32x32 main_v274 shapeCasts_S32x32x1x1_S32x32
  let main_v276 : FVec F S16x32x32x32 .f32 := (fun l r => Host.dotGeneral dot_S16x32x32x32_S32x32_S16x32x32x32_1_1_023_0_n_n none l r) main_v273 main_v275
  let main_v277 : FVec F S16x32x32x32 .f32 := addf main_v272 main_v276
  let main_v278 : FVec F S16x32x32x32 .f32 := (extractStridedSlice S16x32x32x32 ![0, 0, 1, 2] · slices_S16x32x34x34_S16x32x32x32_0_0_1_2) main_v253
  let main_v279 : FVec F S32x32x1x1 .f32 := (extractStridedSlice S32x32x1x1 ![0, 0, 1, 2] · slices_S32x32x3x3_S32x32x1x1_0_0_1_2) main_v250
  let main_v280 : FVec F S32x32 .f32 := shapeCast S32x32 main_v279 shapeCasts_S32x32x1x1_S32x32
  let main_v281 : FVec F S16x32x32x32 .f32 := (fun l r => Host.dotGeneral dot_S16x32x32x32_S32x32_S16x32x32x32_1_1_023_0_n_n none l r) main_v278 main_v280
  let main_v282 : FVec F S16x32x32x32 .f32 := addf main_v277 main_v281
  let main_v283 : FVec F S16x32x32x32 .f32 := (extractStridedSlice S16x32x32x32 ![0, 0, 2, 0] · slices_S16x32x34x34_S16x32x32x32_0_0_2_0) main_v253
  let main_v284 : FVec F S32x32x1x1 .f32 := (extractStridedSlice S32x32x1x1 ![0, 0, 2, 0] · slices_S32x32x3x3_S32x32x1x1_0_0_2_0) main_v250
  let main_v285 : FVec F S32x32 .f32 := shapeCast S32x32 main_v284 shapeCasts_S32x32x1x1_S32x32
  let main_v286 : FVec F S16x32x32x32 .f32 := (fun l r => Host.dotGeneral dot_S16x32x32x32_S32x32_S16x32x32x32_1_1_023_0_n_n none l r) main_v283 main_v285
  let main_v287 : FVec F S16x32x32x32 .f32 := addf main_v282 main_v286
  let main_v288 : FVec F S16x32x32x32 .f32 := (extractStridedSlice S16x32x32x32 ![0, 0, 2, 1] · slices_S16x32x34x34_S16x32x32x32_0_0_2_1) main_v253
  let main_v289 : FVec F S32x32x1x1 .f32 := (extractStridedSlice S32x32x1x1 ![0, 0, 2, 1] · slices_S32x32x3x3_S32x32x1x1_0_0_2_1) main_v250
  let main_v290 : FVec F S32x32 .f32 := shapeCast S32x32 main_v289 shapeCasts_S32x32x1x1_S32x32
  let main_v291 : FVec F S16x32x32x32 .f32 := (fun l r => Host.dotGeneral dot_S16x32x32x32_S32x32_S16x32x32x32_1_1_023_0_n_n none l r) main_v288 main_v290
  let main_v292 : FVec F S16x32x32x32 .f32 := addf main_v287 main_v291
  let main_v293 : FVec F S16x32x32x32 .f32 := (extractStridedSlice S16x32x32x32 ![0, 0, 2, 2] · slices_S16x32x34x34_S16x32x32x32_0_0_2_2) main_v253
  let main_v294 : FVec F S32x32x1x1 .f32 := (extractStridedSlice S32x32x1x1 ![0, 0, 2, 2] · slices_S32x32x3x3_S32x32x1x1_0_0_2_2) main_v250
  let main_v295 : FVec F S32x32 .f32 := shapeCast S32x32 main_v294 shapeCasts_S32x32x1x1_S32x32
  let main_v296 : FVec F S16x32x32x32 .f32 := (fun l r => Host.dotGeneral dot_S16x32x32x32_S32x32_S16x32x32x32_1_1_023_0_n_n none l r) main_v293 main_v295
  let main_v297 : FVec F S16x32x32x32 .f32 := addf main_v292 main_v296
  fn_part15 (F := F) main_arg1 main_arg2 main_arg3 main_v154 main_v184 main_v248 main_v252 main_v297

def fn_part13 {F : FTy → Type} [FloatOps F] (main_arg1 : FVec F S8192x32 .f32) (main_arg2 : FVec F S4x32x32x3x3 .f32) (main_arg3 : FVec F S4x32 .f32) (main_v154 : FVec F S16x32x32x32 .f32) (main_v184 : IVec S_ 1) (main_v248 : FVec F S16x32x32x32 .f32) (main_v250 : FVec F S32x32x3x3 .f32) : IVec S_ 1 :=
  let main_v251 : FVec F S1x32 .f32 := (extractStridedSlice S1x32 ![0, 0] · slices_S4x32_S1x32_0_0) main_arg3
  let main_v252 : FVec F S32 .f32 := shapeCast S32 main_v251 shapeCasts_S1x32_S32
  let main_c_59 : IVec S_ 32 := constantI S_ 32 0#32
  let main_v253 : FVec F S16x32x34x34 .f32 := fn_pad (F := F) main_v248 main_c_59
  let main_v254 : FVec F S16x32x32x32 .f32 := (extractStridedSlice S16x32x32x32 ![0, 0, 0, 0] · slices_S16x32x34x34_S16x32x32x32_0_0_0_0) main_v253
  let main_v255 : FVec F S32x32x1x1 .f32 := (extractStridedSlice S32x32x1x1 ![0, 0, 0, 0] · slices_S32x32x3x3_S32x32x1x1_0_0_0_0) main_v250
  let main_v256 : FVec F S32x32 .f32 := shapeCast S32x32 main_v255 shapeCasts_S32x32x1x1_S32x32
  let main_v257 : FVec F S16x32x32x32 .f32 := (fun l r => Host.dotGeneral dot_S16x32x32x32_S32x32_S16x32x32x32_1_1_023_0_n_n none l r) main_v254 main_v256
  let main_v258 : FVec F S16x32x32x32 .f32 := (extractStridedSlice S16x32x32x32 ![0, 0, 0, 1] · slices_S16x32x34x34_S16x32x32x32_0_0_0_1) main_v253
  let main_v259 : FVec F S32x32x1x1 .f32 := (extractStridedSlice S32x32x1x1 ![0, 0, 0, 1] · slices_S32x32x3x3_S32x32x1x1_0_0_0_1) main_v250
  let main_v260 : FVec F S32x32 .f32 := shapeCast S32x32 main_v259 shapeCasts_S32x32x1x1_S32x32
  let main_v261 : FVec F S16x32x32x32 .f32 := (fun l r => Host.dotGeneral dot_S16x32x32x32_S32x32_S16x32x32x32_1_1_023_0_n_n none l r) main_v258 main_v260
  let main_v262 : FVec F S16x32x32x32 .f32 := addf main_v257 main_v261
  let main_v263 : FVec F S16x32x32x32 .f32 := (extractStridedSlice S16x32x32x32 ![0, 0, 0, 2] · slices_S16x32x34x34_S16x32x32x32_0_0_0_2) main_v253
  let main_v264 : FVec F S32x32x1x1 .f32 := (extractStridedSlice S32x32x1x1 ![0, 0, 0, 2] · slices_S32x32x3x3_S32x32x1x1_0_0_0_2) main_v250
  let main_v265 : FVec F S32x32 .f32 := shapeCast S32x32 main_v264 shapeCasts_S32x32x1x1_S32x32
  let main_v266 : FVec F S16x32x32x32 .f32 := (fun l r => Host.dotGeneral dot_S16x32x32x32_S32x32_S16x32x32x32_1_1_023_0_n_n none l r) main_v263 main_v265
  let main_v267 : FVec F S16x32x32x32 .f32 := addf main_v262 main_v266
  let main_v268 : FVec F S16x32x32x32 .f32 := (extractStridedSlice S16x32x32x32 ![0, 0, 1, 0] · slices_S16x32x34x34_S16x32x32x32_0_0_1_0) main_v253
  let main_v269 : FVec F S32x32x1x1 .f32 := (extractStridedSlice S32x32x1x1 ![0, 0, 1, 0] · slices_S32x32x3x3_S32x32x1x1_0_0_1_0) main_v250
  let main_v270 : FVec F S32x32 .f32 := shapeCast S32x32 main_v269 shapeCasts_S32x32x1x1_S32x32
  let main_v271 : FVec F S16x32x32x32 .f32 := (fun l r => Host.dotGeneral dot_S16x32x32x32_S32x32_S16x32x32x32_1_1_023_0_n_n none l r) main_v268 main_v270
  let main_v272 : FVec F S16x32x32x32 .f32 := addf main_v267 main_v271
  let main_v273 : FVec F S16x32x32x32 .f32 := (extractStridedSlice S16x32x32x32 ![0, 0, 1, 1] · slices_S16x32x34x34_S16x32x32x32_0_0_1_1) main_v253
  fn_part14 (F := F) main_arg1 main_arg2 main_arg3 main_v154 main_v184 main_v248 main_v250 main_v252 main_v253 main_v272 main_v273

def fn_part12 {F : FTy → Type} [FloatOps F] (main_arg1 : FVec F S8192x32 .f32) (main_arg2 : FVec F S4x32x32x3x3 .f32) (main_arg3 : FVec F S4x32 .f32) (main_v154 : FVec F S16x32x32x32 .f32) (main_v184 : IVec S_ 1) (main_v194 : FVec F S16x32x2x2 .f32) (main_v208 : FVec F S2x32 .f32) (main_v229 : FVec F S2x32 .f32) (main_v230 : FVec F S2x32 .f32) : IVec S_ 1 :=
  let main_v231 : IVec S2x32 1 := cmpf .oge main_v208 main_v230
  let main_cst_55 : FVec F S_ .f32 := constant S_ .f32 0x00000000#32
  let main_v232 : FVec F S2x32 .f32 := fn_where_5 (F := F) main_v231 main_cst_55 main_v229
  let main_cst_56 : FVec F S_ .f32 := constant S_ .f32 0x00000000#32
  let main_v233 : FVec F S32 .f32 := (fun x v => Host.reduceAdd x v reducesTo_S2x32_S32_d0 h_S_) main_v232 main_cst_56
  let main_v234 : FVec F S1x32 .f32 := broadcastInDim S1x32 ![1] bcast_S32_S1x32_1 main_v233
  let main_v235 : FVec F S2x32 .f32 := broadcastInDim S2x32 ![0, 1] bcast_S1x32_S2x32_0_1 main_v234
  let main_v236 : FVec F S2x32 .f32 := Host.divf main_v232 main_v235
  let main_v237 : FVec F S16x32x2x1x2 .f32 := broadcastInDim S16x32x2x1x2 ![0, 1, 2, 4] bcast_S16x32x2x2_S16x32x2x1x2_0_1_2_4 main_v194
  let main_v238 : FVec F S1x1x2x32x1 .f32 := broadcastInDim S1x1x2x32x1 ![2, 3] bcast_S2x32_S1x1x2x32x1_2_3 main_v236
  let main_v239 : FVec F S16x32x2x32x2 .f32 := broadcastInDim S16x32x2x32x2 ![0, 1, 2, 3, 4] bcast_S16x32x2x1x2_S16x32x2x32x2_0_1_2_3_4 main_v237
  let main_v240 : FVec F S16x32x2x32x2 .f32 := broadcastInDim S16x32x2x32x2 ![0, 1, 2, 3, 4] bcast_S1x1x2x32x1_S16x32x2x32x2_0_1_2_3_4 main_v238
  let main_v241 : FVec F S16x32x2x32x2 .f32 := mulf main_v239 main_v240
  let main_cst_57 : FVec F S_ .f32 := constant S_ .f32 0x00000000#32
  let main_v242 : FVec F S16x32x32x2 .f32 := (fun x v => Host.reduceAdd x v reducesTo_S16x32x2x32x2_S16x32x32x2_d2 h_S_) main_v241 main_cst_57
  let main_v243 : FVec F S16x32x32x2x1 .f32 := broadcastInDim S16x32x32x2x1 ![0, 1, 2, 3] bcast_S16x32x32x2_S16x32x32x2x1_0_1_2_3 main_v242
  let main_v244 : FVec F S1x1x1x2x32 .f32 := broadcastInDim S1x1x1x2x32 ![3, 4] bcast_S2x32_S1x1x1x2x32_3_4 main_v236
  let main_v245 : FVec F S16x32x32x2x32 .f32 := broadcastInDim S16x32x32x2x32 ![0, 1, 2, 3, 4] bcast_S16x32x32x2x1_S16x32x32x2x32_0_1_2_3_4 main_v243
  let main_v246 : FVec F S16x32x32x2x32 .f32 := broadcastInDim S16x32x32x2x32 ![0, 1, 2, 3, 4] bcast_S1x1x1x2x32_S16x32x32x2x32_0_1_2_3_4 main_v244
  let main_v247 : FVec F S16x32x32x2x32 .f32 := mulf main_v245 main_v246
  let main_cst_58 : FVec F S_ .f32 := constant S_ .f32 0x00000000#32
  let main_v248 : FVec F S16x32x32x32 .f32 := (fun x v => Host.reduceAdd x v reducesTo_S16x32x32x2x32_S16x32x32x32_d3 h_S_) main_v247 main_cst_58
  let main_v249 : FVec F S1x32x32x3x3 .f32 := (extractStridedSlice S1x32x32x3x3 ![0, 0, 0, 0, 0] · slices_S4x32x32x3x3_S1x32x32x3x3_0_0_0_0_0) main_arg2
  let main_v250 : FVec F S32x32x3x3 .f32 := shapeCast S32x32x3x3 main_v249 shapeCasts_S1x32x32x3x3_S32x32x3x3
  fn_part13 (F := F) main_arg1 main_arg2 main_arg3 main_v154 main_v184 main_v248 main_v250

def fn_part11 {F : FTy → Type} [FloatOps F] (main_arg1 : FVec F S8192x32 .f32) (main_arg2 : FVec F S4x32x32x3x3 .f32) (main_arg3 : FVec F S4x32 .f32) (main_v154 : FVec F S16x32x32x32 .f32) (main_v184 : IVec S_ 1) (main_v194 : FVec F S16x32x2x2 .f32) (main_v208 : FVec F S2x32 .f32) (main_v213 : FVec F S2x32 .f32) : IVec S_ 1 :=
  let main_v214 : FVec F S2x32 .f32 := mulf main_v213 main_v208
  let main_cst_48 : FVec F S_ .f32 := constant S_ .f32 0x3F800000#32
  let main_v215 : FVec F S2x32 .f32 := broadcastInDim S2x32 ![] bcast_S_S2x32 main_cst_48
  let main_v216 : FVec F S2x32 .f32 := addf main_v214 main_v215
  let main_cst_49 : FVec F S_ .f32 := constant S_ .f32 0x3F800000#32
  let main_v217 : FVec F S2x32 .f32 := broadcastInDim S2x32 ![] bcast_S_S2x32 main_cst_49
  let main_v218 : IVec S2x32 1 := cmpf .oge main_v208 main_v217
  let main_cst_50 : FVec F S_ .f32 := constant S_ .f32 0xBF000000#32
  let main_v219 : FVec F S2x32 .f32 := broadcastInDim S2x32 ![] bcast_S_S2x32 main_cst_50
  let main_v220 : FVec F S2x32 .f32 := mulf main_v219 main_v208
  let main_cst_51 : FVec F S_ .f32 := constant S_ .f32 0x40200000#32
  let main_v221 : FVec F S2x32 .f32 := broadcastInDim S2x32 ![] bcast_S_S2x32 main_cst_51
  let main_v222 : FVec F S2x32 .f32 := addf main_v220 main_v221
  let main_v223 : FVec F S2x32 .f32 := mulf main_v222 main_v208
  let main_cst_52 : FVec F S_ .f32 := constant S_ .f32 0x40800000#32
  let main_v224 : FVec F S2x32 .f32 := broadcastInDim S2x32 ![] bcast_S_S2x32 main_cst_52
  let main_v225 : FVec F S2x32 .f32 := subf main_v223 main_v224
  let main_v226 : FVec F S2x32 .f32 := mulf main_v225 main_v208
  let main_cst_53 : FVec F S_ .f32 := constant S_ .f32 0x40000000#32
  let main_v227 : FVec F S2x32 .f32 := broadcastInDim S2x32 ![] bcast_S_S2x32 main_cst_53
  let main_v228 : FVec F S2x32 .f32 := addf main_v226 main_v227
  let main_v229 : FVec F S2x32 .f32 := fn_where_4 (F := F) main_v218 main_v228 main_v216
  let main_cst_54 : FVec F S_ .f32 := constant S_ .f32 0x40000000#32
  let main_v230 : FVec F S2x32 .f32 := broadcastInDim S2x32 ![] bcast_S_S2x32 main_cst_54
  fn_part12 (F := F) main_arg1 main_arg2 main_arg3 main_v154 main_v184 main_v194 main_v208 main_v229 main_v230

def fn_part10 {F : FTy → Type} [FloatOps F] (main_arg1 : FVec F S8192x32 .f32) (main_arg2 : FVec F S4x32x32x3x3 .f32) (main_arg3 : FVec F S4x32 .f32) (main_v154 : FVec F S16x32x32x32 .f32) (main_v184 : IVec S_ 1) (main_v194 : FVec F S16x32x2x2 .f32) : IVec S_ 1 :=
  let main_v195 : FVec F S32 .f32 := sitofp .f32 (iotaInDim S32 32 0)
  let main_cst_43 : FVec F S_ .f32 := constant S_ .f32 0x3F000000#32
  let main_v196 : FVec F S32 .f32 := broadcastInDim S32 ![] bcast_S_S32 main_cst_43
  let main_v197 : FVec F S32 .f32 := addf main_v195 main_v196
  let main_cst_44 : FVec F S_ .f32 := constant S_ .f32 0x3D800000#32
  let main_v198 : FVec F S32 .f32 := broadcastInDim S32 ![] bcast_S_S32 main_cst_44
  let main_v199 : FVec F S32 .f32 := mulf main_v197 main_v198
  let main_cst_45 : FVec F S_ .f32 := constant S_ .f32 0x3F000000#32
  let main_v200 : FVec F S32 .f32 := broadcastInDim S32 ![] bcast_S_S32 main_cst_45
  let main_v201 : FVec F S32 .f32 := subf main_v199 main_v200
  let main_v202 : FVec F S1x32 .f32 := broadcastInDim S1x32 ![1] bcast_S32_S1x32_1 main_v201
  let main_v203 : FVec F S2 .f32 := sitofp .f32 (iotaInDim S2 32 0)
  let main_v204 : FVec F S2x1 .f32 := broadcastInDim S2x1 ![0] bcast_S2_S2x1_0 main_v203
  let main_v205 : FVec F S2x32 .f32 := broadcastInDim S2x32 ![0, 1] bcast_S1x32_S2x32_0_1 main_v202
  let main_v206 : FVec F S2x32 .f32 := broadcastInDim S2x32 ![0, 1] bcast_S2x1_S2x32_0_1 main_v204
  let main_v207 : FVec F S2x32 .f32 := subf main_v205 main_v206
  let main_v208 : FVec F S2x32 .f32 := Host.absf main_v207
  let main_cst_46 : FVec F S_ .f32 := constant S_ .f32 0x3FC00000#32
  let main_v209 : FVec F S2x32 .f32 := broadcastInDim S2x32 ![] bcast_S_S2x32 main_cst_46
  let main_v210 : FVec F S2x32 .f32 := mulf main_v209 main_v208
  let main_cst_47 : FVec F S_ .f32 := constant S_ .f32 0x40200000#32
  let main_v211 : FVec F S2x32 .f32 := broadcastInDim S2x32 ![] bcast_S_S2x32 main_cst_47
  let main_v212 : FVec F S2x32 .f32 := subf main_v210 main_v211
  let main_v213 : FVec F S2x32 .f32 := mulf main_v212 main_v208
  fn_part11 (F := F) main_arg1 main_arg2 main_arg3 main_v154 main_v184 main_v194 main_v208 main_v213

def fn_part9 {F : FTy → Type} [FloatOps F] (main_arg1 : FVec F S8192x32 .f32) (main_arg2 : FVec F S4x32x32x3x3 .f32) (main_arg3 : FVec F S4x32 .f32) (main_v33 : IVec S_ 1) (main_v154 : FVec F S16x32x32x32 .f32) (main_v174 : FVec F S64x8192 .f32) (main_v176 : FVec F S64x1 .f32) : IVec S_ 1 :=
  let main_v177 : FVec F S64x8192 .f32 := broadcastInDim S64x8192 ![0, 1] bcast_S64x1_S64x8192_0_1 main_v176
  let main_v178 : IVec S64x8192 1 := cmpf .oeq main_v174 main_v177
  let main_v179 : IVec S64x8192 32 := (extui 32 · natLt_1_32) main_v178
  let main_c_37 : IVec S_ 32 := constantI S_ 32 0#32
  let main_v180 : IVec S64 32 := (fun x v => Host.reduce IntOp.addi x v reducesTo_S64x8192_S64_d1 h_S_) main_v179 main_c_37
  let main_c_38 : IVec S_ 32 := constantI S_ 32 1#32
  let main_v181 : IVec S64 32 := broadcastInDim S64 ![] bcast_S_S64 main_c_38
  let main_v182 : IVec S64 1 := cmpi .eq main_v180 main_v181
  let main_c_39 : IVec S_ 1 := constantI S_ 1 1#1
  let main_v183 : IVec S_ 1 := (fun x v => Host.reduce IntOp.andi x v reducesTo_S64_S_d0 h_S_) main_v182 main_c_39
  let main_v184 : IVec S_ 1 := andi main_v33 main_v183
  let main_v185 : IVec S64x8192 32 := iotaInDim S64x8192 32 1
  let main_cst_40 : FVec F S_ .f32 := constant S_ .f32 0x7F800000#32
  let main_v186 : FVec F S64 .f32 := (fun x v => Host.reduce FloatOps.minimumf x v reducesTo_S64x8192_S64_d1 h_S_) main_v174 main_cst_40
  let main_v187 : FVec F S64x1 .f32 := broadcastInDim S64x1 ![0] bcast_S64_S64x1_0 main_v186
  let main_v188 : FVec F S64x8192 .f32 := broadcastInDim S64x8192 ![0, 1] bcast_S64x1_S64x8192_0_1 main_v187
  let main_v189 : IVec S64x8192 1 := cmpf .oeq main_v174 main_v188
  let main_c_41 : IVec S_ 32 := constantI S_ 32 8192#32
  let main_v190 : IVec S64x8192 32 := fn_where_2 (F := F) main_v189 main_v185 main_c_41
  let main_c_42 : IVec S_ 32 := constantI S_ 32 2147483647#32
  let main_v191 : IVec S64 32 := (fun x v => Host.reduce IntOp.minsi x v reducesTo_S64x8192_S64_d1 h_S_) main_v190 main_c_42
  let main_v192 : IVec S16x2x2 32 := shapeCast S16x2x2 main_v191 shapeCasts_S64_S16x2x2
  let main_v193 : FVec F S16x2x2x32 .f32 := fn_take_3 (F := F) main_arg1 main_v192
  let main_v194 : FVec F S16x32x2x2 .f32 := (transpose S16x32x2x2 [0, 3, 1, 2] · transposes_S16x2x2x32_S16x32x2x2_0_3_1_2) main_v193
  fn_part10 (F := F) main_arg1 main_arg2 main_arg3 main_v154 main_v184 main_v194

def fn_part8 {F : FTy → Type} [FloatOps F] (main_arg1 : FVec F S8192x32 .f32) (main_arg2 : FVec F S4x32x32x3x3 .f32) (main_arg3 : FVec F S4x32 .f32) (main_v33 : IVec S_ 1) (main_v154 : FVec F S16x32x32x32 .f32) (main_v156 : FVec F S16x32x2x2 .f32) (main_cst_32 : FVec F S_ .f32) : IVec S_ 1 :=
  let main_v157 : FVec F S16x32x2x2 .f32 := broadcastInDim S16x32x2x2 ![] bcast_S_S16x32x2x2 main_cst_32
  let main_v158 : FVec F S16x32x2x2 .f32 := Host.divf main_v156 main_v157
  let main_v159 : FVec F S16x2x2x32 .f32 := (transpose S16x2x2x32 [0, 2, 3, 1] · transposes_S16x32x2x2_S16x2x2x32_0_2_3_1) main_v158
  let main_v160 : FVec F S64x32 .f32 := shapeCast S64x32 main_v159 shapeCasts_S16x2x2x32_S64x32
  let main_v161 : FVec F S64x32 .f32 := mulf main_v160 main_v160
  let main_cst_33 : FVec F S_ .f32 := constant S_ .f32 0x00000000#32
  let main_v162 : FVec F S64 .f32 := (fun x v => Host.reduceAdd x v reducesTo_S64x32_S64_d1 h_S_) main_v161 main_cst_33
  let main_v163 : FVec F S64x1 .f32 := broadcastInDim S64x1 ![0] bcast_S64_S64x1_0 main_v162
  let main_v164 : FVec F S8192x32 .f32 := mulf main_arg1 main_arg1
  let main_cst_34 : FVec F S_ .f32 := constant S_ .f32 0x00000000#32
  let main_v165 : FVec F S8192 .f32 := (fun x v => Host.reduceAdd x v reducesTo_S8192x32_S8192_d1 h_S_) main_v164 main_cst_34
  let main_v166 : FVec F S32x8192 .f32 := (transpose S32x8192 [1, 0] · transposes_S8192x32_S32x8192_1_0) main_arg1
  let main_v167 : FVec F S64x8192 .f32 := (fun l r => Host.dotGeneral dot_S64x32_S32x8192_S64x8192_1_0_0_1_n_n none l r) main_v160 main_v166
  let main_v168 : FVec F S1x8192 .f32 := broadcastInDim S1x8192 ![1] bcast_S8192_S1x8192_1 main_v165
  let main_v169 : FVec F S64x8192 .f32 := broadcastInDim S64x8192 ![0, 1] bcast_S64x1_S64x8192_0_1 main_v163
  let main_v170 : FVec F S64x8192 .f32 := broadcastInDim S64x8192 ![0, 1] bcast_S1x8192_S64x8192_0_1 main_v168
  let main_v171 : FVec F S64x8192 .f32 := addf main_v169 main_v170
  let main_cst_35 : FVec F S_ .f32 := constant S_ .f32 0x40000000#32
  let main_v172 : FVec F S64x8192 .f32 := broadcastInDim S64x8192 ![] bcast_S_S64x8192 main_cst_35
  let main_v173 : FVec F S64x8192 .f32 := mulf main_v172 main_v167
  let main_v174 : FVec F S64x8192 .f32 := subf main_v171 main_v173
  let main_cst_36 : FVec F S_ .f32 := constant S_ .f32 0x7F800000#32
  let main_v175 : FVec F S64 .f32 := (fun x v => Host.reduce FloatOps.minimumf x v reducesTo_S64x8192_S64_d1 h_S_) main_v174 main_cst_36
  let main_v176 : FVec F S64x1 .f32 := broadcastInDim S64x1 ![0] bcast_S64_S64x1_0 main_v175
  fn_part9 (F := F) main_arg1 main_arg2 main_arg3 main_v33 main_v154 main_v174 main_v176

def fn_part7 {F : FTy → Type} [FloatOps F] (main_arg0 : FVec F S16x32x32x32 .f32) (main_arg1 : FVec F S8192x32 .f32) (main_arg2 : FVec F S4x32x32x3x3 .f32) (main_arg3 : FVec F S4x32 .f32) (main_v33 : IVec S_ 1) (main_v95 : FVec F S16x32x32x32 .f32) (main_v97 : FVec F S32x32x3x3 .f32) (main_v99 : FVec F S32 .f32) (main_v100 : FVec F S16x32x34x34 .f32) (main_v134 : FVec F S16x32x32x32 .f32) (main_v135 : FVec F S16x32x32x32 .f32) (main_v136 : FVec F S32x32x1x1 .f32) : IVec S_ 1 :=
  let main_v137 : FVec F S32x32 .f32 := shapeCast S32x32 main_v136 shapeCasts_S32x32x1x1_S32x32
  let main_v138 : FVec F S16x32x32x32 .f32 := (fun l r => Host.dotGeneral dot_S16x32x32x32_S32x32_S16x32x32x32_1_1_023_0_n_n none l r) main_v135 main_v137
  let main_v139 : FVec F S16x32x32x32 .f32 := addf main_v134 main_v138
  let main_v140 : FVec F S16x32x32x32 .f32 := (extractStridedSlice S16x32x32x32 ![0, 0, 2, 2] · slices_S16x32x34x34_S16x32x32x32_0_0_2_2) main_v100
  let main_v141 : FVec F S32x32x1x1 .f32 := (extractStridedSlice S32x32x1x1 ![0, 0, 2, 2] · slices_S32x32x3x3_S32x32x1x1_0_0_2_2) main_v97
  let main_v142 : FVec F S32x32 .f32 := shapeCast S32x32 main_v141 shapeCasts_S32x32x1x1_S32x32
  let main_v143 : FVec F S16x32x32x32 .f32 := (fun l r => Host.dotGeneral dot_S16x32x32x32_S32x32_S16x32x32x32_1_1_023_0_n_n none l r) main_v140 main_v142
  let main_v144 : FVec F S16x32x32x32 .f32 := addf main_v139 main_v143
  let main_v145 : FVec F S16x32x32x32 .f32 := (transpose S16x32x32x32 [0, 3, 1, 2] · transposes_S16x32x32x32_S16x32x32x32_0_3_1_2) main_v144
  let main_v146 : FVec F S1x32x1x1 .f32 := broadcastInDim S1x32x1x1 ![1] bcast_S32_S1x32x1x1_1 main_v99
  let main_v147 : FVec F S16x32x32x32 .f32 := broadcastInDim S16x32x32x32 ![0, 1, 2, 3] bcast_S1x32x1x1_S16x32x32x32_0_1_2_3 main_v146
  let main_v148 : FVec F S16x32x32x32 .f32 := addf main_v145 main_v147
  let main_cst_29 : FVec F S_ .f32 := constant S_ .f32 0x3F000000#32
  let main_v149 : FVec F S16x32x32x32 .f32 := broadcastInDim S16x32x32x32 ![] bcast_S_S16x32x32x32 main_cst_29
  let main_v150 : FVec F S16x32x32x32 .f32 := mulf main_v95 main_v149
  let main_cst_30 : FVec F S_ .f32 := constant S_ .f32 0x3F000000#32
  let main_v151 : FVec F S16x32x32x32 .f32 := broadcastInDim S16x32x32x32 ![] bcast_S_S16x32x32x32 main_cst_30
  let main_v152 : FVec F S16x32x32x32 .f32 := mulf main_v148 main_v151
  let main_v153 : FVec F S16x32x32x32 .f32 := addf main_v150 main_v152
  let main_v154 : FVec F S16x32x32x32 .f32 := subf main_arg0 main_v153
  let main_v155 : FVec F S16x32x2x16x2x16 .f32 := shapeCast S16x32x2x16x2x16 main_v154 shapeCasts_S16x32x32x32_S16x32x2x16x2x16
  let main_cst_31 : FVec F S_ .f32 := constant S_ .f32 0x00000000#32
  let main_v156 : FVec F S16x32x2x2 .f32 := (fun x v => Host.reduceAdd x v reducesTo_S16x32x2x16x2x16_S16x32x2x2_d3_5 h_S_) main_v155 main_cst_31
  let main_cst_32 : FVec F S_ .f32 := constant S_ .f32 0x43800000#32
  fn_part8 (F := F) main_arg1 main_arg2 main_arg3 main_v33 main_v154 main_v156 main_cst_32

def fn_part6 {F : FTy → Type} [FloatOps F] (main_arg0 : FVec F S16x32x32x32 .f32) (main_arg1 : FVec F S8192x32 .f32) (main_arg2 : FVec F S4x32x32x3x3 .f32) (main_arg3 : FVec F S4x32 .f32) (main_v33 : IVec S_ 1) (main_v95 : FVec F S16x32x32x32 .f32) (main_v97 : FVec F S32x32x3x3 .f32) (main_v99 : FVec F S32 .f32) (main_v100 : FVec F S16x32x34x34 .f32) (main_v109 : FVec F S16x32x32x32 .f32) (main_v110 : FVec F S16x32x32x32 .f32) (main_v112 : FVec F S32x32 .f32) : IVec S_ 1 :=
  let main_v113 : FVec F S16x32x32x32 .f32 := (fun l r => Host.dotGeneral dot_S16x32x32x32_S32x32_S16x32x32x32_1_1_023_0_n_n none l r) main_v110 main_v112
  let main_v114 : FVec F S16x32x32x32 .f32 := addf main_v109 main_v113
  let main_v115 : FVec F S16x32x32x32 .f32 := (extractStridedSlice S16x32x32x32 ![0, 0, 1, 0] · slices_S16x32x34x34_S16x32x32x32_0_0_1_0) main_v100
  let main_v116 : FVec F S32x32x1x1 .f32 := (extractStridedSlice S32x32x1x1 ![0, 0, 1, 0] · slices_S32x32x3x3_S32x32x1x1_0_0_1_0) main_v97
  let main_v117 : FVec F S32x32 .f32 := shapeCast S32x32 main_v116 shapeCasts_S32x32x1x1_S32x32
  let main_v118 : FVec F S16x32x32x32 .f32 := (fun l r => Host.dotGeneral dot_S16x32x32x32_S32x32_S16x32x32x32_1_1_023_0_n_n none l r) main_v115 main_v117
  let main_v119 : FVec F S16x32x32x32 .f32 := addf main_v114 main_v118
  let main_v120 : FVec F S16x32x32x32 .f32 := (extractStridedSlice S16x32x32x32 ![0, 0, 1, 1] · slices_S16x32x34x34_S16x32x32x32_0_0_1_1) main_v100
  let main_v121 : FVec F S32x32x1x1 .f32 := (extractStridedSlice S32x32x1x1 ![0, 0, 1, 1] · slices_S32x32x3x3_S32x32x1x1_0_0_1_1) main_v97
  let main_v122 : FVec F S32x32 .f32 := shapeCast S32x32 main_v121 shapeCasts_S32x32x1x1_S32x32
  let main_v123 : FVec F S16x32x32x32 .f32 := (fun l r => Host.dotGeneral dot_S16x32x32x32_S32x32_S16x32x32x32_1_1_023_0_n_n none l r) main_v120 main_v122
  let main_v124 : FVec F S16x32x32x32 .f32 := addf main_v119 main_v123
  let main_v125 : FVec F S16x32x32x32 .f32 := (extractStridedSlice S16x32x32x32 ![0, 0, 1, 2] · slices_S16x32x34x34_S16x32x32x32_0_0_1_2) main_v100
  let main_v126 : FVec F S32x32x1x1 .f32 := (extractStridedSlice S32x32x1x1 ![0, 0, 1, 2] · slices_S32x32x3x3_S32x32x1x1_0_0_1_2) main_v97
  let main_v127 : FVec F S32x32 .f32 := shapeCast S32x32 main_v126 shapeCasts_S32x32x1x1_S32x32
  let main_v128 : FVec F S16x32x32x32 .f32 := (fun l r => Host.dotGeneral dot_S16x32x32x32_S32x32_S16x32x32x32_1_1_023_0_n_n none l r) main_v125 main_v127
  let main_v129 : FVec F S16x32x32x32 .f32 := addf main_v124 main_v128
  let main_v130 : FVec F S16x32x32x32 .f32 := (extractStridedSlice S16x32x32x32 ![0, 0, 2, 0] · slices_S16x32x34x34_S16x32x32x32_0_0_2_0) main_v100
  let main_v131 : FVec F S32x32x1x1 .f32 := (extractStridedSlice S32x32x1x1 ![0, 0, 2, 0] · slices_S32x32x3x3_S32x32x1x1_0_0_2_0) main_v97
  let main_v132 : FVec F S32x32 .f32 := shapeCast S32x32 main_v131 shapeCasts_S32x32x1x1_S32x32
  let main_v133 : FVec F S16x32x32x32 .f32 := (fun l r => Host.dotGeneral dot_S16x32x32x32_S32x32_S16x32x32x32_1_1_023_0_n_n none l r) main_v130 main_v132
  let main_v134 : FVec F S16x32x32x32 .f32 := addf main_v129 main_v133
  let main_v135 : FVec F S16x32x32x32 .f32 := (extractStridedSlice S16x32x32x32 ![0, 0, 2, 1] · slices_S16x32x34x34_S16x32x32x32_0_0_2_1) main_v100
  let main_v136 : FVec F S32x32x1x1 .f32 := (extractStridedSlice S32x32x1x1 ![0, 0, 2, 1] · slices_S32x32x3x3_S32x32x1x1_0_0_2_1) main_v97
  fn_part7 (F := F) main_arg0 main_arg1 main_arg2 main_arg3 main_v33 main_v95 main_v97 main_v99 main_v100 main_v134 main_v135 main_v136

def fn_part5 {F : FTy → Type} [FloatOps F] (main_arg0 : FVec F S16x32x32x32 .f32) (main_arg1 : FVec F S8192x32 .f32) (main_arg2 : FVec F S4x32x32x3x3 .f32) (main_arg3 : FVec F S4x32 .f32) (main_v33 : IVec S_ 1) (main_v83 : FVec F S1x32 .f32) (main_v90 : FVec F S16x32x32x1x1 .f32) : IVec S_ 1 :=
  let main_v91 : FVec F S1x1x1x1x32 .f32 := broadcastInDim S1x1x1x1x32 ![3, 4] bcast_S1x32_S1x1x1x1x32_3_4 main_v83
  let main_v92 : FVec F S16x32x32x1x32 .f32 := broadcastInDim S16x32x32x1x32 ![0, 1, 2, 3, 4] bcast_S16x32x32x1x1_S16x32x32x1x32_0_1_2_3_4 main_v90
  let main_v93 : FVec F S16x32x32x1x32 .f32 := broadcastInDim S16x32x32x1x32 ![0, 1, 2, 3, 4] bcast_S1x1x1x1x32_S16x32x32x1x32_0_1_2_3_4 main_v91
  let main_v94 : FVec F S16x32x32x1x32 .f32 := mulf main_v92 main_v93
  let main_cst_27 : FVec F S_ .f32 := constant S_ .f32 0x00000000#32
  let main_v95 : FVec F S16x32x32x32 .f32 := (fun x v => Host.reduceAdd x v reducesTo_S16x32x32x1x32_S16x32x32x32_d3 h_S_) main_v94 main_cst_27
  let main_v96 : FVec F S1x32x32x3x3 .f32 := (extractStridedSlice S1x32x32x3x3 ![0, 0, 0, 0, 0] · slices_S4x32x32x3x3_S1x32x32x3x3_0_0_0_0_0) main_arg2
  let main_v97 : FVec F S32x32x3x3 .f32 := shapeCast S32x32x3x3 main_v96 shapeCasts_S1x32x32x3x3_S32x32x3x3
  let main_v98 : FVec F S1x32 .f32 := (extractStridedSlice S1x32 ![0, 0] · slices_S4x32_S1x32_0_0) main_arg3
  let main_v99 : FVec F S32 .f32 := shapeCast S32 main_v98 shapeCasts_S1x32_S32
  let main_c_28 : IVec S_ 32 := constantI S_ 32 0#32
  let main_v100 : FVec F S16x32x34x34 .f32 := fn_pad (F := F) main_v95 main_c_28
  let main_v101 : FVec F S16x32x32x32 .f32 := (extractStridedSlice S16x32x32x32 ![0, 0, 0, 0] · slices_S16x32x34x34_S16x32x32x32_0_0_0_0) main_v100
  let main_v102 : FVec F S32x32x1x1 .f32 := (extractStridedSlice S32x32x1x1 ![0, 0, 0, 0] · slices_S32x32x3x3_S32x32x1x1_0_0_0_0) main_v97
  let main_v103 : FVec F S32x32 .f32 := shapeCast S32x32 main_v102 shapeCasts_S32x32x1x1_S32x32
  let main_v104 : FVec F S16x32x32x32 .f32 := (fun l r => Host.dotGeneral dot_S16x32x32x32_S32x32_S16x32x32x32_1_1_023_0_n_n none l r) main_v101 main_v103
  let main_v105 : FVec F S16x32x32x32 .f32 := (extractStridedSlice S16x32x32x32 ![0, 0, 0, 1] · slices_S16x32x34x34_S16x32x32x32_0_0_0_1) main_v100
  let main_v106 : FVec F S32x32x1x1 .f32 := (extractStridedSlice S32x32x1x1 ![0, 0, 0, 1] · slices_S32x32x3x3_S32x32x1x1_0_0_0_1) main_v97
  let main_v107 : FVec F S32x32 .f32 := shapeCast S32x32 main_v106 shapeCasts_S32x32x1x1_S32x32
  let main_v108 : FVec F S16x32x32x32 .f32 := (fun l r => Host.dotGeneral dot_S16x32x32x32_S32x32_S16x32x32x32_1_1_023_0_n_n none l r) main_v105 main_v107
  let main_v109 : FVec F S16x32x32x32 .f32 := addf main_v104 main_v108
  let main_v110 : FVec F S16x32x32x32 .f32 := (extractStridedSlice S16x32x32x32 ![0, 0, 0, 2] · slices_S16x32x34x34_S16x32x32x32_0_0_0_2) main_v100
  let main_v111 : FVec F S32x32x1x1 .f32 := (extractStridedSlice S32x32x1x1 ![0, 0, 0, 2] · slices_S32x32x3x3_S32x32x1x1_0_0_0_2) main_v97
  let main_v112 : FVec F S32x32 .f32 := shapeCast S32x32 main_v111 shapeCasts_S32x32x1x1_S32x32
  fn_part6 (F := F) main_arg0 main_arg1 main_arg2 main_arg3 main_v33 main_v95 main_v97 main_v99 main_v100 main_v109 main_v110 main_v112

def fn_part4 {F : FTy → Type} [FloatOps F] (main_arg0 : FVec F S16x32x32x32 .f32) (main_arg1 : FVec F S8192x32 .f32) (main_arg2 : FVec F S4x32x32x3x3 .f32) (main_arg3 : FVec F S4x32 .f32) (main_v33 : IVec S_ 1) (main_v43 : FVec F S16x32x1x1 .f32) (main_v56 : FVec F S1x32 .f32) (main_v64 : FVec F S1x32 .f32) (main_v66 : IVec S1x32 1) (main_v71 : FVec F S1x32 .f32) (main_cst_21 : FVec F S_ .f32) : IVec S_ 1 :=
  let main_v72 : FVec F S1x32 .f32 := broadcastInDim S1x32 ![] bcast_S_S1x32 main_cst_21
  let main_v73 : FVec F S1x32 .f32 := subf main_v71 main_v72
  let main_v74 : FVec F S1x32 .f32 := mulf main_v73 main_v56
  let main_cst_22 : FVec F S_ .f32 := constant S_ .f32 0x40000000#32
  let main_v75 : FVec F S1x32 .f32 := broadcastInDim S1x32 ![] bcast_S_S1x32 main_cst_22
  let main_v76 : FVec F S1x32 .f32 := addf main_v74 main_v75
  let main_v77 : FVec F S1x32 .f32 := fn_where_0 (F := F) main_v66 main_v76 main_v64
  let main_cst_23 : FVec F S_ .f32 := constant S_ .f32 0x40000000#32
  let main_v78 : FVec F S1x32 .f32 := broadcastInDim S1x32 ![] bcast_S_S1x32 main_cst_23
  let main_v79 : IVec S1x32 1 := cmpf .oge main_v56 main_v78
  let main_cst_24 : FVec F S_ .f32 := constant S_ .f32 0x00000000#32
  let main_v80 : FVec F S1x32 .f32 := fn_where_1 (F := F) main_v79 main_cst_24 main_v77
  let main_cst_25 : FVec F S_ .f32 := constant S_ .f32 0x00000000#32
  let main_v81 : FVec F S32 .f32 := (fun x v => Host.reduceAdd x v reducesTo_S1x32_S32_d0 h_S_) main_v80 main_cst_25
  let main_v82 : FVec F S1x32 .f32 := broadcastInDim S1x32 ![1] bcast_S32_S1x32_1 main_v81
  let main_v83 : FVec F S1x32 .f32 := Host.divf main_v80 main_v82
  let main_v84 : FVec F S16x32x1x1x1 .f32 := broadcastInDim S16x32x1x1x1 ![0, 1, 2, 4] bcast_S16x32x1x1_S16x32x1x1x1_0_1_2_4 main_v43
  let main_v85 : FVec F S1x1x1x32x1 .f32 := broadcastInDim S1x1x1x32x1 ![2, 3] bcast_S1x32_S1x1x1x32x1_2_3 main_v83
  let main_v86 : FVec F S16x32x1x32x1 .f32 := broadcastInDim S16x32x1x32x1 ![0, 1, 2, 3, 4] bcast_S16x32x1x1x1_S16x32x1x32x1_0_1_2_3_4 main_v84
  let main_v87 : FVec F S16x32x1x32x1 .f32 := broadcastInDim S16x32x1x32x1 ![0, 1, 2, 3, 4] bcast_S1x1x1x32x1_S16x32x1x32x1_0_1_2_3_4 main_v85
  let main_v88 : FVec F S16x32x1x32x1 .f32 := mulf main_v86 main_v87
  let main_cst_26 : FVec F S_ .f32 := constant S_ .f32 0x00000000#32
  let main_v89 : FVec F S16x32x32x1 .f32 := (fun x v => Host.reduceAdd x v reducesTo_S16x32x1x32x1_S16x32x32x1_d2 h_S_) main_v88 main_cst_26
  let main_v90 : FVec F S16x32x32x1x1 .f32 := broadcastInDim S16x32x32x1x1 ![0, 1, 2, 3] bcast_S16x32x32x1_S16x32x32x1x1_0_1_2_3 main_v89
  fn_part5 (F := F) main_arg0 main_arg1 main_arg2 main_arg3 main_v33 main_v83 main_v90

def fn_part3 {F : FTy → Type} [FloatOps F] (main_arg0 : FVec F S16x32x32x32 .f32) (main_arg1 : FVec F S8192x32 .f32) (main_arg2 : FVec F S4x32x32x3x3 .f32) (main_arg3 : FVec F S4x32 .f32) (main_v33 : IVec S_ 1) (main_v43 : FVec F S16x32x1x1 .f32) (main_v51 : FVec F S1x32 .f32) (main_v54 : FVec F S1x32 .f32) : IVec S_ 1 :=
  let main_v55 : FVec F S1x32 .f32 := subf main_v51 main_v54
  let main_v56 : FVec F S1x32 .f32 := Host.absf main_v55
  let main_cst_15 : FVec F S_ .f32 := constant S_ .f32 0x3FC00000#32
  let main_v57 : FVec F S1x32 .f32 := broadcastInDim S1x32 ![] bcast_S_S1x32 main_cst_15
  let main_v58 : FVec F S1x32 .f32 := mulf main_v57 main_v56
  let main_cst_16 : FVec F S_ .f32 := constant S_ .f32 0x40200000#32
  let main_v59 : FVec F S1x32 .f32 := broadcastInDim S1x32 ![] bcast_S_S1x32 main_cst_16
  let main_v60 : FVec F S1x32 .f32 := subf main_v58 main_v59
  let main_v61 : FVec F S1x32 .f32 := mulf main_v60 main_v56
  let main_v62 : FVec F S1x32 .f32 := mulf main_v61 main_v56
  let main_cst_17 : FVec F S_ .f32 := constant S_ .f32 0x3F800000#32
  let main_v63 : FVec F S1x32 .f32 := broadcastInDim S1x32 ![] bcast_S_S1x32 main_cst_17
  let main_v64 : FVec F S1x32 .f32 := addf main_v62 main_v63
  let main_cst_18 : FVec F S_ .f32 := constant S_ .f32 0x3F800000#32
  let main_v65 : FVec F S1x32 .f32 := broadcastInDim S1x32 ![] bcast_S_S1x32 main_cst_18
  let main_v66 : IVec S1x32 1 := cmpf .oge main_v56 main_v65
  let main_cst_19 : FVec F S_ .f32 := constant S_ .f32 0xBF000000#32
  let main_v67 : FVec F S1x32 .f32 := broadcastInDim S1x32 ![] bcast_S_S1x32 main_cst_19
  let main_v68 : FVec F S1x32 .f32 := mulf main_v67 main_v56
  let main_cst_20 : FVec F S_ .f32 := constant S_ .f32 0x40200000#32
  let main_v69 : FVec F S1x32 .f32 := broadcastInDim S1x32 ![] bcast_S_S1x32 main_cst_20
  let main_v70 : FVec F S1x32 .f32 := addf main_v68 main_v69
  let main_v71 : FVec F S1x32 .f32 := mulf main_v70 main_v56
  let main_cst_21 : FVec F S_ .f32 := constant S_ .f32 0x40800000#32
  fn_part4 (F := F) main_arg0 main_arg1 main_arg2 main_arg3 main_v33 main_v43 main_v56 main_v64 main_v66 main_v71 main_cst_21

def fn_part2 {F : FTy → Type} [FloatOps F] (main_arg0 : FVec F S16x32x32x32 .f32) (main_arg1 : FVec F S8192x32 .f32) (main_arg2 : FVec F S4x32x32x3x3 .f32) (main_arg3 : FVec F S4x32 .f32) (main_v23 : FVec F S16x8192 .f32) (main_v33 : IVec S_ 1) (main_v34 : IVec S16x8192 32) (main_v35 : FVec F S16 .f32) : IVec S_ 1 :=
  let main_v36 : FVec F S16x1 .f32 := broadcastInDim S16x1 ![0] bcast_S16_S16x1_0 main_v35
  let main_v37 : FVec F S16x8192 .f32 := broadcastInDim S16x8192 ![0, 1] bcast_S16x1_S16x8192_0_1 main_v36
  let main_v38 : IVec S16x8192 1 := cmpf .oeq main_v23 main_v37
  let main_c_10 : IVec S_ 32 := constantI S_ 32 8192#32
  let main_v39 : IVec S16x8192 32 := fn_where (F := F) main_v38 main_v34 main_c_10
  let main_c_11 : IVec S_ 32 := constantI S_ 32 2147483647#32
  let main_v40 : IVec S16 32 := (fun x v => Host.reduce IntOp.minsi x v reducesTo_S16x8192_S16_d1 h_S_) main_v39 main_c_11
  let main_v41 : IVec S16x1x1 32 := shapeCast S16x1x1 main_v40 shapeCasts_S16_S16x1x1
  let main_v42 : FVec F S16x1x1x32 .f32 := fn_take (F := F) main_arg1 main_v41
  let main_v43 : FVec F S16x32x1x1 .f32 := (transpose S16x32x1x1 [0, 3, 1, 2] · transposes_S16x1x1x32_S16x32x1x1_0_3_1_2) main_v42
  let main_v44 : FVec F S32 .f32 := sitofp .f32 (iotaInDim S32 32 0)
  let main_cst_12 : FVec F S_ .f32 := constant S_ .f32 0x3F000000#32
  let main_v45 : FVec F S32 .f32 := broadcastInDim S32 ![] bcast_S_S32 main_cst_12
  let main_v46 : FVec F S32 .f32 := addf main_v44 main_v45
  let main_cst_13 : FVec F S_ .f32 := constant S_ .f32 0x3D000000#32
  let main_v47 : FVec F S32 .f32 := broadcastInDim S32 ![] bcast_S_S32 main_cst_13
  let main_v48 : FVec F S32 .f32 := mulf main_v46 main_v47
  let main_cst_14 : FVec F S_ .f32 := constant S_ .f32 0x3F000000#32
  let main_v49 : FVec F S32 .f32 := broadcastInDim S32 ![] bcast_S_S32 main_cst_14
  let main_v50 : FVec F S32 .f32 := subf main_v48 main_v49
  let main_v51 : FVec F S1x32 .f32 := broadcastInDim S1x32 ![1] bcast_S32_S1x32_1 main_v50
  let main_v52 : FVec F S1 .f32 := sitofp .f32 (iotaInDim S1 32 0)
  let main_v53 : FVec F S1x1 .f32 := broadcastInDim S1x1 ![0] bcast_S1_S1x1_0 main_v52
  let main_v54 : FVec F S1x32 .f32 := broadcastInDim S1x32 ![0, 1] bcast_S1x1_S1x32_0_1 main_v53
  fn_part3 (F := F) main_arg0 main_arg1 main_arg2 main_arg3 main_v33 main_v43 main_v51 main_v54

def fn_part1 {F : FTy → Type} [FloatOps F] (main_arg0 : FVec F S16x32x32x32 .f32) (main_arg1 : FVec F S8192x32 .f32) (main_arg2 : FVec F S4x32x32x3x3 .f32) (main_arg3 : FVec F S4x32 .f32) (main_v3 : IVec S_ 1) (main_v12 : FVec F S16x1 .f32) (main_v16 : FVec F S16x8192 .f32) (main_v17 : FVec F S1x8192 .f32) : IVec S_ 1 :=
  let main_v18 : FVec F S16x8192 .f32 := broadcastInDim S16x8192 ![0, 1] bcast_S16x1_S16x8192_0_1 main_v12
  let main_v19 : FVec F S16x8192 .f32 := broadcastInDim S16x8192 ![0, 1] bcast_S1x8192_S16x8192_0_1 main_v17
  let main_v20 : FVec F S16x8192 .f32 := addf main_v18 main_v19
  let main_cst_4 : FVec F S_ .f32 := constant S_ .f32 0x40000000#32
  let main_v21 : FVec F S16x8192 .f32 := broadcastInDim S16x8192 ![] bcast_S_S16x8192 main_cst_4
  let main_v22 : FVec F S16x8192 .f32 := mulf main_v21 main_v16
  let main_v23 : FVec F S16x8192 .f32 := subf main_v20 main_v22
  let main_cst_5 : FVec F S_ .f32 := constant S_ .f32 0x7F800000#32
  let main_v24 : FVec F S16 .f32 := (fun x v => Host.reduce FloatOps.minimumf x v reducesTo_S16x8192_S16_d1 h_S_) main_v23 main_cst_5
  let main_v25 : FVec F S16x1 .f32 := broadcastInDim S16x1 ![0] bcast_S16_S16x1_0 main_v24
  let main_v26 : FVec F S16x8192 .f32 := broadcastInDim S16x8192 ![0, 1] bcast_S16x1_S16x8192_0_1 main_v25
  let main_v27 : IVec S16x8192 1 := cmpf .oeq main_v23 main_v26
  let main_v28 : IVec S16x8192 32 := (extui 32 · natLt_1_32) main_v27
  let main_c_6 : IVec S_ 32 := constantI S_ 32 0#32
  let main_v29 : IVec S16 32 := (fun x v => Host.reduce IntOp.addi x v reducesTo_S16x8192_S16_d1 h_S_) main_v28 main_c_6
  let main_c_7 : IVec S_ 32 := constantI S_ 32 1#32
  let main_v30 : IVec S16 32 := broadcastInDim S16 ![] bcast_S_S16 main_c_7
  let main_v31 : IVec S16 1 := cmpi .eq main_v29 main_v30
  let main_c_8 : IVec S_ 1 := constantI S_ 1 1#1
  let main_v32 : IVec S_ 1 := (fun x v => Host.reduce IntOp.andi x v reducesTo_S16_S_d0 h_S_) main_v31 main_c_8
  let main_v33 : IVec S_ 1 := andi main_v3 main_v32
  let main_v34 : IVec S16x8192 32 := iotaInDim S16x8192 32 1
  let main_cst_9 : FVec F S_ .f32 := constant S_ .f32 0x7F800000#32
  let main_v35 : FVec F S16 .f32 := (fun x v => Host.reduce FloatOps.minimumf x v reducesTo_S16x8192_S16_d1 h_S_) main_v23 main_cst_9
  fn_part2 (F := F) main_arg0 main_arg1 main_arg2 main_arg3 main_v23 main_v33 main_v34 main_v35

def fn {F : FTy → Type} [FloatOps F] (main_arg0 : FVec F S16x32x32x32 .f32) (main_arg1 : FVec F S8192x32 .f32) (main_arg2 : FVec F S4x32x32x3x3 .f32) (main_arg3 : FVec F S4x32 .f32) : IVec S_ 1 :=
  let main_v0 : FVec F S8192x32 .f32 := Host.absf main_arg1
  let main_cst : FVec F S_ .f32 := constant S_ .f32 0x7F800000#32
  let main_v1 : FVec F S8192x32 .f32 := broadcastInDim S8192x32 ![] bcast_S_S8192x32 main_cst
  let main_v2 : IVec S8192x32 1 := cmpf .olt main_v0 main_v1
  let main_c : IVec S_ 1 := constantI S_ 1 1#1
  let main_v3 : IVec S_ 1 := (fun x v => Host.reduce IntOp.andi x v reducesTo_S8192x32_S_d0_1 h_S_) main_v2 main_c
  let main_v4 : FVec F S16x32x1x32x1x32 .f32 := shapeCast S16x32x1x32x1x32 main_arg0 shapeCasts_S16x32x32x32_S16x32x1x32x1x32
  let main_cst_0 : FVec F S_ .f32 := constant S_ .f32 0x00000000#32
  let main_v5 : FVec F S16x32x1x1 .f32 := (fun x v => Host.reduceAdd x v reducesTo_S16x32x1x32x1x32_S16x32x1x1_d3_5 h_S_) main_v4 main_cst_0
  let main_cst_1 : FVec F S_ .f32 := constant S_ .f32 0x44800000#32
  let main_v6 : FVec F S16x32x1x1 .f32 := broadcastInDim S16x32x1x1 ![] bcast_S_S16x32x1x1 main_cst_1
  let main_v7 : FVec F S16x32x1x1 .f32 := Host.divf main_v5 main_v6
  let main_v8 : FVec F S16x1x1x32 .f32 := (transpose S16x1x1x32 [0, 2, 3, 1] · transposes_S16x32x1x1_S16x1x1x32_0_2_3_1) main_v7
  let main_v9 : FVec F S16x32 .f32 := shapeCast S16x32 main_v8 shapeCasts_S16x1x1x32_S16x32
  let main_v10 : FVec F S16x32 .f32 := mulf main_v9 main_v9
  let main_cst_2 : FVec F S_ .f32 := constant S_ .f32 0x00000000#32
  let main_v11 : FVec F S16 .f32 := (fun x v => Host.reduceAdd x v reducesTo_S16x32_S16_d1 h_S_) main_v10 main_cst_2
  let main_v12 : FVec F S16x1 .f32 := broadcastInDim S16x1 ![0] bcast_S16_S16x1_0 main_v11
  let main_v13 : FVec F S8192x32 .f32 := mulf main_arg1 main_arg1
  let main_cst_3 : FVec F S_ .f32 := constant S_ .f32 0x00000000#32
  let main_v14 : FVec F S8192 .f32 := (fun x v => Host.reduceAdd x v reducesTo_S8192x32_S8192_d1 h_S_) main_v13 main_cst_3
  let main_v15 : FVec F S32x8192 .f32 := (transpose S32x8192 [1, 0] · transposes_S8192x32_S32x8192_1_0) main_arg1
  let main_v16 : FVec F S16x8192 .f32 := (fun l r => Host.dotGeneral dot_S16x32_S32x8192_S16x8192_1_0_0_1_n_n none l r) main_v9 main_v15
  let main_v17 : FVec F S1x8192 .f32 := broadcastInDim S1x8192 ![1] bcast_S8192_S1x8192_1 main_v14
  fn_part1 (F := F) main_arg0 main_arg1 main_arg2 main_arg3 main_v3 main_v12 main_v16 main_v17
-- ==== Kernel.lean ====
abbrev S16x32x32x32 : Shape := ⟨4, ![16, 32, 32, 32]⟩
abbrev S8192x32 : Shape := ⟨2, ![8192, 32]⟩
abbrev S4x32x32x3x3 : Shape := ⟨5, ![4, 32, 32, 3, 3]⟩
abbrev S4x32 : Shape := ⟨2, ![4, 32]⟩
abbrev S6 : Shape := ⟨1, ![6]⟩
abbrev S16x1024x32 : Shape := ⟨3, ![16, 1024, 32]⟩
abbrev S32x8192 : Shape := ⟨2, ![32, 8192]⟩
abbrev S_ : Shape := ⟨0, ![]⟩
abbrev S6x1 : Shape := ⟨2, ![6, 1]⟩
abbrev S6x32x32x3x3 : Shape := ⟨5, ![6, 32, 32, 3, 3]⟩
abbrev S6x3x3x32x32 : Shape := ⟨5, ![6, 3, 3, 32, 32]⟩
abbrev S1728x32 : Shape := ⟨2, ![1728, 32]⟩
abbrev S6x32 : Shape := ⟨2, ![6, 32]⟩
abbrev S32 : Shape := ⟨1, ![32]⟩
abbrev S1x32 : Shape := ⟨2, ![1, 32]⟩
abbrev S1 : Shape := ⟨1, ![1]⟩
abbrev S1x1 : Shape := ⟨2, ![1, 1]⟩
abbrev S32x1 : Shape := ⟨2, ![32, 1]⟩
abbrev S32x1x1x1 : Shape := ⟨4, ![32, 1, 1, 1]⟩
abbrev S1x32x1x1 : Shape := ⟨4, ![1, 32, 1, 1]⟩
abbrev S32x32x1x1 : Shape := ⟨4, ![32, 32, 1, 1]⟩
abbrev S1024x1 : Shape := ⟨2, ![1024, 1]⟩
abbrev S2 : Shape := ⟨1, ![2]⟩
abbrev S2x1 : Shape := ⟨2, ![2, 1]⟩
abbrev S2x32 : Shape := ⟨2, ![2, 32]⟩
abbrev S32x2 : Shape := ⟨2, ![32, 2]⟩
abbrev S32x1x2x1 : Shape := ⟨4, ![32, 1, 2, 1]⟩
abbrev S1x32x1x2 : Shape := ⟨4, ![1, 32, 1, 2]⟩
abbrev S32x32x2x2 : Shape := ⟨4, ![32, 32, 2, 2]⟩
abbrev S1024x4 : Shape := ⟨2, ![1024, 4]⟩
abbrev S4 : Shape := ⟨1, ![4]⟩
abbrev S4x1 : Shape := ⟨2, ![4, 1]⟩
abbrev S32x4 : Shape := ⟨2, ![32, 4]⟩
abbrev S32x1x4x1 : Shape := ⟨4, ![32, 1, 4, 1]⟩
abbrev S1x32x1x4 : Shape := ⟨4, ![1, 32, 1, 4]⟩
abbrev S32x32x4x4 : Shape := ⟨4, ![32, 32, 4, 4]⟩
abbrev S1024x16 : Shape := ⟨2, ![1024, 16]⟩
abbrev S8 : Shape := ⟨1, ![8]⟩
abbrev S8x1 : Shape := ⟨2, ![8, 1]⟩
abbrev S8x32 : Shape := ⟨2, ![8, 32]⟩
abbrev S32x8 : Shape := ⟨2, ![32, 8]⟩
abbrev S32x1x8x1 : Shape := ⟨4, ![32, 1, 8, 1]⟩
abbrev S1x32x1x8 : Shape := ⟨4, ![1, 32, 1, 8]⟩
abbrev S32x32x8x8 : Shape := ⟨4, ![32, 32, 8, 8]⟩
abbrev S1024x64 : Shape := ⟨2, ![1024, 64]⟩
abbrev S16 : Shape := ⟨1, ![16]⟩
abbrev S16x1 : Shape := ⟨2, ![16, 1]⟩
abbrev S16x32 : Shape := ⟨2, ![16, 32]⟩
abbrev S32x16 : Shape := ⟨2, ![32, 16]⟩
abbrev S32x1x16x1 : Shape := ⟨4, ![32, 1, 16, 1]⟩
abbrev S1x32x1x16 : Shape := ⟨4, ![1, 32, 1, 16]⟩
abbrev S32x32x16x16 : Shape := ⟨4, ![32, 32, 16, 16]⟩
abbrev S1024x256 : Shape := ⟨2, ![1024, 256]⟩
abbrev S1x1x32x1 : Shape := ⟨4, ![1, 1, 32, 1]⟩
abbrev S1x1x1x32 : Shape := ⟨4, ![1, 1, 1, 32]⟩
abbrev S1x1x32x32 : Shape := ⟨4, ![1, 1, 32, 32]⟩
abbrev S1x1024 : Shape := ⟨2, ![1, 1024]⟩
abbrev S2x1x32x1 : Shape := ⟨4, ![2, 1, 32, 1]⟩
abbrev S1x2x1x32 : Shape := ⟨4, ![1, 2, 1, 32]⟩
abbrev S2x2x32x32 : Shape := ⟨4, ![2, 2, 32, 32]⟩
abbrev S4x1024 : Shape := ⟨2, ![4, 1024]⟩
abbrev S4x1x32x1 : Shape := ⟨4, ![4, 1, 32, 1]⟩
abbrev S1x4x1x32 : Shape := ⟨4, ![1, 4, 1, 32]⟩
abbrev S4x4x32x32 : Shape := ⟨4, ![4, 4, 32, 32]⟩
abbrev S16x1024 : Shape := ⟨2, ![16, 1024]⟩
abbrev S8x1x32x1 : Shape := ⟨4, ![8, 1, 32, 1]⟩
abbrev S1x8x1x32 : Shape := ⟨4, ![1, 8, 1, 32]⟩
abbrev S8x8x32x32 : Shape := ⟨4, ![8, 8, 32, 32]⟩
abbrev S64x1024 : Shape := ⟨2, ![64, 1024]⟩
abbrev S16x1x32x1 : Shape := ⟨4, ![16, 1, 32, 1]⟩
abbrev S1x16x1x32 : Shape := ⟨4, ![1, 16, 1, 32]⟩
abbrev S16x16x32x32 : Shape := ⟨4, ![16, 16, 32, 32]⟩
abbrev S256x1024 : Shape := ⟨2, ![256, 1024]⟩
abbrev S16x1x1 : Shape := ⟨3, ![16, 1, 1]⟩
abbrev S1x1024x32 : Shape := ⟨3, ![1, 1024, 32]⟩
abbrev S1x1x1 : Shape := ⟨3, ![1, 1, 1]⟩
abbrev S1104x32 : Shape := ⟨2, ![1104, 32]⟩
abbrev S8192 : Shape := ⟨1, ![8192]⟩
abbrev S1x8192 : Shape := ⟨2, ![1, 8192]⟩
abbrev S1024x32 : Shape := ⟨2, ![1024, 32]⟩
abbrev S32x32 : Shape := ⟨2, ![32, 32]⟩
abbrev S4x8192 : Shape := ⟨2, ![4, 8192]⟩
abbrev S16x8192 : Shape := ⟨2, ![16, 8192]⟩
abbrev S64x32 : Shape := ⟨2, ![64, 32]⟩
abbrev S64 : Shape := ⟨1, ![64]⟩
abbrev S64x1 : Shape := ⟨2, ![64, 1]⟩
abbrev S64x8192 : Shape := ⟨2, ![64, 8192]⟩
abbrev S256x32 : Shape := ⟨2, ![256, 32]⟩
abbrev S256 : Shape := ⟨1, ![256]⟩
abbrev S256x1 : Shape := ⟨2, ![256, 1]⟩
abbrev S256x8192 : Shape := ⟨2, ![256, 8192]⟩
abbrev S1024 : Shape := ⟨1, ![1024]⟩

abbrev nBuf : Space → Nat
  | .hbm => 512
  | .vmem => 21
  | .smem => 0
  | _ => 0

abbrev hbmTy0_0 (i : Nat) : BufTy := match i % 128 with
  | 0 => ⟨S16x32x32x32, .f32⟩
  | 1 => ⟨S8192x32, .f32⟩
  | 2 => ⟨S4x32x32x3x3, .f32⟩
  | 3 => ⟨S4x32, .f32⟩
  | 4 => ⟨S6, .i32⟩
  | 5 => ⟨S6, .i32⟩
  | 6 => ⟨S16x32x32x32, .f32⟩
  | 7 => ⟨S16x1024x32, .f32⟩
  | 8 => ⟨S32x8192, .f32⟩
  | 9 => ⟨S_, .i32⟩
  | 10 => ⟨S6, .i32⟩
  | 11 => ⟨S6, .i1⟩
  | 12 => ⟨S_, .i32⟩
  | 13 => ⟨S6, .i32⟩
  | 14 => ⟨S6, .i32⟩
  | 15 => ⟨S6, .i32⟩
  | 16 => ⟨S6x1, .i32⟩
  | 17 => ⟨S6x32x32x3x3, .f32⟩
  | 18 => ⟨S6x3x3x32x32, .f32⟩
  | 19 => ⟨S1728x32, .f32⟩
  | 20 => ⟨S_, .i32⟩
  | 21 => ⟨S6, .i32⟩
  | 22 => ⟨S6, .i1⟩
  | 23 => ⟨S_, .i32⟩
  | 24 => ⟨S6, .i32⟩
  | 25 => ⟨S6, .i32⟩
  | 26 => ⟨S6, .i32⟩
  | 27 => ⟨S6x1, .i32⟩
  | 28 => ⟨S6x32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S_, .f32⟩
  | 37 => ⟨S32, .f32⟩
  | 38 => ⟨S32, .f32⟩
  | 39 => ⟨S1x32, .f32⟩
  | 40 => ⟨S1, .f32⟩
  | 41 => ⟨S1x1, .f32⟩
  | 42 => ⟨S1x32, .f32⟩
  | 43 => ⟨S1x32, .f32⟩
  | 44 => ⟨S1x32, .f32⟩
  | 45 => ⟨S_, .f32⟩
  | 46 => ⟨S1x32, .f32⟩
  | 47 => ⟨S1x32, .i1⟩
  | 48 => ⟨S_, .f32⟩
  | 49 => ⟨S1x32, .f32⟩
  | 50 => ⟨S1x32, .f32⟩
  | 51 => ⟨S_, .f32⟩
  | 52 => ⟨S1x32, .f32⟩
  | 53 => ⟨S1x32, .f32⟩
  | 54 => ⟨S1x32, .f32⟩
  | 55 => ⟨S1x32, .f32⟩
  | 56 => ⟨S_, .f32⟩
  | 57 => ⟨S1x32, .f32⟩
  | 58 => ⟨S1x32, .f32⟩
  | 59 => ⟨S_, .f32⟩
  | 60 => ⟨S_, .f32⟩
  | 61 => ⟨S1x32, .f32⟩
  | 62 => ⟨S1x32, .f32⟩
  | 63 => ⟨S_, .f32⟩
  | 64 => ⟨S1x32, .f32⟩
  | 65 => ⟨S1x32, .i1⟩
  | 66 => ⟨S_, .f32⟩
  | 67 => ⟨S1x32, .f32⟩
  | 68 => ⟨S1x32, .i1⟩
  | 69 => ⟨S1x32, .i1⟩
  | 70 => ⟨S_, .f32⟩
  | 71 => ⟨S1x32, .f32⟩
  | 72 => ⟨S1x32, .f32⟩
  | 73 => ⟨S_, .f32⟩
  | 74 => ⟨S1x32, .f32⟩
  | 75 => ⟨S1x32, .f32⟩
  | 76 => ⟨S1x32, .f32⟩
  | 77 => ⟨S_, .f32⟩
  | 78 => ⟨S1x32, .f32⟩
  | 79 => ⟨S1x32, .f32⟩
  | 80 => ⟨S1x32, .f32⟩
  | 81 => ⟨S_, .f32⟩
  | 82 => ⟨S1x32, .f32⟩
  | 83 => ⟨S1x32, .f32⟩
  | 84 => ⟨S1x32, .f32⟩
  | 85 => ⟨S_, .f32⟩
  | 86 => ⟨S32, .f32⟩
  | 87 => ⟨S1x32, .f32⟩
  | 88 => ⟨S1x32, .f32⟩
  | 89 => ⟨S32x1, .f32⟩
  | 90 => ⟨S32x1x1x1, .f32⟩
  | 91 => ⟨S1x32x1x1, .f32⟩
  | 92 => ⟨S32x32x1x1, .f32⟩
  | 93 => ⟨S32x32x1x1, .f32⟩
  | 94 => ⟨S32x32x1x1, .f32⟩
  | 95 => ⟨S1024x1, .f32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S_, .f32⟩
  | 104 => ⟨S32, .f32⟩
  | 105 => ⟨S32, .f32⟩
  | 106 => ⟨S1x32, .f32⟩
  | 107 => ⟨S2, .f32⟩
  | 108 => ⟨S2x1, .f32⟩
  | 109 => ⟨S2x32, .f32⟩
  | 110 => ⟨S2x32, .f32⟩
  | 111 => ⟨S2x32, .f32⟩
  | 112 => ⟨S2x32, .f32⟩
  | 113 => ⟨S_, .f32⟩
  | 114 => ⟨S2x32, .f32⟩
  | 115 => ⟨S2x32, .i1⟩
  | 116 => ⟨S_, .f32⟩
  | 117 => ⟨S2x32, .f32⟩
  | 118 => ⟨S2x32, .f32⟩
  | 119 => ⟨S_, .f32⟩
  | 120 => ⟨S2x32, .f32⟩
  | 121 => ⟨S2x32, .f32⟩
  | 122 => ⟨S2x32, .f32⟩
  | 123 => ⟨S2x32, .f32⟩
  | 124 => ⟨S_, .f32⟩
  | 125 => ⟨S2x32, .f32⟩
  | 126 => ⟨S2x32, .f32⟩
  | 127 => ⟨S_, .f32⟩
  | _ => ⟨S16x32x32x32, .f32⟩

abbrev hbmTy0_1 (i : Nat) : BufTy := match i % 128 with
  | 0 => ⟨S_, .f32⟩
  | 1 => ⟨S2x32, .f32⟩
  | 2 => ⟨S2x32, .f32⟩
  | 3 => ⟨S_, .f32⟩
  | 4 => ⟨S2x32, .f32⟩
  | 5 => ⟨S2x32, .i1⟩
  | 6 => ⟨S_, .f32⟩
  | 7 => ⟨S2x32, .f32⟩
  | 8 => ⟨S2x32, .i1⟩
  | 9 => ⟨S2x32, .i1⟩
  | 10 => ⟨S_, .f32⟩
  | 11 => ⟨S2x32, .f32⟩
  | 12 => ⟨S2x32, .f32⟩
  | 13 => ⟨S_, .f32⟩
  | 14 => ⟨S2x32, .f32⟩
  | 15 => ⟨S2x32, .f32⟩
  | 16 => ⟨S2x32, .f32⟩
  | 17 => ⟨S_, .f32⟩
  | 18 => ⟨S2x32, .f32⟩
  | 19 => ⟨S2x32, .f32⟩
  | 20 => ⟨S2x32, .f32⟩
  | 21 => ⟨S_, .f32⟩
  | 22 => ⟨S2x32, .f32⟩
  | 23 => ⟨S2x32, .f32⟩
  | 24 => ⟨S2x32, .f32⟩
  | 25 => ⟨S_, .f32⟩
  | 26 => ⟨S32, .f32⟩
  | 27 => ⟨S1x32, .f32⟩
  | 28 => ⟨S2x32, .f32⟩
  | 29 => ⟨S2x32, .f32⟩
  | 30 => ⟨S32x2, .f32⟩
  | 31 => ⟨S32x1x2x1, .f32⟩
  | 32 => ⟨S1x32x1x2, .f32⟩
  | 33 => ⟨S32x32x2x2, .f32⟩
  | 34 => ⟨S32x32x2x2, .f32⟩
  | 35 => ⟨S32x32x2x2, .f32⟩
  | 36 => ⟨S1024x4, .f32⟩
  | 37 => ⟨S32, .f32⟩
  | 38 => ⟨S_, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S1x32, .f32⟩
  | 48 => ⟨S4, .f32⟩
  | 49 => ⟨S4x1, .f32⟩
  | 50 => ⟨S4x32, .f32⟩
  | 51 => ⟨S4x32, .f32⟩
  | 52 => ⟨S4x32, .f32⟩
  | 53 => ⟨S4x32, .f32⟩
  | 54 => ⟨S_, .f32⟩
  | 55 => ⟨S4x32, .f32⟩
  | 56 => ⟨S4x32, .i1⟩
  | 57 => ⟨S_, .f32⟩
  | 58 => ⟨S4x32, .f32⟩
  | 59 => ⟨S4x32, .f32⟩
  | 60 => ⟨S_, .f32⟩
  | 61 => ⟨S4x32, .f32⟩
  | 62 => ⟨S4x32, .f32⟩
  | 63 => ⟨S4x32, .f32⟩
  | 64 => ⟨S4x32, .f32⟩
  | 65 => ⟨S_, .f32⟩
  | 66 => ⟨S4x32, .f32⟩
  | 67 => ⟨S4x32, .f32⟩
  | 68 => ⟨S_, .f32⟩
  | 69 => ⟨S_, .f32⟩
  | 70 => ⟨S4x32, .f32⟩
  | 71 => ⟨S4x32, .f32⟩
  | 72 => ⟨S_, .f32⟩
  | 73 => ⟨S4x32, .f32⟩
  | 74 => ⟨S4x32, .i1⟩
  | 75 => ⟨S_, .f32⟩
  | 76 => ⟨S4x32, .f32⟩
  | 77 => ⟨S4x32, .i1⟩
  | 78 => ⟨S4x32, .i1⟩
  | 79 => ⟨S_, .f32⟩
  | 80 => ⟨S4x32, .f32⟩
  | 81 => ⟨S4x32, .f32⟩
  | 82 => ⟨S_, .f32⟩
  | 83 => ⟨S4x32, .f32⟩
  | 84 => ⟨S4x32, .f32⟩
  | 85 => ⟨S4x32, .f32⟩
  | 86 => ⟨S_, .f32⟩
  | 87 => ⟨S4x32, .f32⟩
  | 88 => ⟨S4x32, .f32⟩
  | 89 => ⟨S4x32, .f32⟩
  | 90 => ⟨S_, .f32⟩
  | 91 => ⟨S4x32, .f32⟩
  | 92 => ⟨S4x32, .f32⟩
  | 93 => ⟨S4x32, .f32⟩
  | 94 => ⟨S_, .f32⟩
  | 95 => ⟨S32, .f32⟩
  | 96 => ⟨S1x32, .f32⟩
  | 97 => ⟨S4x32, .f32⟩
  | 98 => ⟨S4x32, .f32⟩
  | 99 => ⟨S32x4, .f32⟩
  | 100 => ⟨S32x1x4x1, .f32⟩
  | 101 => ⟨S1x32x1x4, .f32⟩
  | 102 => ⟨S32x32x4x4, .f32⟩
  | 103 => ⟨S32x32x4x4, .f32⟩
  | 104 => ⟨S32x32x4x4, .f32⟩
  | 105 => ⟨S1024x16, .f32⟩
  | 106 => ⟨S32, .f32⟩
  | 107 => ⟨S_, .f32⟩
  | 108 => ⟨S32, .f32⟩
  | 109 => ⟨S32, .f32⟩
  | 110 => ⟨S_, .f32⟩
  | 111 => ⟨S32, .f32⟩
  | 112 => ⟨S32, .f32⟩
  | 113 => ⟨S_, .f32⟩
  | 114 => ⟨S32, .f32⟩
  | 115 => ⟨S32, .f32⟩
  | 116 => ⟨S1x32, .f32⟩
  | 117 => ⟨S8, .f32⟩
  | 118 => ⟨S8x1, .f32⟩
  | 119 => ⟨S8x32, .f32⟩
  | 120 => ⟨S8x32, .f32⟩
  | 121 => ⟨S8x32, .f32⟩
  | 122 => ⟨S8x32, .f32⟩
  | 123 => ⟨S_, .f32⟩
  | 124 => ⟨S8x32, .f32⟩
  | 125 => ⟨S8x32, .i1⟩
  | 126 => ⟨S_, .f32⟩
  | 127 => ⟨S8x32, .f32⟩
  | _ => ⟨S16x32x32x32, .f32⟩

abbrev hbmTy0_2 (i : Nat) : BufTy := match i % 128 with
  | 0 => ⟨S8x32, .f32⟩
  | 1 => ⟨S_, .f32⟩
  | 2 => ⟨S8x32, .f32⟩
  | 3 => ⟨S8x32, .f32⟩
  | 4 => ⟨S8x32, .f32⟩
  | 5 => ⟨S8x32, .f32⟩
  | 6 => ⟨S_, .f32⟩
  | 7 => ⟨S8x32, .f32⟩
  | 8 => ⟨S8x32, .f32⟩
  | 9 => ⟨S_, .f32⟩
  | 10 => ⟨S_, .f32⟩
  | 11 => ⟨S8x32, .f32⟩
  | 12 => ⟨S8x32, .f32⟩
  | 13 => ⟨S_, .f32⟩
  | 14 => ⟨S8x32, .f32⟩
  | 15 => ⟨S8x32, .i1⟩
  | 16 => ⟨S_, .f32⟩
  | 17 => ⟨S8x32, .f32⟩
  | 18 => ⟨S8x32, .i1⟩
  | 19 => ⟨S8x32, .i1⟩
  | 20 => ⟨S_, .f32⟩
  | 21 => ⟨S8x32, .f32⟩
  | 22 => ⟨S8x32, .f32⟩
  | 23 => ⟨S_, .f32⟩
  | 24 => ⟨S8x32, .f32⟩
  | 25 => ⟨S8x32, .f32⟩
  | 26 => ⟨S8x32, .f32⟩
  | 27 => ⟨S_, .f32⟩
  | 28 => ⟨S8x32, .f32⟩
  | 29 => ⟨S8x32, .f32⟩
  | 30 => ⟨S8x32, .f32⟩
  | 31 => ⟨S_, .f32⟩
  | 32 => ⟨S8x32, .f32⟩
  | 33 => ⟨S8x32, .f32⟩
  | 34 => ⟨S8x32, .f32⟩
  | 35 => ⟨S_, .f32⟩
  | 36 => ⟨S32, .f32⟩
  | 37 => ⟨S1x32, .f32⟩
  | 38 => ⟨S8x32, .f32⟩
  | 39 => ⟨S8x32, .f32⟩
  | 40 => ⟨S32x8, .f32⟩
  | 41 => ⟨S32x1x8x1, .f32⟩
  | 42 => ⟨S1x32x1x8, .f32⟩
  | 43 => ⟨S32x32x8x8, .f32⟩
  | 44 => ⟨S32x32x8x8, .f32⟩
  | 45 => ⟨S32x32x8x8, .f32⟩
  | 46 => ⟨S1024x64, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S1x32, .f32⟩
  | 58 => ⟨S16, .f32⟩
  | 59 => ⟨S16x1, .f32⟩
  | 60 => ⟨S16x32, .f32⟩
  | 61 => ⟨S16x32, .f32⟩
  | 62 => ⟨S16x32, .f32⟩
  | 63 => ⟨S16x32, .f32⟩
  | 64 => ⟨S_, .f32⟩
  | 65 => ⟨S16x32, .f32⟩
  | 66 => ⟨S16x32, .i1⟩
  | 67 => ⟨S_, .f32⟩
  | 68 => ⟨S16x32, .f32⟩
  | 69 => ⟨S16x32, .f32⟩
  | 70 => ⟨S_, .f32⟩
  | 71 => ⟨S16x32, .f32⟩
  | 72 => ⟨S16x32, .f32⟩
  | 73 => ⟨S16x32, .f32⟩
  | 74 => ⟨S16x32, .f32⟩
  | 75 => ⟨S_, .f32⟩
  | 76 => ⟨S16x32, .f32⟩
  | 77 => ⟨S16x32, .f32⟩
  | 78 => ⟨S_, .f32⟩
  | 79 => ⟨S_, .f32⟩
  | 80 => ⟨S16x32, .f32⟩
  | 81 => ⟨S16x32, .f32⟩
  | 82 => ⟨S_, .f32⟩
  | 83 => ⟨S16x32, .f32⟩
  | 84 => ⟨S16x32, .i1⟩
  | 85 => ⟨S_, .f32⟩
  | 86 => ⟨S16x32, .f32⟩
  | 87 => ⟨S16x32, .i1⟩
  | 88 => ⟨S16x32, .i1⟩
  | 89 => ⟨S_, .f32⟩
  | 90 => ⟨S16x32, .f32⟩
  | 91 => ⟨S16x32, .f32⟩
  | 92 => ⟨S_, .f32⟩
  | 93 => ⟨S16x32, .f32⟩
  | 94 => ⟨S16x32, .f32⟩
  | 95 => ⟨S16x32, .f32⟩
  | 96 => ⟨S_, .f32⟩
  | 97 => ⟨S16x32, .f32⟩
  | 98 => ⟨S16x32, .f32⟩
  | 99 => ⟨S16x32, .f32⟩
  | 100 => ⟨S_, .f32⟩
  | 101 => ⟨S16x32, .f32⟩
  | 102 => ⟨S16x32, .f32⟩
  | 103 => ⟨S16x32, .f32⟩
  | 104 => ⟨S_, .f32⟩
  | 105 => ⟨S32, .f32⟩
  | 106 => ⟨S1x32, .f32⟩
  | 107 => ⟨S16x32, .f32⟩
  | 108 => ⟨S16x32, .f32⟩
  | 109 => ⟨S32x16, .f32⟩
  | 110 => ⟨S32x1x16x1, .f32⟩
  | 111 => ⟨S1x32x1x16, .f32⟩
  | 112 => ⟨S32x32x16x16, .f32⟩
  | 113 => ⟨S32x32x16x16, .f32⟩
  | 114 => ⟨S32x32x16x16, .f32⟩
  | 115 => ⟨S1024x256, .f32⟩
  | 116 => ⟨S1x32, .i32⟩
  | 117 => ⟨S1x32, .i32⟩
  | 118 => ⟨S_, .i32⟩
  | 119 => ⟨S1x32, .i32⟩
  | 120 => ⟨S1x32, .i32⟩
  | 121 => ⟨S1x32, .i1⟩
  | 122 => ⟨S_, .i32⟩
  | 123 => ⟨S1x32, .i32⟩
  | 124 => ⟨S1x32, .i32⟩
  | 125 => ⟨S_, .i32⟩
  | 126 => ⟨S1x32, .i32⟩
  | 127 => ⟨S1x32, .i32⟩
  | _ => ⟨S16x32x32x32, .f32⟩

abbrev hbmTy0_3 (i : Nat) : BufTy := match i % 128 with
  | 0 => ⟨S1x32, .i1⟩
  | 1 => ⟨S1x32, .i1⟩
  | 2 => ⟨S_, .f32⟩
  | 3 => ⟨S_, .f32⟩
  | 4 => ⟨S1x32, .f32⟩
  | 5 => ⟨S1x32, .f32⟩
  | 6 => ⟨S1x32, .f32⟩
  | 7 => ⟨S1x32, .f32⟩
  | 8 => ⟨S1x1x32x1, .f32⟩
  | 9 => ⟨S1x1x1x32, .f32⟩
  | 10 => ⟨S1x1x32x32, .f32⟩
  | 11 => ⟨S1x1x32x32, .f32⟩
  | 12 => ⟨S1x1x32x32, .f32⟩
  | 13 => ⟨S1x1024, .f32⟩
  | 14 => ⟨S2x32, .i32⟩
  | 15 => ⟨S2x32, .i32⟩
  | 16 => ⟨S_, .i32⟩
  | 17 => ⟨S2x32, .i32⟩
  | 18 => ⟨S2x32, .i32⟩
  | 19 => ⟨S2x32, .i1⟩
  | 20 => ⟨S_, .i32⟩
  | 21 => ⟨S2x32, .i32⟩
  | 22 => ⟨S2x32, .i32⟩
  | 23 => ⟨S_, .i32⟩
  | 24 => ⟨S2x32, .i32⟩
  | 25 => ⟨S2x32, .i32⟩
  | 26 => ⟨S2x32, .i1⟩
  | 27 => ⟨S2x32, .i1⟩
  | 28 => ⟨S_, .f32⟩
  | 29 => ⟨S_, .f32⟩
  | 30 => ⟨S2x32, .f32⟩
  | 31 => ⟨S2x32, .f32⟩
  | 32 => ⟨S2x32, .f32⟩
  | 33 => ⟨S2x32, .f32⟩
  | 34 => ⟨S2x1x32x1, .f32⟩
  | 35 => ⟨S1x2x1x32, .f32⟩
  | 36 => ⟨S2x2x32x32, .f32⟩
  | 37 => ⟨S2x2x32x32, .f32⟩
  | 38 => ⟨S2x2x32x32, .f32⟩
  | 39 => ⟨S4x1024, .f32⟩
  | 40 => ⟨S4x32, .i32⟩
  | 41 => ⟨S4x32, .i32⟩
  | 42 => ⟨S_, .i32⟩
  | 43 => ⟨S4x32, .i32⟩
  | 44 => ⟨S4x32, .i32⟩
  | 45 => ⟨S4x32, .i1⟩
  | 46 => ⟨S_, .i32⟩
  | 47 => ⟨S4x32, .i32⟩
  | 48 => ⟨S4x32, .i32⟩
  | 49 => ⟨S_, .i32⟩
  | 50 => ⟨S4x32, .i32⟩
  | 51 => ⟨S4x32, .i32⟩
  | 52 => ⟨S4x32, .i1⟩
  | 53 => ⟨S4x32, .i1⟩
  | 54 => ⟨S_, .f32⟩
  | 55 => ⟨S_, .f32⟩
  | 56 => ⟨S4x32, .f32⟩
  | 57 => ⟨S4x32, .f32⟩
  | 58 => ⟨S4x32, .f32⟩
  | 59 => ⟨S4x32, .f32⟩
  | 60 => ⟨S4x1x32x1, .f32⟩
  | 61 => ⟨S1x4x1x32, .f32⟩
  | 62 => ⟨S4x4x32x32, .f32⟩
  | 63 => ⟨S4x4x32x32, .f32⟩
  | 64 => ⟨S4x4x32x32, .f32⟩
  | 65 => ⟨S16x1024, .f32⟩
  | 66 => ⟨S8x32, .i32⟩
  | 67 => ⟨S8x32, .i32⟩
  | 68 => ⟨S_, .i32⟩
  | 69 => ⟨S8x32, .i32⟩
  | 70 => ⟨S8x32, .i32⟩
  | 71 => ⟨S8x32, .i1⟩
  | 72 => ⟨S_, .i32⟩
  | 73 => ⟨S8x32, .i32⟩
  | 74 => ⟨S8x32, .i32⟩
  | 75 => ⟨S_, .i32⟩
  | 76 => ⟨S8x32, .i32⟩
  | 77 => ⟨S8x32, .i32⟩
  | 78 => ⟨S8x32, .i1⟩
  | 79 => ⟨S8x32, .i1⟩
  | 80 => ⟨S_, .f32⟩
  | 81 => ⟨S_, .f32⟩
  | 82 => ⟨S8x32, .f32⟩
  | 83 => ⟨S8x32, .f32⟩
  | 84 => ⟨S8x32, .f32⟩
  | 85 => ⟨S8x32, .f32⟩
  | 86 => ⟨S8x1x32x1, .f32⟩
  | 87 => ⟨S1x8x1x32, .f32⟩
  | 88 => ⟨S8x8x32x32, .f32⟩
  | 89 => ⟨S8x8x32x32, .f32⟩
  | 90 => ⟨S8x8x32x32, .f32⟩
  | 91 => ⟨S64x1024, .f32⟩
  | 92 => ⟨S16x32, .i32⟩
  | 93 => ⟨S16x32, .i32⟩
  | 94 => ⟨S_, .i32⟩
  | 95 => ⟨S16x32, .i32⟩
  | 96 => ⟨S16x32, .i32⟩
  | 97 => ⟨S16x32, .i1⟩
  | 98 => ⟨S_, .i32⟩
  | 99 => ⟨S16x32, .i32⟩
  | 100 => ⟨S16x32, .i32⟩
  | 101 => ⟨S_, .i32⟩
  | 102 => ⟨S16x32, .i32⟩
  | 103 => ⟨S16x32, .i32⟩
  | 104 => ⟨S16x32, .i1⟩
  | 105 => ⟨S16x32, .i1⟩
  | 106 => ⟨S_, .f32⟩
  | 107 => ⟨S_, .f32⟩
  | 108 => ⟨S16x32, .f32⟩
  | 109 => ⟨S16x32, .f32⟩
  | 110 => ⟨S16x32, .f32⟩
  | 111 => ⟨S16x32, .f32⟩
  | 112 => ⟨S16x1x32x1, .f32⟩
  | 113 => ⟨S1x16x1x32, .f32⟩
  | 114 => ⟨S16x16x32x32, .f32⟩
  | 115 => ⟨S16x16x32x32, .f32⟩
  | 116 => ⟨S16x16x32x32, .f32⟩
  | 117 => ⟨S256x1024, .f32⟩
  | 118 => ⟨S16x1024x32, .f32⟩
  | 119 => ⟨S16x1x1, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S16x32x32x32, .f32⟩
  | 127 => ⟨S16x32x32x32, .f32⟩
  | _ => ⟨S16x32x32x32, .f32⟩

abbrev hbmTy (i : Nat) : BufTy := match i / 128 with
  | 0 => hbmTy0_0 i
  | 1 => hbmTy0_1 i
  | 2 => hbmTy0_2 i
  | 3 => hbmTy0_3 i
  | _ => ⟨S16x32x32x32, .f32⟩

abbrev bufTy : (tb : Table) → Fin (tcTables nBuf tb) → BufTy
  | .hbm, ⟨i, _⟩ => hbmTy i
  | .local _ .vmem, ⟨0, _⟩ => ⟨S1x1024x32, .f32⟩
  | .local _ .vmem, ⟨1, _⟩ => ⟨S1x1024x32, .f32⟩
  | .local _ .vmem, ⟨2, _⟩ => ⟨S8192x32, .f32⟩
  | .local _ .vmem, ⟨3, _⟩ => ⟨S32x8192, .f32⟩
  | .local _ .vmem, ⟨4, _⟩ => ⟨S1728x32, .f32⟩
  | .local _ .vmem, ⟨5, _⟩ => ⟨S6x32, .f32⟩
  | .local _ .vmem, ⟨6, _⟩ => ⟨S1024x1, .f32⟩
  | .local _ .vmem, ⟨7, _⟩ => ⟨S1024x4, .f32⟩
  | .local _ .vmem, ⟨8, _⟩ => ⟨S1024x16, .f32⟩
  | .local _ .vmem, ⟨9, _⟩ => ⟨S1024x64, .f32⟩
  | .local _ .vmem, ⟨10, _⟩ => ⟨S1024x256, .f32⟩
  | .local _ .vmem, ⟨11, _⟩ => ⟨S1x1024, .f32⟩
  | .local _ .vmem, ⟨12, _⟩ => ⟨S4x1024, .f32⟩
  | .local _ .vmem, ⟨13, _⟩ => ⟨S16x1024, .f32⟩
  | .local _ .vmem, ⟨14, _⟩ => ⟨S64x1024, .f32⟩
  | .local _ .vmem, ⟨15, _⟩ => ⟨S256x1024, .f32⟩
  | .local _ .vmem, ⟨16, _⟩ => ⟨S1x1024x32, .f32⟩
  | .local _ .vmem, ⟨17, _⟩ => ⟨S1x1024x32, .f32⟩
  | .local _ .vmem, ⟨18, _⟩ => ⟨S1x1x1, .f32⟩
  | .local _ .vmem, ⟨19, _⟩ => ⟨S1x1x1, .f32⟩
  | .local _ .vmem, ⟨20, _⟩ => ⟨S1104x32, .f32⟩
  | _, _ => ⟨S16x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_c_1 : Ref sig .tc := ⟨.hbm, 9, rfl⟩
abbrev main_call0_v3 : Ref sig .tc := ⟨.hbm, 10, rfl⟩
abbrev main_call0_v4 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_cst : Ref sig .tc := ⟨.hbm, 30, rfl⟩
abbrev main_call0_v20 : Ref sig .tc := ⟨.hbm, 31, rfl⟩
abbrev main_call0_v21 : Ref sig .tc := ⟨.hbm, 32, rfl⟩
abbrev main_call0_cst_5 : Ref sig .tc := ⟨.hbm, 33, rfl⟩
abbrev main_call0_v22 : Ref sig .tc := ⟨.hbm, 34, rfl⟩
abbrev main_call0_v23 : Ref sig .tc := ⟨.hbm, 35, rfl⟩
abbrev main_call0_cst_6 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_cst_7 : Ref sig .tc := ⟨.hbm, 45, rfl⟩
abbrev main_call0_v32 : Ref sig .tc := ⟨.hbm, 46, rfl⟩
abbrev main_call0_v33 : Ref sig .tc := ⟨.hbm, 47, rfl⟩
abbrev main_call0_cst_8 : Ref sig .tc := ⟨.hbm, 48, rfl⟩
abbrev main_call0_v34 : Ref sig .tc := ⟨.hbm, 49, rfl⟩
abbrev main_call0_v35 : Ref sig .tc := ⟨.hbm, 50, rfl⟩
abbrev main_call0_cst_9 : Ref sig .tc := ⟨.hbm, 51, rfl⟩
abbrev main_call0_v36 : Ref sig .tc := ⟨.hbm, 52, rfl⟩
abbrev main_call0_v37 : Ref sig .tc := ⟨.hbm, 53, rfl⟩
abbrev main_call0_v38 : Ref sig .tc := ⟨.hbm, 54, rfl⟩
abbrev main_call0_v39 : Ref sig .tc := ⟨.hbm, 55, rfl⟩
abbrev main_call0_cst_10 : Ref sig .tc := ⟨.hbm, 56, rfl⟩
abbrev main_call0_v40 : Ref sig .tc := ⟨.hbm, 57, rfl⟩
abbrev main_call0_v41 : Ref sig .tc := ⟨.hbm, 58, rfl⟩
abbrev main_call0_cst_11 : Ref sig .tc := ⟨.hbm, 59, rfl⟩
abbrev main_call0_call0_v0 : Ref sig .tc := ⟨.hbm, 60, rfl⟩
abbrev main_call0_call0_v1 : Ref sig .tc := ⟨.hbm, 61, rfl⟩
abbrev main_call0_v42 : Ref sig .tc := ⟨.hbm, 62, rfl⟩
abbrev main_call0_cst_12 : Ref sig .tc := ⟨.hbm, 63, rfl⟩
abbrev main_call0_v43 : Ref sig .tc := ⟨.hbm, 64, rfl⟩
abbrev main_call0_v44 : Ref sig .tc := ⟨.hbm, 65, rfl⟩
abbrev main_call0_cst_13 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_cst_14 : Ref sig .tc := ⟨.hbm, 70, rfl⟩
abbrev main_call0_v48 : Ref sig .tc := ⟨.hbm, 71, rfl⟩
abbrev main_call0_v49 : Ref sig .tc := ⟨.hbm, 72, rfl⟩
abbrev main_call0_cst_15 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_cst_16 : Ref sig .tc := ⟨.hbm, 77, rfl⟩
abbrev main_call0_v53 : Ref sig .tc := ⟨.hbm, 78, rfl⟩
abbrev main_call0_v54 : Ref sig .tc := ⟨.hbm, 79, rfl⟩
abbrev main_call0_v55 : Ref sig .tc := ⟨.hbm, 80, rfl⟩
abbrev main_call0_cst_17 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_cst_18 : Ref sig .tc := ⟨.hbm, 85, rfl⟩
abbrev main_call0_v59 : Ref sig .tc := ⟨.hbm, 86, rfl⟩
abbrev main_call0_v60 : Ref sig .tc := ⟨.hbm, 87, rfl⟩
abbrev main_call0_v61 : Ref sig .tc := ⟨.hbm, 88, rfl⟩
abbrev main_call0_v62 : Ref sig .tc := ⟨.hbm, 89, rfl⟩
abbrev main_call0_v63 : Ref sig .tc := ⟨.hbm, 90, rfl⟩
abbrev main_call0_v64 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_v68 : Ref sig .tc := ⟨.hbm, 95, rfl⟩
abbrev main_call0_v69 : Ref sig .tc := ⟨.hbm, 96, rfl⟩
abbrev main_call0_cst_19 : Ref sig .tc := ⟨.hbm, 97, rfl⟩
abbrev main_call0_v70 : Ref sig .tc := ⟨.hbm, 98, rfl⟩
abbrev main_call0_v71 : Ref sig .tc := ⟨.hbm, 99, rfl⟩
abbrev main_call0_cst_20 : Ref sig .tc := ⟨.hbm, 100, rfl⟩
abbrev main_call0_v72 : Ref sig .tc := ⟨.hbm, 101, rfl⟩
abbrev main_call0_v73 : Ref sig .tc := ⟨.hbm, 102, rfl⟩
abbrev main_call0_cst_21 : Ref sig .tc := ⟨.hbm, 103, rfl⟩
abbrev main_call0_v74 : Ref sig .tc := ⟨.hbm, 104, rfl⟩
abbrev main_call0_v75 : Ref sig .tc := ⟨.hbm, 105, rfl⟩
abbrev main_call0_v76 : Ref sig .tc := ⟨.hbm, 106, rfl⟩
abbrev main_call0_v77 : Ref sig .tc := ⟨.hbm, 107, rfl⟩
abbrev main_call0_v78 : Ref sig .tc := ⟨.hbm, 108, rfl⟩
abbrev main_call0_v79 : Ref sig .tc := ⟨.hbm, 109, rfl⟩
abbrev main_call0_v80 : Ref sig .tc := ⟨.hbm, 110, rfl⟩
abbrev main_call0_v81 : Ref sig .tc := ⟨.hbm, 111, rfl⟩
abbrev main_call0_v82 : Ref sig .tc := ⟨.hbm, 112, rfl⟩
abbrev main_call0_cst_22 : Ref sig .tc := ⟨.hbm, 113, rfl⟩
abbrev main_call0_v83 : Ref sig .tc := ⟨.hbm, 114, rfl⟩
abbrev main_call0_v84 : Ref sig .tc := ⟨.hbm, 115, rfl⟩
abbrev main_call0_cst_23 : Ref sig .tc := ⟨.hbm, 116, rfl⟩
abbrev main_call0_v85 : Ref sig .tc := ⟨.hbm, 117, rfl⟩
abbrev main_call0_v86 : Ref sig .tc := ⟨.hbm, 118, rfl⟩
abbrev main_call0_cst_24 : Ref sig .tc := ⟨.hbm, 119, rfl⟩
abbrev main_call0_v87 : Ref sig .tc := ⟨.hbm, 120, rfl⟩
abbrev main_call0_v88 : Ref sig .tc := ⟨.hbm, 121, rfl⟩
abbrev main_call0_v89 : Ref sig .tc := ⟨.hbm, 122, rfl⟩
abbrev main_call0_v90 : Ref sig .tc := ⟨.hbm, 123, rfl⟩
abbrev main_call0_cst_25 : Ref sig .tc := ⟨.hbm, 124, rfl⟩
abbrev main_call0_v91 : Ref sig .tc := ⟨.hbm, 125, rfl⟩
abbrev main_call0_v92 : Ref sig .tc := ⟨.hbm, 126, rfl⟩
abbrev main_call0_cst_26 : Ref sig .tc := ⟨.hbm, 127, rfl⟩
abbrev main_call0_call2_v0 : Ref sig .tc := ⟨.hbm, 128, rfl⟩
abbrev main_call0_call2_v1 : Ref sig .tc := ⟨.hbm, 129, rfl⟩
abbrev main_call0_v93 : Ref sig .tc := ⟨.hbm, 130, rfl⟩
abbrev main_call0_cst_27 : Ref sig .tc := ⟨.hbm, 131, rfl⟩
abbrev main_call0_v94 : Ref sig .tc := ⟨.hbm, 132, rfl⟩
abbrev main_call0_v95 : Ref sig .tc := ⟨.hbm, 133, rfl⟩
abbrev main_call0_cst_28 : Ref sig .tc := ⟨.hbm, 134, rfl⟩
abbrev main_call0_v96 : Ref sig .tc := ⟨.hbm, 135, rfl⟩
abbrev main_call0_v97 : Ref sig .tc := ⟨.hbm, 136, rfl⟩
abbrev main_call0_v98 : Ref sig .tc := ⟨.hbm, 137, rfl⟩
abbrev main_call0_cst_29 : Ref sig .tc := ⟨.hbm, 138, rfl⟩
abbrev main_call0_v99 : Ref sig .tc := ⟨.hbm, 139, rfl⟩
abbrev main_call0_v100 : Ref sig .tc := ⟨.hbm, 140, rfl⟩
abbrev main_call0_cst_30 : Ref sig .tc := ⟨.hbm, 141, rfl⟩
abbrev main_call0_v101 : Ref sig .tc := ⟨.hbm, 142, rfl⟩
abbrev main_call0_v102 : Ref sig .tc := ⟨.hbm, 143, rfl⟩
abbrev main_call0_v103 : Ref sig .tc := ⟨.hbm, 144, rfl⟩
abbrev main_call0_cst_31 : Ref sig .tc := ⟨.hbm, 145, rfl⟩
abbrev main_call0_v104 : Ref sig .tc := ⟨.hbm, 146, rfl⟩
abbrev main_call0_v105 : Ref sig .tc := ⟨.hbm, 147, rfl⟩
abbrev main_call0_v106 : Ref sig .tc := ⟨.hbm, 148, rfl⟩
abbrev main_call0_cst_32 : Ref sig .tc := ⟨.hbm, 149, rfl⟩
abbrev main_call0_v107 : Ref sig .tc := ⟨.hbm, 150, rfl⟩
abbrev main_call0_v108 : Ref sig .tc := ⟨.hbm, 151, rfl⟩
abbrev main_call0_v109 : Ref sig .tc := ⟨.hbm, 152, rfl⟩
abbrev main_call0_cst_33 : Ref sig .tc := ⟨.hbm, 153, rfl⟩
abbrev main_call0_v110 : Ref sig .tc := ⟨.hbm, 154, rfl⟩
abbrev main_call0_v111 : Ref sig .tc := ⟨.hbm, 155, rfl⟩
abbrev main_call0_v112 : Ref sig .tc := ⟨.hbm, 156, rfl⟩
abbrev main_call0_v113 : Ref sig .tc := ⟨.hbm, 157, rfl⟩
abbrev main_call0_v114 : Ref sig .tc := ⟨.hbm, 158, rfl⟩
abbrev main_call0_v115 : Ref sig .tc := ⟨.hbm, 159, rfl⟩
abbrev main_call0_v116 : Ref sig .tc := ⟨.hbm, 160, rfl⟩
abbrev main_call0_v117 : Ref sig .tc := ⟨.hbm, 161, rfl⟩
abbrev main_call0_v118 : Ref sig .tc := ⟨.hbm, 162, rfl⟩
abbrev main_call0_v119 : Ref sig .tc := ⟨.hbm, 163, rfl⟩
abbrev main_call0_v120 : Ref sig .tc := ⟨.hbm, 164, rfl⟩
abbrev main_call0_v121 : Ref sig .tc := ⟨.hbm, 165, rfl⟩
abbrev main_call0_cst_34 : Ref sig .tc := ⟨.hbm, 166, rfl⟩
abbrev main_call0_v122 : Ref sig .tc := ⟨.hbm, 167, rfl⟩
abbrev main_call0_v123 : Ref sig .tc := ⟨.hbm, 168, rfl⟩
abbrev main_call0_cst_35 : Ref sig .tc := ⟨.hbm, 169, rfl⟩
abbrev main_call0_v124 : Ref sig .tc := ⟨.hbm, 170, rfl⟩
abbrev main_call0_v125 : Ref sig .tc := ⟨.hbm, 171, rfl⟩
abbrev main_call0_cst_36 : Ref sig .tc := ⟨.hbm, 172, rfl⟩
abbrev main_call0_v126 : Ref sig .tc := ⟨.hbm, 173, rfl⟩
abbrev main_call0_v127 : Ref sig .tc := ⟨.hbm, 174, rfl⟩
abbrev main_call0_v128 : Ref sig .tc := ⟨.hbm, 175, rfl⟩
abbrev main_call0_v129 : Ref sig .tc := ⟨.hbm, 176, rfl⟩
abbrev main_call0_v130 : Ref sig .tc := ⟨.hbm, 177, rfl⟩
abbrev main_call0_v131 : Ref sig .tc := ⟨.hbm, 178, rfl⟩
abbrev main_call0_v132 : Ref sig .tc := ⟨.hbm, 179, rfl⟩
abbrev main_call0_v133 : Ref sig .tc := ⟨.hbm, 180, rfl⟩
abbrev main_call0_v134 : Ref sig .tc := ⟨.hbm, 181, rfl⟩
abbrev main_call0_cst_37 : Ref sig .tc := ⟨.hbm, 182, rfl⟩
abbrev main_call0_v135 : Ref sig .tc := ⟨.hbm, 183, rfl⟩
abbrev main_call0_v136 : Ref sig .tc := ⟨.hbm, 184, rfl⟩
abbrev main_call0_cst_38 : Ref sig .tc := ⟨.hbm, 185, rfl⟩
abbrev main_call0_v137 : Ref sig .tc := ⟨.hbm, 186, rfl⟩
abbrev main_call0_v138 : Ref sig .tc := ⟨.hbm, 187, rfl⟩
abbrev main_call0_cst_39 : Ref sig .tc := ⟨.hbm, 188, rfl⟩
abbrev main_call0_v139 : Ref sig .tc := ⟨.hbm, 189, rfl⟩
abbrev main_call0_v140 : Ref sig .tc := ⟨.hbm, 190, rfl⟩
abbrev main_call0_v141 : Ref sig .tc := ⟨.hbm, 191, rfl⟩
abbrev main_call0_v142 : Ref sig .tc := ⟨.hbm, 192, rfl⟩
abbrev main_call0_cst_40 : Ref sig .tc := ⟨.hbm, 193, rfl⟩
abbrev main_call0_v143 : Ref sig .tc := ⟨.hbm, 194, rfl⟩
abbrev main_call0_v144 : Ref sig .tc := ⟨.hbm, 195, rfl⟩
abbrev main_call0_cst_41 : Ref sig .tc := ⟨.hbm, 196, rfl⟩
abbrev main_call0_call4_v0 : Ref sig .tc := ⟨.hbm, 197, rfl⟩
abbrev main_call0_call4_v1 : Ref sig .tc := ⟨.hbm, 198, rfl⟩
abbrev main_call0_v145 : Ref sig .tc := ⟨.hbm, 199, rfl⟩
abbrev main_call0_cst_42 : Ref sig .tc := ⟨.hbm, 200, rfl⟩
abbrev main_call0_v146 : Ref sig .tc := ⟨.hbm, 201, rfl⟩
abbrev main_call0_v147 : Ref sig .tc := ⟨.hbm, 202, rfl⟩
abbrev main_call0_cst_43 : Ref sig .tc := ⟨.hbm, 203, rfl⟩
abbrev main_call0_v148 : Ref sig .tc := ⟨.hbm, 204, rfl⟩
abbrev main_call0_v149 : Ref sig .tc := ⟨.hbm, 205, rfl⟩
abbrev main_call0_v150 : Ref sig .tc := ⟨.hbm, 206, rfl⟩
abbrev main_call0_cst_44 : Ref sig .tc := ⟨.hbm, 207, rfl⟩
abbrev main_call0_v151 : Ref sig .tc := ⟨.hbm, 208, rfl⟩
abbrev main_call0_v152 : Ref sig .tc := ⟨.hbm, 209, rfl⟩
abbrev main_call0_cst_45 : Ref sig .tc := ⟨.hbm, 210, rfl⟩
abbrev main_call0_v153 : Ref sig .tc := ⟨.hbm, 211, rfl⟩
abbrev main_call0_v154 : Ref sig .tc := ⟨.hbm, 212, rfl⟩
abbrev main_call0_v155 : Ref sig .tc := ⟨.hbm, 213, rfl⟩
abbrev main_call0_cst_46 : Ref sig .tc := ⟨.hbm, 214, rfl⟩
abbrev main_call0_v156 : Ref sig .tc := ⟨.hbm, 215, rfl⟩
abbrev main_call0_v157 : Ref sig .tc := ⟨.hbm, 216, rfl⟩
abbrev main_call0_v158 : Ref sig .tc := ⟨.hbm, 217, rfl⟩
abbrev main_call0_cst_47 : Ref sig .tc := ⟨.hbm, 218, rfl⟩
abbrev main_call0_v159 : Ref sig .tc := ⟨.hbm, 219, rfl⟩
abbrev main_call0_v160 : Ref sig .tc := ⟨.hbm, 220, rfl⟩
abbrev main_call0_v161 : Ref sig .tc := ⟨.hbm, 221, rfl⟩
abbrev main_call0_cst_48 : Ref sig .tc := ⟨.hbm, 222, rfl⟩
abbrev main_call0_v162 : Ref sig .tc := ⟨.hbm, 223, rfl⟩
abbrev main_call0_v163 : Ref sig .tc := ⟨.hbm, 224, rfl⟩
abbrev main_call0_v164 : Ref sig .tc := ⟨.hbm, 225, rfl⟩
abbrev main_call0_v165 : Ref sig .tc := ⟨.hbm, 226, rfl⟩
abbrev main_call0_v166 : Ref sig .tc := ⟨.hbm, 227, rfl⟩
abbrev main_call0_v167 : Ref sig .tc := ⟨.hbm, 228, rfl⟩
abbrev main_call0_v168 : Ref sig .tc := ⟨.hbm, 229, rfl⟩
abbrev main_call0_v169 : Ref sig .tc := ⟨.hbm, 230, rfl⟩
abbrev main_call0_v170 : Ref sig .tc := ⟨.hbm, 231, rfl⟩
abbrev main_call0_v171 : Ref sig .tc := ⟨.hbm, 232, rfl⟩
abbrev main_call0_v172 : Ref sig .tc := ⟨.hbm, 233, rfl⟩
abbrev main_call0_v173 : Ref sig .tc := ⟨.hbm, 234, rfl⟩
abbrev main_call0_cst_49 : Ref sig .tc := ⟨.hbm, 235, rfl⟩
abbrev main_call0_v174 : Ref sig .tc := ⟨.hbm, 236, rfl⟩
abbrev main_call0_v175 : Ref sig .tc := ⟨.hbm, 237, rfl⟩
abbrev main_call0_cst_50 : Ref sig .tc := ⟨.hbm, 238, rfl⟩
abbrev main_call0_v176 : Ref sig .tc := ⟨.hbm, 239, rfl⟩
abbrev main_call0_v177 : Ref sig .tc := ⟨.hbm, 240, rfl⟩
abbrev main_call0_cst_51 : Ref sig .tc := ⟨.hbm, 241, rfl⟩
abbrev main_call0_v178 : Ref sig .tc := ⟨.hbm, 242, rfl⟩
abbrev main_call0_v179 : Ref sig .tc := ⟨.hbm, 243, rfl⟩
abbrev main_call0_v180 : Ref sig .tc := ⟨.hbm, 244, rfl⟩
abbrev main_call0_v181 : Ref sig .tc := ⟨.hbm, 245, rfl⟩
abbrev main_call0_v182 : Ref sig .tc := ⟨.hbm, 246, rfl⟩
abbrev main_call0_v183 : Ref sig .tc := ⟨.hbm, 247, rfl⟩
abbrev main_call0_v184 : Ref sig .tc := ⟨.hbm, 248, rfl⟩
abbrev main_call0_v185 : Ref sig .tc := ⟨.hbm, 249, rfl⟩
abbrev main_call0_v186 : Ref sig .tc := ⟨.hbm, 250, rfl⟩
abbrev main_call0_cst_52 : Ref sig .tc := ⟨.hbm, 251, rfl⟩
abbrev main_call0_v187 : Ref sig .tc := ⟨.hbm, 252, rfl⟩
abbrev main_call0_v188 : Ref sig .tc := ⟨.hbm, 253, rfl⟩
abbrev main_call0_cst_53 : Ref sig .tc := ⟨.hbm, 254, rfl⟩
abbrev main_call0_v189 : Ref sig .tc := ⟨.hbm, 255, rfl⟩
abbrev main_call0_v190 : Ref sig .tc := ⟨.hbm, 256, rfl⟩
abbrev main_call0_cst_54 : Ref sig .tc := ⟨.hbm, 257, rfl⟩
abbrev main_call0_v191 : Ref sig .tc := ⟨.hbm, 258, rfl⟩
abbrev main_call0_v192 : Ref sig .tc := ⟨.hbm, 259, rfl⟩
abbrev main_call0_v193 : Ref sig .tc := ⟨.hbm, 260, rfl⟩
abbrev main_call0_v194 : Ref sig .tc := ⟨.hbm, 261, rfl⟩
abbrev main_call0_cst_55 : Ref sig .tc := ⟨.hbm, 262, rfl⟩
abbrev main_call0_v195 : Ref sig .tc := ⟨.hbm, 263, rfl⟩
abbrev main_call0_v196 : Ref sig .tc := ⟨.hbm, 264, rfl⟩
abbrev main_call0_cst_56 : Ref sig .tc := ⟨.hbm, 265, rfl⟩
abbrev main_call0_call6_v0 : Ref sig .tc := ⟨.hbm, 266, rfl⟩
abbrev main_call0_call6_v1 : Ref sig .tc := ⟨.hbm, 267, rfl⟩
abbrev main_call0_v197 : Ref sig .tc := ⟨.hbm, 268, rfl⟩
abbrev main_call0_cst_57 : Ref sig .tc := ⟨.hbm, 269, rfl⟩
abbrev main_call0_v198 : Ref sig .tc := ⟨.hbm, 270, rfl⟩
abbrev main_call0_v199 : Ref sig .tc := ⟨.hbm, 271, rfl⟩
abbrev main_call0_cst_58 : Ref sig .tc := ⟨.hbm, 272, rfl⟩
abbrev main_call0_v200 : Ref sig .tc := ⟨.hbm, 273, rfl⟩
abbrev main_call0_v201 : Ref sig .tc := ⟨.hbm, 274, rfl⟩
abbrev main_call0_v202 : Ref sig .tc := ⟨.hbm, 275, rfl⟩
abbrev main_call0_cst_59 : Ref sig .tc := ⟨.hbm, 276, rfl⟩
abbrev main_call0_v203 : Ref sig .tc := ⟨.hbm, 277, rfl⟩
abbrev main_call0_v204 : Ref sig .tc := ⟨.hbm, 278, rfl⟩
abbrev main_call0_cst_60 : Ref sig .tc := ⟨.hbm, 279, rfl⟩
abbrev main_call0_v205 : Ref sig .tc := ⟨.hbm, 280, rfl⟩
abbrev main_call0_v206 : Ref sig .tc := ⟨.hbm, 281, rfl⟩
abbrev main_call0_v207 : Ref sig .tc := ⟨.hbm, 282, rfl⟩
abbrev main_call0_cst_61 : Ref sig .tc := ⟨.hbm, 283, rfl⟩
abbrev main_call0_v208 : Ref sig .tc := ⟨.hbm, 284, rfl⟩
abbrev main_call0_v209 : Ref sig .tc := ⟨.hbm, 285, rfl⟩
abbrev main_call0_v210 : Ref sig .tc := ⟨.hbm, 286, rfl⟩
abbrev main_call0_cst_62 : Ref sig .tc := ⟨.hbm, 287, rfl⟩
abbrev main_call0_v211 : Ref sig .tc := ⟨.hbm, 288, rfl⟩
abbrev main_call0_v212 : Ref sig .tc := ⟨.hbm, 289, rfl⟩
abbrev main_call0_v213 : Ref sig .tc := ⟨.hbm, 290, rfl⟩
abbrev main_call0_cst_63 : Ref sig .tc := ⟨.hbm, 291, rfl⟩
abbrev main_call0_v214 : Ref sig .tc := ⟨.hbm, 292, rfl⟩
abbrev main_call0_v215 : Ref sig .tc := ⟨.hbm, 293, rfl⟩
abbrev main_call0_v216 : Ref sig .tc := ⟨.hbm, 294, rfl⟩
abbrev main_call0_v217 : Ref sig .tc := ⟨.hbm, 295, rfl⟩
abbrev main_call0_v218 : Ref sig .tc := ⟨.hbm, 296, rfl⟩
abbrev main_call0_v219 : Ref sig .tc := ⟨.hbm, 297, rfl⟩
abbrev main_call0_v220 : Ref sig .tc := ⟨.hbm, 298, rfl⟩
abbrev main_call0_v221 : Ref sig .tc := ⟨.hbm, 299, rfl⟩
abbrev main_call0_v222 : Ref sig .tc := ⟨.hbm, 300, rfl⟩
abbrev main_call0_v223 : Ref sig .tc := ⟨.hbm, 301, rfl⟩
abbrev main_call0_v224 : Ref sig .tc := ⟨.hbm, 302, rfl⟩
abbrev main_call0_v225 : Ref sig .tc := ⟨.hbm, 303, rfl⟩
abbrev main_call0_cst_64 : Ref sig .tc := ⟨.hbm, 304, rfl⟩
abbrev main_call0_v226 : Ref sig .tc := ⟨.hbm, 305, rfl⟩
abbrev main_call0_v227 : Ref sig .tc := ⟨.hbm, 306, rfl⟩
abbrev main_call0_cst_65 : Ref sig .tc := ⟨.hbm, 307, rfl⟩
abbrev main_call0_v228 : Ref sig .tc := ⟨.hbm, 308, rfl⟩
abbrev main_call0_v229 : Ref sig .tc := ⟨.hbm, 309, rfl⟩
abbrev main_call0_cst_66 : Ref sig .tc := ⟨.hbm, 310, rfl⟩
abbrev main_call0_v230 : Ref sig .tc := ⟨.hbm, 311, rfl⟩
abbrev main_call0_v231 : Ref sig .tc := ⟨.hbm, 312, rfl⟩
abbrev main_call0_v232 : Ref sig .tc := ⟨.hbm, 313, rfl⟩
abbrev main_call0_v233 : Ref sig .tc := ⟨.hbm, 314, rfl⟩
abbrev main_call0_v234 : Ref sig .tc := ⟨.hbm, 315, rfl⟩
abbrev main_call0_v235 : Ref sig .tc := ⟨.hbm, 316, rfl⟩
abbrev main_call0_v236 : Ref sig .tc := ⟨.hbm, 317, rfl⟩
abbrev main_call0_v237 : Ref sig .tc := ⟨.hbm, 318, rfl⟩
abbrev main_call0_v238 : Ref sig .tc := ⟨.hbm, 319, rfl⟩
abbrev main_call0_cst_67 : Ref sig .tc := ⟨.hbm, 320, rfl⟩
abbrev main_call0_v239 : Ref sig .tc := ⟨.hbm, 321, rfl⟩
abbrev main_call0_v240 : Ref sig .tc := ⟨.hbm, 322, rfl⟩
abbrev main_call0_cst_68 : Ref sig .tc := ⟨.hbm, 323, rfl⟩
abbrev main_call0_v241 : Ref sig .tc := ⟨.hbm, 324, rfl⟩
abbrev main_call0_v242 : Ref sig .tc := ⟨.hbm, 325, rfl⟩
abbrev main_call0_cst_69 : Ref sig .tc := ⟨.hbm, 326, rfl⟩
abbrev main_call0_v243 : Ref sig .tc := ⟨.hbm, 327, rfl⟩
abbrev main_call0_v244 : Ref sig .tc := ⟨.hbm, 328, rfl⟩
abbrev main_call0_v245 : Ref sig .tc := ⟨.hbm, 329, rfl⟩
abbrev main_call0_v246 : Ref sig .tc := ⟨.hbm, 330, rfl⟩
abbrev main_call0_cst_70 : Ref sig .tc := ⟨.hbm, 331, rfl⟩
abbrev main_call0_v247 : Ref sig .tc := ⟨.hbm, 332, rfl⟩
abbrev main_call0_v248 : Ref sig .tc := ⟨.hbm, 333, rfl⟩
abbrev main_call0_cst_71 : Ref sig .tc := ⟨.hbm, 334, rfl⟩
abbrev main_call0_call8_v0 : Ref sig .tc := ⟨.hbm, 335, rfl⟩
abbrev main_call0_call8_v1 : Ref sig .tc := ⟨.hbm, 336, rfl⟩
abbrev main_call0_v249 : Ref sig .tc := ⟨.hbm, 337, rfl⟩
abbrev main_call0_cst_72 : Ref sig .tc := ⟨.hbm, 338, rfl⟩
abbrev main_call0_v250 : Ref sig .tc := ⟨.hbm, 339, rfl⟩
abbrev main_call0_v251 : Ref sig .tc := ⟨.hbm, 340, rfl⟩
abbrev main_call0_cst_73 : Ref sig .tc := ⟨.hbm, 341, rfl⟩
abbrev main_call0_v252 : Ref sig .tc := ⟨.hbm, 342, rfl⟩
abbrev main_call0_v253 : Ref sig .tc := ⟨.hbm, 343, rfl⟩
abbrev main_call0_v254 : Ref sig .tc := ⟨.hbm, 344, rfl⟩
abbrev main_call0_cst_74 : Ref sig .tc := ⟨.hbm, 345, rfl⟩
abbrev main_call0_v255 : Ref sig .tc := ⟨.hbm, 346, rfl⟩
abbrev main_call0_v256 : Ref sig .tc := ⟨.hbm, 347, rfl⟩
abbrev main_call0_cst_75 : Ref sig .tc := ⟨.hbm, 348, rfl⟩
abbrev main_call0_v257 : Ref sig .tc := ⟨.hbm, 349, rfl⟩
abbrev main_call0_v258 : Ref sig .tc := ⟨.hbm, 350, rfl⟩
abbrev main_call0_v259 : Ref sig .tc := ⟨.hbm, 351, rfl⟩
abbrev main_call0_cst_76 : Ref sig .tc := ⟨.hbm, 352, rfl⟩
abbrev main_call0_v260 : Ref sig .tc := ⟨.hbm, 353, rfl⟩
abbrev main_call0_v261 : Ref sig .tc := ⟨.hbm, 354, rfl⟩
abbrev main_call0_v262 : Ref sig .tc := ⟨.hbm, 355, rfl⟩
abbrev main_call0_cst_77 : Ref sig .tc := ⟨.hbm, 356, rfl⟩
abbrev main_call0_v263 : Ref sig .tc := ⟨.hbm, 357, rfl⟩
abbrev main_call0_v264 : Ref sig .tc := ⟨.hbm, 358, rfl⟩
abbrev main_call0_v265 : Ref sig .tc := ⟨.hbm, 359, rfl⟩
abbrev main_call0_cst_78 : Ref sig .tc := ⟨.hbm, 360, rfl⟩
abbrev main_call0_v266 : Ref sig .tc := ⟨.hbm, 361, rfl⟩
abbrev main_call0_v267 : Ref sig .tc := ⟨.hbm, 362, rfl⟩
abbrev main_call0_v268 : Ref sig .tc := ⟨.hbm, 363, rfl⟩
abbrev main_call0_v269 : Ref sig .tc := ⟨.hbm, 364, rfl⟩
abbrev main_call0_v270 : Ref sig .tc := ⟨.hbm, 365, rfl⟩
abbrev main_call0_v271 : Ref sig .tc := ⟨.hbm, 366, rfl⟩
abbrev main_call0_v272 : Ref sig .tc := ⟨.hbm, 367, rfl⟩
abbrev main_call0_v273 : Ref sig .tc := ⟨.hbm, 368, rfl⟩
abbrev main_call0_v274 : Ref sig .tc := ⟨.hbm, 369, rfl⟩
abbrev main_call0_v275 : Ref sig .tc := ⟨.hbm, 370, rfl⟩
abbrev main_call0_v276 : Ref sig .tc := ⟨.hbm, 371, rfl⟩
abbrev main_call0_v277 : Ref sig .tc := ⟨.hbm, 372, rfl⟩
abbrev main_call0_v278 : Ref sig .tc := ⟨.hbm, 373, rfl⟩
abbrev main_call0_c_79 : Ref sig .tc := ⟨.hbm, 374, rfl⟩
abbrev main_call0_v279 : Ref sig .tc := ⟨.hbm, 375, rfl⟩
abbrev main_call0_v280 : Ref sig .tc := ⟨.hbm, 376, rfl⟩
abbrev main_call0_v281 : Ref sig .tc := ⟨.hbm, 377, rfl⟩
abbrev main_call0_c_80 : Ref sig .tc := ⟨.hbm, 378, rfl⟩
abbrev main_call0_v282 : Ref sig .tc := ⟨.hbm, 379, rfl⟩
abbrev main_call0_v283 : Ref sig .tc := ⟨.hbm, 380, rfl⟩
abbrev main_call0_c_81 : Ref sig .tc := ⟨.hbm, 381, rfl⟩
abbrev main_call0_v284 : Ref sig .tc := ⟨.hbm, 382, rfl⟩
abbrev main_call0_v285 : Ref sig .tc := ⟨.hbm, 383, rfl⟩
abbrev main_call0_v286 : Ref sig .tc := ⟨.hbm, 384, rfl⟩
abbrev main_call0_v287 : Ref sig .tc := ⟨.hbm, 385, rfl⟩
abbrev main_call0_cst_82 : Ref sig .tc := ⟨.hbm, 386, rfl⟩
abbrev main_call0_cst_83 : Ref sig .tc := ⟨.hbm, 387, rfl⟩
abbrev main_call0_call10_v0 : Ref sig .tc := ⟨.hbm, 388, rfl⟩
abbrev main_call0_call10_v1 : Ref sig .tc := ⟨.hbm, 389, rfl⟩
abbrev main_call0_v288 : Ref sig .tc := ⟨.hbm, 390, rfl⟩
abbrev main_call0_v289 : Ref sig .tc := ⟨.hbm, 391, rfl⟩
abbrev main_call0_v290 : Ref sig .tc := ⟨.hbm, 392, rfl⟩
abbrev main_call0_v291 : Ref sig .tc := ⟨.hbm, 393, rfl⟩
abbrev main_call0_v292 : Ref sig .tc := ⟨.hbm, 394, rfl⟩
abbrev main_call0_v293 : Ref sig .tc := ⟨.hbm, 395, rfl⟩
abbrev main_call0_v294 : Ref sig .tc := ⟨.hbm, 396, rfl⟩
abbrev main_call0_v295 : Ref sig .tc := ⟨.hbm, 397, rfl⟩
abbrev main_call0_v296 : Ref sig .tc := ⟨.hbm, 398, rfl⟩
abbrev main_call0_v297 : Ref sig .tc := ⟨.hbm, 399, rfl⟩
abbrev main_call0_c_84 : Ref sig .tc := ⟨.hbm, 400, rfl⟩
abbrev main_call0_v298 : Ref sig .tc := ⟨.hbm, 401, rfl⟩
abbrev main_call0_v299 : Ref sig .tc := ⟨.hbm, 402, rfl⟩
abbrev main_call0_v300 : Ref sig .tc := ⟨.hbm, 403, rfl⟩
abbrev main_call0_c_85 : Ref sig .tc := ⟨.hbm, 404, rfl⟩
abbrev main_call0_v301 : Ref sig .tc := ⟨.hbm, 405, rfl⟩
abbrev main_call0_v302 : Ref sig .tc := ⟨.hbm, 406, rfl⟩
abbrev main_call0_c_86 : Ref sig .tc := ⟨.hbm, 407, rfl⟩
abbrev main_call0_v303 : Ref sig .tc := ⟨.hbm, 408, rfl⟩
abbrev main_call0_v304 : Ref sig .tc := ⟨.hbm, 409, rfl⟩
abbrev main_call0_v305 : Ref sig .tc := ⟨.hbm, 410, rfl⟩
abbrev main_call0_v306 : Ref sig .tc := ⟨.hbm, 411, rfl⟩
abbrev main_call0_cst_87 : Ref sig .tc := ⟨.hbm, 412, rfl⟩
abbrev main_call0_cst_88 : Ref sig .tc := ⟨.hbm, 413, rfl⟩
abbrev main_call0_call11_v0 : Ref sig .tc := ⟨.hbm, 414, rfl⟩
abbrev main_call0_call11_v1 : Ref sig .tc := ⟨.hbm, 415, rfl⟩
abbrev main_call0_v307 : Ref sig .tc := ⟨.hbm, 416, rfl⟩
abbrev main_call0_v308 : Ref sig .tc := ⟨.hbm, 417, rfl⟩
abbrev main_call0_v309 : Ref sig .tc := ⟨.hbm, 418, rfl⟩
abbrev main_call0_v310 : Ref sig .tc := ⟨.hbm, 419, rfl⟩
abbrev main_call0_v311 : Ref sig .tc := ⟨.hbm, 420, rfl⟩
abbrev main_call0_v312 : Ref sig .tc := ⟨.hbm, 421, rfl⟩
abbrev main_call0_v313 : Ref sig .tc := ⟨.hbm, 422, rfl⟩
abbrev main_call0_v314 : Ref sig .tc := ⟨.hbm, 423, rfl⟩
abbrev main_call0_v315 : Ref sig .tc := ⟨.hbm, 424, rfl⟩
abbrev main_call0_v316 : Ref sig .tc := ⟨.hbm, 425, rfl⟩
abbrev main_call0_c_89 : Ref sig .tc := ⟨.hbm, 426, rfl⟩
abbrev main_call0_v317 : Ref sig .tc := ⟨.hbm, 427, rfl⟩
abbrev main_call0_v318 : Ref sig .tc := ⟨.hbm, 428, rfl⟩
abbrev main_call0_v319 : Ref sig .tc := ⟨.hbm, 429, rfl⟩
abbrev main_call0_c_90 : Ref sig .tc := ⟨.hbm, 430, rfl⟩
abbrev main_call0_v320 : Ref sig .tc := ⟨.hbm, 431, rfl⟩
abbrev main_call0_v321 : Ref sig .tc := ⟨.hbm, 432, rfl⟩
abbrev main_call0_c_91 : Ref sig .tc := ⟨.hbm, 433, rfl⟩
abbrev main_call0_v322 : Ref sig .tc := ⟨.hbm, 434, rfl⟩
abbrev main_call0_v323 : Ref sig .tc := ⟨.hbm, 435, rfl⟩
abbrev main_call0_v324 : Ref sig .tc := ⟨.hbm, 436, rfl⟩
abbrev main_call0_v325 : Ref sig .tc := ⟨.hbm, 437, rfl⟩
abbrev main_call0_cst_92 : Ref sig .tc := ⟨.hbm, 438, rfl⟩
abbrev main_call0_cst_93 : Ref sig .tc := ⟨.hbm, 439, rfl⟩
abbrev main_call0_call12_v0 : Ref sig .tc := ⟨.hbm, 440, rfl⟩
abbrev main_call0_call12_v1 : Ref sig .tc := ⟨.hbm, 441, rfl⟩
abbrev main_call0_v326 : Ref sig .tc := ⟨.hbm, 442, rfl⟩
abbrev main_call0_v327 : Ref sig .tc := ⟨.hbm, 443, rfl⟩
abbrev main_call0_v328 : Ref sig .tc := ⟨.hbm, 444, rfl⟩
abbrev main_call0_v329 : Ref sig .tc := ⟨.hbm, 445, rfl⟩
abbrev main_call0_v330 : Ref sig .tc := ⟨.hbm, 446, rfl⟩
abbrev main_call0_v331 : Ref sig .tc := ⟨.hbm, 447, rfl⟩
abbrev main_call0_v332 : Ref sig .tc := ⟨.hbm, 448, rfl⟩
abbrev main_call0_v333 : Ref sig .tc := ⟨.hbm, 449, rfl⟩
abbrev main_call0_v334 : Ref sig .tc := ⟨.hbm, 450, rfl⟩
abbrev main_call0_v335 : Ref sig .tc := ⟨.hbm, 451, rfl⟩
abbrev main_call0_c_94 : Ref sig .tc := ⟨.hbm, 452, rfl⟩
abbrev main_call0_v336 : Ref sig .tc := ⟨.hbm, 453, rfl⟩
abbrev main_call0_v337 : Ref sig .tc := ⟨.hbm, 454, rfl⟩
abbrev main_call0_v338 : Ref sig .tc := ⟨.hbm, 455, rfl⟩
abbrev main_call0_c_95 : Ref sig .tc := ⟨.hbm, 456, rfl⟩
abbrev main_call0_v339 : Ref sig .tc := ⟨.hbm, 457, rfl⟩
abbrev main_call0_v340 : Ref sig .tc := ⟨.hbm, 458, rfl⟩
abbrev main_call0_c_96 : Ref sig .tc := ⟨.hbm, 459, rfl⟩
abbrev main_call0_v341 : Ref sig .tc := ⟨.hbm, 460, rfl⟩
abbrev main_call0_v342 : Ref sig .tc := ⟨.hbm, 461, rfl⟩
abbrev main_call0_v343 : Ref sig .tc := ⟨.hbm, 462, rfl⟩
abbrev main_call0_v344 : Ref sig .tc := ⟨.hbm, 463, rfl⟩
abbrev main_call0_cst_97 : Ref sig .tc := ⟨.hbm, 464, rfl⟩
abbrev main_call0_cst_98 : Ref sig .tc := ⟨.hbm, 465, rfl⟩
abbrev main_call0_call13_v0 : Ref sig .tc := ⟨.hbm, 466, rfl⟩
abbrev main_call0_call13_v1 : Ref sig .tc := ⟨.hbm, 467, rfl⟩
abbrev main_call0_v345 : Ref sig .tc := ⟨.hbm, 468, rfl⟩
abbrev main_call0_v346 : Ref sig .tc := ⟨.hbm, 469, rfl⟩
abbrev main_call0_v347 : Ref sig .tc := ⟨.hbm, 470, rfl⟩
abbrev main_call0_v348 : Ref sig .tc := ⟨.hbm, 471, rfl⟩
abbrev main_call0_v349 : Ref sig .tc := ⟨.hbm, 472, rfl⟩
abbrev main_call0_v350 : Ref sig .tc := ⟨.hbm, 473, rfl⟩
abbrev main_call0_v351 : Ref sig .tc := ⟨.hbm, 474, rfl⟩
abbrev main_call0_v352 : Ref sig .tc := ⟨.hbm, 475, rfl⟩
abbrev main_call0_v353 : Ref sig .tc := ⟨.hbm, 476, rfl⟩
abbrev main_call0_v354 : Ref sig .tc := ⟨.hbm, 477, rfl⟩
abbrev main_call0_c_99 : Ref sig .tc := ⟨.hbm, 478, rfl⟩
abbrev main_call0_v355 : Ref sig .tc := ⟨.hbm, 479, rfl⟩
abbrev main_call0_v356 : Ref sig .tc := ⟨.hbm, 480, rfl⟩
abbrev main_call0_v357 : Ref sig .tc := ⟨.hbm, 481, rfl⟩
abbrev main_call0_c_100 : Ref sig .tc := ⟨.hbm, 482, rfl⟩
abbrev main_call0_v358 : Ref sig .tc := ⟨.hbm, 483, rfl⟩
abbrev main_call0_v359 : Ref sig .tc := ⟨.hbm, 484, rfl⟩
abbrev main_call0_c_101 : Ref sig .tc := ⟨.hbm, 485, rfl⟩
abbrev main_call0_v360 : Ref sig .tc := ⟨.hbm, 486, rfl⟩
abbrev main_call0_v361 : Ref sig .tc := ⟨.hbm, 487, rfl⟩
abbrev main_call0_v362 : Ref sig .tc := ⟨.hbm, 488, rfl⟩
abbrev main_call0_v363 : Ref sig .tc := ⟨.hbm, 489, rfl⟩
abbrev main_call0_cst_102 : Ref sig .tc := ⟨.hbm, 490, rfl⟩
abbrev main_call0_cst_103 : Ref sig .tc := ⟨.hbm, 491, rfl⟩
abbrev main_call0_call14_v0 : Ref sig .tc := ⟨.hbm, 492, rfl⟩
abbrev main_call0_call14_v1 : Ref sig .tc := ⟨.hbm, 493, rfl⟩
abbrev main_call0_v364 : Ref sig .tc := ⟨.hbm, 494, rfl⟩
abbrev main_call0_v365 : Ref sig .tc := ⟨.hbm, 495, rfl⟩
abbrev main_call0_v366 : Ref sig .tc := ⟨.hbm, 496, rfl⟩
abbrev main_call0_v367 : Ref sig .tc := ⟨.hbm, 497, rfl⟩
abbrev main_call0_v368 : Ref sig .tc := ⟨.hbm, 498, rfl⟩
abbrev main_call0_v369 : Ref sig .tc := ⟨.hbm, 499, rfl⟩
abbrev main_call0_v370 : Ref sig .tc := ⟨.hbm, 500, rfl⟩
abbrev main_call0_v371 : Ref sig .tc := ⟨.hbm, 501, rfl⟩
abbrev main_call0_v372_0 : Ref sig .tc := ⟨.hbm, 502, rfl⟩
abbrev main_call0_v372_1 : Ref sig .tc := ⟨.hbm, 503, rfl⟩
abbrev main_call0_cst_104 : Ref sig .tc := ⟨.hbm, 504, rfl⟩
abbrev main_call0_v373 : Ref sig .tc := ⟨.hbm, 505, rfl⟩
abbrev main_call0_cst_105 : Ref sig .tc := ⟨.hbm, 506, rfl⟩
abbrev main_call0_v374 : Ref sig .tc := ⟨.hbm, 507, rfl⟩
abbrev main_call0_cst_106 : Ref sig .tc := ⟨.hbm, 508, rfl⟩
abbrev main_v0_1 : Ref sig .tc := ⟨.hbm, 509, rfl⟩
abbrev main_call0_v376 : Ref sig .tc := ⟨.hbm, 510, rfl⟩
abbrev main_v0_0 : Ref sig .tc := ⟨.hbm, 511, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1728x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1024x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16x32x32x32 : Shape := ⟨4, ![16, 32, 32, 32]⟩
abbrev S8192x32 : Shape := ⟨2, ![8192, 32]⟩
abbrev S4x32x32x3x3 : Shape := ⟨5, ![4, 32, 32, 3, 3]⟩
abbrev S4x32 : Shape := ⟨2, ![4, 32]⟩
abbrev S_ : Shape := ⟨0, ![]⟩
abbrev S16x32x1x32x1x32 : Shape := ⟨6, ![16, 32, 1, 32, 1, 32]⟩
abbrev S16x32x1x1 : Shape := ⟨4, ![16, 32, 1, 1]⟩
abbrev S16x1x1x32 : Shape := ⟨4, ![16, 1, 1, 32]⟩
abbrev S16x32 : Shape := ⟨2, ![16, 32]⟩
abbrev S16 : Shape := ⟨1, ![16]⟩
abbrev S16x1 : Shape := ⟨2, ![16, 1]⟩
abbrev S8192 : Shape := ⟨1, ![8192]⟩
abbrev S32x8192 : Shape := ⟨2, ![32, 8192]⟩
abbrev S16x8192 : Shape := ⟨2, ![16, 8192]⟩
abbrev S1x8192 : Shape := ⟨2, ![1, 8192]⟩
abbrev S16x1x1 : Shape := ⟨3, ![16, 1, 1]⟩
abbrev S16x1x1x1 : Shape := ⟨4, ![16, 1, 1, 1]⟩
abbrev S32 : Shape := ⟨1, ![32]⟩
abbrev S1x32 : Shape := ⟨2, ![1, 32]⟩
abbrev S1 : Shape := ⟨1, ![1]⟩
abbrev S1x1 : Shape := ⟨2, ![1, 1]⟩
abbrev S16x32x1x1x1 : Shape := ⟨5, ![16, 32, 1, 1, 1]⟩
abbrev S1x1x1x32x1 : Shape := ⟨5, ![1, 1, 1, 32, 1]⟩
abbrev S16x32x1x32x1 : Shape := ⟨5, ![16, 32, 1, 32, 1]⟩
abbrev S16x32x32x1 : Shape := ⟨4, ![16, 32, 32, 1]⟩
abbrev S16x32x32x1x1 : Shape := ⟨5, ![16, 32, 32, 1, 1]⟩
abbrev S1x1x1x1x32 : Shape := ⟨5, ![1, 1, 1, 1, 32]⟩
abbrev S16x32x32x1x32 : Shape := ⟨5, ![16, 32, 32, 1, 32]⟩
abbrev S1x32x32x3x3 : Shape := ⟨5, ![1, 32, 32, 3, 3]⟩
abbrev S32x32x3x3 : Shape := ⟨4, ![32, 32, 3, 3]⟩
abbrev S16x32x34x34 : Shape := ⟨4, ![16, 32, 34, 34]⟩
abbrev S32x32x1x1 : Shape := ⟨4, ![32, 32, 1, 1]⟩
abbrev S32x32 : Shape := ⟨2, ![32, 32]⟩
abbrev S1x32x1x1 : Shape := ⟨4, ![1, 32, 1, 1]⟩
abbrev S16x32x2x16x2x16 : Shape := ⟨6, ![16, 32, 2, 16, 2, 16]⟩
abbrev S16x32x2x2 : Shape := ⟨4, ![16, 32, 2, 2]⟩
abbrev S16x2x2x32 : Shape := ⟨4, ![16, 2, 2, 32]⟩
abbrev S64x32 : Shape := ⟨2, ![64, 32]⟩
abbrev S64 : Shape := ⟨1, ![64]⟩
abbrev S64x1 : Shape := ⟨2, ![64, 1]⟩
abbrev S64x8192 : Shape := ⟨2, ![64, 8192]⟩
abbrev S16x2x2 : Shape := ⟨3, ![16, 2, 2]⟩
abbrev S16x2x2x1 : Shape := ⟨4, ![16, 2, 2, 1]⟩
abbrev S2 : Shape := ⟨1, ![2]⟩
abbrev S2x1 : Shape := ⟨2, ![2, 1]⟩
abbrev S2x32 : Shape := ⟨2, ![2, 32]⟩
abbrev S16x32x2x1x2 : Shape := ⟨5, ![16, 32, 2, 1, 2]⟩
abbrev S1x1x2x32x1 : Shape := ⟨5, ![1, 1, 2, 32, 1]⟩
abbrev S16x32x2x32x2 : Shape := ⟨5, ![16, 32, 2, 32, 2]⟩
abbrev S16x32x32x2 : Shape := ⟨4, ![16, 32, 32, 2]⟩
abbrev S16x32x32x2x1 : Shape := ⟨5, ![16, 32, 32, 2, 1]⟩
abbrev S1x1x1x2x32 : Shape := ⟨5, ![1, 1, 1, 2, 32]⟩
abbrev S16x32x32x2x32 : Shape := ⟨5, ![16, 32, 32, 2, 32]⟩
abbrev S16x32x4x8x4x8 : Shape := ⟨6, ![16, 32, 4, 8, 4, 8]⟩
abbrev S16x32x4x4 : Shape := ⟨4, ![16, 32, 4, 4]⟩
abbrev S16x4x4x32 : Shape := ⟨4, ![16, 4, 4, 32]⟩
abbrev S256x32 : Shape := ⟨2, ![256, 32]⟩
abbrev S256 : Shape := ⟨1, ![256]⟩
abbrev S256x1 : Shape := ⟨2, ![256, 1]⟩
abbrev S256x8192 : Shape := ⟨2, ![256, 8192]⟩
abbrev S16x4x4 : Shape := ⟨3, ![16, 4, 4]⟩
abbrev S16x4x4x1 : Shape := ⟨4, ![16, 4, 4, 1]⟩
abbrev S4 : Shape := ⟨1, ![4]⟩
abbrev S4x1 : Shape := ⟨2, ![4, 1]⟩
abbrev S16x32x4x1x4 : Shape := ⟨5, ![16, 32, 4, 1, 4]⟩
abbrev S1x1x4x32x1 : Shape := ⟨5, ![1, 1, 4, 32, 1]⟩
abbrev S16x32x4x32x4 : Shape := ⟨5, ![16, 32, 4, 32, 4]⟩
abbrev S16x32x32x4 : Shape := ⟨4, ![16, 32, 32, 4]⟩
abbrev S16x32x32x4x1 : Shape := ⟨5, ![16, 32, 32, 4, 1]⟩
abbrev S1x1x1x4x32 : Shape := ⟨5, ![1, 1, 1, 4, 32]⟩
abbrev S16x32x32x4x32 : Shape := ⟨5, ![16, 32, 32, 4, 32]⟩
abbrev S16x32x8x4x8x4 : Shape := ⟨6, ![16, 32, 8, 4, 8, 4]⟩
abbrev S16x32x8x8 : Shape := ⟨4, ![16, 32, 8, 8]⟩
abbrev S16x8x8x32 : Shape := ⟨4, ![16, 8, 8, 32]⟩
abbrev S1024x32 : Shape := ⟨2, ![1024, 32]⟩
abbrev S1024 : Shape := ⟨1, ![1024]⟩
abbrev S1024x1 : Shape := ⟨2, ![1024, 1]⟩
abbrev S1024x8192 : Shape := ⟨2, ![1024, 8192]⟩
abbrev S16x8x8 : Shape := ⟨3, ![16, 8, 8]⟩
abbrev S16x8x8x1 : Shape := ⟨4, ![16, 8, 8, 1]⟩
abbrev S8 : Shape := ⟨1, ![8]⟩
abbrev S8x1 : Shape := ⟨2, ![8, 1]⟩
abbrev S8x32 : Shape := ⟨2, ![8, 32]⟩
abbrev S16x32x8x1x8 : Shape := ⟨5, ![16, 32, 8, 1, 8]⟩
abbrev S1x1x8x32x1 : Shape := ⟨5, ![1, 1, 8, 32, 1]⟩
abbrev S16x32x8x32x8 : Shape := ⟨5, ![16, 32, 8, 32, 8]⟩
abbrev S16x32x32x8 : Shape := ⟨4, ![16, 32, 32, 8]⟩
abbrev S16x32x32x8x1 : Shape := ⟨5, ![16, 32, 32, 8, 1]⟩
abbrev S1x1x1x8x32 : Shape := ⟨5, ![1, 1, 1, 8, 32]⟩
abbrev S16x32x32x8x32 : Shape := ⟨5, ![16, 32, 32, 8, 32]⟩
abbrev S16x32x16x2x16x2 : Shape := ⟨6, ![16, 32, 16, 2, 16, 2]⟩
abbrev S16x32x16x16 : Shape := ⟨4, ![16, 32, 16, 16]⟩
abbrev S16x16x16x32 : Shape := ⟨4, ![16, 16, 16, 32]⟩
abbrev S4096x32 : Shape := ⟨2, ![4096, 32]⟩
abbrev S4096 : Shape := ⟨1, ![4096]⟩
abbrev S4096x1 : Shape := ⟨2, ![4096, 1]⟩
abbrev S4096x8192 : Shape := ⟨2, ![4096, 8192]⟩
abbrev S16x16x16 : Shape := ⟨3, ![16, 16, 16]⟩
abbrev S16x16x16x1 : Shape := ⟨4, ![16, 16, 16, 1]⟩
abbrev S16x32x16x1x16 : Shape := ⟨5, ![16, 32, 16, 1, 16]⟩
abbrev S1x1x16x32x1 : Shape := ⟨5, ![1, 1, 16, 32, 1]⟩
abbrev S16x32x16x32x16 : Shape := ⟨5, ![16, 32, 16, 32, 16]⟩
abbrev S16x32x32x16 : Shape := ⟨4, ![16, 32, 32, 16]⟩
abbrev S16x32x32x16x1 : Shape := ⟨5, ![16, 32, 32, 16, 1]⟩
abbrev S1x1x1x16x32 : Shape := ⟨5, ![1, 1, 1, 16, 32]⟩
abbrev S16x32x32x16x32 : Shape := ⟨5, ![16, 32, 32, 16, 32]⟩
abbrev S16384x32 : Shape := ⟨2, ![16384, 32]⟩
abbrev S16384 : Shape := ⟨1, ![16384]⟩
abbrev S16384x1 : Shape := ⟨2, ![16384, 1]⟩
abbrev S16384x8192 : Shape := ⟨2, ![16384, 8192]⟩
abbrev S16x32x32 : Shape := ⟨3, ![16, 32, 32]⟩

abbrev nBuf : Space → Nat
  | .hbm => 1053
  | .vmem => 0
  | .smem => 0
  | _ => 0

abbrev hbmTy0_0 (i : Nat) : BufTy := match i % 128 with
  | 0 => ⟨S16x32x32x32, .f32⟩
  | 1 => ⟨S8192x32, .f32⟩
  | 2 => ⟨S4x32x32x3x3, .f32⟩
  | 3 => ⟨S4x32, .f32⟩
  | 4 => ⟨S_, .f32⟩
  | 5 => ⟨S16x32x32x32, .f32⟩
  | 6 => ⟨S16x32x1x32x1x32, .f32⟩
  | 7 => ⟨S_, .f32⟩
  | 8 => ⟨S16x32x1x1, .f32⟩
  | 9 => ⟨S_, .f32⟩
  | 10 => ⟨S16x32x1x1, .f32⟩
  | 11 => ⟨S16x32x1x1, .f32⟩
  | 12 => ⟨S16x1x1x32, .f32⟩
  | 13 => ⟨S16x32, .f32⟩
  | 14 => ⟨S16x32, .f32⟩
  | 15 => ⟨S_, .f32⟩
  | 16 => ⟨S16, .f32⟩
  | 17 => ⟨S16x1, .f32⟩
  | 18 => ⟨S8192x32, .f32⟩
  | 19 => ⟨S_, .f32⟩
  | 20 => ⟨S8192, .f32⟩
  | 21 => ⟨S32x8192, .f32⟩
  | 22 => ⟨S16x8192, .f32⟩
  | 23 => ⟨S1x8192, .f32⟩
  | 24 => ⟨S16x8192, .f32⟩
  | 25 => ⟨S16x8192, .f32⟩
  | 26 => ⟨S16x8192, .f32⟩
  | 27 => ⟨S_, .f32⟩
  | 28 => ⟨S16x8192, .f32⟩
  | 29 => ⟨S16x8192, .f32⟩
  | 30 => ⟨S16x8192, .f32⟩
  | 31 => ⟨S16x8192, .i32⟩
  | 32 => ⟨S_, .f32⟩
  | 33 => ⟨S16, .f32⟩
  | 34 => ⟨S16x1, .f32⟩
  | 35 => ⟨S16x8192, .f32⟩
  | 36 => ⟨S16x8192, .i1⟩
  | 37 => ⟨S_, .i32⟩
  | 38 => ⟨S_, .i32⟩
  | 39 => ⟨S16x8192, .i32⟩
  | 40 => ⟨S16x8192, .i32⟩
  | 41 => ⟨S_, .i32⟩
  | 42 => ⟨S16, .i32⟩
  | 43 => ⟨S16x1x1, .i32⟩
  | 44 => ⟨S16x1x1x1, .i32⟩
  | 45 => ⟨S16x1x1x32, .f32⟩
  | 46 => ⟨S16x32x1x1, .f32⟩
  | 47 => ⟨S32, .f32⟩
  | 48 => ⟨S_, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S1x32, .f32⟩
  | 58 => ⟨S1, .f32⟩
  | 59 => ⟨S1x1, .f32⟩
  | 60 => ⟨S1x32, .f32⟩
  | 61 => ⟨S1x32, .f32⟩
  | 62 => ⟨S1x32, .f32⟩
  | 63 => ⟨S_, .f32⟩
  | 64 => ⟨S1x32, .f32⟩
  | 65 => ⟨S1x32, .f32⟩
  | 66 => ⟨S_, .f32⟩
  | 67 => ⟨S1x32, .f32⟩
  | 68 => ⟨S1x32, .f32⟩
  | 69 => ⟨S1x32, .f32⟩
  | 70 => ⟨S1x32, .f32⟩
  | 71 => ⟨S_, .f32⟩
  | 72 => ⟨S1x32, .f32⟩
  | 73 => ⟨S1x32, .f32⟩
  | 74 => ⟨S_, .f32⟩
  | 75 => ⟨S1x32, .f32⟩
  | 76 => ⟨S1x32, .i1⟩
  | 77 => ⟨S_, .f32⟩
  | 78 => ⟨S1x32, .f32⟩
  | 79 => ⟨S1x32, .f32⟩
  | 80 => ⟨S_, .f32⟩
  | 81 => ⟨S1x32, .f32⟩
  | 82 => ⟨S1x32, .f32⟩
  | 83 => ⟨S1x32, .f32⟩
  | 84 => ⟨S_, .f32⟩
  | 85 => ⟨S1x32, .f32⟩
  | 86 => ⟨S1x32, .f32⟩
  | 87 => ⟨S1x32, .f32⟩
  | 88 => ⟨S_, .f32⟩
  | 89 => ⟨S1x32, .f32⟩
  | 90 => ⟨S1x32, .f32⟩
  | 91 => ⟨S1x32, .f32⟩
  | 92 => ⟨S_, .f32⟩
  | 93 => ⟨S1x32, .f32⟩
  | 94 => ⟨S1x32, .i1⟩
  | 95 => ⟨S_, .f32⟩
  | 96 => ⟨S_, .f32⟩
  | 97 => ⟨S1x32, .f32⟩
  | 98 => ⟨S1x32, .f32⟩
  | 99 => ⟨S_, .f32⟩
  | 100 => ⟨S32, .f32⟩
  | 101 => ⟨S1x32, .f32⟩
  | 102 => ⟨S1x32, .f32⟩
  | 103 => ⟨S16x32x1x1x1, .f32⟩
  | 104 => ⟨S1x1x1x32x1, .f32⟩
  | 105 => ⟨S16x32x1x32x1, .f32⟩
  | 106 => ⟨S16x32x1x32x1, .f32⟩
  | 107 => ⟨S16x32x1x32x1, .f32⟩
  | 108 => ⟨S_, .f32⟩
  | 109 => ⟨S16x32x32x1, .f32⟩
  | 110 => ⟨S16x32x32x1x1, .f32⟩
  | 111 => ⟨S1x1x1x1x32, .f32⟩
  | 112 => ⟨S16x32x32x1x32, .f32⟩
  | 113 => ⟨S16x32x32x1x32, .f32⟩
  | 114 => ⟨S16x32x32x1x32, .f32⟩
  | 115 => ⟨S_, .f32⟩
  | 116 => ⟨S16x32x32x32, .f32⟩
  | 117 => ⟨S1x32x32x3x3, .f32⟩
  | 118 => ⟨S32x32x3x3, .f32⟩
  | 119 => ⟨S1x32, .f32⟩
  | 120 => ⟨S32, .f32⟩
  | 121 => ⟨S_, .i32⟩
  | 122 => ⟨S_, .f32⟩
  | 123 => ⟨S16x32x34x34, .f32⟩
  | 124 => ⟨S16x32x32x32, .f32⟩
  | 125 => ⟨S32x32x1x1, .f32⟩
  | 126 => ⟨S32x32, .f32⟩
  | 127 => ⟨S16x32x32x32, .f32⟩
  | _ => ⟨S16x32x32x32, .f32⟩

abbrev hbmTy0_1 (i : Nat) : BufTy := match i % 128 with
  | 0 => ⟨S16x32x32x32, .f32⟩
  | 1 => ⟨S32x32x1x1, .f32⟩
  | 2 => ⟨S32x32, .f32⟩
  | 3 => ⟨S16x32x32x32, .f32⟩
  | 4 => ⟨S16x32x32x32, .f32⟩
  | 5 => ⟨S16x32x32x32, .f32⟩
  | 6 => ⟨S32x32x1x1, .f32⟩
  | 7 => ⟨S32x32, .f32⟩
  | 8 => ⟨S16x32x32x32, .f32⟩
  | 9 => ⟨S16x32x32x32, .f32⟩
  | 10 => ⟨S16x32x32x32, .f32⟩
  | 11 => ⟨S32x32x1x1, .f32⟩
  | 12 => ⟨S32x32, .f32⟩
  | 13 => ⟨S16x32x32x32, .f32⟩
  | 14 => ⟨S16x32x32x32, .f32⟩
  | 15 => ⟨S16x32x32x32, .f32⟩
  | 16 => ⟨S32x32x1x1, .f32⟩
  | 17 => ⟨S32x32, .f32⟩
  | 18 => ⟨S16x32x32x32, .f32⟩
  | 19 => ⟨S16x32x32x32, .f32⟩
  | 20 => ⟨S16x32x32x32, .f32⟩
  | 21 => ⟨S32x32x1x1, .f32⟩
  | 22 => ⟨S32x32, .f32⟩
  | 23 => ⟨S16x32x32x32, .f32⟩
  | 24 => ⟨S16x32x32x32, .f32⟩
  | 25 => ⟨S16x32x32x32, .f32⟩
  | 26 => ⟨S32x32x1x1, .f32⟩
  | 27 => ⟨S32x32, .f32⟩
  | 28 => ⟨S16x32x32x32, .f32⟩
  | 29 => ⟨S16x32x32x32, .f32⟩
  | 30 => ⟨S16x32x32x32, .f32⟩
  | 31 => ⟨S32x32x1x1, .f32⟩
  | 32 => ⟨S32x32, .f32⟩
  | 33 => ⟨S16x32x32x32, .f32⟩
  | 34 => ⟨S16x32x32x32, .f32⟩
  | 35 => ⟨S16x32x32x32, .f32⟩
  | 36 => ⟨S32x32x1x1, .f32⟩
  | 37 => ⟨S32x32, .f32⟩
  | 38 => ⟨S16x32x32x32, .f32⟩
  | 39 => ⟨S16x32x32x32, .f32⟩
  | 40 => ⟨S16x32x32x32, .f32⟩
  | 41 => ⟨S1x32x1x1, .f32⟩
  | 42 => ⟨S16x32x32x32, .f32⟩
  | 43 => ⟨S16x32x32x32, .f32⟩
  | 44 => ⟨S_, .f32⟩
  | 45 => ⟨S16x32x32x32, .f32⟩
  | 46 => ⟨S16x32x32x32, .f32⟩
  | 47 => ⟨S_, .f32⟩
  | 48 => ⟨S16x32x32x32, .f32⟩
  | 49 => ⟨S16x32x32x32, .f32⟩
  | 50 => ⟨S16x32x32x32, .f32⟩
  | 51 => ⟨S16x32x32x32, .f32⟩
  | 52 => ⟨S16x32x32x32, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S16x32x32x32, .f32⟩
  | 63 => ⟨S16x32x32x32, .f32⟩
  | 64 => ⟨S16x32x2x16x2x16, .f32⟩
  | 65 => ⟨S_, .f32⟩
  | 66 => ⟨S16x32x2x2, .f32⟩
  | 67 => ⟨S_, .f32⟩
  | 68 => ⟨S16x32x2x2, .f32⟩
  | 69 => ⟨S16x32x2x2, .f32⟩
  | 70 => ⟨S16x2x2x32, .f32⟩
  | 71 => ⟨S64x32, .f32⟩
  | 72 => ⟨S64x32, .f32⟩
  | 73 => ⟨S_, .f32⟩
  | 74 => ⟨S64, .f32⟩
  | 75 => ⟨S64x1, .f32⟩
  | 76 => ⟨S8192x32, .f32⟩
  | 77 => ⟨S_, .f32⟩
  | 78 => ⟨S8192, .f32⟩
  | 79 => ⟨S32x8192, .f32⟩
  | 80 => ⟨S64x8192, .f32⟩
  | 81 => ⟨S1x8192, .f32⟩
  | 82 => ⟨S64x8192, .f32⟩
  | 83 => ⟨S64x8192, .f32⟩
  | 84 => ⟨S64x8192, .f32⟩
  | 85 => ⟨S_, .f32⟩
  | 86 => ⟨S64x8192, .f32⟩
  | 87 => ⟨S64x8192, .f32⟩
  | 88 => ⟨S64x8192, .f32⟩
  | 89 => ⟨S64x8192, .i32⟩
  | 90 => ⟨S_, .f32⟩
  | 91 => ⟨S64, .f32⟩
  | 92 => ⟨S64x1, .f32⟩
  | 93 => ⟨S64x8192, .f32⟩
  | 94 => ⟨S64x8192, .i1⟩
  | 95 => ⟨S_, .i32⟩
  | 96 => ⟨S_, .i32⟩
  | 97 => ⟨S64x8192, .i32⟩
  | 98 => ⟨S64x8192, .i32⟩
  | 99 => ⟨S_, .i32⟩
  | 100 => ⟨S64, .i32⟩
  | 101 => ⟨S16x2x2, .i32⟩
  | 102 => ⟨S16x2x2x1, .i32⟩
  | 103 => ⟨S16x2x2x32, .f32⟩
  | 104 => ⟨S16x32x2x2, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S_, .f32⟩
  | 113 => ⟨S32, .f32⟩
  | 114 => ⟨S32, .f32⟩
  | 115 => ⟨S1x32, .f32⟩
  | 116 => ⟨S2, .f32⟩
  | 117 => ⟨S2x1, .f32⟩
  | 118 => ⟨S2x32, .f32⟩
  | 119 => ⟨S2x32, .f32⟩
  | 120 => ⟨S2x32, .f32⟩
  | 121 => ⟨S2x32, .f32⟩
  | 122 => ⟨S_, .f32⟩
  | 123 => ⟨S2x32, .f32⟩
  | 124 => ⟨S2x32, .f32⟩
  | 125 => ⟨S_, .f32⟩
  | 126 => ⟨S2x32, .f32⟩
  | 127 => ⟨S2x32, .f32⟩
  | _ => ⟨S16x32x32x32, .f32⟩

abbrev hbmTy0_2 (i : Nat) : BufTy := match i % 128 with
  | 0 => ⟨S2x32, .f32⟩
  | 1 => ⟨S2x32, .f32⟩
  | 2 => ⟨S_, .f32⟩
  | 3 => ⟨S2x32, .f32⟩
  | 4 => ⟨S2x32, .f32⟩
  | 5 => ⟨S_, .f32⟩
  | 6 => ⟨S2x32, .f32⟩
  | 7 => ⟨S2x32, .i1⟩
  | 8 => ⟨S_, .f32⟩
  | 9 => ⟨S2x32, .f32⟩
  | 10 => ⟨S2x32, .f32⟩
  | 11 => ⟨S_, .f32⟩
  | 12 => ⟨S2x32, .f32⟩
  | 13 => ⟨S2x32, .f32⟩
  | 14 => ⟨S2x32, .f32⟩
  | 15 => ⟨S_, .f32⟩
  | 16 => ⟨S2x32, .f32⟩
  | 17 => ⟨S2x32, .f32⟩
  | 18 => ⟨S2x32, .f32⟩
  | 19 => ⟨S_, .f32⟩
  | 20 => ⟨S2x32, .f32⟩
  | 21 => ⟨S2x32, .f32⟩
  | 22 => ⟨S2x32, .f32⟩
  | 23 => ⟨S_, .f32⟩
  | 24 => ⟨S2x32, .f32⟩
  | 25 => ⟨S2x32, .i1⟩
  | 26 => ⟨S_, .f32⟩
  | 27 => ⟨S_, .f32⟩
  | 28 => ⟨S2x32, .f32⟩
  | 29 => ⟨S2x32, .f32⟩
  | 30 => ⟨S_, .f32⟩
  | 31 => ⟨S32, .f32⟩
  | 32 => ⟨S1x32, .f32⟩
  | 33 => ⟨S2x32, .f32⟩
  | 34 => ⟨S2x32, .f32⟩
  | 35 => ⟨S16x32x2x1x2, .f32⟩
  | 36 => ⟨S1x1x2x32x1, .f32⟩
  | 37 => ⟨S16x32x2x32x2, .f32⟩
  | 38 => ⟨S16x32x2x32x2, .f32⟩
  | 39 => ⟨S16x32x2x32x2, .f32⟩
  | 40 => ⟨S_, .f32⟩
  | 41 => ⟨S16x32x32x2, .f32⟩
  | 42 => ⟨S16x32x32x2x1, .f32⟩
  | 43 => ⟨S1x1x1x2x32, .f32⟩
  | 44 => ⟨S16x32x32x2x32, .f32⟩
  | 45 => ⟨S16x32x32x2x32, .f32⟩
  | 46 => ⟨S16x32x32x2x32, .f32⟩
  | 47 => ⟨S_, .f32⟩
  | 48 => ⟨S16x32x32x32, .f32⟩
  | 49 => ⟨S1x32x32x3x3, .f32⟩
  | 50 => ⟨S32x32x3x3, .f32⟩
  | 51 => ⟨S1x32, .f32⟩
  | 52 => ⟨S32, .f32⟩
  | 53 => ⟨S_, .i32⟩
  | 54 => ⟨S_, .f32⟩
  | 55 => ⟨S16x32x34x34, .f32⟩
  | 56 => ⟨S16x32x32x32, .f32⟩
  | 57 => ⟨S32x32x1x1, .f32⟩
  | 58 => ⟨S32x32, .f32⟩
  | 59 => ⟨S16x32x32x32, .f32⟩
  | 60 => ⟨S16x32x32x32, .f32⟩
  | 61 => ⟨S32x32x1x1, .f32⟩
  | 62 => ⟨S32x32, .f32⟩
  | 63 => ⟨S16x32x32x32, .f32⟩
  | 64 => ⟨S16x32x32x32, .f32⟩
  | 65 => ⟨S16x32x32x32, .f32⟩
  | 66 => ⟨S32x32x1x1, .f32⟩
  | 67 => ⟨S32x32, .f32⟩
  | 68 => ⟨S16x32x32x32, .f32⟩
  | 69 => ⟨S16x32x32x32, .f32⟩
  | 70 => ⟨S16x32x32x32, .f32⟩
  | 71 => ⟨S32x32x1x1, .f32⟩
  | 72 => ⟨S32x32, .f32⟩
  | 73 => ⟨S16x32x32x32, .f32⟩
  | 74 => ⟨S16x32x32x32, .f32⟩
  | 75 => ⟨S16x32x32x32, .f32⟩
  | 76 => ⟨S32x32x1x1, .f32⟩
  | 77 => ⟨S32x32, .f32⟩
  | 78 => ⟨S16x32x32x32, .f32⟩
  | 79 => ⟨S16x32x32x32, .f32⟩
  | 80 => ⟨S16x32x32x32, .f32⟩
  | 81 => ⟨S32x32x1x1, .f32⟩
  | 82 => ⟨S32x32, .f32⟩
  | 83 => ⟨S16x32x32x32, .f32⟩
  | 84 => ⟨S16x32x32x32, .f32⟩
  | 85 => ⟨S16x32x32x32, .f32⟩
  | 86 => ⟨S32x32x1x1, .f32⟩
  | 87 => ⟨S32x32, .f32⟩
  | 88 => ⟨S16x32x32x32, .f32⟩
  | 89 => ⟨S16x32x32x32, .f32⟩
  | 90 => ⟨S16x32x32x32, .f32⟩
  | 91 => ⟨S32x32x1x1, .f32⟩
  | 92 => ⟨S32x32, .f32⟩
  | 93 => ⟨S16x32x32x32, .f32⟩
  | 94 => ⟨S16x32x32x32, .f32⟩
  | 95 => ⟨S16x32x32x32, .f32⟩
  | 96 => ⟨S32x32x1x1, .f32⟩
  | 97 => ⟨S32x32, .f32⟩
  | 98 => ⟨S16x32x32x32, .f32⟩
  | 99 => ⟨S16x32x32x32, .f32⟩
  | 100 => ⟨S16x32x32x32, .f32⟩
  | 101 => ⟨S1x32x1x1, .f32⟩
  | 102 => ⟨S16x32x32x32, .f32⟩
  | 103 => ⟨S16x32x32x32, .f32⟩
  | 104 => ⟨S_, .f32⟩
  | 105 => ⟨S16x32x32x32, .f32⟩
  | 106 => ⟨S16x32x32x32, .f32⟩
  | 107 => ⟨S_, .f32⟩
  | 108 => ⟨S16x32x32x32, .f32⟩
  | 109 => ⟨S16x32x32x32, .f32⟩
  | 110 => ⟨S16x32x32x32, .f32⟩
  | 111 => ⟨S16x32x32x32, .f32⟩
  | 112 => ⟨S16x32x32x32, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S16x32x32x32, .f32⟩
  | 122 => ⟨S16x32x32x32, .f32⟩
  | 123 => ⟨S16x32x4x8x4x8, .f32⟩
  | 124 => ⟨S_, .f32⟩
  | 125 => ⟨S16x32x4x4, .f32⟩
  | 126 => ⟨S_, .f32⟩
  | 127 => ⟨S16x32x4x4, .f32⟩
  | _ => ⟨S16x32x32x32, .f32⟩

abbrev hbmTy0_3 (i : Nat) : BufTy := match i % 128 with
  | 0 => ⟨S16x32x4x4, .f32⟩
  | 1 => ⟨S16x4x4x32, .f32⟩
  | 2 => ⟨S256x32, .f32⟩
  | 3 => ⟨S256x32, .f32⟩
  | 4 => ⟨S_, .f32⟩
  | 5 => ⟨S256, .f32⟩
  | 6 => ⟨S256x1, .f32⟩
  | 7 => ⟨S8192x32, .f32⟩
  | 8 => ⟨S_, .f32⟩
  | 9 => ⟨S8192, .f32⟩
  | 10 => ⟨S32x8192, .f32⟩
  | 11 => ⟨S256x8192, .f32⟩
  | 12 => ⟨S1x8192, .f32⟩
  | 13 => ⟨S256x8192, .f32⟩
  | 14 => ⟨S256x8192, .f32⟩
  | 15 => ⟨S256x8192, .f32⟩
  | 16 => ⟨S_, .f32⟩
  | 17 => ⟨S256x8192, .f32⟩
  | 18 => ⟨S256x8192, .f32⟩
  | 19 => ⟨S256x8192, .f32⟩
  | 20 => ⟨S256x8192, .i32⟩
  | 21 => ⟨S_, .f32⟩
  | 22 => ⟨S256, .f32⟩
  | 23 => ⟨S256x1, .f32⟩
  | 24 => ⟨S256x8192, .f32⟩
  | 25 => ⟨S256x8192, .i1⟩
  | 26 => ⟨S_, .i32⟩
  | 27 => ⟨S_, .i32⟩
  | 28 => ⟨S256x8192, .i32⟩
  | 29 => ⟨S256x8192, .i32⟩
  | 30 => ⟨S_, .i32⟩
  | 31 => ⟨S256, .i32⟩
  | 32 => ⟨S16x4x4, .i32⟩
  | 33 => ⟨S16x4x4x1, .i32⟩
  | 34 => ⟨S16x4x4x32, .f32⟩
  | 35 => ⟨S16x32x4x4, .f32⟩
  | 36 => ⟨S32, .f32⟩
  | 37 => ⟨S_, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S1x32, .f32⟩
  | 47 => ⟨S4, .f32⟩
  | 48 => ⟨S4x1, .f32⟩
  | 49 => ⟨S4x32, .f32⟩
  | 50 => ⟨S4x32, .f32⟩
  | 51 => ⟨S4x32, .f32⟩
  | 52 => ⟨S4x32, .f32⟩
  | 53 => ⟨S_, .f32⟩
  | 54 => ⟨S4x32, .f32⟩
  | 55 => ⟨S4x32, .f32⟩
  | 56 => ⟨S_, .f32⟩
  | 57 => ⟨S4x32, .f32⟩
  | 58 => ⟨S4x32, .f32⟩
  | 59 => ⟨S4x32, .f32⟩
  | 60 => ⟨S4x32, .f32⟩
  | 61 => ⟨S_, .f32⟩
  | 62 => ⟨S4x32, .f32⟩
  | 63 => ⟨S4x32, .f32⟩
  | 64 => ⟨S_, .f32⟩
  | 65 => ⟨S4x32, .f32⟩
  | 66 => ⟨S4x32, .i1⟩
  | 67 => ⟨S_, .f32⟩
  | 68 => ⟨S4x32, .f32⟩
  | 69 => ⟨S4x32, .f32⟩
  | 70 => ⟨S_, .f32⟩
  | 71 => ⟨S4x32, .f32⟩
  | 72 => ⟨S4x32, .f32⟩
  | 73 => ⟨S4x32, .f32⟩
  | 74 => ⟨S_, .f32⟩
  | 75 => ⟨S4x32, .f32⟩
  | 76 => ⟨S4x32, .f32⟩
  | 77 => ⟨S4x32, .f32⟩
  | 78 => ⟨S_, .f32⟩
  | 79 => ⟨S4x32, .f32⟩
  | 80 => ⟨S4x32, .f32⟩
  | 81 => ⟨S4x32, .f32⟩
  | 82 => ⟨S_, .f32⟩
  | 83 => ⟨S4x32, .f32⟩
  | 84 => ⟨S4x32, .i1⟩
  | 85 => ⟨S_, .f32⟩
  | 86 => ⟨S_, .f32⟩
  | 87 => ⟨S4x32, .f32⟩
  | 88 => ⟨S4x32, .f32⟩
  | 89 => ⟨S_, .f32⟩
  | 90 => ⟨S32, .f32⟩
  | 91 => ⟨S1x32, .f32⟩
  | 92 => ⟨S4x32, .f32⟩
  | 93 => ⟨S4x32, .f32⟩
  | 94 => ⟨S16x32x4x1x4, .f32⟩
  | 95 => ⟨S1x1x4x32x1, .f32⟩
  | 96 => ⟨S16x32x4x32x4, .f32⟩
  | 97 => ⟨S16x32x4x32x4, .f32⟩
  | 98 => ⟨S16x32x4x32x4, .f32⟩
  | 99 => ⟨S_, .f32⟩
  | 100 => ⟨S16x32x32x4, .f32⟩
  | 101 => ⟨S16x32x32x4x1, .f32⟩
  | 102 => ⟨S1x1x1x4x32, .f32⟩
  | 103 => ⟨S16x32x32x4x32, .f32⟩
  | 104 => ⟨S16x32x32x4x32, .f32⟩
  | 105 => ⟨S16x32x32x4x32, .f32⟩
  | 106 => ⟨S_, .f32⟩
  | 107 => ⟨S16x32x32x32, .f32⟩
  | 108 => ⟨S1x32x32x3x3, .f32⟩
  | 109 => ⟨S32x32x3x3, .f32⟩
  | 110 => ⟨S1x32, .f32⟩
  | 111 => ⟨S32, .f32⟩
  | 112 => ⟨S_, .i32⟩
  | 113 => ⟨S_, .f32⟩
  | 114 => ⟨S16x32x34x34, .f32⟩
  | 115 => ⟨S16x32x32x32, .f32⟩
  | 116 => ⟨S32x32x1x1, .f32⟩
  | 117 => ⟨S32x32, .f32⟩
  | 118 => ⟨S16x32x32x32, .f32⟩
  | 119 => ⟨S16x32x32x32, .f32⟩
  | 120 => ⟨S32x32x1x1, .f32⟩
  | 121 => ⟨S32x32, .f32⟩
  | 122 => ⟨S16x32x32x32, .f32⟩
  | 123 => ⟨S16x32x32x32, .f32⟩
  | 124 => ⟨S16x32x32x32, .f32⟩
  | 125 => ⟨S32x32x1x1, .f32⟩
  | 126 => ⟨S32x32, .f32⟩
  | 127 => ⟨S16x32x32x32, .f32⟩
  | _ => ⟨S16x32x32x32, .f32⟩

abbrev hbmTy0_4 (i : Nat) : BufTy := match i % 128 with
  | 0 => ⟨S16x32x32x32, .f32⟩
  | 1 => ⟨S16x32x32x32, .f32⟩
  | 2 => ⟨S32x32x1x1, .f32⟩
  | 3 => ⟨S32x32, .f32⟩
  | 4 => ⟨S16x32x32x32, .f32⟩
  | 5 => ⟨S16x32x32x32, .f32⟩
  | 6 => ⟨S16x32x32x32, .f32⟩
  | 7 => ⟨S32x32x1x1, .f32⟩
  | 8 => ⟨S32x32, .f32⟩
  | 9 => ⟨S16x32x32x32, .f32⟩
  | 10 => ⟨S16x32x32x32, .f32⟩
  | 11 => ⟨S16x32x32x32, .f32⟩
  | 12 => ⟨S32x32x1x1, .f32⟩
  | 13 => ⟨S32x32, .f32⟩
  | 14 => ⟨S16x32x32x32, .f32⟩
  | 15 => ⟨S16x32x32x32, .f32⟩
  | 16 => ⟨S16x32x32x32, .f32⟩
  | 17 => ⟨S32x32x1x1, .f32⟩
  | 18 => ⟨S32x32, .f32⟩
  | 19 => ⟨S16x32x32x32, .f32⟩
  | 20 => ⟨S16x32x32x32, .f32⟩
  | 21 => ⟨S16x32x32x32, .f32⟩
  | 22 => ⟨S32x32x1x1, .f32⟩
  | 23 => ⟨S32x32, .f32⟩
  | 24 => ⟨S16x32x32x32, .f32⟩
  | 25 => ⟨S16x32x32x32, .f32⟩
  | 26 => ⟨S16x32x32x32, .f32⟩
  | 27 => ⟨S32x32x1x1, .f32⟩
  | 28 => ⟨S32x32, .f32⟩
  | 29 => ⟨S16x32x32x32, .f32⟩
  | 30 => ⟨S16x32x32x32, .f32⟩
  | 31 => ⟨S16x32x32x32, .f32⟩
  | 32 => ⟨S1x32x1x1, .f32⟩
  | 33 => ⟨S16x32x32x32, .f32⟩
  | 34 => ⟨S16x32x32x32, .f32⟩
  | 35 => ⟨S_, .f32⟩
  | 36 => ⟨S16x32x32x32, .f32⟩
  | 37 => ⟨S16x32x32x32, .f32⟩
  | 38 => ⟨S_, .f32⟩
  | 39 => ⟨S16x32x32x32, .f32⟩
  | 40 => ⟨S16x32x32x32, .f32⟩
  | 41 => ⟨S16x32x32x32, .f32⟩
  | 42 => ⟨S16x32x32x32, .f32⟩
  | 43 => ⟨S16x32x32x32, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S16x32x32x32, .f32⟩
  | 53 => ⟨S16x32x32x32, .f32⟩
  | 54 => ⟨S16x32x8x4x8x4, .f32⟩
  | 55 => ⟨S_, .f32⟩
  | 56 => ⟨S16x32x8x8, .f32⟩
  | 57 => ⟨S_, .f32⟩
  | 58 => ⟨S16x32x8x8, .f32⟩
  | 59 => ⟨S16x32x8x8, .f32⟩
  | 60 => ⟨S16x8x8x32, .f32⟩
  | 61 => ⟨S1024x32, .f32⟩
  | 62 => ⟨S1024x32, .f32⟩
  | 63 => ⟨S_, .f32⟩
  | 64 => ⟨S1024, .f32⟩
  | 65 => ⟨S1024x1, .f32⟩
  | 66 => ⟨S8192x32, .f32⟩
  | 67 => ⟨S_, .f32⟩
  | 68 => ⟨S8192, .f32⟩
  | 69 => ⟨S32x8192, .f32⟩
  | 70 => ⟨S1024x8192, .f32⟩
  | 71 => ⟨S1x8192, .f32⟩
  | 72 => ⟨S1024x8192, .f32⟩
  | 73 => ⟨S1024x8192, .f32⟩
  | 74 => ⟨S1024x8192, .f32⟩
  | 75 => ⟨S_, .f32⟩
  | 76 => ⟨S1024x8192, .f32⟩
  | 77 => ⟨S1024x8192, .f32⟩
  | 78 => ⟨S1024x8192, .f32⟩
  | 79 => ⟨S1024x8192, .i32⟩
  | 80 => ⟨S_, .f32⟩
  | 81 => ⟨S1024, .f32⟩
  | 82 => ⟨S1024x1, .f32⟩
  | 83 => ⟨S1024x8192, .f32⟩
  | 84 => ⟨S1024x8192, .i1⟩
  | 85 => ⟨S_, .i32⟩
  | 86 => ⟨S_, .i32⟩
  | 87 => ⟨S1024x8192, .i32⟩
  | 88 => ⟨S1024x8192, .i32⟩
  | 89 => ⟨S_, .i32⟩
  | 90 => ⟨S1024, .i32⟩
  | 91 => ⟨S16x8x8, .i32⟩
  | 92 => ⟨S16x8x8x1, .i32⟩
  | 93 => ⟨S16x8x8x32, .f32⟩
  | 94 => ⟨S16x32x8x8, .f32⟩
  | 95 => ⟨S32, .f32⟩
  | 96 => ⟨S_, .f32⟩
  | 97 => ⟨S32, .f32⟩
  | 98 => ⟨S32, .f32⟩
  | 99 => ⟨S_, .f32⟩
  | 100 => ⟨S32, .f32⟩
  | 101 => ⟨S32, .f32⟩
  | 102 => ⟨S_, .f32⟩
  | 103 => ⟨S32, .f32⟩
  | 104 => ⟨S32, .f32⟩
  | 105 => ⟨S1x32, .f32⟩
  | 106 => ⟨S8, .f32⟩
  | 107 => ⟨S8x1, .f32⟩
  | 108 => ⟨S8x32, .f32⟩
  | 109 => ⟨S8x32, .f32⟩
  | 110 => ⟨S8x32, .f32⟩
  | 111 => ⟨S8x32, .f32⟩
  | 112 => ⟨S_, .f32⟩
  | 113 => ⟨S8x32, .f32⟩
  | 114 => ⟨S8x32, .f32⟩
  | 115 => ⟨S_, .f32⟩
  | 116 => ⟨S8x32, .f32⟩
  | 117 => ⟨S8x32, .f32⟩
  | 118 => ⟨S8x32, .f32⟩
  | 119 => ⟨S8x32, .f32⟩
  | 120 => ⟨S_, .f32⟩
  | 121 => ⟨S8x32, .f32⟩
  | 122 => ⟨S8x32, .f32⟩
  | 123 => ⟨S_, .f32⟩
  | 124 => ⟨S8x32, .f32⟩
  | 125 => ⟨S8x32, .i1⟩
  | 126 => ⟨S_, .f32⟩
  | 127 => ⟨S8x32, .f32⟩
  | _ => ⟨S16x32x32x32, .f32⟩

abbrev hbmTy0_5 (i : Nat) : BufTy := match i % 128 with
  | 0 => ⟨S8x32, .f32⟩
  | 1 => ⟨S_, .f32⟩
  | 2 => ⟨S8x32, .f32⟩
  | 3 => ⟨S8x32, .f32⟩
  | 4 => ⟨S8x32, .f32⟩
  | 5 => ⟨S_, .f32⟩
  | 6 => ⟨S8x32, .f32⟩
  | 7 => ⟨S8x32, .f32⟩
  | 8 => ⟨S8x32, .f32⟩
  | 9 => ⟨S_, .f32⟩
  | 10 => ⟨S8x32, .f32⟩
  | 11 => ⟨S8x32, .f32⟩
  | 12 => ⟨S8x32, .f32⟩
  | 13 => ⟨S_, .f32⟩
  | 14 => ⟨S8x32, .f32⟩
  | 15 => ⟨S8x32, .i1⟩
  | 16 => ⟨S_, .f32⟩
  | 17 => ⟨S_, .f32⟩
  | 18 => ⟨S8x32, .f32⟩
  | 19 => ⟨S8x32, .f32⟩
  | 20 => ⟨S_, .f32⟩
  | 21 => ⟨S32, .f32⟩
  | 22 => ⟨S1x32, .f32⟩
  | 23 => ⟨S8x32, .f32⟩
  | 24 => ⟨S8x32, .f32⟩
  | 25 => ⟨S16x32x8x1x8, .f32⟩
  | 26 => ⟨S1x1x8x32x1, .f32⟩
  | 27 => ⟨S16x32x8x32x8, .f32⟩
  | 28 => ⟨S16x32x8x32x8, .f32⟩
  | 29 => ⟨S16x32x8x32x8, .f32⟩
  | 30 => ⟨S_, .f32⟩
  | 31 => ⟨S16x32x32x8, .f32⟩
  | 32 => ⟨S16x32x32x8x1, .f32⟩
  | 33 => ⟨S1x1x1x8x32, .f32⟩
  | 34 => ⟨S16x32x32x8x32, .f32⟩
  | 35 => ⟨S16x32x32x8x32, .f32⟩
  | 36 => ⟨S16x32x32x8x32, .f32⟩
  | 37 => ⟨S_, .f32⟩
  | 38 => ⟨S16x32x32x32, .f32⟩
  | 39 => ⟨S1x32x32x3x3, .f32⟩
  | 40 => ⟨S32x32x3x3, .f32⟩
  | 41 => ⟨S1x32, .f32⟩
  | 42 => ⟨S32, .f32⟩
  | 43 => ⟨S_, .i32⟩
  | 44 => ⟨S_, .f32⟩
  | 45 => ⟨S16x32x34x34, .f32⟩
  | 46 => ⟨S16x32x32x32, .f32⟩
  | 47 => ⟨S32x32x1x1, .f32⟩
  | 48 => ⟨S32x32, .f32⟩
  | 49 => ⟨S16x32x32x32, .f32⟩
  | 50 => ⟨S16x32x32x32, .f32⟩
  | 51 => ⟨S32x32x1x1, .f32⟩
  | 52 => ⟨S32x32, .f32⟩
  | 53 => ⟨S16x32x32x32, .f32⟩
  | 54 => ⟨S16x32x32x32, .f32⟩
  | 55 => ⟨S16x32x32x32, .f32⟩
  | 56 => ⟨S32x32x1x1, .f32⟩
  | 57 => ⟨S32x32, .f32⟩
  | 58 => ⟨S16x32x32x32, .f32⟩
  | 59 => ⟨S16x32x32x32, .f32⟩
  | 60 => ⟨S16x32x32x32, .f32⟩
  | 61 => ⟨S32x32x1x1, .f32⟩
  | 62 => ⟨S32x32, .f32⟩
  | 63 => ⟨S16x32x32x32, .f32⟩
  | 64 => ⟨S16x32x32x32, .f32⟩
  | 65 => ⟨S16x32x32x32, .f32⟩
  | 66 => ⟨S32x32x1x1, .f32⟩
  | 67 => ⟨S32x32, .f32⟩
  | 68 => ⟨S16x32x32x32, .f32⟩
  | 69 => ⟨S16x32x32x32, .f32⟩
  | 70 => ⟨S16x32x32x32, .f32⟩
  | 71 => ⟨S32x32x1x1, .f32⟩
  | 72 => ⟨S32x32, .f32⟩
  | 73 => ⟨S16x32x32x32, .f32⟩
  | 74 => ⟨S16x32x32x32, .f32⟩
  | 75 => ⟨S16x32x32x32, .f32⟩
  | 76 => ⟨S32x32x1x1, .f32⟩
  | 77 => ⟨S32x32, .f32⟩
  | 78 => ⟨S16x32x32x32, .f32⟩
  | 79 => ⟨S16x32x32x32, .f32⟩
  | 80 => ⟨S16x32x32x32, .f32⟩
  | 81 => ⟨S32x32x1x1, .f32⟩
  | 82 => ⟨S32x32, .f32⟩
  | 83 => ⟨S16x32x32x32, .f32⟩
  | 84 => ⟨S16x32x32x32, .f32⟩
  | 85 => ⟨S16x32x32x32, .f32⟩
  | 86 => ⟨S32x32x1x1, .f32⟩
  | 87 => ⟨S32x32, .f32⟩
  | 88 => ⟨S16x32x32x32, .f32⟩
  | 89 => ⟨S16x32x32x32, .f32⟩
  | 90 => ⟨S16x32x32x32, .f32⟩
  | 91 => ⟨S1x32x1x1, .f32⟩
  | 92 => ⟨S16x32x32x32, .f32⟩
  | 93 => ⟨S16x32x32x32, .f32⟩
  | 94 => ⟨S_, .f32⟩
  | 95 => ⟨S16x32x32x32, .f32⟩
  | 96 => ⟨S16x32x32x32, .f32⟩
  | 97 => ⟨S_, .f32⟩
  | 98 => ⟨S16x32x32x32, .f32⟩
  | 99 => ⟨S16x32x32x32, .f32⟩
  | 100 => ⟨S16x32x32x32, .f32⟩
  | 101 => ⟨S16x32x32x32, .f32⟩
  | 102 => ⟨S16x32x32x32, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S16x32x32x32, .f32⟩
  | 112 => ⟨S16x32x32x32, .f32⟩
  | 113 => ⟨S16x32x16x2x16x2, .f32⟩
  | 114 => ⟨S_, .f32⟩
  | 115 => ⟨S16x32x16x16, .f32⟩
  | 116 => ⟨S_, .f32⟩
  | 117 => ⟨S16x32x16x16, .f32⟩
  | 118 => ⟨S16x32x16x16, .f32⟩
  | 119 => ⟨S16x16x16x32, .f32⟩
  | 120 => ⟨S4096x32, .f32⟩
  | 121 => ⟨S4096x32, .f32⟩
  | 122 => ⟨S_, .f32⟩
  | 123 => ⟨S4096, .f32⟩
  | 124 => ⟨S4096x1, .f32⟩
  | 125 => ⟨S8192x32, .f32⟩
  | 126 => ⟨S_, .f32⟩
  | 127 => ⟨S8192, .f32⟩
  | _ => ⟨S16x32x32x32, .f32⟩

abbrev hbmTy0_6 (i : Nat) : BufTy := match i % 128 with
  | 0 => ⟨S32x8192, .f32⟩
  | 1 => ⟨S4096x8192, .f32⟩
  | 2 => ⟨S1x8192, .f32⟩
  | 3 => ⟨S4096x8192, .f32⟩
  | 4 => ⟨S4096x8192, .f32⟩
  | 5 => ⟨S4096x8192, .f32⟩
  | 6 => ⟨S_, .f32⟩
  | 7 => ⟨S4096x8192, .f32⟩
  | 8 => ⟨S4096x8192, .f32⟩
  | 9 => ⟨S4096x8192, .f32⟩
  | 10 => ⟨S4096x8192, .i32⟩
  | 11 => ⟨S_, .f32⟩
  | 12 => ⟨S4096, .f32⟩
  | 13 => ⟨S4096x1, .f32⟩
  | 14 => ⟨S4096x8192, .f32⟩
  | 15 => ⟨S4096x8192, .i1⟩
  | 16 => ⟨S_, .i32⟩
  | 17 => ⟨S_, .i32⟩
  | 18 => ⟨S4096x8192, .i32⟩
  | 19 => ⟨S4096x8192, .i32⟩
  | 20 => ⟨S_, .i32⟩
  | 21 => ⟨S4096, .i32⟩
  | 22 => ⟨S16x16x16, .i32⟩
  | 23 => ⟨S16x16x16x1, .i32⟩
  | 24 => ⟨S16x16x16x32, .f32⟩
  | 25 => ⟨S16x32x16x16, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S1x32, .f32⟩
  | 37 => ⟨S16, .f32⟩
  | 38 => ⟨S16x1, .f32⟩
  | 39 => ⟨S16x32, .f32⟩
  | 40 => ⟨S16x32, .f32⟩
  | 41 => ⟨S16x32, .f32⟩
  | 42 => ⟨S16x32, .f32⟩
  | 43 => ⟨S_, .f32⟩
  | 44 => ⟨S16x32, .f32⟩
  | 45 => ⟨S16x32, .f32⟩
  | 46 => ⟨S_, .f32⟩
  | 47 => ⟨S16x32, .f32⟩
  | 48 => ⟨S16x32, .f32⟩
  | 49 => ⟨S16x32, .f32⟩
  | 50 => ⟨S16x32, .f32⟩
  | 51 => ⟨S_, .f32⟩
  | 52 => ⟨S16x32, .f32⟩
  | 53 => ⟨S16x32, .f32⟩
  | 54 => ⟨S_, .f32⟩
  | 55 => ⟨S16x32, .f32⟩
  | 56 => ⟨S16x32, .i1⟩
  | 57 => ⟨S_, .f32⟩
  | 58 => ⟨S16x32, .f32⟩
  | 59 => ⟨S16x32, .f32⟩
  | 60 => ⟨S_, .f32⟩
  | 61 => ⟨S16x32, .f32⟩
  | 62 => ⟨S16x32, .f32⟩
  | 63 => ⟨S16x32, .f32⟩
  | 64 => ⟨S_, .f32⟩
  | 65 => ⟨S16x32, .f32⟩
  | 66 => ⟨S16x32, .f32⟩
  | 67 => ⟨S16x32, .f32⟩
  | 68 => ⟨S_, .f32⟩
  | 69 => ⟨S16x32, .f32⟩
  | 70 => ⟨S16x32, .f32⟩
  | 71 => ⟨S16x32, .f32⟩
  | 72 => ⟨S_, .f32⟩
  | 73 => ⟨S16x32, .f32⟩
  | 74 => ⟨S16x32, .i1⟩
  | 75 => ⟨S_, .f32⟩
  | 76 => ⟨S_, .f32⟩
  | 77 => ⟨S16x32, .f32⟩
  | 78 => ⟨S16x32, .f32⟩
  | 79 => ⟨S_, .f32⟩
  | 80 => ⟨S32, .f32⟩
  | 81 => ⟨S1x32, .f32⟩
  | 82 => ⟨S16x32, .f32⟩
  | 83 => ⟨S16x32, .f32⟩
  | 84 => ⟨S16x32x16x1x16, .f32⟩
  | 85 => ⟨S1x1x16x32x1, .f32⟩
  | 86 => ⟨S16x32x16x32x16, .f32⟩
  | 87 => ⟨S16x32x16x32x16, .f32⟩
  | 88 => ⟨S16x32x16x32x16, .f32⟩
  | 89 => ⟨S_, .f32⟩
  | 90 => ⟨S16x32x32x16, .f32⟩
  | 91 => ⟨S16x32x32x16x1, .f32⟩
  | 92 => ⟨S1x1x1x16x32, .f32⟩
  | 93 => ⟨S16x32x32x16x32, .f32⟩
  | 94 => ⟨S16x32x32x16x32, .f32⟩
  | 95 => ⟨S16x32x32x16x32, .f32⟩
  | 96 => ⟨S_, .f32⟩
  | 97 => ⟨S16x32x32x32, .f32⟩
  | 98 => ⟨S1x32x32x3x3, .f32⟩
  | 99 => ⟨S32x32x3x3, .f32⟩
  | 100 => ⟨S1x32, .f32⟩
  | 101 => ⟨S32, .f32⟩
  | 102 => ⟨S_, .i32⟩
  | 103 => ⟨S_, .f32⟩
  | 104 => ⟨S16x32x34x34, .f32⟩
  | 105 => ⟨S16x32x32x32, .f32⟩
  | 106 => ⟨S32x32x1x1, .f32⟩
  | 107 => ⟨S32x32, .f32⟩
  | 108 => ⟨S16x32x32x32, .f32⟩
  | 109 => ⟨S16x32x32x32, .f32⟩
  | 110 => ⟨S32x32x1x1, .f32⟩
  | 111 => ⟨S32x32, .f32⟩
  | 112 => ⟨S16x32x32x32, .f32⟩
  | 113 => ⟨S16x32x32x32, .f32⟩
  | 114 => ⟨S16x32x32x32, .f32⟩
  | 115 => ⟨S32x32x1x1, .f32⟩
  | 116 => ⟨S32x32, .f32⟩
  | 117 => ⟨S16x32x32x32, .f32⟩
  | 118 => ⟨S16x32x32x32, .f32⟩
  | 119 => ⟨S16x32x32x32, .f32⟩
  | 120 => ⟨S32x32x1x1, .f32⟩
  | 121 => ⟨S32x32, .f32⟩
  | 122 => ⟨S16x32x32x32, .f32⟩
  | 123 => ⟨S16x32x32x32, .f32⟩
  | 124 => ⟨S16x32x32x32, .f32⟩
  | 125 => ⟨S32x32x1x1, .f32⟩
  | 126 => ⟨S32x32, .f32⟩
  | 127 => ⟨S16x32x32x32, .f32⟩
  | _ => ⟨S16x32x32x32, .f32⟩

abbrev hbmTy0_7 (i : Nat) : BufTy := match i % 128 with
  | 0 => ⟨S16x32x32x32, .f32⟩
  | 1 => ⟨S16x32x32x32, .f32⟩
  | 2 => ⟨S32x32x1x1, .f32⟩
  | 3 => ⟨S32x32, .f32⟩
  | 4 => ⟨S16x32x32x32, .f32⟩
  | 5 => ⟨S16x32x32x32, .f32⟩
  | 6 => ⟨S16x32x32x32, .f32⟩
  | 7 => ⟨S32x32x1x1, .f32⟩
  | 8 => ⟨S32x32, .f32⟩
  | 9 => ⟨S16x32x32x32, .f32⟩
  | 10 => ⟨S16x32x32x32, .f32⟩
  | 11 => ⟨S16x32x32x32, .f32⟩
  | 12 => ⟨S32x32x1x1, .f32⟩
  | 13 => ⟨S32x32, .f32⟩
  | 14 => ⟨S16x32x32x32, .f32⟩
  | 15 => ⟨S16x32x32x32, .f32⟩
  | 16 => ⟨S16x32x32x32, .f32⟩
  | 17 => ⟨S32x32x1x1, .f32⟩
  | 18 => ⟨S32x32, .f32⟩
  | 19 => ⟨S16x32x32x32, .f32⟩
  | 20 => ⟨S16x32x32x32, .f32⟩
  | 21 => ⟨S16x32x32x32, .f32⟩
  | 22 => ⟨S1x32x1x1, .f32⟩
  | 23 => ⟨S16x32x32x32, .f32⟩
  | 24 => ⟨S16x32x32x32, .f32⟩
  | 25 => ⟨S_, .f32⟩
  | 26 => ⟨S16x32x32x32, .f32⟩
  | 27 => ⟨S16x32x32x32, .f32⟩
  | 28 => ⟨S_, .f32⟩
  | 29 => ⟨S16x32x32x32, .f32⟩
  | 30 => ⟨S16x32x32x32, .f32⟩
  | 31 => ⟨S16x32x32x32, .f32⟩
  | 32 => ⟨S16x32x32x32, .f32⟩
  | 33 => ⟨S16x32x32x32, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S16x32x32x32, .f32⟩
  | 43 => ⟨S16x32x32x32, .f32⟩
  | 44 => ⟨S16x32x32x32, .f32⟩
  | 45 => ⟨S16384x32, .f32⟩
  | 46 => ⟨S16384x32, .f32⟩
  | 47 => ⟨S_, .f32⟩
  | 48 => ⟨S16384, .f32⟩
  | 49 => ⟨S16384x1, .f32⟩
  | 50 => ⟨S8192x32, .f32⟩
  | 51 => ⟨S_, .f32⟩
  | 52 => ⟨S8192, .f32⟩
  | 53 => ⟨S32x8192, .f32⟩
  | 54 => ⟨S16384x8192, .f32⟩
  | 55 => ⟨S1x8192, .f32⟩
  | 56 => ⟨S16384x8192, .f32⟩
  | 57 => ⟨S16384x8192, .f32⟩
  | 58 => ⟨S16384x8192, .f32⟩
  | 59 => ⟨S_, .f32⟩
  | 60 => ⟨S16384x8192, .f32⟩
  | 61 => ⟨S16384x8192, .f32⟩
  | 62 => ⟨S16384x8192, .f32⟩
  | 63 => ⟨S16384x8192, .i32⟩
  | 64 => ⟨S_, .f32⟩
  | 65 => ⟨S16384, .f32⟩
  | 66 => ⟨S16384x1, .f32⟩
  | 67 => ⟨S16384x8192, .f32⟩
  | 68 => ⟨S16384x8192, .i1⟩
  | 69 => ⟨S_, .i32⟩
  | 70 => ⟨S_, .i32⟩
  | 71 => ⟨S16384x8192, .i32⟩
  | 72 => ⟨S16384x8192, .i32⟩
  | 73 => ⟨S_, .i32⟩
  | 74 => ⟨S16384, .i32⟩
  | 75 => ⟨S16x32x32, .i32⟩
  | 76 => ⟨S16x32x32x1, .i32⟩
  | 77 => ⟨S16x32x32x32, .f32⟩
  | 78 => ⟨S16x32x32x32, .f32⟩
  | 79 => ⟨S1x32x32x3x3, .f32⟩
  | 80 => ⟨S32x32x3x3, .f32⟩
  | 81 => ⟨S1x32, .f32⟩
  | 82 => ⟨S32, .f32⟩
  | 83 => ⟨S_, .i32⟩
  | 84 => ⟨S_, .f32⟩
  | 85 => ⟨S16x32x34x34, .f32⟩
  | 86 => ⟨S16x32x32x32, .f32⟩
  | 87 => ⟨S32x32x1x1, .f32⟩
  | 88 => ⟨S32x32, .f32⟩
  | 89 => ⟨S16x32x32x32, .f32⟩
  | 90 => ⟨S16x32x32x32, .f32⟩
  | 91 => ⟨S32x32x1x1, .f32⟩
  | 92 => ⟨S32x32, .f32⟩
  | 93 => ⟨S16x32x32x32, .f32⟩
  | 94 => ⟨S16x32x32x32, .f32⟩
  | 95 => ⟨S16x32x32x32, .f32⟩
  | 96 => ⟨S32x32x1x1, .f32⟩
  | 97 => ⟨S32x32, .f32⟩
  | 98 => ⟨S16x32x32x32, .f32⟩
  | 99 => ⟨S16x32x32x32, .f32⟩
  | 100 => ⟨S16x32x32x32, .f32⟩
  | 101 => ⟨S32x32x1x1, .f32⟩
  | 102 => ⟨S32x32, .f32⟩
  | 103 => ⟨S16x32x32x32, .f32⟩
  | 104 => ⟨S16x32x32x32, .f32⟩
  | 105 => ⟨S16x32x32x32, .f32⟩
  | 106 => ⟨S32x32x1x1, .f32⟩
  | 107 => ⟨S32x32, .f32⟩
  | 108 => ⟨S16x32x32x32, .f32⟩
  | 109 => ⟨S16x32x32x32, .f32⟩
  | 110 => ⟨S16x32x32x32, .f32⟩
  | 111 => ⟨S32x32x1x1, .f32⟩
  | 112 => ⟨S32x32, .f32⟩
  | 113 => ⟨S16x32x32x32, .f32⟩
  | 114 => ⟨S16x32x32x32, .f32⟩
  | 115 => ⟨S16x32x32x32, .f32⟩
  | 116 => ⟨S32x32x1x1, .f32⟩
  | 117 => ⟨S32x32, .f32⟩
  | 118 => ⟨S16x32x32x32, .f32⟩
  | 119 => ⟨S16x32x32x32, .f32⟩
  | 120 => ⟨S16x32x32x32, .f32⟩
  | 121 => ⟨S32x32x1x1, .f32⟩
  | 122 => ⟨S32x32, .f32⟩
  | 123 => ⟨S16x32x32x32, .f32⟩
  | 124 => ⟨S16x32x32x32, .f32⟩
  | 125 => ⟨S16x32x32x32, .f32⟩
  | 126 => ⟨S32x32x1x1, .f32⟩
  | 127 => ⟨S32x32, .f32⟩
  | _ => ⟨S16x32x32x32, .f32⟩

abbrev hbmTy0_8 (i : Nat) : BufTy := match i % 128 with
  | 0 => ⟨S16x32x32x32, .f32⟩
  | 1 => ⟨S16x32x32x32, .f32⟩
  | 2 => ⟨S16x32x32x32, .f32⟩
  | 3 => ⟨S1x32x1x1, .f32⟩
  | 4 => ⟨S16x32x32x32, .f32⟩
  | 5 => ⟨S16x32x32x32, .f32⟩
  | 6 => ⟨S_, .f32⟩
  | 7 => ⟨S16x32x32x32, .f32⟩
  | 8 => ⟨S16x32x32x32, .f32⟩
  | 9 => ⟨S_, .f32⟩
  | 10 => ⟨S16x32x32x32, .f32⟩
  | 11 => ⟨S16x32x32x32, .f32⟩
  | 12 => ⟨S16x32x32x32, .f32⟩
  | 13 => ⟨S16x32x32x32, .f32⟩
  | 14 => ⟨S16x32x32x32, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S16x32x32x32, .f32⟩
  | 24 => ⟨S16x32x32x32, .f32⟩
  | 25 => ⟨S_, .f32⟩
  | 26 => ⟨S_, .f32⟩
  | 27 => ⟨S16x32x32x32, .f32⟩
  | 28 => ⟨S16x32x32x32, .f32⟩
  | _ => ⟨S16x32x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16x32x32x32, .f32⟩

abbrev bufTy : (tb : Table) → Fin (tcTables nBuf tb) → BufTy
  | .hbm, ⟨i, _⟩ => hbmTy i
  | _, _ => ⟨S16x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_12 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_cst_14 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_cst_19 : Ref sig .tc := ⟨.hbm, 95, rfl⟩
abbrev main_call3_v0 : Ref sig .tc := ⟨.hbm, 96, rfl⟩
abbrev main_call3_v1 : Ref sig .tc := ⟨.hbm, 97, rfl⟩
abbrev main_v67 : Ref sig .tc := ⟨.hbm, 98, rfl⟩
abbrev main_cst_20 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_21 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_22 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_c_23 : Ref sig .tc := ⟨.hbm, 121, rfl⟩
abbrev main_call4_v0 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_24 : Ref sig .tc := ⟨.hbm, 172, rfl⟩
abbrev main_v136 : Ref sig .tc := ⟨.hbm, 173, rfl⟩
abbrev main_v137 : Ref sig .tc := ⟨.hbm, 174, rfl⟩
abbrev main_cst_25 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_cst_27 : Ref sig .tc := ⟨.hbm, 183, rfl⟩
abbrev main_v144 : Ref sig .tc := ⟨.hbm, 184, rfl⟩
abbrev main_cst_28 : Ref sig .tc := ⟨.hbm, 185, rfl⟩
abbrev main_v145 : Ref sig .tc := ⟨.hbm, 186, rfl⟩
abbrev main_cst_29 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_30 : Ref sig .tc := ⟨.hbm, 193, rfl⟩
abbrev main_v151 : Ref sig .tc := ⟨.hbm, 194, rfl⟩
abbrev main_cst_31 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_cst_32 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_33 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_34 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_35 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_c_36 : Ref sig .tc := ⟨.hbm, 223, rfl⟩
abbrev main_call5_v0 : Ref sig .tc := ⟨.hbm, 224, rfl⟩
abbrev main_call5_v1 : Ref sig .tc := ⟨.hbm, 225, rfl⟩
abbrev main_v175 : Ref sig .tc := ⟨.hbm, 226, rfl⟩
abbrev main_c_37 : Ref sig .tc := ⟨.hbm, 227, rfl⟩
abbrev main_v176 : Ref sig .tc := ⟨.hbm, 228, rfl⟩
abbrev main_v177 : Ref sig .tc := ⟨.hbm, 229, rfl⟩
abbrev main_call6_v0 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_cst_38 : Ref sig .tc := ⟨.hbm, 234, rfl⟩
abbrev main_v181 : Ref sig .tc := ⟨.hbm, 235, rfl⟩
abbrev main_v182 : Ref sig .tc := ⟨.hbm, 236, rfl⟩
abbrev main_cst_39 : Ref sig .tc := ⟨.hbm, 237, rfl⟩
abbrev main_v183 : Ref sig .tc := ⟨.hbm, 238, rfl⟩
abbrev main_v184 : Ref sig .tc := ⟨.hbm, 239, rfl⟩
abbrev main_cst_40 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_cst_41 : Ref sig .tc := ⟨.hbm, 250, rfl⟩
abbrev main_v194 : Ref sig .tc := ⟨.hbm, 251, rfl⟩
abbrev main_v195 : Ref sig .tc := ⟨.hbm, 252, rfl⟩
abbrev main_cst_42 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_cst_43 : Ref sig .tc := ⟨.hbm, 258, rfl⟩
abbrev main_v200 : Ref sig .tc := ⟨.hbm, 259, rfl⟩
abbrev main_v201 : Ref sig .tc := ⟨.hbm, 260, rfl⟩
abbrev main_cst_44 : Ref sig .tc := ⟨.hbm, 261, rfl⟩
abbrev main_v202 : Ref sig .tc := ⟨.hbm, 262, rfl⟩
abbrev main_v203 : Ref sig .tc := ⟨.hbm, 263, rfl⟩
abbrev main_cst_45 : Ref sig .tc := ⟨.hbm, 264, rfl⟩
abbrev main_v204 : Ref sig .tc := ⟨.hbm, 265, rfl⟩
abbrev main_v205 : Ref sig .tc := ⟨.hbm, 266, rfl⟩
abbrev main_cst_46 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_cst_47 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_cst_48 : Ref sig .tc := ⟨.hbm, 275, rfl⟩
abbrev main_v212 : Ref sig .tc := ⟨.hbm, 276, rfl⟩
abbrev main_v213 : Ref sig .tc := ⟨.hbm, 277, rfl⟩
abbrev main_v214 : Ref sig .tc := ⟨.hbm, 278, rfl⟩
abbrev main_cst_49 : Ref sig .tc := ⟨.hbm, 279, rfl⟩
abbrev main_v215 : Ref sig .tc := ⟨.hbm, 280, rfl⟩
abbrev main_v216 : Ref sig .tc := ⟨.hbm, 281, rfl⟩
abbrev main_cst_50 : Ref sig .tc := ⟨.hbm, 282, rfl⟩
abbrev main_call8_v0 : Ref sig .tc := ⟨.hbm, 283, rfl⟩
abbrev main_call8_v1 : Ref sig .tc := ⟨.hbm, 284, rfl⟩
abbrev main_v217 : Ref sig .tc := ⟨.hbm, 285, rfl⟩
abbrev main_cst_51 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_v222 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_cst_52 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_cst_53 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_c_54 : Ref sig .tc := ⟨.hbm, 309, rfl⟩
abbrev main_call9_v0 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_v254 : Ref sig .tc := ⟨.hbm, 327, rfl⟩
abbrev main_v255 : Ref sig .tc := ⟨.hbm, 328, rfl⟩
abbrev main_v256 : Ref sig .tc := ⟨.hbm, 329, rfl⟩
abbrev main_v257 : Ref sig .tc := ⟨.hbm, 330, rfl⟩
abbrev main_v258 : Ref sig .tc := ⟨.hbm, 331, rfl⟩
abbrev main_v259 : Ref sig .tc := ⟨.hbm, 332, rfl⟩
abbrev main_v260 : Ref sig .tc := ⟨.hbm, 333, rfl⟩
abbrev main_v261 : Ref sig .tc := ⟨.hbm, 334, rfl⟩
abbrev main_v262 : Ref sig .tc := ⟨.hbm, 335, rfl⟩
abbrev main_v263 : Ref sig .tc := ⟨.hbm, 336, rfl⟩
abbrev main_v264 : Ref sig .tc := ⟨.hbm, 337, rfl⟩
abbrev main_v265 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_v269 : Ref sig .tc := ⟨.hbm, 342, rfl⟩
abbrev main_v270 : Ref sig .tc := ⟨.hbm, 343, rfl⟩
abbrev main_v271 : Ref sig .tc := ⟨.hbm, 344, rfl⟩
abbrev main_v272 : Ref sig .tc := ⟨.hbm, 345, rfl⟩
abbrev main_v273 : Ref sig .tc := ⟨.hbm, 346, rfl⟩
abbrev main_v274 : Ref sig .tc := ⟨.hbm, 347, rfl⟩
abbrev main_v275 : Ref sig .tc := ⟨.hbm, 348, rfl⟩
abbrev main_v276 : Ref sig .tc := ⟨.hbm, 349, rfl⟩
abbrev main_v277 : Ref sig .tc := ⟨.hbm, 350, rfl⟩
abbrev main_v278 : Ref sig .tc := ⟨.hbm, 351, rfl⟩
abbrev main_v279 : Ref sig .tc := ⟨.hbm, 352, rfl⟩
abbrev main_v280 : Ref sig .tc := ⟨.hbm, 353, rfl⟩
abbrev main_v281 : Ref sig .tc := ⟨.hbm, 354, rfl⟩
abbrev main_v282 : Ref sig .tc := ⟨.hbm, 355, rfl⟩
abbrev main_v283 : Ref sig .tc := ⟨.hbm, 356, rfl⟩
abbrev main_v284 : Ref sig .tc := ⟨.hbm, 357, rfl⟩
abbrev main_v285 : Ref sig .tc := ⟨.hbm, 358, rfl⟩
abbrev main_v286 : Ref sig .tc := ⟨.hbm, 359, rfl⟩
abbrev main_cst_55 : Ref sig .tc := ⟨.hbm, 360, rfl⟩
abbrev main_v287 : Ref sig .tc := ⟨.hbm, 361, rfl⟩
abbrev main_v288 : Ref sig .tc := ⟨.hbm, 362, rfl⟩
abbrev main_cst_56 : Ref sig .tc := ⟨.hbm, 363, rfl⟩
abbrev main_v289 : Ref sig .tc := ⟨.hbm, 364, rfl⟩
abbrev main_v290 : Ref sig .tc := ⟨.hbm, 365, rfl⟩
abbrev main_v291 : Ref sig .tc := ⟨.hbm, 366, rfl⟩
abbrev main_v292 : Ref sig .tc := ⟨.hbm, 367, rfl⟩
abbrev main_v293 : Ref sig .tc := ⟨.hbm, 368, rfl⟩
abbrev main_cst_57 : Ref sig .tc := ⟨.hbm, 369, rfl⟩
abbrev main_v294 : Ref sig .tc := ⟨.hbm, 370, rfl⟩
abbrev main_cst_58 : Ref sig .tc := ⟨.hbm, 371, rfl⟩
abbrev main_v295 : Ref sig .tc := ⟨.hbm, 372, rfl⟩
abbrev main_cst_59 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_cst_60 : Ref sig .tc := ⟨.hbm, 380, rfl⟩
abbrev main_v302 : Ref sig .tc := ⟨.hbm, 381, rfl⟩
abbrev main_cst_61 : Ref sig .tc := ⟨.hbm, 382, rfl⟩
abbrev main_v303 : Ref sig .tc := ⟨.hbm, 383, rfl⟩
abbrev main_v304 : Ref sig .tc := ⟨.hbm, 384, rfl⟩
abbrev main_v305 : Ref sig .tc := ⟨.hbm, 385, rfl⟩
abbrev main_v306 : Ref sig .tc := ⟨.hbm, 386, rfl⟩
abbrev main_v307 : Ref sig .tc := ⟨.hbm, 387, rfl⟩
abbrev main_cst_62 : Ref sig .tc := ⟨.hbm, 388, rfl⟩
abbrev main_v308 : Ref sig .tc := ⟨.hbm, 389, rfl⟩
abbrev main_v309 : Ref sig .tc := ⟨.hbm, 390, rfl⟩
abbrev main_v310 : Ref sig .tc := ⟨.hbm, 391, rfl⟩
abbrev main_cst_63 : Ref sig .tc := ⟨.hbm, 392, rfl⟩
abbrev main_v311 : Ref sig .tc := ⟨.hbm, 393, rfl⟩
abbrev main_v312 : Ref sig .tc := ⟨.hbm, 394, rfl⟩
abbrev main_v313 : Ref sig .tc := ⟨.hbm, 395, rfl⟩
abbrev main_v314 : Ref sig .tc := ⟨.hbm, 396, rfl⟩
abbrev main_v315 : Ref sig .tc := ⟨.hbm, 397, rfl⟩
abbrev main_v316 : Ref sig .tc := ⟨.hbm, 398, rfl⟩
abbrev main_v317 : Ref sig .tc := ⟨.hbm, 399, rfl⟩
abbrev main_cst_64 : Ref sig .tc := ⟨.hbm, 400, rfl⟩
abbrev main_v318 : Ref sig .tc := ⟨.hbm, 401, rfl⟩
abbrev main_v319 : Ref sig .tc := ⟨.hbm, 402, rfl⟩
abbrev main_v320 : Ref sig .tc := ⟨.hbm, 403, rfl⟩
abbrev main_v321 : Ref sig .tc := ⟨.hbm, 404, rfl⟩
abbrev main_cst_65 : Ref sig .tc := ⟨.hbm, 405, rfl⟩
abbrev main_v322 : Ref sig .tc := ⟨.hbm, 406, rfl⟩
abbrev main_v323 : Ref sig .tc := ⟨.hbm, 407, rfl⟩
abbrev main_v324 : Ref sig .tc := ⟨.hbm, 408, rfl⟩
abbrev main_v325 : Ref sig .tc := ⟨.hbm, 409, rfl⟩
abbrev main_c_66 : Ref sig .tc := ⟨.hbm, 410, rfl⟩
abbrev main_call10_v0 : Ref sig .tc := ⟨.hbm, 411, rfl⟩
abbrev main_call10_v1 : Ref sig .tc := ⟨.hbm, 412, rfl⟩
abbrev main_v326 : Ref sig .tc := ⟨.hbm, 413, rfl⟩
abbrev main_c_67 : Ref sig .tc := ⟨.hbm, 414, rfl⟩
abbrev main_v327 : Ref sig .tc := ⟨.hbm, 415, rfl⟩
abbrev main_v328 : Ref sig .tc := ⟨.hbm, 416, rfl⟩
abbrev main_call11_v0 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_cst_68 : Ref sig .tc := ⟨.hbm, 421, rfl⟩
abbrev main_v332 : Ref sig .tc := ⟨.hbm, 422, rfl⟩
abbrev main_v333 : Ref sig .tc := ⟨.hbm, 423, rfl⟩
abbrev main_cst_69 : Ref sig .tc := ⟨.hbm, 424, rfl⟩
abbrev main_v334 : Ref sig .tc := ⟨.hbm, 425, rfl⟩
abbrev main_v335 : Ref sig .tc := ⟨.hbm, 426, rfl⟩
abbrev main_cst_70 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_v339 : Ref sig .tc := ⟨.hbm, 431, rfl⟩
abbrev main_v340 : Ref sig .tc := ⟨.hbm, 432, rfl⟩
abbrev main_v341 : Ref sig .tc := ⟨.hbm, 433, rfl⟩
abbrev main_v342 : Ref sig .tc := ⟨.hbm, 434, rfl⟩
abbrev main_v343 : Ref sig .tc := ⟨.hbm, 435, rfl⟩
abbrev main_v344 : Ref sig .tc := ⟨.hbm, 436, rfl⟩
abbrev main_cst_71 : Ref sig .tc := ⟨.hbm, 437, rfl⟩
abbrev main_v345 : Ref sig .tc := ⟨.hbm, 438, rfl⟩
abbrev main_v346 : Ref sig .tc := ⟨.hbm, 439, rfl⟩
abbrev main_cst_72 : Ref sig .tc := ⟨.hbm, 440, rfl⟩
abbrev main_v347 : Ref sig .tc := ⟨.hbm, 441, rfl⟩
abbrev main_v348 : Ref sig .tc := ⟨.hbm, 442, rfl⟩
abbrev main_v349 : Ref sig .tc := ⟨.hbm, 443, rfl⟩
abbrev main_v350 : Ref sig .tc := ⟨.hbm, 444, rfl⟩
abbrev main_cst_73 : Ref sig .tc := ⟨.hbm, 445, rfl⟩
abbrev main_v351 : Ref sig .tc := ⟨.hbm, 446, rfl⟩
abbrev main_v352 : Ref sig .tc := ⟨.hbm, 447, rfl⟩
abbrev main_cst_74 : Ref sig .tc := ⟨.hbm, 448, rfl⟩
abbrev main_v353 : Ref sig .tc := ⟨.hbm, 449, rfl⟩
abbrev main_v354 : Ref sig .tc := ⟨.hbm, 450, rfl⟩
abbrev main_cst_75 : Ref sig .tc := ⟨.hbm, 451, rfl⟩
abbrev main_v355 : Ref sig .tc := ⟨.hbm, 452, rfl⟩
abbrev main_v356 : Ref sig .tc := ⟨.hbm, 453, rfl⟩
abbrev main_cst_76 : Ref sig .tc := ⟨.hbm, 454, rfl⟩
abbrev main_v357 : Ref sig .tc := ⟨.hbm, 455, rfl⟩
abbrev main_v358 : Ref sig .tc := ⟨.hbm, 456, rfl⟩
abbrev main_v359 : Ref sig .tc := ⟨.hbm, 457, rfl⟩
abbrev main_cst_77 : Ref sig .tc := ⟨.hbm, 458, rfl⟩
abbrev main_v360 : Ref sig .tc := ⟨.hbm, 459, rfl⟩
abbrev main_v361 : Ref sig .tc := ⟨.hbm, 460, rfl⟩
abbrev main_v362 : Ref sig .tc := ⟨.hbm, 461, rfl⟩
abbrev main_cst_78 : Ref sig .tc := ⟨.hbm, 462, rfl⟩
abbrev main_v363 : Ref sig .tc := ⟨.hbm, 463, rfl⟩
abbrev main_v364 : Ref sig .tc := ⟨.hbm, 464, rfl⟩
abbrev main_v365 : Ref sig .tc := ⟨.hbm, 465, rfl⟩
abbrev main_cst_79 : Ref sig .tc := ⟨.hbm, 466, rfl⟩
abbrev main_v366 : Ref sig .tc := ⟨.hbm, 467, rfl⟩
abbrev main_v367 : Ref sig .tc := ⟨.hbm, 468, rfl⟩
abbrev main_cst_80 : Ref sig .tc := ⟨.hbm, 469, rfl⟩
abbrev main_call13_v0 : Ref sig .tc := ⟨.hbm, 470, rfl⟩
abbrev main_call13_v1 : Ref sig .tc := ⟨.hbm, 471, rfl⟩
abbrev main_v368 : Ref sig .tc := ⟨.hbm, 472, rfl⟩
abbrev main_cst_81 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_v372 : Ref sig .tc := ⟨.hbm, 477, rfl⟩
abbrev main_v373 : Ref sig .tc := ⟨.hbm, 478, rfl⟩
abbrev main_v374 : Ref sig .tc := ⟨.hbm, 479, rfl⟩
abbrev main_v375 : Ref sig .tc := ⟨.hbm, 480, rfl⟩
abbrev main_v376 : Ref sig .tc := ⟨.hbm, 481, rfl⟩
abbrev main_v377 : Ref sig .tc := ⟨.hbm, 482, rfl⟩
abbrev main_cst_82 : Ref sig .tc := ⟨.hbm, 483, rfl⟩
abbrev main_v378 : Ref sig .tc := ⟨.hbm, 484, rfl⟩
abbrev main_v379 : Ref sig .tc := ⟨.hbm, 485, rfl⟩
abbrev main_v380 : Ref sig .tc := ⟨.hbm, 486, rfl⟩
abbrev main_v381 : Ref sig .tc := ⟨.hbm, 487, rfl⟩
abbrev main_v382 : Ref sig .tc := ⟨.hbm, 488, rfl⟩
abbrev main_v383 : Ref sig .tc := ⟨.hbm, 489, rfl⟩
abbrev main_cst_83 : Ref sig .tc := ⟨.hbm, 490, rfl⟩
abbrev main_v384 : Ref sig .tc := ⟨.hbm, 491, rfl⟩
abbrev main_v385 : Ref sig .tc := ⟨.hbm, 492, rfl⟩
abbrev main_v386 : Ref sig .tc := ⟨.hbm, 493, rfl⟩
abbrev main_v387 : Ref sig .tc := ⟨.hbm, 494, rfl⟩
abbrev main_v388 : Ref sig .tc := ⟨.hbm, 495, rfl⟩
abbrev main_c_84 : Ref sig .tc := ⟨.hbm, 496, rfl⟩
abbrev main_call14_v0 : Ref sig .tc := ⟨.hbm, 497, rfl⟩
abbrev main_v389 : Ref sig .tc := ⟨.hbm, 498, rfl⟩
abbrev main_v390 : Ref sig .tc := ⟨.hbm, 499, rfl⟩
abbrev main_v391 : Ref sig .tc := ⟨.hbm, 500, rfl⟩
abbrev main_v392 : Ref sig .tc := ⟨.hbm, 501, rfl⟩
abbrev main_v393 : Ref sig .tc := ⟨.hbm, 502, rfl⟩
abbrev main_v394 : Ref sig .tc := ⟨.hbm, 503, rfl⟩
abbrev main_v395 : Ref sig .tc := ⟨.hbm, 504, rfl⟩
abbrev main_v396 : Ref sig .tc := ⟨.hbm, 505, rfl⟩
abbrev main_v397 : Ref sig .tc := ⟨.hbm, 506, rfl⟩
abbrev main_v398 : Ref sig .tc := ⟨.hbm, 507, rfl⟩
abbrev main_v399 : Ref sig .tc := ⟨.hbm, 508, rfl⟩
abbrev main_v400 : Ref sig .tc := ⟨.hbm, 509, rfl⟩
abbrev main_v401 : Ref sig .tc := ⟨.hbm, 510, rfl⟩
abbrev main_v402 : Ref sig .tc := ⟨.hbm, 511, rfl⟩
abbrev main_v403 : Ref sig .tc := ⟨.hbm, 512, rfl⟩
abbrev main_v404 : Ref sig .tc := ⟨.hbm, 513, rfl⟩
abbrev main_v405 : Ref sig .tc := ⟨.hbm, 514, rfl⟩
abbrev main_v406 : Ref sig .tc := ⟨.hbm, 515, rfl⟩
abbrev main_v407 : Ref sig .tc := ⟨.hbm, 516, rfl⟩
abbrev main_v408 : Ref sig .tc := ⟨.hbm, 517, rfl⟩
abbrev main_v409 : Ref sig .tc := ⟨.hbm, 518, rfl⟩
abbrev main_v410 : Ref sig .tc := ⟨.hbm, 519, rfl⟩
abbrev main_v411 : Ref sig .tc := ⟨.hbm, 520, rfl⟩
abbrev main_v412 : Ref sig .tc := ⟨.hbm, 521, rfl⟩
abbrev main_v413 : Ref sig .tc := ⟨.hbm, 522, rfl⟩
abbrev main_v414 : Ref sig .tc := ⟨.hbm, 523, rfl⟩
abbrev main_v415 : Ref sig .tc := ⟨.hbm, 524, rfl⟩
abbrev main_v416 : Ref sig .tc := ⟨.hbm, 525, rfl⟩
abbrev main_v417 : Ref sig .tc := ⟨.hbm, 526, rfl⟩
abbrev main_v418 : Ref sig .tc := ⟨.hbm, 527, rfl⟩
abbrev main_v419 : Ref sig .tc := ⟨.hbm, 528, rfl⟩
abbrev main_v420 : Ref sig .tc := ⟨.hbm, 529, rfl⟩
abbrev main_v421 : Ref sig .tc := ⟨.hbm, 530, rfl⟩
abbrev main_v422 : Ref sig .tc := ⟨.hbm, 531, rfl⟩
abbrev main_v423 : Ref sig .tc := ⟨.hbm, 532, rfl⟩
abbrev main_v424 : Ref sig .tc := ⟨.hbm, 533, rfl⟩
abbrev main_v425 : Ref sig .tc := ⟨.hbm, 534, rfl⟩
abbrev main_v426 : Ref sig .tc := ⟨.hbm, 535, rfl⟩
abbrev main_v427 : Ref sig .tc := ⟨.hbm, 536, rfl⟩
abbrev main_v428 : Ref sig .tc := ⟨.hbm, 537, rfl⟩
abbrev main_v429 : Ref sig .tc := ⟨.hbm, 538, rfl⟩
abbrev main_v430 : Ref sig .tc := ⟨.hbm, 539, rfl⟩
abbrev main_v431 : Ref sig .tc := ⟨.hbm, 540, rfl⟩
abbrev main_v432 : Ref sig .tc := ⟨.hbm, 541, rfl⟩
abbrev main_v433 : Ref sig .tc := ⟨.hbm, 542, rfl⟩
abbrev main_v434 : Ref sig .tc := ⟨.hbm, 543, rfl⟩
abbrev main_v435 : Ref sig .tc := ⟨.hbm, 544, rfl⟩
abbrev main_v436 : Ref sig .tc := ⟨.hbm, 545, rfl⟩
abbrev main_v437 : Ref sig .tc := ⟨.hbm, 546, rfl⟩
abbrev main_cst_85 : Ref sig .tc := ⟨.hbm, 547, rfl⟩
abbrev main_v438 : Ref sig .tc := ⟨.hbm, 548, rfl⟩
abbrev main_v439 : Ref sig .tc := ⟨.hbm, 549, rfl⟩
abbrev main_cst_86 : Ref sig .tc := ⟨.hbm, 550, rfl⟩
abbrev main_v440 : Ref sig .tc := ⟨.hbm, 551, rfl⟩
abbrev main_v441 : Ref sig .tc := ⟨.hbm, 552, rfl⟩
abbrev main_v442 : Ref sig .tc := ⟨.hbm, 553, rfl⟩
abbrev main_v443 : Ref sig .tc := ⟨.hbm, 554, rfl⟩
abbrev main_v444 : Ref sig .tc := ⟨.hbm, 555, rfl⟩
abbrev main_cst_87 : Ref sig .tc := ⟨.hbm, 556, rfl⟩
abbrev main_v445 : Ref sig .tc := ⟨.hbm, 557, rfl⟩
abbrev main_cst_88 : Ref sig .tc := ⟨.hbm, 558, rfl⟩
abbrev main_v446 : Ref sig .tc := ⟨.hbm, 559, rfl⟩
abbrev main_cst_89 : Ref sig .tc := ⟨.hbm, 560, rfl⟩
abbrev main_v447 : Ref sig .tc := ⟨.hbm, 561, rfl⟩
abbrev main_v448 : Ref sig .tc := ⟨.hbm, 562, rfl⟩
abbrev main_v449 : Ref sig .tc := ⟨.hbm, 563, rfl⟩
abbrev main_v450 : Ref sig .tc := ⟨.hbm, 564, rfl⟩
abbrev main_v451 : Ref sig .tc := ⟨.hbm, 565, rfl⟩
abbrev main_v452 : Ref sig .tc := ⟨.hbm, 566, rfl⟩
abbrev main_cst_90 : Ref sig .tc := ⟨.hbm, 567, rfl⟩
abbrev main_v453 : Ref sig .tc := ⟨.hbm, 568, rfl⟩
abbrev main_cst_91 : Ref sig .tc := ⟨.hbm, 569, rfl⟩
abbrev main_v454 : Ref sig .tc := ⟨.hbm, 570, rfl⟩
abbrev main_v455 : Ref sig .tc := ⟨.hbm, 571, rfl⟩
abbrev main_v456 : Ref sig .tc := ⟨.hbm, 572, rfl⟩
abbrev main_v457 : Ref sig .tc := ⟨.hbm, 573, rfl⟩
abbrev main_v458 : Ref sig .tc := ⟨.hbm, 574, rfl⟩
abbrev main_cst_92 : Ref sig .tc := ⟨.hbm, 575, rfl⟩
abbrev main_v459 : Ref sig .tc := ⟨.hbm, 576, rfl⟩
abbrev main_v460 : Ref sig .tc := ⟨.hbm, 577, rfl⟩
abbrev main_v461 : Ref sig .tc := ⟨.hbm, 578, rfl⟩
abbrev main_cst_93 : Ref sig .tc := ⟨.hbm, 579, rfl⟩
abbrev main_v462 : Ref sig .tc := ⟨.hbm, 580, rfl⟩
abbrev main_v463 : Ref sig .tc := ⟨.hbm, 581, rfl⟩
abbrev main_v464 : Ref sig .tc := ⟨.hbm, 582, rfl⟩
abbrev main_v465 : Ref sig .tc := ⟨.hbm, 583, rfl⟩
abbrev main_v466 : Ref sig .tc := ⟨.hbm, 584, rfl⟩
abbrev main_v467 : Ref sig .tc := ⟨.hbm, 585, rfl⟩
abbrev main_v468 : Ref sig .tc := ⟨.hbm, 586, rfl⟩
abbrev main_cst_94 : Ref sig .tc := ⟨.hbm, 587, rfl⟩
abbrev main_v469 : Ref sig .tc := ⟨.hbm, 588, rfl⟩
abbrev main_v470 : Ref sig .tc := ⟨.hbm, 589, rfl⟩
abbrev main_v471 : Ref sig .tc := ⟨.hbm, 590, rfl⟩
abbrev main_v472 : Ref sig .tc := ⟨.hbm, 591, rfl⟩
abbrev main_cst_95 : Ref sig .tc := ⟨.hbm, 592, rfl⟩
abbrev main_v473 : Ref sig .tc := ⟨.hbm, 593, rfl⟩
abbrev main_v474 : Ref sig .tc := ⟨.hbm, 594, rfl⟩
abbrev main_v475 : Ref sig .tc := ⟨.hbm, 595, rfl⟩
abbrev main_v476 : Ref sig .tc := ⟨.hbm, 596, rfl⟩
abbrev main_c_96 : Ref sig .tc := ⟨.hbm, 597, rfl⟩
abbrev main_call15_v0 : Ref sig .tc := ⟨.hbm, 598, rfl⟩
abbrev main_call15_v1 : Ref sig .tc := ⟨.hbm, 599, rfl⟩
abbrev main_v477 : Ref sig .tc := ⟨.hbm, 600, rfl⟩
abbrev main_c_97 : Ref sig .tc := ⟨.hbm, 601, rfl⟩
abbrev main_v478 : Ref sig .tc := ⟨.hbm, 602, rfl⟩
abbrev main_v479 : Ref sig .tc := ⟨.hbm, 603, rfl⟩
abbrev main_call16_v0 : Ref sig .tc := ⟨.hbm, 604, rfl⟩
abbrev main_v480 : Ref sig .tc := ⟨.hbm, 605, rfl⟩
abbrev main_v481 : Ref sig .tc := ⟨.hbm, 606, rfl⟩
abbrev main_v482 : Ref sig .tc := ⟨.hbm, 607, rfl⟩
abbrev main_cst_98 : Ref sig .tc := ⟨.hbm, 608, rfl⟩
abbrev main_v483 : Ref sig .tc := ⟨.hbm, 609, rfl⟩
abbrev main_v484 : Ref sig .tc := ⟨.hbm, 610, rfl⟩
abbrev main_cst_99 : Ref sig .tc := ⟨.hbm, 611, rfl⟩
abbrev main_v485 : Ref sig .tc := ⟨.hbm, 612, rfl⟩
abbrev main_v486 : Ref sig .tc := ⟨.hbm, 613, rfl⟩
abbrev main_cst_100 : Ref sig .tc := ⟨.hbm, 614, rfl⟩
abbrev main_v487 : Ref sig .tc := ⟨.hbm, 615, rfl⟩
abbrev main_v488 : Ref sig .tc := ⟨.hbm, 616, rfl⟩
abbrev main_v489 : Ref sig .tc := ⟨.hbm, 617, rfl⟩
abbrev main_v490 : Ref sig .tc := ⟨.hbm, 618, rfl⟩
abbrev main_v491 : Ref sig .tc := ⟨.hbm, 619, rfl⟩
abbrev main_v492 : Ref sig .tc := ⟨.hbm, 620, rfl⟩
abbrev main_v493 : Ref sig .tc := ⟨.hbm, 621, rfl⟩
abbrev main_v494 : Ref sig .tc := ⟨.hbm, 622, rfl⟩
abbrev main_v495 : Ref sig .tc := ⟨.hbm, 623, rfl⟩
abbrev main_cst_101 : Ref sig .tc := ⟨.hbm, 624, rfl⟩
abbrev main_v496 : Ref sig .tc := ⟨.hbm, 625, rfl⟩
abbrev main_v497 : Ref sig .tc := ⟨.hbm, 626, rfl⟩
abbrev main_cst_102 : Ref sig .tc := ⟨.hbm, 627, rfl⟩
abbrev main_v498 : Ref sig .tc := ⟨.hbm, 628, rfl⟩
abbrev main_v499 : Ref sig .tc := ⟨.hbm, 629, rfl⟩
abbrev main_v500 : Ref sig .tc := ⟨.hbm, 630, rfl⟩
abbrev main_v501 : Ref sig .tc := ⟨.hbm, 631, rfl⟩
abbrev main_cst_103 : Ref sig .tc := ⟨.hbm, 632, rfl⟩
abbrev main_v502 : Ref sig .tc := ⟨.hbm, 633, rfl⟩
abbrev main_v503 : Ref sig .tc := ⟨.hbm, 634, rfl⟩
abbrev main_cst_104 : Ref sig .tc := ⟨.hbm, 635, rfl⟩
abbrev main_v504 : Ref sig .tc := ⟨.hbm, 636, rfl⟩
abbrev main_v505 : Ref sig .tc := ⟨.hbm, 637, rfl⟩
abbrev main_cst_105 : Ref sig .tc := ⟨.hbm, 638, rfl⟩
abbrev main_v506 : Ref sig .tc := ⟨.hbm, 639, rfl⟩
abbrev main_v507 : Ref sig .tc := ⟨.hbm, 640, rfl⟩
abbrev main_cst_106 : Ref sig .tc := ⟨.hbm, 641, rfl⟩
abbrev main_v508 : Ref sig .tc := ⟨.hbm, 642, rfl⟩
abbrev main_v509 : Ref sig .tc := ⟨.hbm, 643, rfl⟩
abbrev main_v510 : Ref sig .tc := ⟨.hbm, 644, rfl⟩
abbrev main_cst_107 : Ref sig .tc := ⟨.hbm, 645, rfl⟩
abbrev main_v511 : Ref sig .tc := ⟨.hbm, 646, rfl⟩
abbrev main_v512 : Ref sig .tc := ⟨.hbm, 647, rfl⟩
abbrev main_v513 : Ref sig .tc := ⟨.hbm, 648, rfl⟩
abbrev main_cst_108 : Ref sig .tc := ⟨.hbm, 649, rfl⟩
abbrev main_v514 : Ref sig .tc := ⟨.hbm, 650, rfl⟩
abbrev main_v515 : Ref sig .tc := ⟨.hbm, 651, rfl⟩
abbrev main_v516 : Ref sig .tc := ⟨.hbm, 652, rfl⟩
abbrev main_cst_109 : Ref sig .tc := ⟨.hbm, 653, rfl⟩
abbrev main_v517 : Ref sig .tc := ⟨.hbm, 654, rfl⟩
abbrev main_v518 : Ref sig .tc := ⟨.hbm, 655, rfl⟩
abbrev main_cst_110 : Ref sig .tc := ⟨.hbm, 656, rfl⟩
abbrev main_call18_v0 : Ref sig .tc := ⟨.hbm, 657, rfl⟩
abbrev main_call18_v1 : Ref sig .tc := ⟨.hbm, 658, rfl⟩
abbrev main_v519 : Ref sig .tc := ⟨.hbm, 659, rfl⟩
abbrev main_cst_111 : Ref sig .tc := ⟨.hbm, 660, rfl⟩
abbrev main_v520 : Ref sig .tc := ⟨.hbm, 661, rfl⟩
abbrev main_v521 : Ref sig .tc := ⟨.hbm, 662, rfl⟩
abbrev main_v522 : Ref sig .tc := ⟨.hbm, 663, rfl⟩
abbrev main_v523 : Ref sig .tc := ⟨.hbm, 664, rfl⟩
abbrev main_v524 : Ref sig .tc := ⟨.hbm, 665, rfl⟩
abbrev main_v525 : Ref sig .tc := ⟨.hbm, 666, rfl⟩
abbrev main_v526 : Ref sig .tc := ⟨.hbm, 667, rfl⟩
abbrev main_v527 : Ref sig .tc := ⟨.hbm, 668, rfl⟩
abbrev main_v528 : Ref sig .tc := ⟨.hbm, 669, rfl⟩
abbrev main_cst_112 : Ref sig .tc := ⟨.hbm, 670, rfl⟩
abbrev main_v529 : Ref sig .tc := ⟨.hbm, 671, rfl⟩
abbrev main_v530 : Ref sig .tc := ⟨.hbm, 672, rfl⟩
abbrev main_v531 : Ref sig .tc := ⟨.hbm, 673, rfl⟩
abbrev main_v532 : Ref sig .tc := ⟨.hbm, 674, rfl⟩
abbrev main_v533 : Ref sig .tc := ⟨.hbm, 675, rfl⟩
abbrev main_v534 : Ref sig .tc := ⟨.hbm, 676, rfl⟩
abbrev main_cst_113 : Ref sig .tc := ⟨.hbm, 677, rfl⟩
abbrev main_v535 : Ref sig .tc := ⟨.hbm, 678, rfl⟩
abbrev main_v536 : Ref sig .tc := ⟨.hbm, 679, rfl⟩
abbrev main_v537 : Ref sig .tc := ⟨.hbm, 680, rfl⟩
abbrev main_v538 : Ref sig .tc := ⟨.hbm, 681, rfl⟩
abbrev main_v539 : Ref sig .tc := ⟨.hbm, 682, rfl⟩
abbrev main_c_114 : Ref sig .tc := ⟨.hbm, 683, rfl⟩
abbrev main_call19_v0 : Ref sig .tc := ⟨.hbm, 684, rfl⟩
abbrev main_v540 : Ref sig .tc := ⟨.hbm, 685, rfl⟩
abbrev main_v541 : Ref sig .tc := ⟨.hbm, 686, rfl⟩
abbrev main_v542 : Ref sig .tc := ⟨.hbm, 687, rfl⟩
abbrev main_v543 : Ref sig .tc := ⟨.hbm, 688, rfl⟩
abbrev main_v544 : Ref sig .tc := ⟨.hbm, 689, rfl⟩
abbrev main_v545 : Ref sig .tc := ⟨.hbm, 690, rfl⟩
abbrev main_v546 : Ref sig .tc := ⟨.hbm, 691, rfl⟩
abbrev main_v547 : Ref sig .tc := ⟨.hbm, 692, rfl⟩
abbrev main_v548 : Ref sig .tc := ⟨.hbm, 693, rfl⟩
abbrev main_v549 : Ref sig .tc := ⟨.hbm, 694, rfl⟩
abbrev main_v550 : Ref sig .tc := ⟨.hbm, 695, rfl⟩
abbrev main_v551 : Ref sig .tc := ⟨.hbm, 696, rfl⟩
abbrev main_v552 : Ref sig .tc := ⟨.hbm, 697, rfl⟩
abbrev main_v553 : Ref sig .tc := ⟨.hbm, 698, rfl⟩
abbrev main_v554 : Ref sig .tc := ⟨.hbm, 699, rfl⟩
abbrev main_v555 : Ref sig .tc := ⟨.hbm, 700, rfl⟩
abbrev main_v556 : Ref sig .tc := ⟨.hbm, 701, rfl⟩
abbrev main_v557 : Ref sig .tc := ⟨.hbm, 702, rfl⟩
abbrev main_v558 : Ref sig .tc := ⟨.hbm, 703, rfl⟩
abbrev main_v559 : Ref sig .tc := ⟨.hbm, 704, rfl⟩
abbrev main_v560 : Ref sig .tc := ⟨.hbm, 705, rfl⟩
abbrev main_v561 : Ref sig .tc := ⟨.hbm, 706, rfl⟩
abbrev main_v562 : Ref sig .tc := ⟨.hbm, 707, rfl⟩
abbrev main_v563 : Ref sig .tc := ⟨.hbm, 708, rfl⟩
abbrev main_v564 : Ref sig .tc := ⟨.hbm, 709, rfl⟩
abbrev main_v565 : Ref sig .tc := ⟨.hbm, 710, rfl⟩
abbrev main_v566 : Ref sig .tc := ⟨.hbm, 711, rfl⟩
abbrev main_v567 : Ref sig .tc := ⟨.hbm, 712, rfl⟩
abbrev main_v568 : Ref sig .tc := ⟨.hbm, 713, rfl⟩
abbrev main_v569 : Ref sig .tc := ⟨.hbm, 714, rfl⟩
abbrev main_v570 : Ref sig .tc := ⟨.hbm, 715, rfl⟩
abbrev main_v571 : Ref sig .tc := ⟨.hbm, 716, rfl⟩
abbrev main_v572 : Ref sig .tc := ⟨.hbm, 717, rfl⟩
abbrev main_v573 : Ref sig .tc := ⟨.hbm, 718, rfl⟩
abbrev main_v574 : Ref sig .tc := ⟨.hbm, 719, rfl⟩
abbrev main_v575 : Ref sig .tc := ⟨.hbm, 720, rfl⟩
abbrev main_v576 : Ref sig .tc := ⟨.hbm, 721, rfl⟩
abbrev main_v577 : Ref sig .tc := ⟨.hbm, 722, rfl⟩
abbrev main_v578 : Ref sig .tc := ⟨.hbm, 723, rfl⟩
abbrev main_v579 : Ref sig .tc := ⟨.hbm, 724, rfl⟩
abbrev main_v580 : Ref sig .tc := ⟨.hbm, 725, rfl⟩
abbrev main_v581 : Ref sig .tc := ⟨.hbm, 726, rfl⟩
abbrev main_v582 : Ref sig .tc := ⟨.hbm, 727, rfl⟩
abbrev main_v583 : Ref sig .tc := ⟨.hbm, 728, rfl⟩
abbrev main_v584 : Ref sig .tc := ⟨.hbm, 729, rfl⟩
abbrev main_v585 : Ref sig .tc := ⟨.hbm, 730, rfl⟩
abbrev main_v586 : Ref sig .tc := ⟨.hbm, 731, rfl⟩
abbrev main_v587 : Ref sig .tc := ⟨.hbm, 732, rfl⟩
abbrev main_v588 : Ref sig .tc := ⟨.hbm, 733, rfl⟩
abbrev main_cst_115 : Ref sig .tc := ⟨.hbm, 734, rfl⟩
abbrev main_v589 : Ref sig .tc := ⟨.hbm, 735, rfl⟩
abbrev main_v590 : Ref sig .tc := ⟨.hbm, 736, rfl⟩
abbrev main_cst_116 : Ref sig .tc := ⟨.hbm, 737, rfl⟩
abbrev main_v591 : Ref sig .tc := ⟨.hbm, 738, rfl⟩
abbrev main_v592 : Ref sig .tc := ⟨.hbm, 739, rfl⟩
abbrev main_v593 : Ref sig .tc := ⟨.hbm, 740, rfl⟩
abbrev main_v594 : Ref sig .tc := ⟨.hbm, 741, rfl⟩
abbrev main_v595 : Ref sig .tc := ⟨.hbm, 742, rfl⟩
abbrev main_cst_117 : Ref sig .tc := ⟨.hbm, 743, rfl⟩
abbrev main_v596 : Ref sig .tc := ⟨.hbm, 744, rfl⟩
abbrev main_cst_118 : Ref sig .tc := ⟨.hbm, 745, rfl⟩
abbrev main_v597 : Ref sig .tc := ⟨.hbm, 746, rfl⟩
abbrev main_cst_119 : Ref sig .tc := ⟨.hbm, 747, rfl⟩
abbrev main_v598 : Ref sig .tc := ⟨.hbm, 748, rfl⟩
abbrev main_v599 : Ref sig .tc := ⟨.hbm, 749, rfl⟩
abbrev main_v600 : Ref sig .tc := ⟨.hbm, 750, rfl⟩
abbrev main_v601 : Ref sig .tc := ⟨.hbm, 751, rfl⟩
abbrev main_v602 : Ref sig .tc := ⟨.hbm, 752, rfl⟩
abbrev main_v603 : Ref sig .tc := ⟨.hbm, 753, rfl⟩
abbrev main_cst_120 : Ref sig .tc := ⟨.hbm, 754, rfl⟩
abbrev main_v604 : Ref sig .tc := ⟨.hbm, 755, rfl⟩
abbrev main_cst_121 : Ref sig .tc := ⟨.hbm, 756, rfl⟩
abbrev main_v605 : Ref sig .tc := ⟨.hbm, 757, rfl⟩
abbrev main_v606 : Ref sig .tc := ⟨.hbm, 758, rfl⟩
abbrev main_v607 : Ref sig .tc := ⟨.hbm, 759, rfl⟩
abbrev main_v608 : Ref sig .tc := ⟨.hbm, 760, rfl⟩
abbrev main_v609 : Ref sig .tc := ⟨.hbm, 761, rfl⟩
abbrev main_cst_122 : Ref sig .tc := ⟨.hbm, 762, rfl⟩
abbrev main_v610 : Ref sig .tc := ⟨.hbm, 763, rfl⟩
abbrev main_v611 : Ref sig .tc := ⟨.hbm, 764, rfl⟩
abbrev main_v612 : Ref sig .tc := ⟨.hbm, 765, rfl⟩
abbrev main_cst_123 : Ref sig .tc := ⟨.hbm, 766, rfl⟩
abbrev main_v613 : Ref sig .tc := ⟨.hbm, 767, rfl⟩
abbrev main_v614 : Ref sig .tc := ⟨.hbm, 768, rfl⟩
abbrev main_v615 : Ref sig .tc := ⟨.hbm, 769, rfl⟩
abbrev main_v616 : Ref sig .tc := ⟨.hbm, 770, rfl⟩
abbrev main_v617 : Ref sig .tc := ⟨.hbm, 771, rfl⟩
abbrev main_v618 : Ref sig .tc := ⟨.hbm, 772, rfl⟩
abbrev main_v619 : Ref sig .tc := ⟨.hbm, 773, rfl⟩
abbrev main_cst_124 : Ref sig .tc := ⟨.hbm, 774, rfl⟩
abbrev main_v620 : Ref sig .tc := ⟨.hbm, 775, rfl⟩
abbrev main_v621 : Ref sig .tc := ⟨.hbm, 776, rfl⟩
abbrev main_v622 : Ref sig .tc := ⟨.hbm, 777, rfl⟩
abbrev main_v623 : Ref sig .tc := ⟨.hbm, 778, rfl⟩
abbrev main_cst_125 : Ref sig .tc := ⟨.hbm, 779, rfl⟩
abbrev main_v624 : Ref sig .tc := ⟨.hbm, 780, rfl⟩
abbrev main_v625 : Ref sig .tc := ⟨.hbm, 781, rfl⟩
abbrev main_v626 : Ref sig .tc := ⟨.hbm, 782, rfl⟩
abbrev main_v627 : Ref sig .tc := ⟨.hbm, 783, rfl⟩
abbrev main_c_126 : Ref sig .tc := ⟨.hbm, 784, rfl⟩
abbrev main_call20_v0 : Ref sig .tc := ⟨.hbm, 785, rfl⟩
abbrev main_call20_v1 : Ref sig .tc := ⟨.hbm, 786, rfl⟩
abbrev main_v628 : Ref sig .tc := ⟨.hbm, 787, rfl⟩
abbrev main_c_127 : Ref sig .tc := ⟨.hbm, 788, rfl⟩
abbrev main_v629 : Ref sig .tc := ⟨.hbm, 789, rfl⟩
abbrev main_v630 : Ref sig .tc := ⟨.hbm, 790, rfl⟩
abbrev main_call21_v0 : Ref sig .tc := ⟨.hbm, 791, rfl⟩
abbrev main_v631 : Ref sig .tc := ⟨.hbm, 792, rfl⟩
abbrev main_v632 : Ref sig .tc := ⟨.hbm, 793, rfl⟩
abbrev main_v633 : Ref sig .tc := ⟨.hbm, 794, rfl⟩
abbrev main_cst_128 : Ref sig .tc := ⟨.hbm, 795, rfl⟩
abbrev main_v634 : Ref sig .tc := ⟨.hbm, 796, rfl⟩
abbrev main_v635 : Ref sig .tc := ⟨.hbm, 797, rfl⟩
abbrev main_cst_129 : Ref sig .tc := ⟨.hbm, 798, rfl⟩
abbrev main_v636 : Ref sig .tc := ⟨.hbm, 799, rfl⟩
abbrev main_v637 : Ref sig .tc := ⟨.hbm, 800, rfl⟩
abbrev main_cst_130 : Ref sig .tc := ⟨.hbm, 801, rfl⟩
abbrev main_v638 : Ref sig .tc := ⟨.hbm, 802, rfl⟩
abbrev main_v639 : Ref sig .tc := ⟨.hbm, 803, rfl⟩
abbrev main_v640 : Ref sig .tc := ⟨.hbm, 804, rfl⟩
abbrev main_v641 : Ref sig .tc := ⟨.hbm, 805, rfl⟩
abbrev main_v642 : Ref sig .tc := ⟨.hbm, 806, rfl⟩
abbrev main_v643 : Ref sig .tc := ⟨.hbm, 807, rfl⟩
abbrev main_v644 : Ref sig .tc := ⟨.hbm, 808, rfl⟩
abbrev main_v645 : Ref sig .tc := ⟨.hbm, 809, rfl⟩
abbrev main_v646 : Ref sig .tc := ⟨.hbm, 810, rfl⟩
abbrev main_cst_131 : Ref sig .tc := ⟨.hbm, 811, rfl⟩
abbrev main_v647 : Ref sig .tc := ⟨.hbm, 812, rfl⟩
abbrev main_v648 : Ref sig .tc := ⟨.hbm, 813, rfl⟩
abbrev main_cst_132 : Ref sig .tc := ⟨.hbm, 814, rfl⟩
abbrev main_v649 : Ref sig .tc := ⟨.hbm, 815, rfl⟩
abbrev main_v650 : Ref sig .tc := ⟨.hbm, 816, rfl⟩
abbrev main_v651 : Ref sig .tc := ⟨.hbm, 817, rfl⟩
abbrev main_v652 : Ref sig .tc := ⟨.hbm, 818, rfl⟩
abbrev main_cst_133 : Ref sig .tc := ⟨.hbm, 819, rfl⟩
abbrev main_v653 : Ref sig .tc := ⟨.hbm, 820, rfl⟩
abbrev main_v654 : Ref sig .tc := ⟨.hbm, 821, rfl⟩
abbrev main_cst_134 : Ref sig .tc := ⟨.hbm, 822, rfl⟩
abbrev main_v655 : Ref sig .tc := ⟨.hbm, 823, rfl⟩
abbrev main_v656 : Ref sig .tc := ⟨.hbm, 824, rfl⟩
abbrev main_cst_135 : Ref sig .tc := ⟨.hbm, 825, rfl⟩
abbrev main_v657 : Ref sig .tc := ⟨.hbm, 826, rfl⟩
abbrev main_v658 : Ref sig .tc := ⟨.hbm, 827, rfl⟩
abbrev main_cst_136 : Ref sig .tc := ⟨.hbm, 828, rfl⟩
abbrev main_v659 : Ref sig .tc := ⟨.hbm, 829, rfl⟩
abbrev main_v660 : Ref sig .tc := ⟨.hbm, 830, rfl⟩
abbrev main_v661 : Ref sig .tc := ⟨.hbm, 831, rfl⟩
abbrev main_cst_137 : Ref sig .tc := ⟨.hbm, 832, rfl⟩
abbrev main_v662 : Ref sig .tc := ⟨.hbm, 833, rfl⟩
abbrev main_v663 : Ref sig .tc := ⟨.hbm, 834, rfl⟩
abbrev main_v664 : Ref sig .tc := ⟨.hbm, 835, rfl⟩
abbrev main_cst_138 : Ref sig .tc := ⟨.hbm, 836, rfl⟩
abbrev main_v665 : Ref sig .tc := ⟨.hbm, 837, rfl⟩
abbrev main_v666 : Ref sig .tc := ⟨.hbm, 838, rfl⟩
abbrev main_v667 : Ref sig .tc := ⟨.hbm, 839, rfl⟩
abbrev main_cst_139 : Ref sig .tc := ⟨.hbm, 840, rfl⟩
abbrev main_v668 : Ref sig .tc := ⟨.hbm, 841, rfl⟩
abbrev main_v669 : Ref sig .tc := ⟨.hbm, 842, rfl⟩
abbrev main_cst_140 : Ref sig .tc := ⟨.hbm, 843, rfl⟩
abbrev main_call23_v0 : Ref sig .tc := ⟨.hbm, 844, rfl⟩
abbrev main_call23_v1 : Ref sig .tc := ⟨.hbm, 845, rfl⟩
abbrev main_v670 : Ref sig .tc := ⟨.hbm, 846, rfl⟩
abbrev main_cst_141 : Ref sig .tc := ⟨.hbm, 847, rfl⟩
abbrev main_v671 : Ref sig .tc := ⟨.hbm, 848, rfl⟩
abbrev main_v672 : Ref sig .tc := ⟨.hbm, 849, rfl⟩
abbrev main_v673 : Ref sig .tc := ⟨.hbm, 850, rfl⟩
abbrev main_v674 : Ref sig .tc := ⟨.hbm, 851, rfl⟩
abbrev main_v675 : Ref sig .tc := ⟨.hbm, 852, rfl⟩
abbrev main_v676 : Ref sig .tc := ⟨.hbm, 853, rfl⟩
abbrev main_v677 : Ref sig .tc := ⟨.hbm, 854, rfl⟩
abbrev main_v678 : Ref sig .tc := ⟨.hbm, 855, rfl⟩
abbrev main_v679 : Ref sig .tc := ⟨.hbm, 856, rfl⟩
abbrev main_cst_142 : Ref sig .tc := ⟨.hbm, 857, rfl⟩
abbrev main_v680 : Ref sig .tc := ⟨.hbm, 858, rfl⟩
abbrev main_v681 : Ref sig .tc := ⟨.hbm, 859, rfl⟩
abbrev main_v682 : Ref sig .tc := ⟨.hbm, 860, rfl⟩
abbrev main_v683 : Ref sig .tc := ⟨.hbm, 861, rfl⟩
abbrev main_v684 : Ref sig .tc := ⟨.hbm, 862, rfl⟩
abbrev main_v685 : Ref sig .tc := ⟨.hbm, 863, rfl⟩
abbrev main_cst_143 : Ref sig .tc := ⟨.hbm, 864, rfl⟩
abbrev main_v686 : Ref sig .tc := ⟨.hbm, 865, rfl⟩
abbrev main_v687 : Ref sig .tc := ⟨.hbm, 866, rfl⟩
abbrev main_v688 : Ref sig .tc := ⟨.hbm, 867, rfl⟩
abbrev main_v689 : Ref sig .tc := ⟨.hbm, 868, rfl⟩
abbrev main_v690 : Ref sig .tc := ⟨.hbm, 869, rfl⟩
abbrev main_c_144 : Ref sig .tc := ⟨.hbm, 870, rfl⟩
abbrev main_call24_v0 : Ref sig .tc := ⟨.hbm, 871, rfl⟩
abbrev main_v691 : Ref sig .tc := ⟨.hbm, 872, rfl⟩
abbrev main_v692 : Ref sig .tc := ⟨.hbm, 873, rfl⟩
abbrev main_v693 : Ref sig .tc := ⟨.hbm, 874, rfl⟩
abbrev main_v694 : Ref sig .tc := ⟨.hbm, 875, rfl⟩
abbrev main_v695 : Ref sig .tc := ⟨.hbm, 876, rfl⟩
abbrev main_v696 : Ref sig .tc := ⟨.hbm, 877, rfl⟩
abbrev main_v697 : Ref sig .tc := ⟨.hbm, 878, rfl⟩
abbrev main_v698 : Ref sig .tc := ⟨.hbm, 879, rfl⟩
abbrev main_v699 : Ref sig .tc := ⟨.hbm, 880, rfl⟩
abbrev main_v700 : Ref sig .tc := ⟨.hbm, 881, rfl⟩
abbrev main_v701 : Ref sig .tc := ⟨.hbm, 882, rfl⟩
abbrev main_v702 : Ref sig .tc := ⟨.hbm, 883, rfl⟩
abbrev main_v703 : Ref sig .tc := ⟨.hbm, 884, rfl⟩
abbrev main_v704 : Ref sig .tc := ⟨.hbm, 885, rfl⟩
abbrev main_v705 : Ref sig .tc := ⟨.hbm, 886, rfl⟩
abbrev main_v706 : Ref sig .tc := ⟨.hbm, 887, rfl⟩
abbrev main_v707 : Ref sig .tc := ⟨.hbm, 888, rfl⟩
abbrev main_v708 : Ref sig .tc := ⟨.hbm, 889, rfl⟩
abbrev main_v709 : Ref sig .tc := ⟨.hbm, 890, rfl⟩
abbrev main_v710 : Ref sig .tc := ⟨.hbm, 891, rfl⟩
abbrev main_v711 : Ref sig .tc := ⟨.hbm, 892, rfl⟩
abbrev main_v712 : Ref sig .tc := ⟨.hbm, 893, rfl⟩
abbrev main_v713 : Ref sig .tc := ⟨.hbm, 894, rfl⟩
abbrev main_v714 : Ref sig .tc := ⟨.hbm, 895, rfl⟩
abbrev main_v715 : Ref sig .tc := ⟨.hbm, 896, rfl⟩
abbrev main_v716 : Ref sig .tc := ⟨.hbm, 897, rfl⟩
abbrev main_v717 : Ref sig .tc := ⟨.hbm, 898, rfl⟩
abbrev main_v718 : Ref sig .tc := ⟨.hbm, 899, rfl⟩
abbrev main_v719 : Ref sig .tc := ⟨.hbm, 900, rfl⟩
abbrev main_v720 : Ref sig .tc := ⟨.hbm, 901, rfl⟩
abbrev main_v721 : Ref sig .tc := ⟨.hbm, 902, rfl⟩
abbrev main_v722 : Ref sig .tc := ⟨.hbm, 903, rfl⟩
abbrev main_v723 : Ref sig .tc := ⟨.hbm, 904, rfl⟩
abbrev main_v724 : Ref sig .tc := ⟨.hbm, 905, rfl⟩
abbrev main_v725 : Ref sig .tc := ⟨.hbm, 906, rfl⟩
abbrev main_v726 : Ref sig .tc := ⟨.hbm, 907, rfl⟩
abbrev main_v727 : Ref sig .tc := ⟨.hbm, 908, rfl⟩
abbrev main_v728 : Ref sig .tc := ⟨.hbm, 909, rfl⟩
abbrev main_v729 : Ref sig .tc := ⟨.hbm, 910, rfl⟩
abbrev main_v730 : Ref sig .tc := ⟨.hbm, 911, rfl⟩
abbrev main_v731 : Ref sig .tc := ⟨.hbm, 912, rfl⟩
abbrev main_v732 : Ref sig .tc := ⟨.hbm, 913, rfl⟩
abbrev main_v733 : Ref sig .tc := ⟨.hbm, 914, rfl⟩
abbrev main_v734 : Ref sig .tc := ⟨.hbm, 915, rfl⟩
abbrev main_v735 : Ref sig .tc := ⟨.hbm, 916, rfl⟩
abbrev main_v736 : Ref sig .tc := ⟨.hbm, 917, rfl⟩
abbrev main_v737 : Ref sig .tc := ⟨.hbm, 918, rfl⟩
abbrev main_v738 : Ref sig .tc := ⟨.hbm, 919, rfl⟩
abbrev main_v739 : Ref sig .tc := ⟨.hbm, 920, rfl⟩
abbrev main_cst_145 : Ref sig .tc := ⟨.hbm, 921, rfl⟩
abbrev main_v740 : Ref sig .tc := ⟨.hbm, 922, rfl⟩
abbrev main_v741 : Ref sig .tc := ⟨.hbm, 923, rfl⟩
abbrev main_cst_146 : Ref sig .tc := ⟨.hbm, 924, rfl⟩
abbrev main_v742 : Ref sig .tc := ⟨.hbm, 925, rfl⟩
abbrev main_v743 : Ref sig .tc := ⟨.hbm, 926, rfl⟩
abbrev main_v744 : Ref sig .tc := ⟨.hbm, 927, rfl⟩
abbrev main_v745 : Ref sig .tc := ⟨.hbm, 928, rfl⟩
abbrev main_v746 : Ref sig .tc := ⟨.hbm, 929, rfl⟩
abbrev main_cst_147 : Ref sig .tc := ⟨.hbm, 930, rfl⟩
abbrev main_v747 : Ref sig .tc := ⟨.hbm, 931, rfl⟩
abbrev main_cst_148 : Ref sig .tc := ⟨.hbm, 932, rfl⟩
abbrev main_v748 : Ref sig .tc := ⟨.hbm, 933, rfl⟩
abbrev main_cst_149 : Ref sig .tc := ⟨.hbm, 934, rfl⟩
abbrev main_v749 : Ref sig .tc := ⟨.hbm, 935, rfl⟩
abbrev main_v750 : Ref sig .tc := ⟨.hbm, 936, rfl⟩
abbrev main_v751 : Ref sig .tc := ⟨.hbm, 937, rfl⟩
abbrev main_v752 : Ref sig .tc := ⟨.hbm, 938, rfl⟩
abbrev main_v753 : Ref sig .tc := ⟨.hbm, 939, rfl⟩
abbrev main_v754 : Ref sig .tc := ⟨.hbm, 940, rfl⟩
abbrev main_v755 : Ref sig .tc := ⟨.hbm, 941, rfl⟩
abbrev main_v756 : Ref sig .tc := ⟨.hbm, 942, rfl⟩
abbrev main_cst_150 : Ref sig .tc := ⟨.hbm, 943, rfl⟩
abbrev main_v757 : Ref sig .tc := ⟨.hbm, 944, rfl⟩
abbrev main_v758 : Ref sig .tc := ⟨.hbm, 945, rfl⟩
abbrev main_v759 : Ref sig .tc := ⟨.hbm, 946, rfl⟩
abbrev main_cst_151 : Ref sig .tc := ⟨.hbm, 947, rfl⟩
abbrev main_v760 : Ref sig .tc := ⟨.hbm, 948, rfl⟩
abbrev main_v761 : Ref sig .tc := ⟨.hbm, 949, rfl⟩
abbrev main_v762 : Ref sig .tc := ⟨.hbm, 950, rfl⟩
abbrev main_v763 : Ref sig .tc := ⟨.hbm, 951, rfl⟩
abbrev main_v764 : Ref sig .tc := ⟨.hbm, 952, rfl⟩
abbrev main_v765 : Ref sig .tc := ⟨.hbm, 953, rfl⟩
abbrev main_v766 : Ref sig .tc := ⟨.hbm, 954, rfl⟩
abbrev main_cst_152 : Ref sig .tc := ⟨.hbm, 955, rfl⟩
abbrev main_v767 : Ref sig .tc := ⟨.hbm, 956, rfl⟩
abbrev main_v768 : Ref sig .tc := ⟨.hbm, 957, rfl⟩
abbrev main_v769 : Ref sig .tc := ⟨.hbm, 958, rfl⟩
abbrev main_v770 : Ref sig .tc := ⟨.hbm, 959, rfl⟩
abbrev main_cst_153 : Ref sig .tc := ⟨.hbm, 960, rfl⟩
abbrev main_v771 : Ref sig .tc := ⟨.hbm, 961, rfl⟩
abbrev main_v772 : Ref sig .tc := ⟨.hbm, 962, rfl⟩
abbrev main_v773 : Ref sig .tc := ⟨.hbm, 963, rfl⟩
abbrev main_v774 : Ref sig .tc := ⟨.hbm, 964, rfl⟩
abbrev main_c_154 : Ref sig .tc := ⟨.hbm, 965, rfl⟩
abbrev main_call25_v0 : Ref sig .tc := ⟨.hbm, 966, rfl⟩
abbrev main_call25_v1 : Ref sig .tc := ⟨.hbm, 967, rfl⟩
abbrev main_v775 : Ref sig .tc := ⟨.hbm, 968, rfl⟩
abbrev main_c_155 : Ref sig .tc := ⟨.hbm, 969, rfl⟩
abbrev main_v776 : Ref sig .tc := ⟨.hbm, 970, rfl⟩
abbrev main_v777 : Ref sig .tc := ⟨.hbm, 971, rfl⟩
abbrev main_call26_v0 : Ref sig .tc := ⟨.hbm, 972, rfl⟩
abbrev main_v778 : Ref sig .tc := ⟨.hbm, 973, rfl⟩
abbrev main_v779 : Ref sig .tc := ⟨.hbm, 974, rfl⟩
abbrev main_v780 : Ref sig .tc := ⟨.hbm, 975, rfl⟩
abbrev main_v781 : Ref sig .tc := ⟨.hbm, 976, rfl⟩
abbrev main_v782 : Ref sig .tc := ⟨.hbm, 977, rfl⟩
abbrev main_v783 : Ref sig .tc := ⟨.hbm, 978, rfl⟩
abbrev main_c_156 : Ref sig .tc := ⟨.hbm, 979, rfl⟩
abbrev main_call27_v0 : Ref sig .tc := ⟨.hbm, 980, rfl⟩
abbrev main_v784 : Ref sig .tc := ⟨.hbm, 981, rfl⟩
abbrev main_v785 : Ref sig .tc := ⟨.hbm, 982, rfl⟩
abbrev main_v786 : Ref sig .tc := ⟨.hbm, 983, rfl⟩
abbrev main_v787 : Ref sig .tc := ⟨.hbm, 984, rfl⟩
abbrev main_v788 : Ref sig .tc := ⟨.hbm, 985, rfl⟩
abbrev main_v789 : Ref sig .tc := ⟨.hbm, 986, rfl⟩
abbrev main_v790 : Ref sig .tc := ⟨.hbm, 987, rfl⟩
abbrev main_v791 : Ref sig .tc := ⟨.hbm, 988, rfl⟩
abbrev main_v792 : Ref sig .tc := ⟨.hbm, 989, rfl⟩
abbrev main_v793 : Ref sig .tc := ⟨.hbm, 990, rfl⟩
abbrev main_v794 : Ref sig .tc := ⟨.hbm, 991, rfl⟩
abbrev main_v795 : Ref sig .tc := ⟨.hbm, 992, rfl⟩
abbrev main_v796 : Ref sig .tc := ⟨.hbm, 993, rfl⟩
abbrev main_v797 : Ref sig .tc := ⟨.hbm, 994, rfl⟩
abbrev main_v798 : Ref sig .tc := ⟨.hbm, 995, rfl⟩
abbrev main_v799 : Ref sig .tc := ⟨.hbm, 996, rfl⟩
abbrev main_v800 : Ref sig .tc := ⟨.hbm, 997, rfl⟩
abbrev main_v801 : Ref sig .tc := ⟨.hbm, 998, rfl⟩
abbrev main_v802 : Ref sig .tc := ⟨.hbm, 999, rfl⟩
abbrev main_v803 : Ref sig .tc := ⟨.hbm, 1000, rfl⟩
abbrev main_v804 : Ref sig .tc := ⟨.hbm, 1001, rfl⟩
abbrev main_v805 : Ref sig .tc := ⟨.hbm, 1002, rfl⟩
abbrev main_v806 : Ref sig .tc := ⟨.hbm, 1003, rfl⟩
abbrev main_v807 : Ref sig .tc := ⟨.hbm, 1004, rfl⟩
abbrev main_v808 : Ref sig .tc := ⟨.hbm, 1005, rfl⟩
abbrev main_v809 : Ref sig .tc := ⟨.hbm, 1006, rfl⟩
abbrev main_v810 : Ref sig .tc := ⟨.hbm, 1007, rfl⟩
abbrev main_v811 : Ref sig .tc := ⟨.hbm, 1008, rfl⟩
abbrev main_v812 : Ref sig .tc := ⟨.hbm, 1009, rfl⟩
abbrev main_v813 : Ref sig .tc := ⟨.hbm, 1010, rfl⟩
abbrev main_v814 : Ref sig .tc := ⟨.hbm, 1011, rfl⟩
abbrev main_v815 : Ref sig .tc := ⟨.hbm, 1012, rfl⟩
abbrev main_v816 : Ref sig .tc := ⟨.hbm, 1013, rfl⟩
abbrev main_v817 : Ref sig .tc := ⟨.hbm, 1014, rfl⟩
abbrev main_v818 : Ref sig .tc := ⟨.hbm, 1015, rfl⟩
abbrev main_v819 : Ref sig .tc := ⟨.hbm, 1016, rfl⟩
abbrev main_v820 : Ref sig .tc := ⟨.hbm, 1017, rfl⟩
abbrev main_v821 : Ref sig .tc := ⟨.hbm, 1018, rfl⟩
abbrev main_v822 : Ref sig .tc := ⟨.hbm, 1019, rfl⟩
abbrev main_v823 : Ref sig .tc := ⟨.hbm, 1020, rfl⟩
abbrev main_v824 : Ref sig .tc := ⟨.hbm, 1021, rfl⟩
abbrev main_v825 : Ref sig .tc := ⟨.hbm, 1022, rfl⟩
abbrev main_v826 : Ref sig .tc := ⟨.hbm, 1023, rfl⟩
abbrev main_v827 : Ref sig .tc := ⟨.hbm, 1024, rfl⟩
abbrev main_v828 : Ref sig .tc := ⟨.hbm, 1025, rfl⟩
abbrev main_v829 : Ref sig .tc := ⟨.hbm, 1026, rfl⟩
abbrev main_v830 : Ref sig .tc := ⟨.hbm, 1027, rfl⟩
abbrev main_v831 : Ref sig .tc := ⟨.hbm, 1028, rfl⟩
abbrev main_v832 : Ref sig .tc := ⟨.hbm, 1029, rfl⟩
abbrev main_cst_157 : Ref sig .tc := ⟨.hbm, 1030, rfl⟩
abbrev main_v833 : Ref sig .tc := ⟨.hbm, 1031, rfl⟩
abbrev main_v834 : Ref sig .tc := ⟨.hbm, 1032, rfl⟩
abbrev main_cst_158 : Ref sig .tc := ⟨.hbm, 1033, rfl⟩
abbrev main_v835 : Ref sig .tc := ⟨.hbm, 1034, rfl⟩
abbrev main_v836 : Ref sig .tc := ⟨.hbm, 1035, rfl⟩
abbrev main_v837 : Ref sig .tc := ⟨.hbm, 1036, rfl⟩
abbrev main_v838 : Ref sig .tc := ⟨.hbm, 1037, rfl⟩
abbrev main_v839 : Ref sig .tc := ⟨.hbm, 1038, rfl⟩
abbrev main_cst_159 : Ref sig .tc := ⟨.hbm, 1039, rfl⟩
abbrev main_v840 : Ref sig .tc := ⟨.hbm, 1040, rfl⟩
abbrev main_cst_160 : Ref sig .tc := ⟨.hbm, 1041, rfl⟩
abbrev main_v841 : Ref sig .tc := ⟨.hbm, 1042, rfl⟩
abbrev main_cst_161 : Ref sig .tc := ⟨.hbm, 1043, rfl⟩
abbrev main_v842 : Ref sig .tc := ⟨.hbm, 1044, rfl⟩
abbrev main_v843 : Ref sig .tc := ⟨.hbm, 1045, rfl⟩
abbrev main_v844 : Ref sig .tc := ⟨.hbm, 1046, rfl⟩
abbrev main_v845 : Ref sig .tc := ⟨.hbm, 1047, rfl⟩
abbrev main_v846 : Ref sig .tc := ⟨.hbm, 1048, rfl⟩
abbrev main_cst_162 : Ref sig .tc := ⟨.hbm, 1049, rfl⟩
abbrev main_v847 : Ref sig .tc := ⟨.hbm, 1050, rfl⟩
abbrev main_v848 : Ref sig .tc := ⟨.hbm, 1051, rfl⟩
abbrev main_v849 : Ref sig .tc := ⟨.hbm, 1052, rfl⟩

abbrev nD : Nat := 1
abbrev τ : Topo := Topo.v7x

variable {F : FTy → Type} [FloatOps F]
-- ==== Proof.Spec.lean ====
/- The mathematics of one image and one scale: distances, the nearest code, pooling, resizing, the mix with the convolution. -/
module

public import Idealize.ShloMosaic.Lib.Pointwise
public import Idealize.ShloMosaic.Lib.IdealHost

@[expose] public section

set_option maxRecDepth 16384

open Idealize.ShloMosaic Idealize.ShloMosaic.Pointwise

noncomputable section

namespace Vq

/-! ## The mathematics of one image -/

/-- One image as the kernel lays it out: 1024 pixels, row by row, of 32 channels. -/
abbrev Im := Fin 1024 → Fin 32 → EReal

/-- The constant one half. -/
abbrev half : EReal := Ideal.ofBits .f32 0x3F000000#32

/-- The constant two. -/
abbrev two : EReal := Ideal.ofBits .f32 0x40000000#32

/-- The squared distance of row `q` from code `j`, expanded. -/
def dist {N : Nat} (z : Fin N → Fin 32 → EReal) (E : Fin 8192 → Fin 32 → EReal) (q : Fin N) (j : Fin 8192) : EReal :=
  (∑ c, z q c * z q c + ∑ c, E j c * E j c) - two * ∑ c, z q c * E j c

/-- `k` is the first place at which `d` is least. -/
def IsNear {m : Nat} (d : Fin m → EReal) (k : Fin m) : Prop :=
  (∀ j, d k ≤ d j) ∧ ∀ j, j < k → d k < d j

/-- There is a first place at which a nonempty row is least. -/
theorem exists_isNear {m : Nat} [NeZero m] (d : Fin m → EReal) : ∃ k, IsNear d k := by
  classical
  obtain ⟨k0, _, h0⟩ := Finset.exists_min_image (Finset.univ : Finset (Fin m)) d ⟨0, Finset.mem_univ _⟩
  let S := (Finset.univ : Finset (Fin m)).filter fun k => ∀ j, d k ≤ d j
  have hS : S.Nonempty := ⟨k0, by simpa [S] using fun j => h0 j (Finset.mem_univ _)⟩
  have hk := S.min'_mem hS
  have hk' : ∀ j, d (S.min' hS) ≤ d j := by simpa [S] using hk
  refine ⟨S.min' hS, hk', fun j hj => lt_of_le_of_ne (hk' j) fun e => ?_⟩
  have : j ∈ S := by simpa [S] using fun i => e ▸ hk' i
  exact absurd (S.min'_le j this) (not_le.mpr hj)

/-- The first place at which a row is least is one. -/
theorem IsNear.unique {m : Nat} {d : Fin m → EReal} {k k' : Fin m} (h : IsNear d k) (h' : IsNear d k') : k = k' := by
  rcases lt_trichotomy k k' with l | e | l
  · exact absurd (h'.2 k l) (not_lt.mpr (h.1 k'))
  · exact e
  · exact absurd (h.2 k' l) (not_lt.mpr (h'.1 k))

/-- The first place at which a row is least. -/
def near {m : Nat} [NeZero m] (d : Fin m → EReal) : Fin m := (exists_isNear d).choose

/-- The chosen code's distance is the least. -/
theorem near_spec {m : Nat} [NeZero m] (d : Fin m → EReal) : IsNear d (near d) := (exists_isNear d).choose_spec

/-- A place with the least distance, where it is the only one, is the chosen code. -/
theorem near_eq {m : Nat} [NeZero m] {d : Fin m → EReal} {k : Fin m} (h : IsNear d k) : near d = k :=
  (near_spec d).unique h

/-- The nearest code of each row. -/
def codes {N : Nat} (z : Fin N → Fin 32 → EReal) (E : Fin 8192 → Fin 32 → EReal) (q : Fin N) (c : Fin 32) : EReal :=
  E (near (dist z E q)) c

/-- The rows of a residual at a coarser scale: its pixels weighted by `P`. -/
def pool {N : Nat} (P : Fin N → Fin 1024 → EReal) (r : Im) (q : Fin N) (c : Fin 32) : EReal := ∑ p, P q p * r p c

/-- The image of rows at a coarser scale: the rows weighted by `U`. -/
def up {N : Nat} (U : Fin 1024 → Fin N → EReal) (s : Fin N → Fin 32 → EReal) : Im := fun p c => ∑ q, U p q * s q c

/-- The image shifted by one tap of the 3 by 3 window, zero outside. -/
def tap (h : Im) (ky kx : Fin 3) : Im := fun p c =>
  if l : (1 ≤ p.val / 32 + ky.val ∧ p.val / 32 + ky.val ≤ 32) ∧ 1 ≤ p.val % 32 + kx.val ∧ p.val % 32 + kx.val ≤ 32 then
    h ⟨p.val + 32 * ky.val + kx.val - 33, by
      have := p.isLt; have := ky.isLt; have := kx.isLt; omega⟩ c
  else 0

/-- A 3 by 3 filter: `W ky kx c o`. -/
abbrev Filter := Fin 3 → Fin 3 → Fin 32 → Fin 32 → EReal

/-- One tap's share of the convolution. -/
def tapDot (h : Im) (W : Filter) (ky kx : Fin 3) : Im := fun p o => ∑ c, tap h ky kx p c * W ky kx c o

/-- The 3 by 3 convolution with zero padding. -/
def conv (h : Im) (W : Filter) : Im := fun p o =>
  tapDot h W 0 0 p o + tapDot h W 0 1 p o + tapDot h W 0 2 p o + tapDot h W 1 0 p o + tapDot h W 1 1 p o
    + tapDot h W 1 2 p o + tapDot h W 2 0 p o + tapDot h W 2 1 p o + tapDot h W 2 2 p o

/-- Half the image and half its convolution. -/
def mix (h : Im) (W : Filter) (b : Fin 32 → EReal) : Im := fun p o => h p o * half + (conv h W p o + b o) * half

/-- What a coarse scale takes off the residual. -/
def take {N : Nat} (P : Fin N → Fin 1024 → EReal) (U : Fin 1024 → Fin N → EReal) (E : Fin 8192 → Fin 32 → EReal)
    (W : Filter) (b : Fin 32 → EReal) (r : Im) : Im := mix (up U (codes (pool P r) E)) W b

/-- What the finest scale takes off the residual. -/
def takeLast (E : Fin 8192 → Fin 32 → EReal) (W : Filter) (b : Fin 32 → EReal) (r : Im) : Im := mix (codes r E) W b

/-- The residual after a scale. -/
def rest (r h : Im) : Im := fun p c => r p c - h p c

/-- The sum of the squares of a scale's misses. -/
def miss (r h : Im) : EReal := ∑ p, ∑ c, (h p c - r p c) * (h p c - r p c)

/-! ## The least of a row, as the operations compute it -/

/-- The word of infinity. -/
theorem ofBits_inf : Ideal.ofBits .f32 0x7F800000#32 = ⊤ := by
  simp [Ideal.ofBits, Ideal.ieee]

/-- The fold of the minimum over a row is its least value. -/
theorem fold_min_eq {m : Nat} (d : Fin m → EReal) {k : Fin m} (h : ∀ j, d k ≤ d j) :
    Finset.fold min (Ideal.ofBits .f32 0x7F800000#32) d Finset.univ = d k := by
  rw [ofBits_inf]
  refine le_antisymm ?_ ?_
  · exact (Finset.fold_min_le _).mpr (.inr ⟨k, Finset.mem_univ _, le_rfl⟩)
  · exact (Finset.le_fold_min _).mpr ⟨le_top, fun j _ => h j⟩

/-- The index of the least, read on one row. -/
theorem reduceIndex_row {n m : Nat} (h : (⟨2, ![n, m]⟩ : Shape).Reduces [1] ⟨1, ![n]⟩)
    (x : FVec Ideal ⟨2, ![n, m]⟩ .f32) (q : Fin n) {k : Fin m} (hk : IsNear (fun j => x (ix2 q j)) k) :
    reduceIndex .argMin 1 ⟨1, ![n]⟩ x h (ix1 q) = BitVec.ofNat 32 k.val := by
  have hf : ∀ i, h.drop i = ix1 q ↔ ∃ j : Fin m, ix2 q j = i := fun i => h.fiber_r2_a1 (ix1 q) i
  unfold reduceIndex
  rw [Ideal.reduceIndex_def]
  unfold Ideal.reduceIndex
  dsimp only
  congr 1
  have hne : ¬ (ArgKind.argMin = ArgKind.argMax) := by decide
  simp only [hne, if_false, not_lt]
  set T := Finset.image (fun i : (⟨2, ![n, m]⟩ : Shape).Idx => (i 1).val)
    ((Finset.univ.filter fun i => h.drop i = ix1 q).filter fun i => ∀ i' ∈ Finset.univ.filter (fun i => h.drop i = ix1 q), x i ≤ x i') with hT
  have mem : ∀ v, v ∈ T ↔ ∃ j : Fin m, (∀ j', x (ix2 q j) ≤ x (ix2 q j')) ∧ j.val = v := by
    intro v
    simp only [hT, Finset.mem_image, Finset.mem_filter, Finset.mem_univ, true_and, hf]
    constructor
    · rintro ⟨i, ⟨⟨j, rfl⟩, hi⟩, rfl⟩
      exact ⟨j, fun j' => hi _ ⟨j', rfl⟩, rfl⟩
    · rintro ⟨j, hj, rfl⟩
      exact ⟨ix2 q j, ⟨⟨j, rfl⟩, by rintro _ ⟨j', rfl⟩; exact hj j'⟩, rfl⟩
  have hkT : k.val ∈ T := (mem _).mpr ⟨k, hk.1, rfl⟩
  have hmin : T.min = (k.val : WithTop ℕ) := by
    refine le_antisymm (Finset.min_le hkT) (Finset.le_min ?_)
    intro v hv
    obtain ⟨j, hj, rfl⟩ := (mem v).mp hv
    rcases lt_or_ge j k with l | l
    · exact absurd (hk.2 j l) (not_lt.mpr (hj k))
    · exact WithTop.coe_le_coe.mpr l
  exact congrArg (fun w : WithTop ℕ => Option.getD w 0) hmin

/-- After the codes before `n`: the least value among them and a place where it is taken. -/
def Best (d : Fin 8192 → EReal) (n : Nat) (v : EReal) (a : BitVec 32) : Prop :=
  ∃ j : Fin 8192, j.val < n ∧ v = d j ∧ a = BitVec.ofNat 32 j.val ∧ ∀ i : Fin 8192, i.val < n → d j ≤ d i

/-- Words of naturals add like the naturals. -/
theorem addi_ofNat (a b : Nat) : IntOp.addi (BitVec.ofNat 32 a) (BitVec.ofNat 32 b) = BitVec.ofNat 32 (b + a) := by
  rw [IntOp.addi, ← BitVec.ofNat_add, Nat.add_comm]

/-- The first slab. -/
theorem best_first (d : Fin 8192 → EReal) (v : EReal) (a : BitVec 32)
    (hv : v = Finset.fold min (Ideal.ofBits .f32 0x7F800000#32) (fun x : Fin 1024 => d ⟨0 + x.val, by omega⟩) Finset.univ)
    (ha : ∀ k : Fin 1024, IsNear (fun x : Fin 1024 => d ⟨0 + x.val, by omega⟩) k → a = BitVec.ofNat 32 (0 + k.val)) :
    Best d 1024 v a := by
  have hs := near_spec fun x : Fin 1024 => d ⟨0 + x.val, by omega⟩
  set k := near fun x : Fin 1024 => d ⟨0 + x.val, by omega⟩
  refine ⟨⟨0 + k.val, by omega⟩, by simp, ?_, ha k hs, fun i hi => ?_⟩
  · rw [hv, fold_min_eq _ hs.1]
  · have := hs.1 ⟨i.val, hi⟩
    simpa using this

/-- One slab more. -/
theorem best_step (d : Fin 8192 → EReal) (n : Nat) (hn : n + 1024 ≤ 8192) (v v' : EReal) (a a' : BitVec 32) (h : Best d n v' a')
    (hv : v = Finset.fold min (Ideal.ofBits .f32 0x7F800000#32) (fun x : Fin 1024 => d ⟨n + x.val, by omega⟩) Finset.univ)
    (ha : ∀ k : Fin 1024, IsNear (fun x : Fin 1024 => d ⟨n + x.val, by omega⟩) k → a = BitVec.ofNat 32 (n + k.val)) :
    Best d (n + 1024) (if v ≤ v' then v else v') (if v ≤ v' then a else a') := by
  have hs := near_spec fun x : Fin 1024 => d ⟨n + x.val, by omega⟩
  set k := near fun x : Fin 1024 => d ⟨n + x.val, by omega⟩
  have hv2 : v = d ⟨n + k.val, by omega⟩ := by rw [hv, fold_min_eq _ hs.1]
  have hup : ∀ i : Fin 8192, n ≤ i.val → i.val < n + 1024 → v ≤ d i := by
    intro i h1 h2
    have := hs.1 ⟨i.val - n, by omega⟩
    rw [hv2]
    refine this.trans (le_of_eq (congrArg d (Fin.ext ?_)))
    simp only; omega
  obtain ⟨j, hj, hvj, haj, hl⟩ := h
  split
  · rename_i hle
    refine ⟨⟨n + k.val, by omega⟩, by simp, hv2, ha k hs, fun i hi => ?_⟩
    rw [← hv2]
    rcases lt_or_ge i.val n with l | l
    · exact hle.trans (hvj.le.trans (hl i l))
    · exact hup i l hi
  · rename_i hle
    refine ⟨j, by omega, hvj, haj, fun i hi => ?_⟩
    rcases lt_or_ge i.val n with l | l
    · exact hl i l
    · exact hvj.symm.le.trans ((le_of_lt (not_le.mp hle)).trans (hup i l hi))

/-- Where a row's least value is taken once, the slabs find the first place. -/
theorem Best.near {d : Fin 8192 → EReal} {v : EReal} {a : BitVec 32} (h : Best d 8192 v a)
    (hu : ∀ i j : Fin 8192, (∀ k, d i ≤ d k) → (∀ k, d j ≤ d k) → i = j) : a = BitVec.ofNat 32 (Vq.near d).val := by
  obtain ⟨j, _, _, ha, hl⟩ := h
  rw [ha, hu j (Vq.near d) (fun k => hl k k.isLt) (near_spec d).1]

/-! ## The sum that picks one code -/

/-- A finite code less itself is zero. -/
def Real' (v : EReal) : Prop := ∃ a : ℝ, v = (a : EReal)

/-- A real less itself is zero; of an infinity this fails. -/
theorem Real'.sub_self {v : EReal} (h : Real' v) : v - v = 0 := by
  obtain ⟨a, rfl⟩ := h
  rw [← EReal.coe_sub, _root_.sub_self, EReal.coe_zero]

/-- Small naturals have distinct words. -/
theorem ofNat_inj {a b : Nat} (ha : a < 8192) (hb : b < 8192) : BitVec.ofNat 32 a = BitVec.ofNat 32 b ↔ a = b := by
  constructor
  · intro h
    have := congrArg BitVec.toNat h
    simp only [BitVec.toNat_ofNat] at this
    omega
  · rintro rfl; rfl

/-- The one-hot value of a comparison of two words. -/
theorem onehot_apply (a b : BitVec 32) :
    (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  by_cases h : a = b
  · simp [h, IntOp.cmpi]
  · simp [h, IntOp.cmpi, beq_eq_false_iff_ne.mpr h]

/-- The product of a one-hot row and a table is the table's row. -/
theorem onehot_sum (k : Fin 8192) (f : Fin 8192 → EReal) :
    ∑ x : Fin 8192, (FloatOps.sitofp (F := Ideal) .f32
      (BitVec.setWidth 32 (IntOp.cmpi .eq (BitVec.ofNat 32 x.val) (BitVec.ofNat 32 k.val))) : EReal) * f x = f k := by
  simp only [onehot_apply, ofNat_inj (Fin.isLt _) (Fin.isLt _), ← Fin.ext_iff]
  simp

end Vq
-- ==== Proof.Chain.lean ====
/- One image's problem, scale after scale: what each scale starts from, takes off and misses. -/
module

public import proofs.«01_k».proof.Proof.Spec

@[expose] public section

open Idealize.ShloMosaic Idealize.ShloMosaic.Pointwise

noncomputable section

namespace Vq

/-- One image's problem: the image, the codes, the six filters and biases by scale, and the weights by which each coarse
scale's rows are taken from the residual (`P`) and brought back to its size (`U`). -/
structure Prob where
  X : Im
  E : Fin 8192 → Fin 32 → EReal
  W : Fin 6 → Filter
  B : Fin 6 → Fin 32 → EReal
  U1 : Fin 1024 → Fin 1 → EReal
  P1 : Fin 1 → Fin 1024 → EReal
  U4 : Fin 1024 → Fin 4 → EReal
  P4 : Fin 4 → Fin 1024 → EReal
  U16 : Fin 1024 → Fin 16 → EReal
  P16 : Fin 16 → Fin 1024 → EReal
  U64 : Fin 1024 → Fin 64 → EReal
  P64 : Fin 64 → Fin 1024 → EReal
  U256 : Fin 1024 → Fin 256 → EReal
  P256 : Fin 256 → Fin 1024 → EReal

namespace Prob

variable (Q : Prob)

/-- The first residual is the image. -/
def R0 : Im := Q.X
/-- What the first scale takes off. -/
def G0 : Im := take Q.P1 Q.U1 Q.E (Q.W 0) (Q.B 0) Q.R0
/-- The second residual. -/
def R1 : Im := rest Q.R0 Q.G0
/-- What the second scale takes off. -/
def G1 : Im := take Q.P4 Q.U4 Q.E (Q.W 1) (Q.B 1) Q.R1
/-- The third residual. -/
def R2 : Im := rest Q.R1 Q.G1
/-- What the third scale takes off. -/
def G2 : Im := take Q.P16 Q.U16 Q.E (Q.W 2) (Q.B 2) Q.R2
/-- The fourth residual. -/
def R3 : Im := rest Q.R2 Q.G2
/-- What the fourth scale takes off. -/
def G3 : Im := take Q.P64 Q.U64 Q.E (Q.W 3) (Q.B 3) Q.R3
/-- The fifth residual. -/
def R4 : Im := rest Q.R3 Q.G3
/-- What the fifth scale takes off. -/
def G4 : Im := take Q.P256 Q.U256 Q.E (Q.W 4) (Q.B 4) Q.R4
/-- The last residual. -/
def R5 : Im := rest Q.R4 Q.G4
/-- What the last scale takes off. -/
def G5 : Im := takeLast Q.E (Q.W 5) (Q.B 5) Q.R5

/-- All that was taken off. -/
def total : Im := fun p o =>
  Q.G0 p o + Q.G1 p o + Q.G2 p o + Q.G3 p o + Q.G4 p o + Q.G5 p o

/-- The result of one image. -/
def out : Im := fun p o => Q.X p o + (Q.total p o - Q.X p o)

/-- The sum of the squared misses over the six scales. -/
def missed : EReal :=
  miss Q.R0 Q.G0 + miss Q.R1 Q.G1 + miss Q.R2 Q.G2 + miss Q.R3 Q.G3 + miss Q.R4 Q.G4 + miss Q.R5 Q.G5

/-- At the finest scale each pixel's least distance is taken at one code only. -/
def Once : Prop := ∀ p, ∀ i j : Fin 8192, (∀ k, dist Q.R5 Q.E p i ≤ dist Q.R5 Q.E p k) →
  (∀ k, dist Q.R5 Q.E p j ≤ dist Q.R5 Q.E p k) → i = j

end Prob

end Vq
-- ==== Proof.KSteps.lean ====
/- The kernel's steps at each scale, as functions of arrays. -/
module

public import proofs.«01_k».proof.Proof.Spec
public import proofs.«01_k».proof.Proof.Gen.KernelIdeal.Skeleton

@[expose] public section

set_option maxRecDepth 16384

open Idealize.ShloMosaic Idealize.ShloMosaic.Pointwise Cert.KernelIdeal Cert.KernelIdeal.Gen

noncomputable section

namespace Vq.K

/-! ## The kernel's steps, as operations on vectors -/

/-- The nine taps' products with their matrices, and the bias: the kernel's convolution. -/
def mixV (h : FVec Ideal S1024x32 .f32) (s : Fin 9 → FVec Ideal S1024x32 .f32) (w : Fin 9 → FVec Ideal S32x32 .f32)
    (b : FVec Ideal S1x32 .f32) : FVec Ideal S1024x32 .f32 :=
  let dot (a : FVec Ideal S1024x32 .f32) (t : Fin 9) : FVec Ideal S1024x32 .f32 :=
    matmul dot_S1024x32_S32x32_S1024x32_1_0_0_1_n_n none a (shapeCast S32x32 (w t) shapeCasts_S32x32_S32x32)
      (constant S1024x32 .f32 0x00000000#32)
  let l (a : FVec Ideal S1024x32 .f32) := mulf a (broadcastTo S1024x32 (k0_pay11 (F := Ideal)) broadcasts_S1024x1_S1024x32)
  let r (a : FVec Ideal S1024x32 .f32) := mulf a (broadcastTo S1024x32 (k0_pay12 (F := Ideal)) broadcasts_S1024x1_S1024x32)
  addf (mulf h (broadcast S1024x32 (Scalar.ofBits .f32 0x3F000000#32)))
    (mulf (addf (addf (addf (addf (addf (addf (addf (addf (addf (dot (l (s 0)) 0) (dot (s 1) 1)) (dot (r (s 2)) 2)) (dot (l (s 3)) 3))
      (dot (s 4) 4)) (dot (r (s 5)) 5)) (dot (l (s 6)) 6)) (dot (s 7) 7)) (dot (r (s 8)) 8))
      (broadcastTo S1024x32 (shapeCast S1x32 b shapeCasts_S1x32_S1x32) broadcasts_S1x32_S1024x32))
      (broadcast S1024x32 (Scalar.ofBits .f32 0x3F000000#32)))

/-- The kernel's running sum of squared misses. -/
def missV (l : FVec Ideal S1x1 .f32) (r g : FVec Ideal S1024x32 .f32) : FVec Ideal S1x1 .f32 :=
  addf l (broadcast S1x1 (extractAt ![0, 0, 0] (shapeCast S1x1x1 (multiReduction .add [1, 2] S1
    (shapeCast S1x1024x32 (mulf (subf g r) (subf g r)) shapeCasts_S1024x32_S1x1024x32) 0x00000000#32 reduces_S1x1024x32_S1
    (.inl rfl) rfl) shapeCasts_S1_S1x1x1) inpos_S1x1x1_p0_0_0))

/-- The rows of a scale of 4. -/
def pool4 (p : FVec Ideal S4x1024 .f32) (r : FVec Ideal S1024x32 .f32) : FVec Ideal S4x32 .f32 :=
  matmul dot_S4x1024_S1024x32_S4x32_1_0_0_1_n_n (some .fp32) (shapeCast S4x1024 p shapeCasts_S4x1024_S4x1024) r
    (constant S4x32 .f32 0x00000000#32)

/-- The distances of 4 rows. -/
def dist4 (z : FVec Ideal S4x32 .f32) (e2 : FVec Ideal S1x8192 .f32) (et : FVec Ideal S32x8192 .f32) :
    FVec Ideal S4x8192 .f32 :=
  subf (addf (broadcastTo S4x8192 (extractStridedSlice S4x1 ![0, 0] (shapeCast S4x1 (multiReduction .add [1] S4 (mulf z z)
      0x00000000#32 reduces_S4x32_S4 (.inl rfl) rfl) shapeCasts_S4_S4x1) slices_S4x1_o0_0_S4x1) broadcasts_S4x1_S4x8192)
      (broadcastTo S4x8192 e2 broadcasts_S1x8192_S4x8192))
    (mulf (broadcast S4x8192 (Scalar.ofBits .f32 0x40000000#32)) (matmul dot_S4x32_S32x8192_S4x8192_1_0_0_1_n_n none
      (extractStridedSlice S4x32 ![0, 0] z slices_S4x32_o0_0_S4x32) et (constant S4x8192 .f32 0x00000000#32)))

/-- The codes of 4 rows at their least distances. -/
def pick4 (d : FVec Ideal S4x8192 .f32) (hi lo : FVec Ideal S8192x32 .f32) : FVec Ideal S4x32 .f32 :=
  let oh : FVec Ideal S4x8192 .f32 := sitofp .f32 (extui 32 (cmpi .eq (iota .tc S4x8192 32 [1] iota_S4x8192_d1_w32)
    (broadcastTo S4x8192 (shapeCast S4x1 (reduceIndex .argMin 1 S4 d reduces_S4x8192_S4) shapeCasts_S4_S4x1)
      broadcasts_S4x1_S4x8192)) natLt_1_32)
  addf (matmul dot_S4x8192_S8192x32_S4x32_1_0_0_1_n_n none oh hi (constant S4x32 .f32 0x00000000#32))
    (matmul dot_S4x8192_S8192x32_S4x32_1_0_0_1_n_n none oh lo (constant S4x32 .f32 0x00000000#32))

/-- The image of 4 rows. -/
def up4 (u : FVec Ideal S1024x4 .f32) (s : FVec Ideal S4x32 .f32) : FVec Ideal S1024x32 .f32 :=
  matmul dot_S1024x4_S4x32_S1024x32_1_0_0_1_n_n (some .fp32) (shapeCast S1024x4 u shapeCasts_S1024x4_S1024x4) s
    (constant S1024x32 .f32 0x00000000#32)

/-- The rows of a scale of 16. -/
def pool16 (p : FVec Ideal S16x1024 .f32) (r : FVec Ideal S1024x32 .f32) : FVec Ideal S16x32 .f32 :=
  matmul dot_S16x1024_S1024x32_S16x32_1_0_0_1_n_n (some .fp32) (shapeCast S16x1024 p shapeCasts_S16x1024_S16x1024) r
    (constant S16x32 .f32 0x00000000#32)

/-- The distances of 16 rows. -/
def dist16 (z : FVec Ideal S16x32 .f32) (e2 : FVec Ideal S1x8192 .f32) (et : FVec Ideal S32x8192 .f32) :
    FVec Ideal S16x8192 .f32 :=
  subf (addf (broadcastTo S16x8192 (extractStridedSlice S16x1 ![0, 0] (shapeCast S16x1 (multiReduction .add [1] S16 (mulf z z)
      0x00000000#32 reduces_S16x32_S16 (.inl rfl) rfl) shapeCasts_S16_S16x1) slices_S16x1_o0_0_S16x1) broadcasts_S16x1_S16x8192)
      (broadcastTo S16x8192 e2 broadcasts_S1x8192_S16x8192))
    (mulf (broadcast S16x8192 (Scalar.ofBits .f32 0x40000000#32)) (matmul dot_S16x32_S32x8192_S16x8192_1_0_0_1_n_n none
      (extractStridedSlice S16x32 ![0, 0] z slices_S16x32_o0_0_S16x32) et (constant S16x8192 .f32 0x00000000#32)))

/-- The codes of 16 rows at their least distances. -/
def pick16 (d : FVec Ideal S16x8192 .f32) (hi lo : FVec Ideal S8192x32 .f32) : FVec Ideal S16x32 .f32 :=
  let oh : FVec Ideal S16x8192 .f32 := sitofp .f32 (extui 32 (cmpi .eq (iota .tc S16x8192 32 [1] iota_S16x8192_d1_w32)
    (broadcastTo S16x8192 (shapeCast S16x1 (reduceIndex .argMin 1 S16 d reduces_S16x8192_S16) shapeCasts_S16_S16x1)
      broadcasts_S16x1_S16x8192)) natLt_1_32)
  addf (matmul dot_S16x8192_S8192x32_S16x32_1_0_0_1_n_n none oh hi (constant S16x32 .f32 0x00000000#32))
    (matmul dot_S16x8192_S8192x32_S16x32_1_0_0_1_n_n none oh lo (constant S16x32 .f32 0x00000000#32))

/-- The image of 16 rows. -/
def up16 (u : FVec Ideal S1024x16 .f32) (s : FVec Ideal S16x32 .f32) : FVec Ideal S1024x32 .f32 :=
  matmul dot_S1024x16_S16x32_S1024x32_1_0_0_1_n_n (some .fp32) (shapeCast S1024x16 u shapeCasts_S1024x16_S1024x16) s
    (constant S1024x32 .f32 0x00000000#32)

/-- The rows of a scale of 64. -/
def pool64 (p : FVec Ideal S64x1024 .f32) (r : FVec Ideal S1024x32 .f32) : FVec Ideal S64x32 .f32 :=
  matmul dot_S64x1024_S1024x32_S64x32_1_0_0_1_n_n (some .fp32) (shapeCast S64x1024 p shapeCasts_S64x1024_S64x1024) r
    (constant S64x32 .f32 0x00000000#32)

/-- The distances of 64 rows. -/
def dist64 (z : FVec Ideal S64x32 .f32) (e2 : FVec Ideal S1x8192 .f32) (et : FVec Ideal S32x8192 .f32) :
    FVec Ideal S64x8192 .f32 :=
  subf (addf (broadcastTo S64x8192 (extractStridedSlice S64x1 ![0, 0] (shapeCast S64x1 (multiReduction .add [1] S64 (mulf z z)
      0x00000000#32 reduces_S64x32_S64 (.inl rfl) rfl) shapeCasts_S64_S64x1) slices_S64x1_o0_0_S64x1) broadcasts_S64x1_S64x8192)
      (broadcastTo S64x8192 e2 broadcasts_S1x8192_S64x8192))
    (mulf (broadcast S64x8192 (Scalar.ofBits .f32 0x40000000#32)) (matmul dot_S64x32_S32x8192_S64x8192_1_0_0_1_n_n none
      (extractStridedSlice S64x32 ![0, 0] z slices_S64x32_o0_0_S64x32) et (constant S64x8192 .f32 0x00000000#32)))

/-- The codes of 64 rows at their least distances. -/
def pick64 (d : FVec Ideal S64x8192 .f32) (hi lo : FVec Ideal S8192x32 .f32) : FVec Ideal S64x32 .f32 :=
  let oh : FVec Ideal S64x8192 .f32 := sitofp .f32 (extui 32 (cmpi .eq (iota .tc S64x8192 32 [1] iota_S64x8192_d1_w32)
    (broadcastTo S64x8192 (shapeCast S64x1 (reduceIndex .argMin 1 S64 d reduces_S64x8192_S64) shapeCasts_S64_S64x1)
      broadcasts_S64x1_S64x8192)) natLt_1_32)
  addf (matmul dot_S64x8192_S8192x32_S64x32_1_0_0_1_n_n none oh hi (constant S64x32 .f32 0x00000000#32))
    (matmul dot_S64x8192_S8192x32_S64x32_1_0_0_1_n_n none oh lo (constant S64x32 .f32 0x00000000#32))

/-- The image of 64 rows. -/
def up64 (u : FVec Ideal S1024x64 .f32) (s : FVec Ideal S64x32 .f32) : FVec Ideal S1024x32 .f32 :=
  matmul dot_S1024x64_S64x32_S1024x32_1_0_0_1_n_n (some .fp32) (shapeCast S1024x64 u shapeCasts_S1024x64_S1024x64) s
    (constant S1024x32 .f32 0x00000000#32)

/-- The rows of a scale of 256. -/
def pool256 (p : FVec Ideal S256x1024 .f32) (r : FVec Ideal S1024x32 .f32) : FVec Ideal S256x32 .f32 :=
  matmul dot_S256x1024_S1024x32_S256x32_1_0_0_1_n_n (some .fp32) (shapeCast S256x1024 p shapeCasts_S256x1024_S256x1024) r
    (constant S256x32 .f32 0x00000000#32)

/-- The distances of 256 rows. -/
def dist256 (z : FVec Ideal S256x32 .f32) (e2 : FVec Ideal S1x8192 .f32) (et : FVec Ideal S32x8192 .f32) :
    FVec Ideal S256x8192 .f32 :=
  subf (addf (broadcastTo S256x8192 (extractStridedSlice S256x1 ![0, 0] (shapeCast S256x1 (multiReduction .add [1] S256 (mulf z z)
      0x00000000#32 reduces_S256x32_S256 (.inl rfl) rfl) shapeCasts_S256_S256x1) slices_S256x1_o0_0_S256x1) broadcasts_S256x1_S256x8192)
      (broadcastTo S256x8192 e2 broadcasts_S1x8192_S256x8192))
    (mulf (broadcast S256x8192 (Scalar.ofBits .f32 0x40000000#32)) (matmul dot_S256x32_S32x8192_S256x8192_1_0_0_1_n_n none
      (extractStridedSlice S256x32 ![0, 0] z slices_S256x32_o0_0_S256x32) et (constant S256x8192 .f32 0x00000000#32)))

/-- The codes of 256 rows at their least distances. -/
def pick256 (d : FVec Ideal S256x8192 .f32) (hi lo : FVec Ideal S8192x32 .f32) : FVec Ideal S256x32 .f32 :=
  let oh : FVec Ideal S256x8192 .f32 := sitofp .f32 (extui 32 (cmpi .eq (iota .tc S256x8192 32 [1] iota_S256x8192_d1_w32)
    (broadcastTo S256x8192 (shapeCast S256x1 (reduceIndex .argMin 1 S256 d reduces_S256x8192_S256) shapeCasts_S256_S256x1)
      broadcasts_S256x1_S256x8192)) natLt_1_32)
  addf (matmul dot_S256x8192_S8192x32_S256x32_1_0_0_1_n_n none oh hi (constant S256x32 .f32 0x00000000#32))
    (matmul dot_S256x8192_S8192x32_S256x32_1_0_0_1_n_n none oh lo (constant S256x32 .f32 0x00000000#32))

/-- The image of 256 rows. -/
def up256 (u : FVec Ideal S1024x256 .f32) (s : FVec Ideal S256x32 .f32) : FVec Ideal S1024x32 .f32 :=
  matmul dot_S1024x256_S256x32_S1024x32_1_0_0_1_n_n (some .fp32) (shapeCast S1024x256 u shapeCasts_S1024x256_S1024x256) s
    (constant S1024x32 .f32 0x00000000#32)

/-- The distances of one chunk of 256 rows of the finest scale. -/
def distC (n : Nat) (hz : S1024x32.Slices ![n, 0] S256x32) (hx : S1024x1.Slices ![n, 0] S256x1) (r : FVec Ideal S1024x32 .f32)
    (e2 : FVec Ideal S1x8192 .f32) (et : FVec Ideal S32x8192 .f32) : FVec Ideal S256x8192 .f32 :=
  subf (addf (broadcastTo S256x8192 (extractStridedSlice S256x1 ![n, 0] (shapeCast S1024x1 (multiReduction .add [1] S1024 (mulf r r)
      0x00000000#32 reduces_S1024x32_S1024 (.inl rfl) rfl) shapeCasts_S1024_S1024x1) hx) broadcasts_S256x1_S256x8192)
      (broadcastTo S256x8192 e2 broadcasts_S1x8192_S256x8192))
    (mulf (broadcast S256x8192 (Scalar.ofBits .f32 0x40000000#32)) (matmul dot_S256x32_S32x8192_S256x8192_1_0_0_1_n_n none
      (extractStridedSlice S256x32 ![n, 0] r hz) et (constant S256x8192 .f32 0x00000000#32)))

/-- The least distance within one slab of 1024 codes. -/
def slabMin (n : Nat) (h : S256x8192.Slices ![0, n] S256x1024) (d : FVec Ideal S256x8192 .f32) : FVec Ideal S256x1 .f32 :=
  shapeCast S256x1 (multiReduction .minimumf [1] S256 (extractStridedSlice S256x1024 ![0, n] d h) 0x7F800000#32
    reduces_S256x1024_S256 (.inl rfl) rfl) shapeCasts_S256_S256x1

/-- Where the least distance within one slab is. -/
def slabArg (n : Nat) (h : S256x8192.Slices ![0, n] S256x1024) (d : FVec Ideal S256x8192 .f32) : IVec S256x1 32 :=
  addi (shapeCast S256x1 (reduceIndex .argMin 1 S256 (extractStridedSlice S256x1024 ![0, n] d h) reduces_S256x1024_S256)
    shapeCasts_S256_S256x1) (broadcast S256x1 (BitVec.ofNat 32 n))

/-- The least distance so far, after one slab more. -/
def stepV (n : Nat) (h : S256x8192.Slices ![0, n] S256x1024) (d : FVec Ideal S256x8192 .f32) (v : FVec Ideal S256x1 .f32) :
    FVec Ideal S256x1 .f32 := select (cmpf .ole (slabMin n h d) v) (slabMin n h d) v

/-- Where it is. -/
def stepI (n : Nat) (h : S256x8192.Slices ![0, n] S256x1024) (d : FVec Ideal S256x8192 .f32) (v : FVec Ideal S256x1 .f32)
    (i : IVec S256x1 32) : IVec S256x1 32 := select (cmpf .ole (slabMin n h d) v) (slabArg n h d) i

/-- The least distance through the first slab. -/
def acc0 (d : FVec Ideal S256x8192 .f32) : FVec Ideal S256x1 .f32 := slabMin 0 slices_S256x8192_o0_0_S256x1024 d

/-- The least distance through the second slab. -/
def acc1 (d : FVec Ideal S256x8192 .f32) : FVec Ideal S256x1 .f32 :=
  stepV 1024 slices_S256x8192_o0_1024_S256x1024 d (acc0 d)

/-- The least distance through the third slab. -/
def acc2 (d : FVec Ideal S256x8192 .f32) : FVec Ideal S256x1 .f32 :=
  stepV 2048 slices_S256x8192_o0_2048_S256x1024 d (acc1 d)

/-- The least distance through the fourth slab, through the narrower type and back. -/
def acc3 (d : FVec Ideal S256x8192 .f32) : FVec Ideal S256x1 .f32 :=
  extf .f32 (truncf .bf16 (stepV 3072 slices_S256x8192_o0_3072_S256x1024 d (acc2 d)) bitsLt_bf16_f32) bitsLt_bf16_f32

/-- The least distance through the fifth slab. -/
def acc4 (d : FVec Ideal S256x8192 .f32) : FVec Ideal S256x1 .f32 :=
  stepV 4096 slices_S256x8192_o0_4096_S256x1024 d (acc3 d)

/-- The least distance through the sixth slab. -/
def acc5 (d : FVec Ideal S256x8192 .f32) : FVec Ideal S256x1 .f32 :=
  stepV 5120 slices_S256x8192_o0_5120_S256x1024 d (acc4 d)

/-- The least distance through the seventh slab. -/
def acc6 (d : FVec Ideal S256x8192 .f32) : FVec Ideal S256x1 .f32 :=
  stepV 6144 slices_S256x8192_o0_6144_S256x1024 d (acc5 d)

/-- Where the least distance of a row is, by its eight slabs. -/
def argC (d : FVec Ideal S256x8192 .f32) : IVec S256x1 32 :=
  stepI 7168 slices_S256x8192_o0_7168_S256x1024 d (acc6 d)
    (stepI 6144 slices_S256x8192_o0_6144_S256x1024 d (acc5 d)
    (stepI 5120 slices_S256x8192_o0_5120_S256x1024 d (acc4 d)
    (stepI 4096 slices_S256x8192_o0_4096_S256x1024 d (acc3 d)
    (stepI 3072 slices_S256x8192_o0_3072_S256x1024 d (acc2 d)
    (stepI 2048 slices_S256x8192_o0_2048_S256x1024 d (acc1 d)
    (stepI 1024 slices_S256x8192_o0_1024_S256x1024 d (acc0 d)
    (slabArg 0 slices_S256x8192_o0_0_S256x1024 d)))))))

/-- The codes of one chunk's rows. -/
def pickC (d : FVec Ideal S256x8192 .f32) (hi lo : FVec Ideal S8192x32 .f32) : FVec Ideal S256x32 .f32 :=
  let oh : FVec Ideal S256x8192 .f32 := sitofp .f32 (extui 32 (cmpi .eq (iota .tc S256x8192 32 [1] iota_S256x8192_d1_w32)
    (broadcastTo S256x8192 (argC d) broadcasts_S256x1_S256x8192)) natLt_1_32)
  addf (matmul dot_S256x8192_S8192x32_S256x32_1_0_0_1_n_n none oh hi (constant S256x32 .f32 0x00000000#32))
    (matmul dot_S256x8192_S8192x32_S256x32_1_0_0_1_n_n none oh lo (constant S256x32 .f32 0x00000000#32))

/-- The codes of the finest scale's rows, by chunks. -/
def lastV (r : FVec Ideal S1024x32 .f32) (e2 : FVec Ideal S1x8192 .f32) (et : FVec Ideal S32x8192 .f32)
    (hi lo : FVec Ideal S8192x32 .f32) : FVec Ideal S1024x32 .f32 :=
  concatenate S1024x32 0
    [⟨S256x32, pickC (distC 0 slices_S1024x32_o0_0_S256x32 slices_S1024x1_o0_0_S256x1 r e2 et) hi lo⟩,
     ⟨S256x32, pickC (distC 256 slices_S1024x32_o256_0_S256x32 slices_S1024x1_o256_0_S256x1 r e2 et) hi lo⟩,
     ⟨S256x32, pickC (distC 512 slices_S1024x32_o512_0_S256x32 slices_S1024x1_o512_0_S256x1 r e2 et) hi lo⟩,
     ⟨S256x32, pickC (distC 768 slices_S1024x32_o768_0_S256x32 slices_S1024x1_o768_0_S256x1 r e2 et) hi lo⟩]
    concatenates_S256x32_S256x32_S256x32_S256x32_S1024x32_d0

end Vq.K
-- ==== Proof.KVal.lean ====
/- What each of the kernel's steps computes, place by place. -/
module

public import proofs.«01_k».proof.Proof.KSteps

@[expose] public section

set_option maxRecDepth 16384

open Idealize.ShloMosaic Idealize.ShloMosaic.Pointwise Cert.KernelIdeal Cert.KernelIdeal.Gen

noncomputable section

namespace Vq.K

/-- A one-bit word widened and read as a number. -/
theorem sitofp_bit (P : Prop) [Decidable P] :
    (FloatOps.sitofp (F := Ideal) .f32 (BitVec.setWidth 32 (if P then 1#1 else 0#1)) : EReal) = if P then 1 else 0 := by
  show (((BitVec.setWidth 32 (if P then 1#1 else 0#1)).toInt : ℝ) : EReal) = _
  by_cases h : P <;> simp [h]

/-- The kernel's bit for a pixel that has one to its left. -/
theorem left_bit : ∀ p : Fin 1024, IntOp.cmpi .sge (IntOp.andi (BitVec.ofNat 32 p.val) 31#32) 1#32
    = if 1 ≤ p.val % 32 then 1#1 else 0#1 := by decide +kernel

/-- The kernel's bit for a pixel that has one to its right. -/
theorem right_bit : ∀ p : Fin 1024, IntOp.cmpi .sle (IntOp.andi (BitVec.ofNat 32 p.val) 31#32) 30#32
    = if p.val % 32 ≤ 30 then 1#1 else 0#1 := by decide +kernel

/-- The left mask keeps the pixels that have one to their left. -/
theorem left_apply (p : Fin 1024) (q : Fin 1) : k0_pay11 (F := Ideal) (ix2 p q) = if 1 ≤ p.val % 32 then 1 else 0 := by
  pointwise [k0_pay11, k0_pay10]
  rw [left_bit, sitofp_bit]

/-- The right mask keeps the pixels that have one to their right. -/
theorem right_apply (p : Fin 1024) (q : Fin 1) : k0_pay12 (F := Ideal) (ix2 p q) = if p.val % 32 ≤ 30 then 1 else 0 := by
  pointwise [k0_pay12, k0_pay10]
  rw [right_bit, sitofp_bit]

/-- The image read `t` pixels later, from 33 pixels before it, zero outside. -/
def late (h : Im) (t : Nat) : Im := fun p c =>
  if l : 33 ≤ p.val + t ∧ p.val + t < 1057 then h ⟨p.val + t - 33, by omega⟩ c else 0

/-- The later image under the left mask is the left tap. -/
theorem late_left (h : Im) (ky : Fin 3) (p : Fin 1024) (c : Fin 32) :
    late h (32 * ky.val) p c * (if 1 ≤ p.val % 32 then 1 else 0) = tap h ky 0 p c := by
  have hp := p.isLt
  have hk := ky.isLt
  unfold late tap
  simp only [Fin.val_zero]
  split_ifs <;> first | (exfalso; omega) | simp

/-- The later image is the middle tap, with no mask. -/
theorem late_mid (h : Im) (ky : Fin 3) (p : Fin 1024) (c : Fin 32) : late h (32 * ky.val + 1) p c = tap h ky 1 p c := by
  have hp := p.isLt
  have hk := ky.isLt
  unfold late tap
  simp only [Fin.val_one]
  split_ifs <;> first | (exfalso; omega) | rfl

/-- The later image under the right mask is the right tap. -/
theorem late_right (h : Im) (ky : Fin 3) (p : Fin 1024) (c : Fin 32) :
    late h (32 * ky.val + 2) p c * (if p.val % 32 ≤ 30 then 1 else 0) = tap h ky 2 p c := by
  have hp := p.isLt
  have hk := ky.isLt
  unfold late tap
  simp only [Fin.val_two]
  split_ifs <;> first | (exfalso; omega) | exact mul_one _ | simp

/-- The kernel's convolution is the convolution. -/
theorem mixV_apply (H : Im) (W : Filter) (B : Fin 32 → EReal) (h : FVec Ideal S1024x32 .f32)
    (s : Fin 9 → FVec Ideal S1024x32 .f32) (w : Fin 9 → FVec Ideal S32x32 .f32) (b : FVec Ideal S1x32 .f32)
    (hh : ∀ p c, h (ix2 p c) = H p c)
    (hs : ∀ (ky kx : Fin 3) p c, s ⟨3 * ky.val + kx.val, by omega⟩ (ix2 p c) = late H (32 * ky.val + kx.val) p c)
    (hw : ∀ (ky kx : Fin 3) c o, w ⟨3 * ky.val + kx.val, by omega⟩ (ix2 c o) = W ky kx c o)
    (hb : ∀ o, b (ix2 0 o) = B o) (p : Fin 1024) (o : Fin 32) :
    mixV h s w b (ix2 p o) = mix H W B p o := by
  have s0 := hs 0 0; have s1 := hs 0 1; have s2 := hs 0 2
  have s3 := hs 1 0; have s4 := hs 1 1; have s5 := hs 1 2
  have s6 := hs 2 0; have s7 := hs 2 1; have s8 := hs 2 2
  have w0 := hw 0 0; have w1 := hw 0 1; have w2 := hw 0 2
  have w3 := hw 1 0; have w4 := hw 1 1; have w5 := hw 1 2
  have w6 := hw 2 0; have w7 := hw 2 1; have w8 := hw 2 2
  have e0 := late_left H 0; have e1 := late_left H 1; have e2 := late_left H 2
  have f0 := late_mid H 0; have f1 := late_mid H 1; have f2 := late_mid H 2
  have g0 := late_right H 0; have g1 := late_right H 1; have g2 := late_right H 2
  pointwise [mixV]
  simp only [left_apply, right_apply]
  unfold mix conv tapDot
  simp only [← e0, ← e1, ← e2, ← f0, ← f1, ← f2, ← g0, ← g1, ← g2, ← w0, ← w1, ← w2, ← w3, ← w4, ← w5, ← w6, ← w7, ← w8, hh, hb]
  congr 1
  congr 1
  congr 1
  have t0 := s0 p; have t1 := s1 p; have t2 := s2 p
  have t3 := s3 p; have t4 := s4 p; have t5 := s5 p
  have t6 := s6 p; have t7 := s7 p; have t8 := s8 p
  congr 1
  · congr 1
    · congr 1
      · congr 1
        · congr 1
          · congr 1
            · congr 1
              · congr 1
                · exact Finset.sum_congr rfl fun c _ => by rw [← show _ = late H (32 * (0 : Fin 3).val) p c from t0 c]; rfl
                · exact Finset.sum_congr rfl fun c _ => by rw [← show _ = late H (32 * (0 : Fin 3).val + 1) p c from t1 c]; rfl
              · exact Finset.sum_congr rfl fun c _ => by rw [← show _ = late H (32 * (0 : Fin 3).val + 2) p c from t2 c]; rfl
            · exact Finset.sum_congr rfl fun c _ => by rw [← show _ = late H (32 * (1 : Fin 3).val) p c from t3 c]; rfl
          · exact Finset.sum_congr rfl fun c _ => by rw [← show _ = late H (32 * (1 : Fin 3).val + 1) p c from t4 c]; rfl
        · exact Finset.sum_congr rfl fun c _ => by rw [← show _ = late H (32 * (1 : Fin 3).val + 2) p c from t5 c]; rfl
      · exact Finset.sum_congr rfl fun c _ => by rw [← show _ = late H (32 * (2 : Fin 3).val) p c from t6 c]; rfl
    · exact Finset.sum_congr rfl fun c _ => by rw [← show _ = late H (32 * (2 : Fin 3).val + 1) p c from t7 c]; rfl
  · exact Finset.sum_congr rfl fun c _ => by rw [← show _ = late H (32 * (2 : Fin 3).val + 2) p c from t8 c]; rfl

/-- The kernel's sum of a scale's squared misses. -/
theorem missV_apply (R G : Im) (l : FVec Ideal S1x1 .f32) (r g : FVec Ideal S1024x32 .f32)
    (hr : ∀ p c, r (ix2 p c) = R p c) (hg : ∀ p c, g (ix2 p c) = G p c) (a b : Fin 1) :
    missV l r g (ix2 a b) = l (ix2 a b) + miss R G := by
  pointwise [missV]
  simp only [hr, hg]
  rfl

/-! ## The steps of a coarse scale -/

/-- The pooling to four rows, by its matrix. -/
theorem pool4_apply (p : FVec Ideal S4x1024 .f32) (R : Im) (r : FVec Ideal S1024x32 .f32) (hr : ∀ p c, r (ix2 p c) = R p c)
    (q : Fin 4) (c : Fin 32) : pool4 p r (ix2 q c) = pool (fun q x => p (ix2 q x)) R q c := by
  pointwise [pool4]
  simp only [hr]
  rfl

/-- The distances of four rows to the codes. -/
theorem dist4_apply (E : Fin 8192 → Fin 32 → EReal) (Z : Fin 4 → Fin 32 → EReal) (z : FVec Ideal S4x32 .f32)
    (e2 : FVec Ideal S1x8192 .f32) (et : FVec Ideal S32x8192 .f32) (hz : ∀ q c, z (ix2 q c) = Z q c)
    (h2 : ∀ j, e2 (ix2 0 j) = ∑ c, E j c * E j c) (ht : ∀ c j, et (ix2 c j) = E j c) (q : Fin 4) (j : Fin 8192) :
    dist4 z e2 et (ix2 q j) = dist Z E q j := by
  pointwise [dist4]
  simp only [hz, h2, ht]
  rfl

/-- The codes that four rows choose, from one-hot rows against both parts of the codes. -/
theorem pick4_apply (E : Fin 8192 → Fin 32 → EReal) (D : Fin 4 → Fin 8192 → EReal) (d : FVec Ideal S4x8192 .f32)
    (hi lo : FVec Ideal S8192x32 .f32) (hd : ∀ q j, d (ix2 q j) = D q j) (hh : ∀ j c, hi (ix2 j c) = E j c)
    (hl : ∀ j c, lo (ix2 j c) = 0) (q : Fin 4) (c : Fin 32) : pick4 d hi lo (ix2 q c) = E (near (D q)) c := by
  have hn : IsNear (fun j => d (ix2 q j)) (near (D q)) := by simpa only [hd] using near_spec (D q)
  pointwise [pick4]
  rw [reduceIndex_row _ d q hn, onehot_sum, onehot_sum, hh, hl, add_zero]

/-- The resize of four rows, by its matrix. -/
theorem up4_apply (u : FVec Ideal S1024x4 .f32) (Z : Fin 4 → Fin 32 → EReal) (z : FVec Ideal S4x32 .f32)
    (hz : ∀ q c, z (ix2 q c) = Z q c) (p : Fin 1024) (c : Fin 32) : up4 u z (ix2 p c) = up (fun x q => u (ix2 x q)) Z p c := by
  pointwise [up4]
  simp only [hz]
  rfl

/-- The pooling to sixteen rows, by its matrix. -/
theorem pool16_apply (p : FVec Ideal S16x1024 .f32) (R : Im) (r : FVec Ideal S1024x32 .f32) (hr : ∀ p c, r (ix2 p c) = R p c)
    (q : Fin 16) (c : Fin 32) : pool16 p r (ix2 q c) = pool (fun q x => p (ix2 q x)) R q c := by
  pointwise [pool16]
  simp only [hr]
  rfl

/-- The distances of sixteen rows to the codes. -/
theorem dist16_apply (E : Fin 8192 → Fin 32 → EReal) (Z : Fin 16 → Fin 32 → EReal) (z : FVec Ideal S16x32 .f32)
    (e2 : FVec Ideal S1x8192 .f32) (et : FVec Ideal S32x8192 .f32) (hz : ∀ q c, z (ix2 q c) = Z q c)
    (h2 : ∀ j, e2 (ix2 0 j) = ∑ c, E j c * E j c) (ht : ∀ c j, et (ix2 c j) = E j c) (q : Fin 16) (j : Fin 8192) :
    dist16 z e2 et (ix2 q j) = dist Z E q j := by
  pointwise [dist16]
  simp only [hz, h2, ht]
  rfl

/-- The codes that sixteen rows choose, from one-hot rows against both parts of the codes. -/
theorem pick16_apply (E : Fin 8192 → Fin 32 → EReal) (D : Fin 16 → Fin 8192 → EReal) (d : FVec Ideal S16x8192 .f32)
    (hi lo : FVec Ideal S8192x32 .f32) (hd : ∀ q j, d (ix2 q j) = D q j) (hh : ∀ j c, hi (ix2 j c) = E j c)
    (hl : ∀ j c, lo (ix2 j c) = 0) (q : Fin 16) (c : Fin 32) : pick16 d hi lo (ix2 q c) = E (near (D q)) c := by
  have hn : IsNear (fun j => d (ix2 q j)) (near (D q)) := by simpa only [hd] using near_spec (D q)
  pointwise [pick16]
  rw [reduceIndex_row _ d q hn, onehot_sum, onehot_sum, hh, hl, add_zero]

/-- The resize of sixteen rows, by its matrix. -/
theorem up16_apply (u : FVec Ideal S1024x16 .f32) (Z : Fin 16 → Fin 32 → EReal) (z : FVec Ideal S16x32 .f32)
    (hz : ∀ q c, z (ix2 q c) = Z q c) (p : Fin 1024) (c : Fin 32) : up16 u z (ix2 p c) = up (fun x q => u (ix2 x q)) Z p c := by
  pointwise [up16]
  simp only [hz]
  rfl

/-- The pooling to sixty-four rows, by its matrix. -/
theorem pool64_apply (p : FVec Ideal S64x1024 .f32) (R : Im) (r : FVec Ideal S1024x32 .f32) (hr : ∀ p c, r (ix2 p c) = R p c)
    (q : Fin 64) (c : Fin 32) : pool64 p r (ix2 q c) = pool (fun q x => p (ix2 q x)) R q c := by
  pointwise [pool64]
  simp only [hr]
  rfl

/-- The distances of sixty-four rows to the codes. -/
theorem dist64_apply (E : Fin 8192 → Fin 32 → EReal) (Z : Fin 64 → Fin 32 → EReal) (z : FVec Ideal S64x32 .f32)
    (e2 : FVec Ideal S1x8192 .f32) (et : FVec Ideal S32x8192 .f32) (hz : ∀ q c, z (ix2 q c) = Z q c)
    (h2 : ∀ j, e2 (ix2 0 j) = ∑ c, E j c * E j c) (ht : ∀ c j, et (ix2 c j) = E j c) (q : Fin 64) (j : Fin 8192) :
    dist64 z e2 et (ix2 q j) = dist Z E q j := by
  pointwise [dist64]
  simp only [hz, h2, ht]
  rfl

/-- The codes that sixty-four rows choose, from one-hot rows against both parts of the codes. -/
theorem pick64_apply (E : Fin 8192 → Fin 32 → EReal) (D : Fin 64 → Fin 8192 → EReal) (d : FVec Ideal S64x8192 .f32)
    (hi lo : FVec Ideal S8192x32 .f32) (hd : ∀ q j, d (ix2 q j) = D q j) (hh : ∀ j c, hi (ix2 j c) = E j c)
    (hl : ∀ j c, lo (ix2 j c) = 0) (q : Fin 64) (c : Fin 32) : pick64 d hi lo (ix2 q c) = E (near (D q)) c := by
  have hn : IsNear (fun j => d (ix2 q j)) (near (D q)) := by simpa only [hd] using near_spec (D q)
  pointwise [pick64]
  rw [reduceIndex_row _ d q hn, onehot_sum, onehot_sum, hh, hl, add_zero]

/-- The resize of sixty-four rows, by its matrix. -/
theorem up64_apply (u : FVec Ideal S1024x64 .f32) (Z : Fin 64 → Fin 32 → EReal) (z : FVec Ideal S64x32 .f32)
    (hz : ∀ q c, z (ix2 q c) = Z q c) (p : Fin 1024) (c : Fin 32) : up64 u z (ix2 p c) = up (fun x q => u (ix2 x q)) Z p c := by
  pointwise [up64]
  simp only [hz]
  rfl

/-- The pooling to two hundred and fifty-six rows, by its matrix. -/
theorem pool256_apply (p : FVec Ideal S256x1024 .f32) (R : Im) (r : FVec Ideal S1024x32 .f32) (hr : ∀ p c, r (ix2 p c) = R p c)
    (q : Fin 256) (c : Fin 32) : pool256 p r (ix2 q c) = pool (fun q x => p (ix2 q x)) R q c := by
  pointwise [pool256]
  simp only [hr]
  rfl

/-- The distances of two hundred and fifty-six rows to the codes. -/
theorem dist256_apply (E : Fin 8192 → Fin 32 → EReal) (Z : Fin 256 → Fin 32 → EReal) (z : FVec Ideal S256x32 .f32)
    (e2 : FVec Ideal S1x8192 .f32) (et : FVec Ideal S32x8192 .f32) (hz : ∀ q c, z (ix2 q c) = Z q c)
    (h2 : ∀ j, e2 (ix2 0 j) = ∑ c, E j c * E j c) (ht : ∀ c j, et (ix2 c j) = E j c) (q : Fin 256) (j : Fin 8192) :
    dist256 z e2 et (ix2 q j) = dist Z E q j := by
  pointwise [dist256]
  simp only [hz, h2, ht]
  rfl

/-- The codes that two hundred and fifty-six rows choose, from one-hot rows against both parts of the codes. -/
theorem pick256_apply (E : Fin 8192 → Fin 32 → EReal) (D : Fin 256 → Fin 8192 → EReal) (d : FVec Ideal S256x8192 .f32)
    (hi lo : FVec Ideal S8192x32 .f32) (hd : ∀ q j, d (ix2 q j) = D q j) (hh : ∀ j c, hi (ix2 j c) = E j c)
    (hl : ∀ j c, lo (ix2 j c) = 0) (q : Fin 256) (c : Fin 32) : pick256 d hi lo (ix2 q c) = E (near (D q)) c := by
  have hn : IsNear (fun j => d (ix2 q j)) (near (D q)) := by simpa only [hd] using near_spec (D q)
  pointwise [pick256]
  rw [reduceIndex_row _ d q hn, onehot_sum, onehot_sum, hh, hl, add_zero]

/-- The resize of two hundred and fifty-six rows, by its matrix. -/
theorem up256_apply (u : FVec Ideal S1024x256 .f32) (Z : Fin 256 → Fin 32 → EReal) (z : FVec Ideal S256x32 .f32)
    (hz : ∀ q c, z (ix2 q c) = Z q c) (p : Fin 1024) (c : Fin 32) : up256 u z (ix2 p c) = up (fun x q => u (ix2 x q)) Z p c := by
  pointwise [up256]
  simp only [hz]
  rfl

/-- The coarsest scale's image, whose one row is the mean of the image. -/
theorem first_apply (E : Fin 8192 → Fin 32 → EReal) (X : Im) (x : FVec Ideal S1x1024x32 .f32) (p : FVec Ideal S1x1024 .f32)
    (u : FVec Ideal S1024x1 .f32) (e2 : FVec Ideal S1x8192 .f32) (et : FVec Ideal S32x8192 .f32) (hi lo : FVec Ideal S8192x32 .f32)
    (hx : ∀ p c, x (ix3 0 p c) = X p c) (h2 : ∀ j, e2 (ix2 0 j) = ∑ c, E j c * E j c) (ht : ∀ c j, et (ix2 c j) = E j c)
    (hh : ∀ j c, hi (ix2 j c) = E j c) (hl : ∀ j c, lo (ix2 j c) = 0) (i : Fin 1024) (c : Fin 32) :
    k0_pay16 (F := Ideal) e2 hi lo (k0_pay14 x p) (k0_pay15 et x p) u (ix2 i c)
      = up (fun x q => u (ix2 x q)) (codes (pool (fun q y => p (ix2 q y)) X) E) i c := by
  have hz : ∀ q c, k0_pay13 (F := Ideal) x p (ix2 q c) = pool (fun q y => p (ix2 q y)) X q c := by
    intro q c
    pointwise [k0_pay13, k0_pay6]
    simp only [Fin.isValue, hx]
    rfl
  set D : FVec Ideal S1x8192 .f32 := subf (addf (broadcastTo S1x8192 (k0_pay14 x p) broadcasts_S1x1_S1x8192) e2)
    (mulf (broadcast S1x8192 (Ideal.ofBits .f32 0x40000000#32)) (k0_pay15 et x p)) with hD
  have hd : ∀ j, D (ix2 0 j) = dist (pool (fun q y => p (ix2 q y)) X) E 0 j := by
    intro j
    rw [hD]
    pointwise [k0_pay14, k0_pay15, k0_pay2]
    simp only [hz, h2, ht]
    rfl
  have hn : IsNear (fun j => D (ix2 0 j)) (near (dist (pool (fun q y => p (ix2 q y)) X) E 0)) := by
    simpa only [hd] using near_spec (dist (pool (fun q y => p (ix2 q y)) X) E 0)
  have hr := reduceIndex_row reduces_S1x8192_S1 D 0 hn
  pointwise [k0_pay16]
  simp only [← hD, hr, onehot_sum, hh, hl, add_zero]
  unfold up codes
  exact Finset.sum_congr rfl fun q _ => by rw [Subsingleton.elim q 0]

/-! ## The finest scale -/

/-- A chunk's distances at the last scale. -/
theorem distC_apply (n : Nat) (hn : n + 256 ≤ 1024) (hz : S1024x32.Slices ![n, 0] S256x32) (hx : S1024x1.Slices ![n, 0] S256x1)
    (E : Fin 8192 → Fin 32 → EReal) (R : Im) (r : FVec Ideal S1024x32 .f32) (e2 : FVec Ideal S1x8192 .f32) (et : FVec Ideal S32x8192 .f32)
    (hr : ∀ q c, r (ix2 q c) = R q c) (h2 : ∀ j, e2 (ix2 0 j) = ∑ c, E j c * E j c) (ht : ∀ c j, et (ix2 c j) = E j c)
    (q : Fin 256) (j : Fin 8192) : distC n hz hx r e2 et (ix2 q j) = dist R E ⟨n + q.val, by omega⟩ j := by
  pointwise [distC]
  simp only [hr, h2, ht]
  rfl

/-- The sums through a slab hold the least distance and its place. -/
def BestV (d : FVec Ideal S256x8192 .f32) (n : Nat) (v : FVec Ideal S256x1 .f32) (a : IVec S256x1 32) : Prop :=
  ∀ q : Fin 256, Best (fun j => d (ix2 q j)) n (v (ix2 q 0)) (a (ix2 q 0))

/-- A slab's least distance. -/
theorem slabMin_apply (n : Nat) (hn : n + 1024 ≤ 8192) (h : S256x8192.Slices ![0, n] S256x1024) (d : FVec Ideal S256x8192 .f32)
    (q : Fin 256) : slabMin n h d (ix2 q 0) = Finset.fold min (Ideal.ofBits .f32 0x7F800000#32)
      (fun x : Fin 1024 => d (ix2 q ⟨n + x.val, by omega⟩)) Finset.univ := by
  pointwise [slabMin]

/-- Where a slab's distance is least. -/
theorem slabArg_apply (n : Nat) (hn : n + 1024 ≤ 8192) (h : S256x8192.Slices ![0, n] S256x1024) (d : FVec Ideal S256x8192 .f32)
    (q : Fin 256) (k : Fin 1024) (hk : IsNear (fun x : Fin 1024 => d (ix2 q ⟨n + x.val, by omega⟩)) k) :
    slabArg n h d (ix2 q 0) = BitVec.ofNat 32 (n + k.val) := by
  have e : ∀ x : Fin 1024, extractStridedSlice S256x1024 ![0, n] d h (ix2 q x) = d (ix2 q ⟨n + x.val, by omega⟩) := by
    intro x
    pointwise []
  pointwise [slabArg]
  rw [reduceIndex_row _ _ q (k := k) (by simpa only [e] using hk), addi_ofNat]

/-- The least over the first slab. -/
theorem bestV_first (d : FVec Ideal S256x8192 .f32) (h : S256x8192.Slices ![0, 0] S256x1024) :
    BestV d 1024 (slabMin 0 h d) (slabArg 0 h d) := fun q =>
  best_first _ _ _ (slabMin_apply 0 (by omega) h d q) (fun k hk => slabArg_apply 0 (by omega) h d q k hk)

/-- The least over one slab more. -/
theorem bestV_step (n : Nat) (hn : n + 1024 ≤ 8192) (h : S256x8192.Slices ![0, n] S256x1024) (d : FVec Ideal S256x8192 .f32)
    (v : FVec Ideal S256x1 .f32) (a : IVec S256x1 32) (hb : BestV d n v a) (n' : Nat) (hn' : n' = n + 1024) :
    BestV d n' (stepV n h d v) (stepI n h d v a) := fun q => by
  subst hn'
  have := best_step _ n hn _ _ _ _ (hb q) (slabMin_apply n hn h d q) (fun k hk => slabArg_apply n hn h d q k hk)
  pointwise [stepV, stepI]
  exact this

/-- The running choice after the fourth slab: its cast to the narrow format and back changes nothing. -/
theorem acc3_eq (d : FVec Ideal S256x8192 .f32) :
    acc3 d = stepV 3072 slices_S256x8192_o0_3072_S256x1024 d (acc2 d) := by
  funext j
  pointwise [acc3]

/-- Where each row's least distance is taken once, the eight slabs find it. -/
theorem argC_apply (d : FVec Ideal S256x8192 .f32) (q : Fin 256) (hu : ∀ i j : Fin 8192, (∀ k, d (ix2 q i) ≤ d (ix2 q k)) →
    (∀ k, d (ix2 q j) ≤ d (ix2 q k)) → i = j) : argC d (ix2 q 0) = BitVec.ofNat 32 (near fun j => d (ix2 q j)).val := by
  have b0 : BestV d 1024 (acc0 d) _ := bestV_first d slices_S256x8192_o0_0_S256x1024
  have b1 : BestV d 2048 (acc1 d) _ := bestV_step 1024 (by omega) slices_S256x8192_o0_1024_S256x1024 d _ _ b0 2048 (by norm_num)
  have b2 : BestV d 3072 (acc2 d) _ := bestV_step 2048 (by omega) slices_S256x8192_o0_2048_S256x1024 d _ _ b1 3072 (by norm_num)
  have b3 : BestV d 4096 (acc3 d) _ := acc3_eq d ▸ bestV_step 3072 (by omega) slices_S256x8192_o0_3072_S256x1024 d _ _ b2 4096 (by norm_num)
  have b4 : BestV d 5120 (acc4 d) _ := bestV_step 4096 (by omega) slices_S256x8192_o0_4096_S256x1024 d _ _ b3 5120 (by norm_num)
  have b5 : BestV d 6144 (acc5 d) _ := bestV_step 5120 (by omega) slices_S256x8192_o0_5120_S256x1024 d _ _ b4 6144 (by norm_num)
  have b6 : BestV d 7168 (acc6 d) _ := bestV_step 6144 (by omega) slices_S256x8192_o0_6144_S256x1024 d _ _ b5 7168 (by norm_num)
  have b7 : BestV d 8192 _ _ := bestV_step 7168 (by omega) slices_S256x8192_o0_7168_S256x1024 d _ _ b6 8192 (by norm_num)
  exact (b7 q).near hu

/-- The codes that a chunk's pixels choose, from one-hot rows against both parts of the codes. -/
theorem pickC_apply (E : Fin 8192 → Fin 32 → EReal) (D : Fin 256 → Fin 8192 → EReal) (d : FVec Ideal S256x8192 .f32)
    (hi lo : FVec Ideal S8192x32 .f32) (hd : ∀ q j, d (ix2 q j) = D q j) (hh : ∀ j c, hi (ix2 j c) = E j c)
    (hl : ∀ j c, lo (ix2 j c) = 0) (q : Fin 256) (hu : ∀ i j : Fin 8192, (∀ k, D q i ≤ D q k) → (∀ k, D q j ≤ D q k) → i = j)
    (c : Fin 32) : pickC d hi lo (ix2 q c) = E (near (D q)) c := by
  have ha := argC_apply d q (by simpa only [hd] using hu)
  simp only [hd] at ha
  pointwise [pickC]
  rw [ha, onehot_sum, onehot_sum, hh, hl, add_zero]

/-- Four chunks of rows, one after the other. -/
theorem four_apply (a b c d : FVec Ideal S256x32 .f32) (p : Fin 1024) (o : Fin 32) :
    concatenate S1024x32 0 [⟨S256x32, a⟩, ⟨S256x32, b⟩, ⟨S256x32, c⟩, ⟨S256x32, d⟩]
      concatenates_S256x32_S256x32_S256x32_S256x32_S1024x32_d0 (ix2 p o)
      = if h : p.val < 256 then a (ix2 ⟨p.val, h⟩ o) else if h : p.val - 256 < 256 then b (ix2 ⟨p.val - 256, h⟩ o)
        else if h : p.val - 256 - 256 < 256 then c (ix2 ⟨p.val - 256 - 256, h⟩ o)
        else d (ix2 ⟨p.val - 256 - 256 - 256, by have := p.isLt; omega⟩ o) := by
  pointwise []

/-- The finest scale's codes, where each row's least distance is taken once. -/
theorem lastV_apply (E : Fin 8192 → Fin 32 → EReal) (R : Im) (r : FVec Ideal S1024x32 .f32) (e2 : FVec Ideal S1x8192 .f32)
    (et : FVec Ideal S32x8192 .f32) (hi lo : FVec Ideal S8192x32 .f32) (hr : ∀ q c, r (ix2 q c) = R q c)
    (h2 : ∀ j, e2 (ix2 0 j) = ∑ c, E j c * E j c) (ht : ∀ c j, et (ix2 c j) = E j c)
    (hh : ∀ j c, hi (ix2 j c) = E j c) (hl : ∀ j c, lo (ix2 j c) = 0)
    (hu : ∀ p, ∀ i j : Fin 8192, (∀ k, dist R E p i ≤ dist R E p k) → (∀ k, dist R E p j ≤ dist R E p k) → i = j)
    (p : Fin 1024) (c : Fin 32) : lastV r e2 et hi lo (ix2 p c) = codes R E p c := by
  have hp := p.isLt
  have key : ∀ (n : Nat) (hn : n + 256 ≤ 1024) (hz : S1024x32.Slices ![n, 0] S256x32) (hx : S1024x1.Slices ![n, 0] S256x1)
      (q : Fin 256) (e : n + q.val = p.val), pickC (distC n hz hx r e2 et) hi lo (ix2 q c) = codes R E p c := by
    intro n hn hz hx q e
    have e' : (⟨n + q.val, by omega⟩ : Fin 1024) = p := Fin.ext e
    have := pickC_apply E (fun q => dist R E ⟨n + q.val, by omega⟩) _ hi lo (distC_apply n hn hz hx E R r e2 et hr h2 ht) hh hl q
      (hu _) c
    rw [this]
    simp only [e']
    rfl
  unfold lastV
  rw [four_apply]
  split_ifs
  · exact key 0 (by omega) _ _ _ (by simp)
  · exact key 256 (by omega) _ _ _ (by simp only; omega)
  · exact key 512 (by omega) _ _ _ (by simp only; omega)
  · exact key 768 (by omega) _ _ _ (by simp only; omega)

end Vq.K
-- ==== Proof.KChain.lean ====
/- One run of the kernel's body as a chain of the steps. -/
module

public import proofs.«01_k».proof.Proof.KVal
public import proofs.«01_k».proof.Proof.Gen.KernelIdeal.Skeleton

@[expose] public section

set_option maxRecDepth 16384

open Idealize.ShloMosaic Idealize.ShloMosaic.Pointwise Cert.KernelIdeal Cert.KernelIdeal.Gen

noncomputable section

namespace Vq.K

/-- The pieces written to the padded image, newest first. -/
abbrev Pieces := List (View.Piece (Elt Ideal) S1104x32 .f32)

/-- What one image's run of the kernel reads: its image, the codes and their transpose, the six filters and biases by scale,
the tables of the five coarse scales, and how a tap reads the padded image. -/
structure Ins where
  x : FVec Ideal S1x1024x32 .f32
  e : FVec Ideal S8192x32 .f32
  et : FVec Ideal S32x8192 .f32
  w : Fin 6 → Fin 9 → FVec Ideal S32x32 .f32
  b : Fin 6 → FVec Ideal S1x32 .f32
  u1 : FVec Ideal S1024x1 .f32
  u4 : FVec Ideal S1024x4 .f32
  u16 : FVec Ideal S1024x16 .f32
  u64 : FVec Ideal S1024x64 .f32
  u256 : FVec Ideal S1024x256 .f32
  p1 : FVec Ideal S1x1024 .f32
  p4 : FVec Ideal S4x1024 .f32
  p16 : FVec Ideal S16x1024 .f32
  p64 : FVec Ideal S64x1024 .f32
  p256 : FVec Ideal S256x1024 .f32
  T : Pieces → Fin 9 → FVec Ideal S1024x32 .f32

namespace Ins

variable (I : Ins)

/-- The codes' squared lengths. -/
def e2 : FVec Ideal S1x8192 .f32 := k0_pay3 I.e

/-- The codes' leading part. -/
def hi : FVec Ideal S8192x32 .f32 := k0_pay4 I.e

/-- The codes' remaining part. -/
def lo : FVec Ideal S8192x32 .f32 := k0_pay5 I.e

/-- The transposed codes. -/
def tr : FVec Ideal S32x8192 .f32 := k0_pay2 I.et

/-- One more image written over the padded image's middle. -/
def put (h : FVec Ideal S1024x32 .f32) (l : Pieces) : Pieces :=
  ⟨Rect.unit ![40, 0] S1024x32.size inb_S1104x32_S1024x32_40_0, shapeCast S1024x32 h shapeCasts_S1024x32_S1024x32⟩ :: l

/-- The first residual is the image. -/
def r0 : FVec Ideal S1024x32 .f32 := k0_pay6 I.x
/-- The first scale's image of codes. -/
def h0 : FVec Ideal S1024x32 .f32 := k0_pay16 I.e2 I.hi I.lo (k0_pay14 I.x I.p1) (k0_pay15 I.et I.x I.p1) I.u1
/-- The padded image at the first scale. -/
def l0 : Pieces := put I.h0 [⟨Rect.unit ![0, 0] S1104x32.size inb_S1104x32_S1104x32_0_0, k0_pay9 (F := Ideal)⟩]
/-- What the first scale takes off. -/
def g0 : FVec Ideal S1024x32 .f32 := mixV I.h0 (I.T I.l0) (I.w 0) (I.b 0)
/-- The second residual. -/
def r1 : FVec Ideal S1024x32 .f32 := subf I.r0 I.g0
/-- The second scale's image of codes. -/
def h1 : FVec Ideal S1024x32 .f32 := up4 I.u4 (pick4 (dist4 (pool4 I.p4 I.r1) I.e2 I.tr) I.hi I.lo)
/-- The padded image at the second scale. -/
def l1 : Pieces := put I.h1 I.l0
/-- What the second scale takes off. -/
def g1 : FVec Ideal S1024x32 .f32 := mixV I.h1 (I.T I.l1) (I.w 1) (I.b 1)
/-- The third residual. -/
def r2 : FVec Ideal S1024x32 .f32 := subf I.r1 I.g1
/-- The third scale's image of codes. -/
def h2 : FVec Ideal S1024x32 .f32 := up16 I.u16 (pick16 (dist16 (pool16 I.p16 I.r2) I.e2 I.tr) I.hi I.lo)
/-- The padded image at the third scale. -/
def l2 : Pieces := put I.h2 I.l1
/-- What the third scale takes off. -/
def g2 : FVec Ideal S1024x32 .f32 := mixV I.h2 (I.T I.l2) (I.w 2) (I.b 2)
/-- The fourth residual. -/
def r3 : FVec Ideal S1024x32 .f32 := subf I.r2 I.g2
/-- The fourth scale's image of codes. -/
def h3 : FVec Ideal S1024x32 .f32 := up64 I.u64 (pick64 (dist64 (pool64 I.p64 I.r3) I.e2 I.tr) I.hi I.lo)
/-- The padded image at the fourth scale. -/
def l3 : Pieces := put I.h3 I.l2
/-- What the fourth scale takes off. -/
def g3 : FVec Ideal S1024x32 .f32 := mixV I.h3 (I.T I.l3) (I.w 3) (I.b 3)
/-- The fifth residual. -/
def r4 : FVec Ideal S1024x32 .f32 := subf I.r3 I.g3
/-- The fifth scale's image of codes. -/
def h4 : FVec Ideal S1024x32 .f32 := up256 I.u256 (pick256 (dist256 (pool256 I.p256 I.r4) I.e2 I.tr) I.hi I.lo)
/-- The padded image at the fifth scale. -/
def l4 : Pieces := put I.h4 I.l3
/-- What the fifth scale takes off. -/
def g4 : FVec Ideal S1024x32 .f32 := mixV I.h4 (I.T I.l4) (I.w 4) (I.b 4)
/-- The last residual. -/
def r5 : FVec Ideal S1024x32 .f32 := subf I.r4 I.g4
/-- The last scale's image of codes. -/
def h5 : FVec Ideal S1024x32 .f32 := lastV I.r5 I.e2 I.tr I.hi I.lo
/-- The padded image at the last scale. -/
def l5 : Pieces := put I.h5 I.l4
/-- What the last scale takes off. -/
def g5 : FVec Ideal S1024x32 .f32 := mixV I.h5 (I.T I.l5) (I.w 5) (I.b 5)

/-- The loss after the first scale. -/
def s0 : FVec Ideal S1x1 .f32 := missV k0_pay8 I.r0 I.g0
/-- The loss after the second scale. -/
def s1 : FVec Ideal S1x1 .f32 := missV I.s0 I.r1 I.g1
/-- The loss after the third scale. -/
def s2 : FVec Ideal S1x1 .f32 := missV I.s1 I.r2 I.g2
/-- The loss after the fourth scale. -/
def s3 : FVec Ideal S1x1 .f32 := missV I.s2 I.r3 I.g3
/-- The loss after the fifth scale. -/
def s4 : FVec Ideal S1x1 .f32 := missV I.s3 I.r4 I.g4
/-- The loss after the last scale. -/
def s5 : FVec Ideal S1x1 .f32 := missV I.s4 I.r5 I.g5
/-- The sum of what was taken off through the first scale. -/
def a0 : FVec Ideal S1024x32 .f32 := addf k0_pay7 I.g0
/-- The sum of what was taken off through the second scale. -/
def a1 : FVec Ideal S1024x32 .f32 := addf I.a0 I.g1
/-- The sum of what was taken off through the third scale. -/
def a2 : FVec Ideal S1024x32 .f32 := addf I.a1 I.g2
/-- The sum of what was taken off through the fourth scale. -/
def a3 : FVec Ideal S1024x32 .f32 := addf I.a2 I.g3
/-- The sum of what was taken off through the fifth scale. -/
def a4 : FVec Ideal S1024x32 .f32 := addf I.a3 I.g4
/-- The sum of what was taken off through the last scale. -/
def a5 : FVec Ideal S1024x32 .f32 := addf I.a4 I.g5

/-- The block of the first result. -/
def yOut : FVec Ideal S1x1024x32 .f32 :=
  shapeCast S1x1024x32 (addf I.r0 (subf I.a5 I.r0)) shapeCasts_S1024x32_S1x1024x32

/-- The block of the second result. -/
def lossOut : FVec Ideal S1x1x1 .f32 := k0_pay1 I.s5

end Ins

end Vq.K
-- ==== Proof.KSem.lean ====
/- The chain computes the problem of the image it reads. -/
module

public import proofs.«01_k».proof.Proof.Chain
public import proofs.«01_k».proof.Proof.KChain
public import Idealize.ShloMosaic.Lib.Pipeline.Value

@[expose] public section

set_option maxRecDepth 16384

open Idealize.ShloMosaic Idealize.ShloMosaic.Pointwise Cert.KernelIdeal Cert.KernelIdeal.Gen

noncomputable section

namespace Vq.K

/-! ## The padded image -/

/-- The writes leave an image in the middle rows and zero elsewhere. -/
def Pad (L : Pieces) (H : Im) : Prop := ∀ (j : Fin 1104) (c : Fin 32),
  View.canon L (ix2 j c) = if l : 40 ≤ j.val ∧ j.val < 1064 then H ⟨j.val - 40, by omega⟩ c else 0

/-- The zero fill followed by one image. -/
theorem canon_put (h : FVec Ideal S1024x32 .f32) (L : Pieces) (j : Fin 1104) (c : Fin 32) :
    View.canon (Ins.put h L) (ix2 j c)
      = if l : 40 ≤ j.val ∧ j.val < 1064 then h (ix2 ⟨j.val - 40, by omega⟩ c) else View.canon L (ix2 j c) := by
  split
  · rename_i l
    have e : ix2 j c = (Rect.unit (s := S1104x32) ![40, 0] S1024x32.size inb_S1104x32_S1024x32_40_0).emb (ix2 ⟨j.val - 40, by omega⟩ c) := by
      funext a
      refine Fin.ext ?_
      match a with
      | 0 => show j.val = 40 + 1 * (j.val - 40); omega
      | 1 => show c.val = 0 + 1 * c.val; omega
    rw [e, Ins.put, View.canon_cons_emb]
    exact congrFun (shapeCast_self _ _) _
  · rename_i l
    refine View.canon_cons_of_not_mem _ _ ?_
    intro hm
    rw [Rect.mem_set_unit] at hm
    have := hm 0
    simp [ix2] at this
    omega

/-- Over zero fill. -/
theorem pad_first (h : FVec Ideal S1024x32 .f32) (H : Im) (hh : ∀ p c, h (ix2 p c) = H p c) :
    Pad (Ins.put h [⟨Rect.unit ![0, 0] S1104x32.size inb_S1104x32_S1104x32_0_0, k0_pay9 (F := Ideal)⟩]) H := fun j c => by
  rw [canon_put]
  split
  · rw [hh]
  · rw [View.canon_unit_zero (by funext a; fin_cases a <;> rfl)]
    pointwise [k0_pay9]

/-- Over an earlier image. -/
theorem pad_next (h : FVec Ideal S1024x32 .f32) (H H' : Im) (L : Pieces) (hL : Pad L H') (hh : ∀ p c, h (ix2 p c) = H p c) :
    Pad (Ins.put h L) H := fun j c => by
  rw [canon_put]
  split
  · rw [hh]
  · rename_i l
    rw [hL, dif_neg l]

/-- The run's arrays are the problem's. -/
structure Means (I : Ins) (Q : Prob) : Prop where
  x : ∀ p c, I.x (ix3 0 p c) = Q.X p c
  e : ∀ j c, I.e (ix2 j c) = Q.E j c
  et : ∀ c j, I.et (ix2 c j) = Q.E j c
  w : ∀ s (ky kx : Fin 3) c o, I.w s ⟨3 * ky.val + kx.val, by omega⟩ (ix2 c o) = Q.W s ky kx c o
  b : ∀ s o, I.b s (ix2 0 o) = Q.B s o
  u1 : ∀ p q, I.u1 (ix2 p q) = Q.U1 p q
  p1 : ∀ q p, I.p1 (ix2 q p) = Q.P1 q p
  u4 : ∀ p q, I.u4 (ix2 p q) = Q.U4 p q
  p4 : ∀ q p, I.p4 (ix2 q p) = Q.P4 q p
  u16 : ∀ p q, I.u16 (ix2 p q) = Q.U16 p q
  p16 : ∀ q p, I.p16 (ix2 q p) = Q.P16 q p
  u64 : ∀ p q, I.u64 (ix2 p q) = Q.U64 p q
  p64 : ∀ q p, I.p64 (ix2 q p) = Q.P64 q p
  u256 : ∀ p q, I.u256 (ix2 p q) = Q.U256 p q
  p256 : ∀ q p, I.p256 (ix2 q p) = Q.P256 q p
  T : ∀ L (ky kx : Fin 3) (p : Fin 1024) (c : Fin 32), I.T L ⟨3 * ky.val + kx.val, by omega⟩ (ix2 p c)
    = View.canon L (ix2 ⟨7 + 32 * ky.val + kx.val + p.val, by omega⟩ c)
  real : ∀ j c, Real' (Q.E j c)
  once : Q.Once

namespace Means

variable {I : Ins} {Q : Prob} (h : Means I Q)

include h

/-- The codes' squared lengths. -/
theorem e2 (j : Fin 8192) : I.e2 (ix2 0 j) = ∑ c, Q.E j c * Q.E j c := by
  pointwise [Ins.e2, k0_pay3]
  simp only [h.e]

/-- A code's leading part is the code, since the narrowing cast changes no real number. -/
theorem hi (j : Fin 8192) (c : Fin 32) : I.hi (ix2 j c) = Q.E j c := by
  pointwise [Ins.hi, k0_pay4]
  exact h.e j c

/-- A code's remaining part is zero. -/
theorem lo (j : Fin 8192) (c : Fin 32) : I.lo (ix2 j c) = 0 := by
  pointwise [Ins.lo, k0_pay5, k0_pay4]
  rw [h.e]
  exact (h.real j c).sub_self

/-- The transposed codes. -/
theorem tr (c : Fin 32) (j : Fin 8192) : I.tr (ix2 c j) = Q.E j c := by
  pointwise [Ins.tr, k0_pay2]
  exact h.et c j

/-- A tap of the padded image is the image read later by as much. -/
theorem tap {L : Pieces} {H : Im} (hL : Pad L H) (ky kx : Fin 3) (p : Fin 1024) (c : Fin 32) :
    I.T L ⟨3 * ky.val + kx.val, by omega⟩ (ix2 p c) = late H (32 * ky.val + kx.val) p c := by
  rw [h.T, hL, late]
  have := p.isLt
  by_cases l : 33 ≤ p.val + (32 * ky.val + kx.val) ∧ p.val + (32 * ky.val + kx.val) < 1057
  · rw [dif_pos l, dif_pos (by simp only; omega)]
    exact congrArg (fun k => H k c) (Fin.ext (by simp only; omega))
  · rw [dif_neg l, dif_neg (by simp only; omega)]

/-- What a scale takes off. -/
theorem mixed (k : Fin 6) {L : Pieces} {H : Im} {a : FVec Ideal S1024x32 .f32} (hL : Pad L H) (ha : ∀ p c, a (ix2 p c) = H p c)
    (p : Fin 1024) (o : Fin 32) : mixV a (I.T L) (I.w k) (I.b k) (ix2 p o) = mix H (Q.W k) (Q.B k) p o :=
  mixV_apply H (Q.W k) (Q.B k) a _ _ _ ha (h.tap hL) (h.w k) (h.b k) p o

/-- What the first scale starts from. -/
theorem r0 (p : Fin 1024) (c : Fin 32) : I.r0 (ix2 p c) = Q.R0 p c := by
  pointwise [Ins.r0, k0_pay6]
  exact h.x p c

/-- The first scale's image of codes. -/
theorem h0 (p : Fin 1024) (c : Fin 32) : I.h0 (ix2 p c) = up Q.U1 (codes (pool Q.P1 Q.R0) Q.E) p c := by
  rw [Ins.h0, first_apply Q.E Q.X _ _ _ _ _ _ _ h.x h.e2 h.et h.hi h.lo]
  simp only [h.u1, h.p1]
  rfl

/-- The scratch at the first scale holds the image of codes between zeros. -/
theorem l0 : Pad I.l0 (up Q.U1 (codes (pool Q.P1 Q.R0) Q.E)) := pad_first _ _ h.h0

/-- What the first scale takes off. -/
theorem g0 (p : Fin 1024) (o : Fin 32) : I.g0 (ix2 p o) = Q.G0 p o := h.mixed 0 h.l0 h.h0 p o

/-- What the second scale starts from. -/
theorem r1 (p : Fin 1024) (c : Fin 32) : I.r1 (ix2 p c) = Q.R1 p c := by
  pointwise [Ins.r1]
  rw [h.r0, h.g0]
  rfl

/-- The second scale's image of codes. -/
theorem h1 (p : Fin 1024) (c : Fin 32) : I.h1 (ix2 p c) = up Q.U4 (codes (pool Q.P4 Q.R1) Q.E) p c := by
  rw [Ins.h1, up4_apply _ _ _ (pick4_apply Q.E _ _ _ _ (dist4_apply Q.E _ _ _ _ (pool4_apply _ _ _ h.r1) h.e2 h.tr) h.hi h.lo)]
  simp only [h.u4, h.p4]
  rfl

/-- The scratch at the second scale holds the image of codes between zeros. -/
theorem l1 : Pad I.l1 (up Q.U4 (codes (pool Q.P4 Q.R1) Q.E)) := pad_next _ _ _ _ h.l0 h.h1

/-- What the second scale takes off. -/
theorem g1 (p : Fin 1024) (o : Fin 32) : I.g1 (ix2 p o) = Q.G1 p o := h.mixed 1 h.l1 h.h1 p o

/-- What the third scale starts from. -/
theorem r2 (p : Fin 1024) (c : Fin 32) : I.r2 (ix2 p c) = Q.R2 p c := by
  pointwise [Ins.r2]
  rw [h.r1, h.g1]
  rfl

/-- The third scale's image of codes. -/
theorem h2 (p : Fin 1024) (c : Fin 32) : I.h2 (ix2 p c) = up Q.U16 (codes (pool Q.P16 Q.R2) Q.E) p c := by
  rw [Ins.h2, up16_apply _ _ _ (pick16_apply Q.E _ _ _ _ (dist16_apply Q.E _ _ _ _ (pool16_apply _ _ _ h.r2) h.e2 h.tr) h.hi h.lo)]
  simp only [h.u16, h.p16]
  rfl

/-- The scratch at the third scale holds the image of codes between zeros. -/
theorem l2 : Pad I.l2 (up Q.U16 (codes (pool Q.P16 Q.R2) Q.E)) := pad_next _ _ _ _ h.l1 h.h2

/-- What the third scale takes off. -/
theorem g2 (p : Fin 1024) (o : Fin 32) : I.g2 (ix2 p o) = Q.G2 p o := h.mixed 2 h.l2 h.h2 p o

/-- What the fourth scale starts from. -/
theorem r3 (p : Fin 1024) (c : Fin 32) : I.r3 (ix2 p c) = Q.R3 p c := by
  pointwise [Ins.r3]
  rw [h.r2, h.g2]
  rfl

/-- The fourth scale's image of codes. -/
theorem h3 (p : Fin 1024) (c : Fin 32) : I.h3 (ix2 p c) = up Q.U64 (codes (pool Q.P64 Q.R3) Q.E) p c := by
  rw [Ins.h3, up64_apply _ _ _ (pick64_apply Q.E _ _ _ _ (dist64_apply Q.E _ _ _ _ (pool64_apply _ _ _ h.r3) h.e2 h.tr) h.hi h.lo)]
  simp only [h.u64, h.p64]
  rfl

/-- The scratch at the fourth scale holds the image of codes between zeros. -/
theorem l3 : Pad I.l3 (up Q.U64 (codes (pool Q.P64 Q.R3) Q.E)) := pad_next _ _ _ _ h.l2 h.h3

/-- What the fourth scale takes off. -/
theorem g3 (p : Fin 1024) (o : Fin 32) : I.g3 (ix2 p o) = Q.G3 p o := h.mixed 3 h.l3 h.h3 p o

/-- What the fifth scale starts from. -/
theorem r4 (p : Fin 1024) (c : Fin 32) : I.r4 (ix2 p c) = Q.R4 p c := by
  pointwise [Ins.r4]
  rw [h.r3, h.g3]
  rfl

/-- The fifth scale's image of codes. -/
theorem h4 (p : Fin 1024) (c : Fin 32) : I.h4 (ix2 p c) = up Q.U256 (codes (pool Q.P256 Q.R4) Q.E) p c := by
  rw [Ins.h4, up256_apply _ _ _ (pick256_apply Q.E _ _ _ _ (dist256_apply Q.E _ _ _ _ (pool256_apply _ _ _ h.r4) h.e2 h.tr) h.hi h.lo)]
  simp only [h.u256, h.p256]
  rfl

/-- The scratch at the fifth scale holds the image of codes between zeros. -/
theorem l4 : Pad I.l4 (up Q.U256 (codes (pool Q.P256 Q.R4) Q.E)) := pad_next _ _ _ _ h.l3 h.h4

/-- What the fifth scale takes off. -/
theorem g4 (p : Fin 1024) (o : Fin 32) : I.g4 (ix2 p o) = Q.G4 p o := h.mixed 4 h.l4 h.h4 p o

/-- What the last scale starts from. -/
theorem r5 (p : Fin 1024) (c : Fin 32) : I.r5 (ix2 p c) = Q.R5 p c := by
  pointwise [Ins.r5]
  rw [h.r4, h.g4]
  rfl

/-- The last scale's image of codes. -/
theorem h5 (p : Fin 1024) (c : Fin 32) : I.h5 (ix2 p c) = codes Q.R5 Q.E p c := lastV_apply Q.E Q.R5 _ _ _ _ _ h.r5 h.e2 h.tr h.hi h.lo h.once p c

/-- The scratch at the last scale holds the image of codes between zeros. -/
theorem l5 : Pad I.l5 (codes Q.R5 Q.E) := pad_next _ _ _ _ h.l4 h.h5

/-- What the last scale takes off. -/
theorem g5 (p : Fin 1024) (o : Fin 32) : I.g5 (ix2 p o) = Q.G5 p o := h.mixed 5 h.l5 h.h5 p o

/-- The first result's block. -/
theorem out (p : Fin 1024) (o : Fin 32) : I.yOut (ix3 0 p o) = Q.out p o := by
  pointwise [Ins.yOut, Ins.a0, Ins.a1, Ins.a2, Ins.a3, Ins.a4, Ins.a5, k0_pay7]
  simp only [h.r0, h.g0, h.g1, h.g2, h.g3, h.g4, h.g5]
  rfl

/-- The second result's block. -/
theorem missed : I.lossOut (ix3 0 0 0) = Q.missed := by
  pointwise [Ins.lossOut, k0_pay1, Ins.s5]
  rw [missV_apply _ _ _ _ _ h.r5 h.g5, Ins.s4, missV_apply _ _ _ _ _ h.r4 h.g4, Ins.s3, missV_apply _ _ _ _ _ h.r3 h.g3,
    Ins.s2, missV_apply _ _ _ _ _ h.r2 h.g2, Ins.s1, missV_apply _ _ _ _ _ h.r1 h.g1, Ins.s0, missV_apply _ _ _ _ _ h.r0 h.g0]
  pointwise [k0_pay8]
  rfl

end Means

end Vq.K
-- ==== Proof.Weights.lean ====
/- The weights along one axis and over the image: the cubic by either join of its pieces, and the averages. -/
module

public import Idealize.ShloMosaic.Lib.Pointwise
public import Idealize.ShloMosaic.Lib.IdealHost

@[expose] public section

open Idealize.ShloMosaic Idealize.ShloMosaic.Pointwise

noncomputable section

namespace Vq

/-! ## The weights of the cubic interpolation -/

/-- How far output place `y` lies from input place `a`, with `k` the ratio of the two sizes. -/
def off (k : BitVec 32) (a y : Nat) : EReal :=
  FloatOps.absf (F := Ideal) (φ := .f32)
    ((FloatOps.sitofp (F := Ideal) .f32 (BitVec.ofNat 32 y) + Ideal.ofBits .f32 0x3F000000#32) * Ideal.ofBits .f32 k
      - Ideal.ofBits .f32 0x3F000000#32 - FloatOps.sitofp (F := Ideal) .f32 (BitVec.ofNat 32 a))

/-- The cubic's outer piece. -/
def outer (t : EReal) : EReal :=
  ((Ideal.ofBits .f32 0xBF000000#32 * t + Ideal.ofBits .f32 0x40200000#32) * t - Ideal.ofBits .f32 0x40800000#32) * t
    + Ideal.ofBits .f32 0x40000000#32

/-- The cubic's inner piece. -/
def inner (t : EReal) : EReal :=
  (Ideal.ofBits .f32 0x3FC00000#32 * t - Ideal.ofBits .f32 0x40200000#32) * t * t + 1

/-- The cubic, its pieces joined as the kernel joins them. -/
def cubicK (t : EReal) : EReal :=
  Scalar.select (IntOp.andi (BitVec.ofBool (decide (1 < t))) (BitVec.ofBool (decide (t < Ideal.ofBits .f32 0x40000000#32))))
    (outer t) (if t ≤ 1 then inner t else 0)

/-- The cubic, its pieces joined as the reference joins them. -/
def cubic (t : EReal) : EReal :=
  if Ideal.ofBits .f32 0x40000000#32 ≤ t then 0 else if 1 ≤ t then outer t else inner t

/-- The weight of input place `a` at output place `y`, the weights at `y` scaled to sum to one. -/
def weight (f : EReal → EReal) (n : Nat) (k : BitVec 32) (a y : Nat) : EReal :=
  Ideal.div (f (off k a y)) (∑ x : Fin n, f (off k x.val y))

/-- The averaging weight along one axis: `y` lies among the `f` places of `a`. -/
def inBlock (f a y : Nat) : BitVec 1 :=
  IntOp.andi (IntOp.cmpi .sge (BitVec.ofNat 32 y) (IntOp.muli (BitVec.ofNat 32 a) (BitVec.ofNat 32 f)))
    (IntOp.cmpi .slt (BitVec.ofNat 32 y) (IntOp.muli (IntOp.addi (BitVec.ofNat 32 a) 1#32) (BitVec.ofNat 32 f)))

/-- The weight by which pixel `(y, x)` enters the average over block `(a, b)`, as the kernel joins the two axes. -/
def share (f : Nat) (k : BitVec 32) (a b y x : Nat) : EReal :=
  Scalar.select (inBlock f b x)
    (Scalar.select (inBlock f a y) (Ideal.ofBits .f32 k * Ideal.ofBits .f32 k) 0) 0

end Vq
-- ==== Proof.Problem.lean ====
/- The problem of each image, from the four arguments. -/
module

public import proofs.«01_k».proof.Proof.Chain
public import proofs.«01_k».proof.Proof.Weights

@[expose] public section

open Idealize.ShloMosaic Idealize.ShloMosaic.Pointwise

noncomputable section

namespace Vq

/-- Which of the four filters a scale takes. -/
def which : Fin 6 → Fin 4 := ![0, 0, 1, 2, 3, 3]

/-- The weights that bring `n` by `n` rows back to the image, row by row: the product of the two axes' weights. -/
def upBy (f : EReal → EReal) (n : Nat) (k : BitVec 32) (N : Nat) : Fin 1024 → Fin N → EReal := fun p q =>
  weight f n k (q.val / n) (p.val / 32) * weight f n k (q.val % n) (p.val % 32)

/-- The weights that average the image to `n` by `n` rows, each over a block `f` by `f`. -/
def avgBy (n f : Nat) (k : BitVec 32) (N : Nat) : Fin N → Fin 1024 → EReal := fun q p =>
  share f k (q.val / n) (q.val % n) (p.val / 32) (p.val % 32)

/-- The problem of image `b`, from the four arguments. -/
def prob (f : EReal → EReal) (x : (⟨4, ![16, 32, 32, 32]⟩ : Shape).Idx → EReal) (emb : (⟨2, ![8192, 32]⟩ : Shape).Idx → EReal)
    (pw : (⟨5, ![4, 32, 32, 3, 3]⟩ : Shape).Idx → EReal) (pb : (⟨2, ![4, 32]⟩ : Shape).Idx → EReal) (b : Fin 16) : Prob where
  X p c := x (ix4 b c ⟨p.val / 32, by omega⟩ ⟨p.val % 32, by omega⟩)
  E j c := emb (ix2 j c)
  W s ky kx i o := pw (ix5 (which s) o i ky kx)
  B s o := pb (ix2 (which s) o)
  U1 := upBy f 1 0x3D000000#32 1
  P1 := avgBy 1 32 0x3D000000#32 1
  U4 := upBy f 2 0x3D800000#32 4
  P4 := avgBy 2 16 0x3D800000#32 4
  U16 := upBy f 4 0x3E000000#32 16
  P16 := avgBy 4 8 0x3E000000#32 16
  U64 := upBy f 8 0x3E800000#32 64
  P64 := avgBy 8 4 0x3E800000#32 64
  U256 := upBy f 16 0x3F000000#32 256
  P256 := avgBy 16 2 0x3F000000#32 256

end Vq
-- ==== Proof.Gather.lean ====
/- The gathers of the two programs read the rows and pages that they name. -/
module

public import Idealize.ShloMosaic.Lib.Pointwise
public import Idealize.ShloMosaic.Lib.ValueIdx

@[expose] public section

open Idealize.ShloMosaic Idealize.ShloMosaic.Pointwise

noncomputable section

namespace Vq

/-- Rows of a table, one for each place of a three-axis array of row numbers: the dimensions of the gather. -/
abbrev rowDims (N C B R S : Nat)
    (wf : GatherDims.WF ⟨2, ![N, C]⟩ ⟨4, ![B, R, S, 1]⟩ ⟨4, ![B, R, S, C]⟩ [3] [0] [] [0] [] 3 ![1, C]) :
    GatherDims ⟨2, ![N, C]⟩ ⟨4, ![B, R, S, 1]⟩ ⟨4, ![B, R, S, C]⟩ where
  offsetDims := [3]
  collapsedSliceDims := [0]
  operandBatchingDims := []
  startIndicesBatchingDims := []
  startIndexMap := [0]
  indexVectorDim := 3
  sliceSizes := ![1, C]
  wf := wf

/-- Such a gather reads the named row. -/
theorem gather_row {α : Type} {N C B R S w : Nat} (hN : 0 < N)
    (wf : GatherDims.WF ⟨2, ![N, C]⟩ ⟨4, ![B, R, S, 1]⟩ ⟨4, ![B, R, S, C]⟩ [3] [0] [] [0] [] 3 ![1, C])
    (x : (⟨2, ![N, C]⟩ : Shape).Idx → α) (idx : IVec ⟨4, ![B, R, S, 1]⟩ w) (b : Fin B) (r : Fin R) (s : Fin S) (c : Fin C) :
    Host.gather (rowDims N C B R S wf) x idx (ix4 b r s c)
      = x (ix2 ⟨min (idx (ix4 b r s 0)).toInt.toNat (N - 1), by omega⟩ c) := by
  unfold Host.gather
  congr 1
  funext a
  refine Fin.ext ?_
  show (rowDims N C B R S wf).start _ idx a + (rowDims N C B R S wf).batchCoord _ a + (rowDims N C B R S wf).offCoord _ a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 2) ∈ (rowDims N C B R S wf).startIndexMap from List.mem_singleton.mpr rfl)).trans ?_
    have hsi : (rowDims N C B R S wf).siIdx (ix4 b r s c) ⟨List.idxOf (0 : Fin 2) (rowDims N C B R S wf).startIndexMap,
        List.idxOf_lt_length_iff.2 (List.mem_singleton.mpr rfl)⟩ = ix4 b r s 0 := by
      funext b'; refine Fin.ext ?_
      match b' with
      | ⟨0, _⟩ => rfl
      | ⟨1, _⟩ => rfl
      | ⟨2, _⟩ => rfl
      | ⟨3, _⟩ => rfl
    exact congrArg (fun i => min (idx i).toInt.toNat (N - 1)) hsi
  | ⟨1, _⟩ =>
    have h1 : (rowDims N C B R S wf).start (ix4 b r s c) idx ⟨1, by simp⟩ = 0 := by
      unfold GatherDims.start
      rw [dif_neg]
      simp
    rw [h1]
    simp only [Nat.zero_add]
    rfl

/-- Pages of a table, one for each of a list of page numbers: the dimensions of the gather. -/
abbrev pageDims (N A B C D R : Nat)
    (wf : GatherDims.WF ⟨5, ![N, A, B, C, D]⟩ ⟨2, ![R, 1]⟩ ⟨5, ![R, A, B, C, D]⟩ [1, 2, 3, 4] [0] [] [0] [] 1 ![1, A, B, C, D]) :
    GatherDims ⟨5, ![N, A, B, C, D]⟩ ⟨2, ![R, 1]⟩ ⟨5, ![R, A, B, C, D]⟩ where
  offsetDims := [1, 2, 3, 4]
  collapsedSliceDims := [0]
  operandBatchingDims := []
  startIndicesBatchingDims := []
  startIndexMap := [0]
  indexVectorDim := 1
  sliceSizes := ![1, A, B, C, D]
  wf := wf

/-- Such a gather reads the named page. -/
theorem gather_page {α : Type} {N A B C D R w : Nat} (hN : 0 < N)
    (wf : GatherDims.WF ⟨5, ![N, A, B, C, D]⟩ ⟨2, ![R, 1]⟩ ⟨5, ![R, A, B, C, D]⟩ [1, 2, 3, 4] [0] [] [0] [] 1 ![1, A, B, C, D])
    (x : (⟨5, ![N, A, B, C, D]⟩ : Shape).Idx → α) (idx : IVec ⟨2, ![R, 1]⟩ w) (r : Fin R) (a : Fin A) (b : Fin B) (c : Fin C)
    (d : Fin D) :
    Host.gather (pageDims N A B C D R wf) x idx (ix5 r a b c d)
      = x (ix5 ⟨min (idx (ix2 r 0)).toInt.toNat (N - 1), by omega⟩ a b c d) := by
  unfold Host.gather
  congr 1
  funext e
  refine Fin.ext ?_
  show (pageDims N A B C D R wf).start _ idx e + (pageDims N A B C D R wf).batchCoord _ e
    + (pageDims N A B C D R wf).offCoord _ e = _
  rw [GatherDims.batchCoord_eq_zero _ _ _ List.not_mem_nil]
  have h0 : ∀ e : Fin 5, e ≠ 0 → (pageDims N A B C D R wf).start (ix5 r a b c d) idx e = 0 := by
    intro e he
    unfold GatherDims.start
    rw [dif_neg]
    exact fun h => he (List.mem_singleton.mp h)
  match e with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 5) ∈ (pageDims N A B C D R wf).startIndexMap from List.mem_singleton.mpr rfl)).trans ?_
    have hsi : (pageDims N A B C D R wf).siIdx (ix5 r a b c d) ⟨List.idxOf (0 : Fin 5) (pageDims N A B C D R wf).startIndexMap,
        List.idxOf_lt_length_iff.2 (List.mem_singleton.mpr rfl)⟩ = ix2 r 0 := by
      funext b'; refine Fin.ext ?_
      match b' with
      | ⟨0, _⟩ => rfl
      | ⟨1, _⟩ => rfl
    exact congrArg (fun i => min (idx i).toInt.toNat (N - 1)) hsi
  | ⟨1, _⟩ => exact (congrArg (· + 0 + _) (h0 1 (by decide))).trans (Nat.zero_add _)
  | ⟨2, _⟩ => exact (congrArg (· + 0 + _) (h0 2 (by decide))).trans (Nat.zero_add _)
  | ⟨3, _⟩ => exact (congrArg (· + 0 + _) (h0 3 (by decide))).trans (Nat.zero_add _)
  | ⟨4, _⟩ => exact (congrArg (· + 0 + _) (h0 4 (by decide))).trans (Nat.zero_add _)

/-- Rows of a table, one for each of a list of row numbers: the dimensions of the gather. -/
abbrev listDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Such a gather reads the named row. -/
theorem gather_list {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (listDims N C R wf) x idx (ix2 r c) = x (ix2 ⟨min (idx (ix2 r 0)).toInt.toNat (N - 1), by omega⟩ c) := by
  unfold Host.gather
  congr 1
  funext e
  refine Fin.ext ?_
  show (listDims N C R wf).start _ idx e + (listDims N C R wf).batchCoord _ e + (listDims N C R wf).offCoord _ e = _
  rw [GatherDims.batchCoord_eq_zero _ _ _ List.not_mem_nil]
  match e with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (show (0 : Fin 2) ∈ (listDims N C R wf).startIndexMap from List.mem_singleton.mpr rfl)).trans ?_
    have hsi : (listDims N C R wf).siIdx (ix2 r c) ⟨List.idxOf (0 : Fin 2) (listDims N C R wf).startIndexMap,
        List.idxOf_lt_length_iff.2 (List.mem_singleton.mpr rfl)⟩ = ix2 r 0 := by
      funext b'; refine Fin.ext ?_
      match b' with
      | ⟨0, _⟩ => rfl
      | ⟨1, _⟩ => rfl
    exact congrArg (fun i => min (idx i).toInt.toNat (N - 1)) hsi
  | ⟨1, _⟩ =>
    have h1 : (listDims N C R wf).start (ix2 r c) idx ⟨1, by simp⟩ = 0 := by
      unfold GatherDims.start
      rw [dif_neg]
      simp
    rw [h1]
    simp only [Nat.zero_add]
    rfl

end Vq
-- ==== Proof.KTab.lean ====
/- The arrays that the kernel's host lines prepare: the image's rows, the tables of weights, the packed filters and biases. -/
module

public import proofs.«01_k».proof.Proof.KSem
public import proofs.«01_k».proof.Proof.Problem
public import proofs.«01_k».proof.Proof.Gather
public import proofs.«01_k».proof.Proof.Gen.KernelIdeal.Frame
public import Idealize.ShloMosaic.Lib.StableHlo.ReadAt

@[expose] public section

set_option maxRecDepth 16384

open Idealize.ShloMosaic Idealize.ShloMosaic.Pointwise Cert.KernelIdeal Cert.KernelIdeal.Gen
open Idealize.ShloMosaic.TcCoe Idealize.ShloMosaic.Tactic

noncomputable section

namespace Vq.K

variable (m : (ℓ : Loc nD τ sig) → Buf (Elt Ideal) ℓ) (c : Dev nD)

/-- The rows of the image, from the image. -/
theorem rows_at (b : Fin 16) (p : Fin 1024) (o : Fin 32) :
    (V m c main_call0_v1 : S16x1024x32.Idx → EReal) (ix3 b p o)
      = (m (c.tc.loc main_arg0) : S16x32x32x32.Idx → EReal) (ix4 b o ⟨p.val / 32, by omega⟩ ⟨p.val % 32, by omega⟩) := by
  unfold V
  after_reads_at

/-- The codes' transpose. -/
theorem embt_at (o : Fin 32) (j : Fin 8192) :
    (V m c main_call0_v2 : S32x8192.Idx → EReal) (ix2 o j) = (m (c.tc.loc main_arg1) : S8192x32.Idx → EReal) (ix2 j o) := by
  unfold V
  after_reads_at

/-- The weights that bring the 1 by 1 rows back to the image. -/
theorem u1_at (p : Fin 1024) (q : Fin 1) :
    (V m c main_call0_v68 : S1024x1.Idx → EReal) (ix2 p q)
      = weight cubicK 1 0x3D000000#32 (q.val / 1) (p.val / 32) * weight cubicK 1 0x3D000000#32 (q.val % 1) (p.val % 32) := by
  unfold V
  after_reads_at
  simp only [id_eq]
  pointwise
  obtain rfl : q = 0 := Subsingleton.elim _ _
  rfl

/-- The weights that average the image to 1 by 1 rows. -/
theorem p1_at (q : Fin 1) (p : Fin 1024) :
    (V m c main_call0_v295 : S1x1024.Idx → EReal) (ix2 q p)
      = share 32 0x3D000000#32 (q.val / 1) (q.val % 1) (p.val / 32) (p.val % 32) := by
  unfold V
  after_reads_at
  simp only [id_eq]
  pointwise
  obtain rfl : q = 0 := Subsingleton.elim _ _
  rfl

/-- The weights that bring the 2 by 2 rows back to the image. -/
theorem u4_at (p : Fin 1024) (q : Fin 4) :
    (V m c main_call0_v120 : S1024x4.Idx → EReal) (ix2 p q)
      = weight cubicK 2 0x3D800000#32 (q.val / 2) (p.val / 32) * weight cubicK 2 0x3D800000#32 (q.val % 2) (p.val % 32) := by
  unfold V
  after_reads_at
  simp only [id_eq]
  pointwise
  rfl

/-- The weights that average the image to 2 by 2 rows. -/
theorem p4_at (q : Fin 4) (p : Fin 1024) :
    (V m c main_call0_v314 : S4x1024.Idx → EReal) (ix2 q p)
      = share 16 0x3D800000#32 (q.val / 2) (q.val % 2) (p.val / 32) (p.val % 32) := by
  unfold V
  after_reads_at
  simp only [id_eq]
  pointwise
  rfl

/-- The weights that bring the 4 by 4 rows back to the image. -/
theorem u16_at (p : Fin 1024) (q : Fin 16) :
    (V m c main_call0_v172 : S1024x16.Idx → EReal) (ix2 p q)
      = weight cubicK 4 0x3E000000#32 (q.val / 4) (p.val / 32) * weight cubicK 4 0x3E000000#32 (q.val % 4) (p.val % 32) := by
  unfold V
  after_reads_at
  simp only [id_eq]
  pointwise
  rfl

/-- The weights that average the image to 4 by 4 rows. -/
theorem p16_at (q : Fin 16) (p : Fin 1024) :
    (V m c main_call0_v333 : S16x1024.Idx → EReal) (ix2 q p)
      = share 8 0x3E000000#32 (q.val / 4) (q.val % 4) (p.val / 32) (p.val % 32) := by
  unfold V
  after_reads_at
  simp only [id_eq]
  pointwise
  rfl

/-- The weights that bring the 8 by 8 rows back to the image. -/
theorem u64_at (p : Fin 1024) (q : Fin 64) :
    (V m c main_call0_v224 : S1024x64.Idx → EReal) (ix2 p q)
      = weight cubicK 8 0x3E800000#32 (q.val / 8) (p.val / 32) * weight cubicK 8 0x3E800000#32 (q.val % 8) (p.val % 32) := by
  unfold V
  after_reads_at
  simp only [id_eq]
  pointwise
  rfl

/-- The weights that average the image to 8 by 8 rows. -/
theorem p64_at (q : Fin 64) (p : Fin 1024) :
    (V m c main_call0_v352 : S64x1024.Idx → EReal) (ix2 q p)
      = share 4 0x3E800000#32 (q.val / 8) (q.val % 8) (p.val / 32) (p.val % 32) := by
  unfold V
  after_reads_at
  simp only [id_eq]
  pointwise
  rfl

/-- The weights that bring the 16 by 16 rows back to the image. -/
theorem u256_at (p : Fin 1024) (q : Fin 256) :
    (V m c main_call0_v276 : S1024x256.Idx → EReal) (ix2 p q)
      = weight cubicK 16 0x3F000000#32 (q.val / 16) (p.val / 32) * weight cubicK 16 0x3F000000#32 (q.val % 16) (p.val % 32) := by
  unfold V
  after_reads_at
  simp only [id_eq]
  pointwise
  rfl

/-- The weights that average the image to 16 by 16 rows. -/
theorem p256_at (q : Fin 256) (p : Fin 1024) :
    (V m c main_call0_v371 : S256x1024.Idx → EReal) (ix2 q p)
      = share 2 0x3F000000#32 (q.val / 16) (q.val % 16) (p.val / 32) (p.val % 32) := by
  unfold V
  after_reads_at
  simp only [id_eq]
  pointwise
  rfl

/-- The packed filters, from the filters. -/
theorem filt_at (s : Fin 6) (ky kx : Fin 3) (i o : Fin 32) :
    (V m c main_call0_v11 : S1728x32.Idx → EReal) (ix2 ⟨288 * s.val + 32 * (3 * ky.val + kx.val) + i.val, by omega⟩ o)
      = (m (c.tc.loc main_arg2) : S4x32x32x3x3.Idx → EReal) (ix5 (which s) o i ky kx) := by
  unfold V
  after_reads_at
  refine (gather_page (by decide) _ _ _ _ _ _ _ _).trans ?_
  refine congrArg (fun k => (m (c.tc.loc main_arg2) : S4x32x32x3x3.Idx → EReal) (ix5 k o i ky kx)) (Fin.ext ?_)
  fin_cases s <;> rfl

/-- The chosen biases, from the biases. -/
theorem bias_at (s : Fin 6) (o : Fin 32) :
    (V m c main_call0_v18 : S6x32.Idx → EReal) (ix2 s o)
      = (m (c.tc.loc main_arg3) : S4x32.Idx → EReal) (ix2 (which s) o) := by
  unfold V
  after_reads_at
  refine (gather_list (by decide) _ _ _ _ _).trans ?_
  refine congrArg (fun k => (m (c.tc.loc main_arg3) : S4x32.Idx → EReal) (ix2 k o)) (Fin.ext ?_)
  fin_cases s <;> rfl

end Vq.K
-- ==== Proof.KPays.lean ====
/- The kernel's payloads, as the run lists them, are the chain's steps. -/
module

public import proofs.«01_k».proof.Proof.KChain

@[expose] public section

set_option maxRecDepth 16384

open Idealize.ShloMosaic Idealize.ShloMosaic.Pointwise Cert.KernelIdeal Cert.KernelIdeal.Gen

noncomputable section

namespace Vq.K

/-! ## The body's operations, grouped as it writes them, are the steps

The body splits its operations at other places than the steps do; each theorem joins one group of them again. -/

/-- The mask of the pixels with a left neighbour. -/
abbrev ml : FVec Ideal S1024x1 .f32 := k0_pay11 (F := Ideal)
/-- The mask of the pixels with a right neighbour. -/
abbrev mr : FVec Ideal S1024x1 .f32 := k0_pay12 (F := Ideal)

/-- The squared lengths of an image's pixels. -/
def lens (r : FVec Ideal S1024x32 .f32) : FVec Ideal S1024x1 .f32 :=
  shapeCast S1024x1 (multiReduction .add [1] S1024 (mulf r r) 0x00000000#32 reduces_S1024x32_S1024 (.inl rfl) rfl)
    shapeCasts_S1024_S1024x1

/-- An image's first chunk. -/
def chunk (r : FVec Ideal S1024x32 .f32) : FVec Ideal S256x32 .f32 :=
  extractStridedSlice S256x32 ![0, 0] r slices_S1024x32_o0_0_S256x32

/-- The numbers of the codes, for each of four rows. -/
abbrev nos4 : IVec S4x8192 32 := iota Kind.tc S4x8192 32 [1] iota_S4x8192_d1_w32
/-- The numbers of the codes, for each of 256 rows. -/
abbrev nos : IVec S256x8192 32 := iota Kind.tc S256x8192 32 [1] iota_S256x8192_d1_w32

variable (s : Fin 9 → FVec Ideal S1024x32 .f32) (w : Fin 9 → FVec Ideal S32x32 .f32) (b : FVec Ideal S1x32 .f32)
  (r h g : FVec Ideal S1024x32 .f32) (l : FVec Ideal S1x1 .f32) (a : FVec Ideal S1024x32 .f32)
  (tr : FVec Ideal S32x8192 .f32) (e2 : FVec Ideal S1x8192 .f32) (hi lo : FVec Ideal S8192x32 .f32)

/-- The first scale's first eight taps. -/
def taps0 := k0_pay21 ml mr (k0_pay18 ml (s 0) (w 0) (s 1) (w 1)) (k0_pay19 mr (s 2)) (k0_pay20 (w 2)) (s 3) (w 3) (s 4) (w 4)
  (s 5) (w 5) (s 6) (w 6) (s 7) (w 7)

/-- The first scale's squared misses, added to those before. -/
theorem loss0_eq : k0_pay23 r k0_pay8 mr h (taps0 s w) (s 8) (w 8) b = missV k0_pay8 r (mixV h s w b) := by rfl
/-- The reconstruction after the first scale. -/
theorem sum0_eq : k0_pay24 k0_pay7 mr h (taps0 s w) (s 8) (w 8) b = addf k0_pay7 (mixV h s w b) := by rfl
/-- What the first scale leaves. -/
theorem rest0_eq : k0_pay25 r mr h (taps0 s w) (s 8) (w 8) b = subf r (mixV h s w b) := by rfl
/-- Where four rows' distances are least, beside every code. -/
def args4 (d : FVec Ideal S4x8192 .f32) : IVec S4x8192 32 :=
  broadcastTo S4x8192 (shapeCast S4x1 (reduceIndex .argMin 1 S4 d reduces_S4x8192_S4) shapeCasts_S4_S4x1) broadcasts_S4x1_S4x8192

/-- Where the second scale's distances are least. -/
theorem args0_eq (p : FVec Ideal S4x1024 .f32) : k0_pay26 tr e2 r mr h (taps0 s w) (s 8) (w 8) b p
    = args4 (dist4 (pool4 p (subf r (mixV h s w b))) e2 tr) := by rfl
/-- The second scale's image of codes. -/
theorem code1_eq (d : FVec Ideal S4x8192 .f32) (u : FVec Ideal S1024x4 .f32) :
    k0_pay27 hi lo nos4 (args4 d) u = up4 u (pick4 d hi lo) := by rfl
/-- The second scale's image of codes, as it is stored into the scratch. -/
theorem put1_eq (d : FVec Ideal S4x8192 .f32) (u : FVec Ideal S1024x4 .f32) :
    k0_pay28 hi lo nos4 (args4 d) u = shapeCast S1024x32 (up4 u (pick4 d hi lo)) shapeCasts_S1024x32_S1024x32 := by rfl

/-- The second scale's first eight taps. -/
def taps1 := k0_pay31 ml mr (k0_pay29 ml mr (s 0) (w 0) (s 1) (w 1) (s 2) (w 2)) (k0_pay30 ml (s 3)) (w 3) (s 4) (w 4) (s 5) (w 5)
  (s 6) (w 6) (s 7) (w 7)

/-- The second scale's squared misses, added to those before. -/
theorem loss1_eq : k0_pay34 l r h (taps1 s w) (k0_pay32 mr (s 8) (w 8)) b = missV l r (mixV h s w b) := by rfl
/-- The reconstruction after the second scale. -/
theorem sum1_eq : k0_pay35 a h (taps1 s w) (k0_pay32 mr (s 8) (w 8)) b = addf a (mixV h s w b) := by rfl
/-- What the second scale leaves. -/
theorem rest1_eq : k0_pay36 r h (taps1 s w) (k0_pay32 mr (s 8) (w 8)) b = subf r (mixV h s w b) := by rfl
/-- The third scale's codes, before they are resized. -/
theorem pick2_eq (p : FVec Ideal S16x1024 .f32) : k0_pay37 tr e2 hi lo r h (taps1 s w) (k0_pay32 mr (s 8) (w 8)) b p
    = pick16 (dist16 (pool16 p (subf r (mixV h s w b))) e2 tr) hi lo := by rfl
/-- The third scale's image of codes. -/
theorem code2_eq (z : FVec Ideal S16x32 .f32) (u : FVec Ideal S1024x16 .f32) : k0_pay38 z u = up16 u z := by rfl
/-- The third scale's image of codes, as it is stored into the scratch. -/
theorem put2_eq (z : FVec Ideal S16x32 .f32) (u : FVec Ideal S1024x16 .f32) :
    k0_pay39 z u = shapeCast S1024x32 (up16 u z) shapeCasts_S1024x32_S1024x32 := by rfl

/-- The third scale's taps and bias. -/
def taps2 := k0_pay41 ml mr (k0_pay40 ml mr (s 0) (w 0) (s 1) (w 1) (s 2) (w 2) (s 3) (w 3)) (s 4) (w 4) (s 5) (w 5) (s 6) (w 6)
  (s 7) (w 7) (s 8) (w 8) b

/-- The third scale's squared misses, added to those before. -/
theorem loss2_eq : k0_pay44 l r (taps2 s w b) (k0_pay42 h) = missV l r (mixV h s w b) := by rfl
/-- The reconstruction after the third scale. -/
theorem sum2_eq : k0_pay45 a (taps2 s w b) (k0_pay42 h) = addf a (mixV h s w b) := by rfl
/-- What the third scale leaves. -/
theorem rest2_eq : k0_pay46 r (taps2 s w b) (k0_pay42 h) = subf r (mixV h s w b) := by rfl
/-- The fourth scale's image of codes. -/
theorem code3_eq (p : FVec Ideal S64x1024 .f32) (u : FVec Ideal S1024x64 .f32) :
    k0_pay47 tr e2 hi lo r (taps2 s w b) (k0_pay42 h) p u
      = up64 u (pick64 (dist64 (pool64 p (subf r (mixV h s w b))) e2 tr) hi lo) := by rfl
/-- The fourth scale's image of codes, as it is stored into the scratch. -/
theorem put3_eq (p : FVec Ideal S64x1024 .f32) (u : FVec Ideal S1024x64 .f32) :
    k0_pay48 tr e2 hi lo r (taps2 s w b) (k0_pay42 h) p u
      = shapeCast S1024x32 (up64 u (pick64 (dist64 (pool64 p (subf r (mixV h s w b))) e2 tr) hi lo)) shapeCasts_S1024x32_S1024x32 := by rfl

/-- The fourth scale's first five taps. -/
def taps3 := k0_pay49 ml mr (s 0) (w 0) (s 1) (w 1) (s 2) (w 2) (s 3) (w 3) (s 4) (w 4)

/-- What the fourth scale takes off. -/
theorem mix3_eq : k0_pay51 ml mr h (taps3 s w) (k0_pay50 mr (s 5)) (w 5) (s 6) (w 6) (s 7) (w 7) (s 8) (w 8) b = mixV h s w b := by rfl
/-- The fourth scale's squared misses, added to those before. -/
theorem loss3_eq : k0_pay53 l (k0_pay52 ml mr r h (taps3 s w) (k0_pay50 mr (s 5)) (w 5) (s 6) (w 6) (s 7) (w 7) (s 8) (w 8) b)
    = missV l r (mixV h s w b) := by rfl
/-- The reconstruction after the fourth scale. -/
theorem sum3_eq : k0_pay54 a g = addf a g := by rfl
/-- What the fourth scale leaves. -/
theorem rest3_eq : k0_pay55 r g = subf r g := by rfl
/-- The fifth scale's image of codes. -/
theorem code4_eq (p : FVec Ideal S256x1024 .f32) (u : FVec Ideal S1024x256 .f32) : k0_pay56 tr e2 hi lo r g p u
      = up256 u (pick256 (dist256 (pool256 p (subf r g)) e2 tr) hi lo) := by rfl
/-- The fifth scale's image of codes, as it is stored into the scratch. -/
theorem put4_eq (p : FVec Ideal S256x1024 .f32) (u : FVec Ideal S1024x256 .f32) : k0_pay57 tr e2 hi lo r g p u
      = shapeCast S1024x32 (up256 u (pick256 (dist256 (pool256 p (subf r g)) e2 tr) hi lo)) shapeCasts_S1024x32_S1024x32 := by rfl

/-- The fifth scale's first six taps. -/
def taps4 := k0_pay60 ml mr (k0_pay58 ml (s 0)) (k0_pay59 (w 0)) (constant S1024x32 .f32 0#32) (s 1) (w 1) (s 2) (w 2) (s 3) (w 3)
  (s 4) (w 4) (s 5) (w 5)

/-- The fifth scale's squared misses, added to those before. -/
theorem loss4_eq : k0_pay62 ml mr l r h (taps4 s w) (s 6) (w 6) (s 7) (w 7) (s 8) (w 8) b = missV l r (mixV h s w b) := by rfl
/-- The reconstruction after the fifth scale. -/
theorem sum4_eq : k0_pay63 ml mr a h (taps4 s w) (s 6) (w 6) (s 7) (w 7) (s 8) (w 8) b = addf a (mixV h s w b) := by rfl
/-- What the fifth scale leaves. -/
theorem rest4_eq : k0_pay64 ml mr r h (taps4 s w) (s 6) (w 6) (s 7) (w 7) (s 8) (w 8) b = subf r (mixV h s w b) := by rfl
/-- The last scale's squared lengths of the pixels. -/
theorem lens4_eq : k0_pay65 ml mr r h (taps4 s w) (s 6) (w 6) (s 7) (w 7) (s 8) (w 8) b = lens (subf r (mixV h s w b)) := by rfl
/-- The last scale's first chunk of pixels. -/
theorem chunk4_eq : k0_pay66 ml mr r h (taps4 s w) (s 6) (w 6) (s 7) (w 7) (s 8) (w 8) b = chunk (subf r (mixV h s w b)) := by rfl

/-- The last scale's first chunk of codes. -/
theorem last0_eq : k0_pay84 hi lo (k0_pay67 tr e2 (lens r) (chunk r)) nos (k0_pay81 tr e2 (lens r) (chunk r))
    (k0_pay82 tr e2 (lens r) (chunk r)) (k0_pay83 tr e2 (lens r) (chunk r))
      = pickC (distC 0 slices_S1024x32_o0_0_S256x32 slices_S1024x1_o0_0_S256x1 r e2 tr) hi lo := by rfl

/-- The last scale's second chunk of codes. -/
theorem last1_eq : k0_pay107 hi lo (k0_pay88 (k0_pay85 tr r) (k0_pay86 (lens r)) (k0_pay87 e2)) nos
    (k0_pay102 (k0_pay85 tr r) (k0_pay86 (lens r)) (k0_pay87 e2)) (k0_pay103 (k0_pay85 tr r) (k0_pay86 (lens r)) (k0_pay87 e2))
    (k0_pay105 (k0_pay85 tr r) (k0_pay86 (lens r)) (k0_pay87 e2)) (k0_pay106 (k0_pay85 tr r) (k0_pay86 (lens r)) (k0_pay87 e2)) 4096#32
      = pickC (distC 256 slices_S1024x32_o256_0_S256x32 slices_S1024x1_o256_0_S256x1 r e2 tr) hi lo := by rfl
/-- The last scale's third chunk of codes. -/
theorem last2_eq : k0_pay128 hi lo (k0_pay108 tr e2 r (lens r)) nos (k0_pay126 (k0_pay108 tr e2 r (lens r)))
    (k0_pay127 (k0_pay108 tr e2 r (lens r)))
      = pickC (distC 512 slices_S1024x32_o512_0_S256x32 slices_S1024x1_o512_0_S256x1 r e2 tr) hi lo := by rfl

/-- The four chunks joined, the last from its parts `k`, `m`, `n`. -/
abbrev joined (a b c d : FVec Ideal S256x32 .f32) : FVec Ideal S1024x32 .f32 :=
  concatenate S1024x32 0 [⟨S256x32, a⟩, ⟨S256x32, b⟩, ⟨S256x32, c⟩, ⟨S256x32, d⟩]
    concatenates_S256x32_S256x32_S256x32_S256x32_S1024x32_d0

/-- The last scale's image of codes: its fourth chunk joined to the three before. -/
theorem last3_eq (x y z : FVec Ideal S256x32 .f32) :
    k0_pay152 hi lo x y z (k0_pay129 tr e2 r (lens r)) nos (k0_pay147 (k0_pay129 tr e2 r (lens r)) (k0_pay131 tr e2 r (lens r)))
      (k0_pay148 (k0_pay129 tr e2 r (lens r)) (k0_pay130 tr e2 r (lens r)) (k0_pay131 tr e2 r (lens r)))
      (k0_pay150 (k0_pay129 tr e2 r (lens r))) (k0_pay151 (k0_pay129 tr e2 r (lens r)))
      = joined x y z (pickC (distC 768 slices_S1024x32_o768_0_S256x32 slices_S1024x1_o768_0_S256x1 r e2 tr) hi lo) := by rfl
/-- The last scale's image of codes, as it is stored into the scratch. -/
theorem put5_eq (x y z : FVec Ideal S256x32 .f32) :
    k0_pay153 hi lo x y z (k0_pay129 tr e2 r (lens r)) nos (k0_pay147 (k0_pay129 tr e2 r (lens r)) (k0_pay131 tr e2 r (lens r)))
      (k0_pay148 (k0_pay129 tr e2 r (lens r)) (k0_pay130 tr e2 r (lens r)) (k0_pay131 tr e2 r (lens r)))
      (k0_pay150 (k0_pay129 tr e2 r (lens r))) (k0_pay151 (k0_pay129 tr e2 r (lens r)))
      = shapeCast S1024x32 (joined x y z (pickC (distC 768 slices_S1024x32_o768_0_S256x32 slices_S1024x1_o768_0_S256x1 r e2 tr) hi lo))
        shapeCasts_S1024x32_S1024x32 := by rfl

/-- The last scale's first six taps. -/
def taps5 := k0_pay155 ml mr (k0_pay154 ml (s 0) (w 0)) (s 1) (w 1) (s 2) (w 2) (s 3) (w 3) (s 4) (w 4) (s 5) (w 5)

/-- The last scale's squared misses, added to those before. -/
theorem loss5_eq : k0_pay158 mr l r h (taps5 s w) (k0_pay156 ml (s 6)) (w 6) (s 7) (w 7) (s 8) (w 8) b = missV l r (mixV h s w b) := by rfl
/-- The first result's block. -/
theorem out5_eq : k0_pay159 r mr a h (taps5 s w) (k0_pay156 ml (s 6)) (w 6) (s 7) (w 7) (s 8) (w 8) b
    = shapeCast S1x1024x32 (addf r (subf (addf a (mixV h s w b)) r)) shapeCasts_S1024x32_S1x1024x32 := by rfl

end Vq.K
-- ==== Proof.KRun.lean ====
/- The run's named values are the chain's. -/
module

public import proofs.«01_k».proof.Proof.KPays
public import proofs.«01_k».proof.Proof.Gen.KernelIdeal.Frame

@[expose] public section

set_option maxRecDepth 16384

open Idealize.ShloMosaic Idealize.ShloMosaic.Pointwise Cert.KernelIdeal Cert.KernelIdeal.Gen
open Idealize.ShloMosaic.TcCoe

noncomputable section

namespace Vq.K

/-- Where a scale's filter's tap lies in the packed filters. -/
theorem inb_w : ∀ (s : Fin 6) (t : Fin 9) (d : Fin 2),
    (![288 * s.val + 32 * t.val, 0] : Fin 2 → Nat) d + S32x32.size d ≤ S1728x32.size d := by decide +kernel

/-- Where a scale's bias lies in the packed biases. -/
theorem inb_b : ∀ (s : Fin 6) (d : Fin 2), (![s.val, 0] : Fin 2 → Nat) d + S1x32.size d ≤ S6x32.size d := by decide +kernel

/-- Where a tap's window lies in the padded image. -/
theorem inb_t : ∀ (t : Fin 9) (d : Fin 2),
    (![7 + 32 * (t.val / 3) + t.val % 3, 0] : Fin 2 → Nat) d + S1024x32.size d ≤ S1104x32.size d := by decide +kernel

variable (c : Dev nD) (i : grid0.Coords)
  (arg1 : Memref sig .tc .vmem S1x1024x32 .f32) (harg1 : arg1.IsWhole)
  (arg2 : Memref sig .tc .vmem S8192x32 .f32) (harg2 : arg2.IsWhole)
  (arg3 : Memref sig .tc .vmem S32x8192 .f32) (harg3 : arg3.IsWhole)
  (arg4 : Memref sig .tc .vmem S1728x32 .f32) (harg4 : arg4.IsWhole)
  (arg5 : Memref sig .tc .vmem S6x32 .f32) (harg5 : arg5.IsWhole)
  (arg6 : Memref sig .tc .vmem S1024x1 .f32) (harg6 : arg6.IsWhole)
  (arg7 : Memref sig .tc .vmem S1024x4 .f32) (harg7 : arg7.IsWhole)
  (arg8 : Memref sig .tc .vmem S1024x16 .f32) (harg8 : arg8.IsWhole)
  (arg9 : Memref sig .tc .vmem S1024x64 .f32) (harg9 : arg9.IsWhole)
  (arg10 : Memref sig .tc .vmem S1024x256 .f32) (harg10 : arg10.IsWhole)
  (arg11 : Memref sig .tc .vmem S1x1024 .f32) (harg11 : arg11.IsWhole)
  (arg12 : Memref sig .tc .vmem S4x1024 .f32) (harg12 : arg12.IsWhole)
  (arg13 : Memref sig .tc .vmem S16x1024 .f32) (harg13 : arg13.IsWhole)
  (arg14 : Memref sig .tc .vmem S64x1024 .f32) (harg14 : arg14.IsWhole)
  (arg15 : Memref sig .tc .vmem S256x1024 .f32) (harg15 : arg15.IsWhole)
  (arg16 : Memref sig .tc .vmem S1x1024x32 .f32) (harg16 : arg16.IsWhole)
  (arg17 : Memref sig .tc .vmem S1x1x1 .f32) (harg17 : arg17.IsWhole)
  (arg18 : Memref sig .tc .vmem S1104x32 .f32) (harg18 : arg18.IsWhole)
  (x0 : Vec Ideal S1x1024x32 .f32)
  (x1 : Vec Ideal S8192x32 .f32)
  (x2 : Vec Ideal S32x8192 .f32)
  (x3 : Vec Ideal S1728x32 .f32)
  (x4 : Vec Ideal S6x32 .f32)
  (x5 : Vec Ideal S1024x1 .f32)
  (x6 : Vec Ideal S1024x4 .f32)
  (x7 : Vec Ideal S1024x16 .f32)
  (x8 : Vec Ideal S1024x64 .f32)
  (x9 : Vec Ideal S1024x256 .f32)
  (x10 : Vec Ideal S1x1024 .f32)
  (x11 : Vec Ideal S4x1024 .f32)
  (x12 : Vec Ideal S16x1024 .f32)
  (x13 : Vec Ideal S64x1024 .f32)
  (x14 : Vec Ideal S256x1024 .f32)

/-- What the kernel's body reads, for the arrays its windows hold. -/
def ins : Ins where
  x := View.readAt (Elt Ideal) arg1.view (Rect.unit ![0, 0, 0] S1x1024x32.size inb_S1x1024x32_S1x1024x32_0_0_0).toLoadRect (harg1.unread x0)
  e := View.readAt (Elt Ideal) arg2.view (Rect.unit ![0, 0] S8192x32.size inb_S8192x32_S8192x32_0_0).toLoadRect (harg2.unread x1)
  et := View.readAt (Elt Ideal) arg3.view (Rect.unit ![0, 0] S32x8192.size inb_S32x8192_S32x8192_0_0).toLoadRect (harg3.unread x2)
  u1 := View.readAt (Elt Ideal) arg6.view (Rect.unit ![0, 0] S1024x1.size inb_S1024x1_S1024x1_0_0).toLoadRect (harg6.unread x5)
  u4 := View.readAt (Elt Ideal) arg7.view (Rect.unit ![0, 0] S1024x4.size inb_S1024x4_S1024x4_0_0).toLoadRect (harg7.unread x6)
  u16 := View.readAt (Elt Ideal) arg8.view (Rect.unit ![0, 0] S1024x16.size inb_S1024x16_S1024x16_0_0).toLoadRect (harg8.unread x7)
  u64 := View.readAt (Elt Ideal) arg9.view (Rect.unit ![0, 0] S1024x64.size inb_S1024x64_S1024x64_0_0).toLoadRect (harg9.unread x8)
  u256 := View.readAt (Elt Ideal) arg10.view (Rect.unit ![0, 0] S1024x256.size inb_S1024x256_S1024x256_0_0).toLoadRect (harg10.unread x9)
  p1 := View.readAt (Elt Ideal) arg11.view (Rect.unit ![0, 0] S1x1024.size inb_S1x1024_S1x1024_0_0).toLoadRect (harg11.unread x10)
  p4 := View.readAt (Elt Ideal) arg12.view (Rect.unit ![0, 0] S4x1024.size inb_S4x1024_S4x1024_0_0).toLoadRect (harg12.unread x11)
  p16 := View.readAt (Elt Ideal) arg13.view (Rect.unit ![0, 0] S16x1024.size inb_S16x1024_S16x1024_0_0).toLoadRect (harg13.unread x12)
  p64 := View.readAt (Elt Ideal) arg14.view (Rect.unit ![0, 0] S64x1024.size inb_S64x1024_S64x1024_0_0).toLoadRect (harg14.unread x13)
  p256 := View.readAt (Elt Ideal) arg15.view (Rect.unit ![0, 0] S256x1024.size inb_S256x1024_S256x1024_0_0).toLoadRect (harg15.unread x14)
  w s t := View.readAt (Elt Ideal) arg4.view (Rect.unit (s := S1728x32) ![288 * s.val + 32 * t.val, 0] S32x32.size (inb_w s t)).toLoadRect
    (harg4.unread x3)
  b s := View.readAt (Elt Ideal) arg5.view (Rect.unit (s := S6x32) ![s.val, 0] S1x32.size (inb_b s)).toLoadRect (harg5.unread x4)
  T l t := arg18.view.readCov l (Rect.unit (s := S1104x32) ![7 + 32 * (t.val / 3) + t.val % 3, 0] S1024x32.size (inb_t t)).toLoadRect

section

variable {Q : Ins}
  (hQ : Q = ins arg1 harg1 arg2 harg2 arg3 harg3 arg4 harg4 arg5 harg5 arg6 harg6 arg7 harg7 arg8 harg8 arg9 harg9 arg10
    harg10 arg11 harg11 arg12 harg12 arg13 harg13 arg14 harg14 arg15 harg15 arg18 x0 x1 x2 x3 x4 x5 x6 x7 x8 x9 x10 x11 x12
    x13 x14)

include hQ

/-- The first scale's codes. -/
theorem t_r_7 : kernelRun0_A.sl.r_7 (F := Ideal) c arg1 harg1 arg2 harg2 arg3 harg3 arg6 harg6 arg11 harg11 x0 x1 x2 x5 x10
    = Q.h0 := by
  subst hQ
  rfl

/-- The first padded image. -/
theorem t_HS0_2 : kernelRun0_A.sl.HS0_2 (F := Ideal) c arg1 harg1 arg2 harg2 arg3 harg3 arg6 harg6 arg11 harg11 x0 x1 x2 x5 x10
    = Q.l0 := by
  subst hQ
  rfl

/-- The loss after the first scale. -/
theorem t_r_12 : kernelRun0_A.sl.r_12 (F := Ideal) c arg1 harg1 arg2 harg2 arg3 harg3 arg4 harg4 arg5 harg5 arg6 harg6 arg11
    harg11 arg18 x0 x1 x2 x3 x4 x5 x10
    = Q.s0 := by
  subst hQ
  refine Eq.trans ?_ (loss0_eq (Ins.T _ _) (Ins.w _ 0) (Ins.b _ 0) _ _)
  unfold kernelRun0_A.sl.r_12 kernelRun0_A.sl.r_11 kernelRun0_A.sl.r_8 kernelRun0_A.sl.v58 kernelRun0_A.sl.v64 kernelRun0_A.sl.r_9
      kernelRun0_A.sl.v69 kernelRun0_A.sl.r_10 kernelRun0_A.sl.v76 kernelRun0_A.sl.v83 kernelRun0_A.sl.v88 kernelRun0_A.sl.v95
      kernelRun0_A.sl.v102 kernelRun0_A.sl.v107
  rw [t_r_7 (hQ := rfl), t_HS0_2 (hQ := rfl)]
  rfl

/-- The sum after the first scale. -/
theorem t_r_13 : kernelRun0_A.sl.r_13 (F := Ideal) c arg1 harg1 arg2 harg2 arg3 harg3 arg4 harg4 arg5 harg5 arg6 harg6 arg11
    harg11 arg18 x0 x1 x2 x3 x4 x5 x10
    = Q.a0 := by
  subst hQ
  refine Eq.trans ?_ (sum0_eq (Ins.T _ _) (Ins.w _ 0) (Ins.b _ 0) _)
  unfold kernelRun0_A.sl.r_13 kernelRun0_A.sl.r_11 kernelRun0_A.sl.r_8 kernelRun0_A.sl.v58 kernelRun0_A.sl.v64 kernelRun0_A.sl.r_9
      kernelRun0_A.sl.v69 kernelRun0_A.sl.r_10 kernelRun0_A.sl.v76 kernelRun0_A.sl.v83 kernelRun0_A.sl.v88 kernelRun0_A.sl.v95
      kernelRun0_A.sl.v102 kernelRun0_A.sl.v107
  rw [t_r_7 (hQ := rfl), t_HS0_2 (hQ := rfl)]
  rfl

/-- The second residual. -/
theorem t_r_14 : kernelRun0_A.sl.r_14 (F := Ideal) c arg1 harg1 arg2 harg2 arg3 harg3 arg4 harg4 arg5 harg5 arg6 harg6 arg11
    harg11 arg18 x0 x1 x2 x3 x4 x5 x10
    = Q.r1 := by
  subst hQ
  refine Eq.trans ?_ (rest0_eq (Ins.T _ _) (Ins.w _ 0) (Ins.b _ 0) _ _)
  unfold kernelRun0_A.sl.r_14 kernelRun0_A.sl.r_11 kernelRun0_A.sl.r_8 kernelRun0_A.sl.v58 kernelRun0_A.sl.v64 kernelRun0_A.sl.r_9
      kernelRun0_A.sl.v69 kernelRun0_A.sl.r_10 kernelRun0_A.sl.v76 kernelRun0_A.sl.v83 kernelRun0_A.sl.v88 kernelRun0_A.sl.v95
      kernelRun0_A.sl.v102 kernelRun0_A.sl.v107
  rw [t_r_7 (hQ := rfl), t_HS0_2 (hQ := rfl)]
  rfl

/-- The second scale's nearest codes. -/
theorem t_r_15 : kernelRun0_A.sl.r_15 (F := Ideal) c arg1 harg1 arg2 harg2 arg3 harg3 arg4 harg4 arg5 harg5 arg6 harg6 arg11
    harg11 arg12 harg12 arg18 x0 x1 x2 x3 x4 x5 x10 x11
    = args4 (dist4 (pool4 Q.p4 Q.r1) Q.e2 Q.tr) := by
  subst hQ
  refine Eq.trans ?_ (args0_eq (Ins.T _ _) (Ins.w _ 0) (Ins.b _ 0) _ _ _ _ _)
  unfold kernelRun0_A.sl.r_15 kernelRun0_A.sl.r_11 kernelRun0_A.sl.r_8 kernelRun0_A.sl.v58 kernelRun0_A.sl.v64 kernelRun0_A.sl.r_9
      kernelRun0_A.sl.v69 kernelRun0_A.sl.r_10 kernelRun0_A.sl.v76 kernelRun0_A.sl.v83 kernelRun0_A.sl.v88 kernelRun0_A.sl.v95
      kernelRun0_A.sl.v102 kernelRun0_A.sl.v107
  rw [t_r_7 (hQ := rfl), t_HS0_2 (hQ := rfl)]
  rfl

/-- The second scale's codes. -/
theorem t_r_16 : kernelRun0_A.sl.r_16 (F := Ideal) c arg1 harg1 arg2 harg2 arg3 harg3 arg4 harg4 arg5 harg5 arg6 harg6 arg7 harg7
    arg11 harg11 arg12 harg12 arg18 x0 x1 x2 x3 x4 x5 x6 x10 x11
    = Q.h1 := by
  subst hQ
  refine Eq.trans ?_ (code1_eq _ _ _ _)
  unfold kernelRun0_A.sl.r_16 kernelRun0_A.sl.v148
  rw [t_r_15 (hQ := rfl)]
  rfl

/-- The second padded image. -/
theorem t_HS0_3 : kernelRun0_A.sl.HS0_3 (F := Ideal) c arg1 harg1 arg2 harg2 arg3 harg3 arg4 harg4 arg5 harg5 arg6 harg6 arg7
    harg7 arg11 harg11 arg12 harg12 arg18 x0 x1 x2 x3 x4 x5 x6 x10 x11
    = Q.l1 := by
  subst hQ
  refine Eq.trans ?_ (congrArg₂ (fun a (l : Pieces) => (⟨Rect.unit ![40, 0] S1024x32.size inb_S1104x32_S1024x32_40_0, a⟩ :: l :
      Pieces)) (put1_eq _ _ _ _) rfl)
  unfold kernelRun0_A.sl.HS0_3 kernelRun0_A.sl.v148
  rw [t_r_15 (hQ := rfl), t_HS0_2 (hQ := rfl)]
  rfl

/-- The loss after the second scale. -/
theorem t_r_21 : kernelRun0_A.sl.r_21 (F := Ideal) c arg1 harg1 arg2 harg2 arg3 harg3 arg4 harg4 arg5 harg5 arg6 harg6 arg7 harg7
    arg11 harg11 arg12 harg12 arg18 x0 x1 x2 x3 x4 x5 x6 x10 x11
    = Q.s1 := by
  subst hQ
  refine Eq.trans ?_ (loss1_eq (Ins.T _ _) (Ins.w _ 1) (Ins.b _ 1) _ _ _)
  unfold kernelRun0_A.sl.r_21 kernelRun0_A.sl.r_19 kernelRun0_A.sl.r_17 kernelRun0_A.sl.v164 kernelRun0_A.sl.v170
      kernelRun0_A.sl.v175 kernelRun0_A.sl.r_18 kernelRun0_A.sl.v182 kernelRun0_A.sl.v189 kernelRun0_A.sl.v194
      kernelRun0_A.sl.v201 kernelRun0_A.sl.v208 kernelRun0_A.sl.r_20 kernelRun0_A.sl.v213
  rw [t_r_12 (hQ := rfl), t_r_14 (hQ := rfl), t_r_16 (hQ := rfl), t_HS0_3 (hQ := rfl)]
  rfl

/-- The sum after the second scale. -/
theorem t_r_22 : kernelRun0_A.sl.r_22 (F := Ideal) c arg1 harg1 arg2 harg2 arg3 harg3 arg4 harg4 arg5 harg5 arg6 harg6 arg7 harg7
    arg11 harg11 arg12 harg12 arg18 x0 x1 x2 x3 x4 x5 x6 x10 x11
    = Q.a1 := by
  subst hQ
  refine Eq.trans ?_ (sum1_eq (Ins.T _ _) (Ins.w _ 1) (Ins.b _ 1) _ _)
  unfold kernelRun0_A.sl.r_22 kernelRun0_A.sl.r_19 kernelRun0_A.sl.r_17 kernelRun0_A.sl.v164 kernelRun0_A.sl.v170
      kernelRun0_A.sl.v175 kernelRun0_A.sl.r_18 kernelRun0_A.sl.v182 kernelRun0_A.sl.v189 kernelRun0_A.sl.v194
      kernelRun0_A.sl.v201 kernelRun0_A.sl.v208 kernelRun0_A.sl.r_20 kernelRun0_A.sl.v213
  rw [t_r_13 (hQ := rfl), t_r_16 (hQ := rfl), t_HS0_3 (hQ := rfl)]
  rfl

/-- The third residual. -/
theorem t_r_23 : kernelRun0_A.sl.r_23 (F := Ideal) c arg1 harg1 arg2 harg2 arg3 harg3 arg4 harg4 arg5 harg5 arg6 harg6 arg7 harg7
    arg11 harg11 arg12 harg12 arg18 x0 x1 x2 x3 x4 x5 x6 x10 x11
    = Q.r2 := by
  subst hQ
  refine Eq.trans ?_ (rest1_eq (Ins.T _ _) (Ins.w _ 1) (Ins.b _ 1) _ _)
  unfold kernelRun0_A.sl.r_23 kernelRun0_A.sl.r_19 kernelRun0_A.sl.r_17 kernelRun0_A.sl.v164 kernelRun0_A.sl.v170
      kernelRun0_A.sl.v175 kernelRun0_A.sl.r_18 kernelRun0_A.sl.v182 kernelRun0_A.sl.v189 kernelRun0_A.sl.v194
      kernelRun0_A.sl.v201 kernelRun0_A.sl.v208 kernelRun0_A.sl.r_20 kernelRun0_A.sl.v213
  rw [t_r_14 (hQ := rfl), t_r_16 (hQ := rfl), t_HS0_3 (hQ := rfl)]
  rfl

/-- The third scale's rows' codes. -/
theorem t_r_24 : kernelRun0_A.sl.r_24 (F := Ideal) c arg1 harg1 arg2 harg2 arg3 harg3 arg4 harg4 arg5 harg5 arg6 harg6 arg7 harg7
    arg11 harg11 arg12 harg12 arg13 harg13 arg18 x0 x1 x2 x3 x4 x5 x6 x10 x11 x12
    = pick16 (dist16 (pool16 Q.p16 Q.r2) Q.e2 Q.tr) Q.hi Q.lo := by
  subst hQ
  refine Eq.trans ?_ (pick2_eq (Ins.T _ _) (Ins.w _ 1) (Ins.b _ 1) _ _ _ _ _ _ _)
  unfold kernelRun0_A.sl.r_24 kernelRun0_A.sl.r_19 kernelRun0_A.sl.r_17 kernelRun0_A.sl.v164 kernelRun0_A.sl.v170
      kernelRun0_A.sl.v175 kernelRun0_A.sl.r_18 kernelRun0_A.sl.v182 kernelRun0_A.sl.v189 kernelRun0_A.sl.v194
      kernelRun0_A.sl.v201 kernelRun0_A.sl.v208 kernelRun0_A.sl.r_20 kernelRun0_A.sl.v213
  rw [t_r_14 (hQ := rfl), t_r_16 (hQ := rfl), t_HS0_3 (hQ := rfl)]
  rfl

/-- The third scale's codes. -/
theorem t_r_25 : kernelRun0_A.sl.r_25 (F := Ideal) c arg1 harg1 arg2 harg2 arg3 harg3 arg4 harg4 arg5 harg5 arg6 harg6 arg7 harg7
    arg8 harg8 arg11 harg11 arg12 harg12 arg13 harg13 arg18 x0 x1 x2 x3 x4 x5 x6 x7 x10 x11 x12
    = Q.h2 := by
  subst hQ
  refine Eq.trans ?_ (code2_eq _ _)
  unfold kernelRun0_A.sl.r_25
  rw [t_r_24 (hQ := rfl)]
  rfl

/-- The third padded image. -/
theorem t_HS0_4 : kernelRun0_A.sl.HS0_4 (F := Ideal) c arg1 harg1 arg2 harg2 arg3 harg3 arg4 harg4 arg5 harg5 arg6 harg6 arg7
    harg7 arg8 harg8 arg11 harg11 arg12 harg12 arg13 harg13 arg18 x0 x1 x2 x3 x4 x5 x6 x7 x10 x11 x12
    = Q.l2 := by
  subst hQ
  refine Eq.trans ?_ (congrArg₂ (fun a (l : Pieces) => (⟨Rect.unit ![40, 0] S1024x32.size inb_S1104x32_S1024x32_40_0, a⟩ :: l :
      Pieces)) (put2_eq _ _) rfl)
  unfold kernelRun0_A.sl.HS0_4
  rw [t_r_24 (hQ := rfl), t_HS0_3 (hQ := rfl)]
  rfl

/-- The loss after the third scale. -/
theorem t_r_29 : kernelRun0_A.sl.r_29 (F := Ideal) c arg1 harg1 arg2 harg2 arg3 harg3 arg4 harg4 arg5 harg5 arg6 harg6 arg7 harg7
    arg8 harg8 arg11 harg11 arg12 harg12 arg13 harg13 arg18 x0 x1 x2 x3 x4 x5 x6 x7 x10 x11 x12
    = Q.s2 := by
  subst hQ
  refine Eq.trans ?_ (loss2_eq (Ins.T _ _) (Ins.w _ 2) (Ins.b _ 2) _ _ _)
  unfold kernelRun0_A.sl.r_29 kernelRun0_A.sl.r_27 kernelRun0_A.sl.r_26 kernelRun0_A.sl.v270 kernelRun0_A.sl.v276
      kernelRun0_A.sl.v281 kernelRun0_A.sl.v288 kernelRun0_A.sl.v295 kernelRun0_A.sl.v300 kernelRun0_A.sl.v307
      kernelRun0_A.sl.v314 kernelRun0_A.sl.v319 kernelRun0_A.sl.r_28
  rw [t_r_21 (hQ := rfl), t_r_23 (hQ := rfl), t_r_25 (hQ := rfl), t_HS0_4 (hQ := rfl)]
  rfl

/-- The sum after the third scale. -/
theorem t_r_30 : kernelRun0_A.sl.r_30 (F := Ideal) c arg1 harg1 arg2 harg2 arg3 harg3 arg4 harg4 arg5 harg5 arg6 harg6 arg7 harg7
    arg8 harg8 arg11 harg11 arg12 harg12 arg13 harg13 arg18 x0 x1 x2 x3 x4 x5 x6 x7 x10 x11 x12
    = Q.a2 := by
  subst hQ
  refine Eq.trans ?_ (sum2_eq (Ins.T _ _) (Ins.w _ 2) (Ins.b _ 2) _ _)
  unfold kernelRun0_A.sl.r_30 kernelRun0_A.sl.r_27 kernelRun0_A.sl.r_26 kernelRun0_A.sl.v270 kernelRun0_A.sl.v276
      kernelRun0_A.sl.v281 kernelRun0_A.sl.v288 kernelRun0_A.sl.v295 kernelRun0_A.sl.v300 kernelRun0_A.sl.v307
      kernelRun0_A.sl.v314 kernelRun0_A.sl.v319 kernelRun0_A.sl.r_28
  rw [t_r_22 (hQ := rfl), t_r_25 (hQ := rfl), t_HS0_4 (hQ := rfl)]
  rfl

/-- The fourth residual. -/
theorem t_r_31 : kernelRun0_A.sl.r_31 (F := Ideal) c arg1 harg1 arg2 harg2 arg3 harg3 arg4 harg4 arg5 harg5 arg6 harg6 arg7 harg7
    arg8 harg8 arg11 harg11 arg12 harg12 arg13 harg13 arg18 x0 x1 x2 x3 x4 x5 x6 x7 x10 x11 x12
    = Q.r3 := by
  subst hQ
  refine Eq.trans ?_ (rest2_eq (Ins.T _ _) (Ins.w _ 2) (Ins.b _ 2) _ _)
  unfold kernelRun0_A.sl.r_31 kernelRun0_A.sl.r_27 kernelRun0_A.sl.r_26 kernelRun0_A.sl.v270 kernelRun0_A.sl.v276
      kernelRun0_A.sl.v281 kernelRun0_A.sl.v288 kernelRun0_A.sl.v295 kernelRun0_A.sl.v300 kernelRun0_A.sl.v307
      kernelRun0_A.sl.v314 kernelRun0_A.sl.v319 kernelRun0_A.sl.r_28
  rw [t_r_23 (hQ := rfl), t_r_25 (hQ := rfl), t_HS0_4 (hQ := rfl)]
  rfl

/-- The fourth scale's codes. -/
theorem t_r_32 : kernelRun0_A.sl.r_32 (F := Ideal) c arg1 harg1 arg2 harg2 arg3 harg3 arg4 harg4 arg5 harg5 arg6 harg6 arg7 harg7
    arg8 harg8 arg9 harg9 arg11 harg11 arg12 harg12 arg13 harg13 arg14 harg14 arg18 x0 x1 x2 x3 x4 x5 x6 x7 x8 x10 x11 x12 x13
    = Q.h3 := by
  subst hQ
  refine Eq.trans ?_ (code3_eq (Ins.T _ _) (Ins.w _ 2) (Ins.b _ 2) _ _ _ _ _ _ _ _)
  unfold kernelRun0_A.sl.r_32 kernelRun0_A.sl.r_27 kernelRun0_A.sl.r_26 kernelRun0_A.sl.v270 kernelRun0_A.sl.v276
      kernelRun0_A.sl.v281 kernelRun0_A.sl.v288 kernelRun0_A.sl.v295 kernelRun0_A.sl.v300 kernelRun0_A.sl.v307
      kernelRun0_A.sl.v314 kernelRun0_A.sl.v319 kernelRun0_A.sl.r_28
  rw [t_r_23 (hQ := rfl), t_r_25 (hQ := rfl), t_HS0_4 (hQ := rfl)]
  rfl

/-- The fourth padded image. -/
theorem t_HS0_5 : kernelRun0_A.sl.HS0_5 (F := Ideal) c arg1 harg1 arg2 harg2 arg3 harg3 arg4 harg4 arg5 harg5 arg6 harg6 arg7
    harg7 arg8 harg8 arg9 harg9 arg11 harg11 arg12 harg12 arg13 harg13 arg14 harg14 arg18 x0 x1 x2 x3 x4 x5 x6 x7 x8 x10 x11 x12
    x13
    = Q.l3 := by
  subst hQ
  refine Eq.trans ?_ (congrArg₂ (fun a (l : Pieces) => (⟨Rect.unit ![40, 0] S1024x32.size inb_S1104x32_S1024x32_40_0, a⟩ :: l :
      Pieces)) (put3_eq (Ins.T _ _) (Ins.w _ 2) (Ins.b _ 2) _ _ _ _ _ _ _ _) rfl)
  unfold kernelRun0_A.sl.HS0_5 kernelRun0_A.sl.r_27 kernelRun0_A.sl.r_26 kernelRun0_A.sl.v270 kernelRun0_A.sl.v276
      kernelRun0_A.sl.v281 kernelRun0_A.sl.v288 kernelRun0_A.sl.v295 kernelRun0_A.sl.v300 kernelRun0_A.sl.v307
      kernelRun0_A.sl.v314 kernelRun0_A.sl.v319 kernelRun0_A.sl.r_28
  rw [t_r_23 (hQ := rfl), t_r_25 (hQ := rfl), t_HS0_4 (hQ := rfl)]
  rfl

/-- What the fourth scale takes off. -/
theorem t_r_35 : kernelRun0_A.sl.r_35 (F := Ideal) c arg1 harg1 arg2 harg2 arg3 harg3 arg4 harg4 arg5 harg5 arg6 harg6 arg7 harg7
    arg8 harg8 arg9 harg9 arg11 harg11 arg12 harg12 arg13 harg13 arg14 harg14 arg18 x0 x1 x2 x3 x4 x5 x6 x7 x8 x10 x11 x12 x13
    = Q.g3 := by
  subst hQ
  refine Eq.trans ?_ (mix3_eq (Ins.T _ _) (Ins.w _ 3) (Ins.b _ 3) _)
  unfold kernelRun0_A.sl.r_35 kernelRun0_A.sl.r_33 kernelRun0_A.sl.v376 kernelRun0_A.sl.v382 kernelRun0_A.sl.v387
      kernelRun0_A.sl.v394 kernelRun0_A.sl.v401 kernelRun0_A.sl.r_34 kernelRun0_A.sl.v406 kernelRun0_A.sl.v413
      kernelRun0_A.sl.v420 kernelRun0_A.sl.v425
  rw [t_r_32 (hQ := rfl), t_HS0_5 (hQ := rfl)]
  rfl

/-- The loss after the fourth scale. -/
theorem t_r_37 : kernelRun0_A.sl.r_37 (F := Ideal) c arg1 harg1 arg2 harg2 arg3 harg3 arg4 harg4 arg5 harg5 arg6 harg6 arg7 harg7
    arg8 harg8 arg9 harg9 arg11 harg11 arg12 harg12 arg13 harg13 arg14 harg14 arg18 x0 x1 x2 x3 x4 x5 x6 x7 x8 x10 x11 x12 x13
    = Q.s3 := by
  subst hQ
  refine Eq.trans ?_ (loss3_eq (Ins.T _ _) (Ins.w _ 3) (Ins.b _ 3) _ _ _)
  unfold kernelRun0_A.sl.r_37 kernelRun0_A.sl.r_36 kernelRun0_A.sl.r_33 kernelRun0_A.sl.v376 kernelRun0_A.sl.v382
      kernelRun0_A.sl.v387 kernelRun0_A.sl.v394 kernelRun0_A.sl.v401 kernelRun0_A.sl.r_34 kernelRun0_A.sl.v406
      kernelRun0_A.sl.v413 kernelRun0_A.sl.v420 kernelRun0_A.sl.v425
  rw [t_r_29 (hQ := rfl), t_r_31 (hQ := rfl), t_r_32 (hQ := rfl), t_HS0_5 (hQ := rfl)]
  rfl

/-- The sum after the fourth scale. -/
theorem t_r_38 : kernelRun0_A.sl.r_38 (F := Ideal) c arg1 harg1 arg2 harg2 arg3 harg3 arg4 harg4 arg5 harg5 arg6 harg6 arg7 harg7
    arg8 harg8 arg9 harg9 arg11 harg11 arg12 harg12 arg13 harg13 arg14 harg14 arg18 x0 x1 x2 x3 x4 x5 x6 x7 x8 x10 x11 x12 x13
    = Q.a3 := by
  subst hQ
  refine Eq.trans ?_ (sum3_eq _ _)
  unfold kernelRun0_A.sl.r_38
  rw [t_r_30 (hQ := rfl), t_r_35 (hQ := rfl)]

/-- The fifth residual. -/
theorem t_r_39 : kernelRun0_A.sl.r_39 (F := Ideal) c arg1 harg1 arg2 harg2 arg3 harg3 arg4 harg4 arg5 harg5 arg6 harg6 arg7 harg7
    arg8 harg8 arg9 harg9 arg11 harg11 arg12 harg12 arg13 harg13 arg14 harg14 arg18 x0 x1 x2 x3 x4 x5 x6 x7 x8 x10 x11 x12 x13
    = Q.r4 := by
  subst hQ
  refine Eq.trans ?_ (rest3_eq _ _)
  unfold kernelRun0_A.sl.r_39
  rw [t_r_31 (hQ := rfl), t_r_35 (hQ := rfl)]

/-- The fifth scale's codes. -/
theorem t_r_40 : kernelRun0_A.sl.r_40 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = Q.h4 := by
  subst hQ
  refine Eq.trans ?_ (code4_eq _ _ _ _ _ _ _ _)
  unfold kernelRun0_A.sl.r_40
  rw [t_r_31 (hQ := rfl), t_r_35 (hQ := rfl)]
  rfl

/-- The fifth padded image. -/
theorem t_HS0_6 : kernelRun0_A.sl.HS0_6 (F := Ideal) c arg1 harg1 arg2 harg2 arg3 harg3 arg4 harg4 arg5 harg5 arg6 harg6 arg7
    harg7 arg8 harg8 arg9 harg9 arg10 harg10 arg11 harg11 arg12 harg12 arg13 harg13 arg14 harg14 arg15 harg15 arg18 x0 x1 x2 x3 x4
    x5 x6 x7 x8 x9 x10 x11 x12 x13 x14
    = Q.l4 := by
  subst hQ
  refine Eq.trans ?_ (congrArg₂ (fun a (l : Pieces) => (⟨Rect.unit ![40, 0] S1024x32.size inb_S1104x32_S1024x32_40_0, a⟩ :: l :
      Pieces)) (put4_eq _ _ _ _ _ _ _ _) rfl)
  unfold kernelRun0_A.sl.HS0_6
  rw [t_r_31 (hQ := rfl), t_r_35 (hQ := rfl), t_HS0_5 (hQ := rfl)]
  rfl

/-- The loss after the fifth scale. -/
theorem t_r_44 : kernelRun0_A.sl.r_44 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = Q.s4 := by
  subst hQ
  refine Eq.trans ?_ (loss4_eq (Ins.T _ _) (Ins.w _ 4) (Ins.b _ 4) _ _ _)
  unfold kernelRun0_A.sl.r_44 kernelRun0_A.sl.r_43 kernelRun0_A.sl.r_41 kernelRun0_A.sl.v482 kernelRun0_A.sl.r_42
      kernelRun0_A.sl.cst_232 kernelRun0_A.sl.v488 kernelRun0_A.sl.v493 kernelRun0_A.sl.v500 kernelRun0_A.sl.v507
      kernelRun0_A.sl.v512 kernelRun0_A.sl.v519 kernelRun0_A.sl.v526 kernelRun0_A.sl.v531
  rw [t_r_37 (hQ := rfl), t_r_39 (hQ := rfl), t_r_40 (hQ := rfl), t_HS0_6 (hQ := rfl)]
  rfl

/-- The sum after the fifth scale. -/
theorem t_r_45 : kernelRun0_A.sl.r_45 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = Q.a4 := by
  subst hQ
  refine Eq.trans ?_ (sum4_eq (Ins.T _ _) (Ins.w _ 4) (Ins.b _ 4) _ _)
  unfold kernelRun0_A.sl.r_45 kernelRun0_A.sl.r_43 kernelRun0_A.sl.r_41 kernelRun0_A.sl.v482 kernelRun0_A.sl.r_42
      kernelRun0_A.sl.cst_232 kernelRun0_A.sl.v488 kernelRun0_A.sl.v493 kernelRun0_A.sl.v500 kernelRun0_A.sl.v507
      kernelRun0_A.sl.v512 kernelRun0_A.sl.v519 kernelRun0_A.sl.v526 kernelRun0_A.sl.v531
  rw [t_r_38 (hQ := rfl), t_r_40 (hQ := rfl), t_HS0_6 (hQ := rfl)]
  rfl

/-- The last residual. -/
theorem t_r_46 : kernelRun0_A.sl.r_46 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = Q.r5 := by
  subst hQ
  refine Eq.trans ?_ (rest4_eq (Ins.T _ _) (Ins.w _ 4) (Ins.b _ 4) _ _)
  unfold kernelRun0_A.sl.r_46 kernelRun0_A.sl.r_43 kernelRun0_A.sl.r_41 kernelRun0_A.sl.v482 kernelRun0_A.sl.r_42
      kernelRun0_A.sl.cst_232 kernelRun0_A.sl.v488 kernelRun0_A.sl.v493 kernelRun0_A.sl.v500 kernelRun0_A.sl.v507
      kernelRun0_A.sl.v512 kernelRun0_A.sl.v519 kernelRun0_A.sl.v526 kernelRun0_A.sl.v531
  rw [t_r_39 (hQ := rfl), t_r_40 (hQ := rfl), t_HS0_6 (hQ := rfl)]
  rfl

/-- The last residual's squared lengths. -/
theorem t_r_47 : kernelRun0_A.sl.r_47 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = lens Q.r5 := by
  subst hQ
  refine Eq.trans ?_ (lens4_eq (Ins.T _ _) (Ins.w _ 4) (Ins.b _ 4) _ _)
  unfold kernelRun0_A.sl.r_47 kernelRun0_A.sl.r_43 kernelRun0_A.sl.r_41 kernelRun0_A.sl.v482 kernelRun0_A.sl.r_42
      kernelRun0_A.sl.cst_232 kernelRun0_A.sl.v488 kernelRun0_A.sl.v493 kernelRun0_A.sl.v500 kernelRun0_A.sl.v507
      kernelRun0_A.sl.v512 kernelRun0_A.sl.v519 kernelRun0_A.sl.v526 kernelRun0_A.sl.v531
  rw [t_r_39 (hQ := rfl), t_r_40 (hQ := rfl), t_HS0_6 (hQ := rfl)]
  rfl

/-- The last residual's first chunk. -/
theorem t_r_48 : kernelRun0_A.sl.r_48 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = chunk Q.r5 := by
  subst hQ
  refine Eq.trans ?_ (chunk4_eq (Ins.T _ _) (Ins.w _ 4) (Ins.b _ 4) _ _)
  unfold kernelRun0_A.sl.r_48 kernelRun0_A.sl.r_43 kernelRun0_A.sl.r_41 kernelRun0_A.sl.v482 kernelRun0_A.sl.r_42
      kernelRun0_A.sl.cst_232 kernelRun0_A.sl.v488 kernelRun0_A.sl.v493 kernelRun0_A.sl.v500 kernelRun0_A.sl.v507
      kernelRun0_A.sl.v512 kernelRun0_A.sl.v519 kernelRun0_A.sl.v526 kernelRun0_A.sl.v531
  rw [t_r_39 (hQ := rfl), t_r_40 (hQ := rfl), t_HS0_6 (hQ := rfl)]
  rfl

/-- The first chunk's codes. -/
theorem t_r_53 : kernelRun0_A.sl.r_53 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = pickC (distC 0 slices_S1024x32_o0_0_S256x32 slices_S1024x1_o0_0_S256x1 Q.r5 Q.e2 Q.tr) Q.hi Q.lo := by
  subst hQ
  refine Eq.trans ?_ (last0_eq _ _ _ _ _)
  unfold kernelRun0_A.sl.r_53 kernelRun0_A.sl.r_49 kernelRun0_A.sl.r_50 kernelRun0_A.sl.r_51 kernelRun0_A.sl.r_52 kernelRun0_A.sl.v569
  rw [t_r_47 (hQ := rfl), t_r_48 (hQ := rfl)]
  rfl

/-- The second chunk's codes. -/
theorem t_r_62 : kernelRun0_A.sl.r_62 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = pickC (distC 256 slices_S1024x32_o256_0_S256x32 slices_S1024x1_o256_0_S256x1 Q.r5 Q.e2 Q.tr) Q.hi Q.lo := by
  subst hQ
  refine Eq.trans ?_ (last1_eq _ _ _ _ _)
  unfold kernelRun0_A.sl.r_62 kernelRun0_A.sl.r_57 kernelRun0_A.sl.r_58 kernelRun0_A.sl.r_59 kernelRun0_A.sl.r_60
      kernelRun0_A.sl.r_61 kernelRun0_A.sl.r_54 kernelRun0_A.sl.r_55 kernelRun0_A.sl.r_56 kernelRun0_A.sl.v569
  rw [t_r_46 (hQ := rfl), t_r_47 (hQ := rfl)]
  rfl

/-- The third chunk's codes. -/
theorem t_r_66 : kernelRun0_A.sl.r_66 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = pickC (distC 512 slices_S1024x32_o512_0_S256x32 slices_S1024x1_o512_0_S256x1 Q.r5 Q.e2 Q.tr) Q.hi Q.lo := by
  subst hQ
  refine Eq.trans ?_ (last2_eq _ _ _ _ _)
  unfold kernelRun0_A.sl.r_66 kernelRun0_A.sl.r_64 kernelRun0_A.sl.r_65 kernelRun0_A.sl.r_63 kernelRun0_A.sl.v569
  rw [t_r_46 (hQ := rfl), t_r_47 (hQ := rfl)]
  rfl

/-- The last scale's codes. -/
theorem t_r_74 : kernelRun0_A.sl.r_74 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = Q.h5 := by
  subst hQ
  refine Eq.trans ?_ (last3_eq _ _ _ _ _ _ _ _)
  unfold kernelRun0_A.sl.r_74 kernelRun0_A.sl.r_70 kernelRun0_A.sl.r_71 kernelRun0_A.sl.r_72 kernelRun0_A.sl.r_73
      kernelRun0_A.sl.r_67 kernelRun0_A.sl.r_68 kernelRun0_A.sl.r_69 kernelRun0_A.sl.v569
  rw [t_r_46 (hQ := rfl), t_r_47 (hQ := rfl), t_r_53 (hQ := rfl), t_r_62 (hQ := rfl), t_r_66 (hQ := rfl)]
  rfl

/-- The last padded image. -/
theorem t_HS0_7 : kernelRun0_A.sl.HS0_7 (F := Ideal) c arg1 harg1 arg2 harg2 arg3 harg3 arg4 harg4 arg5 harg5 arg6 harg6 arg7
    harg7 arg8 harg8 arg9 harg9 arg10 harg10 arg11 harg11 arg12 harg12 arg13 harg13 arg14 harg14 arg15 harg15 arg18 x0 x1 x2 x3 x4
    x5 x6 x7 x8 x9 x10 x11 x12 x13 x14
    = Q.l5 := by
  subst hQ
  refine Eq.trans ?_ (congrArg₂ (fun a (l : Pieces) => (⟨Rect.unit ![40, 0] S1024x32.size inb_S1104x32_S1024x32_40_0, a⟩ :: l :
      Pieces)) (put5_eq _ _ _ _ _ _ _ _) rfl)
  unfold kernelRun0_A.sl.HS0_7 kernelRun0_A.sl.r_70 kernelRun0_A.sl.r_71 kernelRun0_A.sl.r_72 kernelRun0_A.sl.r_73
      kernelRun0_A.sl.r_67 kernelRun0_A.sl.r_68 kernelRun0_A.sl.r_69 kernelRun0_A.sl.v569
  rw [t_r_46 (hQ := rfl), t_r_47 (hQ := rfl), t_r_53 (hQ := rfl), t_r_62 (hQ := rfl), t_r_66 (hQ := rfl), t_HS0_6 (hQ := rfl)]
  rfl

/-- The loss after the last scale. -/
theorem t_r_78 : kernelRun0_A.sl.r_78 (F := Ideal) c arg1 harg1 arg2 harg2 arg3 harg3 arg4 harg4 arg5 harg5 arg6 harg6 arg7 harg7
    arg8 harg8 arg9 harg9 arg10 harg10 arg11 harg11 arg12 harg12 arg13 harg13 arg14 harg14 arg15 harg15 arg18 x0 x1 x2 x3 x4 x5 x6
    x7 x8 x9 x10 x11 x12 x13 x14
    = Q.s5 := by
  subst hQ
  refine Eq.trans ?_ (loss5_eq (Ins.T _ _) (Ins.w _ 5) (Ins.b _ 5) _ _ _)
  unfold kernelRun0_A.sl.r_78 kernelRun0_A.sl.r_76 kernelRun0_A.sl.r_75 kernelRun0_A.sl.v944 kernelRun0_A.sl.v950
      kernelRun0_A.sl.v955 kernelRun0_A.sl.v962 kernelRun0_A.sl.v969 kernelRun0_A.sl.v974 kernelRun0_A.sl.r_77
      kernelRun0_A.sl.v981 kernelRun0_A.sl.v988 kernelRun0_A.sl.v993
  rw [t_r_44 (hQ := rfl), t_r_46 (hQ := rfl), t_r_74 (hQ := rfl), t_HS0_7 (hQ := rfl)]
  rfl

end

/-- The pieces of the first result's block. -/
theorem t_y : (kernelRun0_A (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18
    harg18 x0 x1 x2 x3 x4 x5 x6 x7 x8 x9 x10 x11 x12 x13 x14).1
    = [⟨Rect.unit ![0, 0, 0] ![1, 1024, 32] inb_S1x1024x32_S1x1024x32_0_0_0, (ins arg1 harg1 arg2 harg2 arg3 harg3 arg4 harg4 arg5
        harg5 arg6 harg6 arg7 harg7 arg8 harg8 arg9 harg9 arg10 harg10 arg11 harg11 arg12 harg12 arg13 harg13 arg14 harg14 arg15
        harg15 arg18 x0 x1 x2 x3 x4 x5 x6 x7 x8 x9 x10 x11 x12 x13 x14).yOut⟩] := by
  unfold kernelRun0_A
  dsimp only
  refine Eq.trans ?_ (congrArg (fun a => ([⟨Rect.unit ![0, 0, 0] ![1, 1024, 32] inb_S1x1024x32_S1x1024x32_0_0_0, a⟩] : List
      (View.Piece (Elt Ideal) S1x1024x32 .f32)))
    (out5_eq (Ins.T _ _) (Ins.w _ 5) (Ins.b _ 5) _ _ _))
  unfold kernelRun0_A.sl.r_4 kernelRun0_A.sl.r_76 kernelRun0_A.sl.r_75 kernelRun0_A.sl.v944 kernelRun0_A.sl.v950
      kernelRun0_A.sl.v955 kernelRun0_A.sl.v962 kernelRun0_A.sl.v969 kernelRun0_A.sl.v974 kernelRun0_A.sl.r_77
      kernelRun0_A.sl.v981 kernelRun0_A.sl.v988 kernelRun0_A.sl.v993
  rw [t_r_45 (hQ := rfl), t_r_74 (hQ := rfl), t_HS0_7 (hQ := rfl)]
  rfl

/-- The pieces of the second result's block. -/
theorem t_loss : (kernelRun0_A (F := Ideal) c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18
    harg18 x0 x1 x2 x3 x4 x5 x6 x7 x8 x9 x10 x11 x12 x13 x14).2.1
    = [⟨Rect.unit ![0, 0, 0] ![1, 1, 1] inb_S1x1x1_S1x1x1_0_0_0, (ins arg1 harg1 arg2 harg2 arg3 harg3 arg4 harg4 arg5 harg5 arg6
        harg6 arg7 harg7 arg8 harg8 arg9 harg9 arg10 harg10 arg11 harg11 arg12 harg12 arg13 harg13 arg14 harg14 arg15 harg15 arg18
        x0 x1 x2 x3 x4 x5 x6 x7 x8 x9 x10 x11 x12 x13 x14).lossOut⟩] := by
  unfold kernelRun0_A
  dsimp only
  rw [t_r_78 (hQ := rfl)]
  rfl

end Vq.K
-- ==== Proof.KBlock.lean ====
/- The body at each grid point leaves the problem's answer for that point's image. -/
module

public import proofs.«01_k».proof.Proof.KTab
public import proofs.«01_k».proof.Proof.KRun
public import Idealize.ShloMosaic.Lib.Pipeline.ValueKit

@[expose] public section

set_option maxRecDepth 16384

open Idealize.ShloMosaic Idealize.ShloMosaic.Pointwise Cert.KernelIdeal Cert.KernelIdeal.Gen
open Idealize.ShloMosaic.TcCoe Idealize.ShloMosaic.Tactic

noncomputable section

namespace Vq.K

variable (m : (ℓ : Loc nD τ sig) → Buf (Elt Ideal) ℓ) (c : Dev nD)

/-- No offset, in three axes. -/
theorem off3 : (![0, 0, 0] : Fin 3 → Nat) = fun _ => 0 := funext fun a => by fin_cases a <;> rfl

/-- No offset, in two axes. -/
theorem off2 : (![0, 0] : Fin 2 → Nat) = fun _ => 0 := funext fun a => by fin_cases a <;> rfl

/-- What the body at point `t` reads. -/
def kins (t : Fin cfg0.N) : Ins := ins (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- What the body at a point leaves in the first output's buffer. -/
theorem out_y (t : Fin cfg0.N) : (outsAt0 m c t).1 = (kins m c t).yOut := by
  unfold outsAt0 out0_A_15
  dsimp only
  rw [View.read_writes_junk_eq_canon, t_y, View.canon_unit_zero off3]
  rfl

/-- What the body at a point leaves in the second output's buffer. -/
theorem out_loss (t : Fin cfg0.N) : (outsAt0 m c t).2 = (kins m c t).lossOut := by
  unfold outsAt0 out0_A_16
  dsimp only
  rw [View.read_writes_junk_eq_canon, t_loss, View.canon_unit_zero off3]
  rfl

/-- The problem of image `b`, from the kernel's arguments. -/
abbrev kprob (b : Fin 16) : Prob :=
  prob cubicK (m (c.tc.loc main_arg0)) (m (c.tc.loc main_arg1)) (m (c.tc.loc main_arg2)) (m (c.tc.loc main_arg3)) b

/-- The image's block is the point's image, and every other input's block is its whole array. -/
theorem blocks (t : Fin cfg0.N) : win0_0.index t = ![t.val, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] := by
  revert t
  decide +kernel

/-- The image's block at a point. -/
theorem iblk0_at (t : Fin cfg0.N) (p : Fin 1024) (o : Fin 32) :
    (iblk m c 0 t : S1x1024x32.Idx → EReal) (ix3 0 p o) = (V m c main_call0_v1 : S16x1024x32.Idx → EReal) (ix3 ⟨t.val, t.isLt⟩ p o) := by
  blk_ext [iblk, (blocks t).1]

/-- Input 1 is read whole at each point. -/
theorem iblk1_at (t : Fin cfg0.N) (i : Fin 8192) (j : Fin 32) :
    (iblk m c 1 t : S8192x32.Idx → EReal) (ix2 i j) = (V m c main_arg1 : S8192x32.Idx → EReal) (ix2 i j) := by
  blk_ext [iblk, (blocks t).2.1]

/-- Input 2 is read whole at each point. -/
theorem iblk2_at (t : Fin cfg0.N) (i : Fin 32) (j : Fin 8192) :
    (iblk m c 2 t : S32x8192.Idx → EReal) (ix2 i j) = (V m c main_call0_v2 : S32x8192.Idx → EReal) (ix2 i j) := by
  blk_ext [iblk, (blocks t).2.2.1]

/-- Input 3 is read whole at each point. -/
theorem iblk3_at (t : Fin cfg0.N) (i : Fin 1728) (j : Fin 32) :
    (iblk m c 3 t : S1728x32.Idx → EReal) (ix2 i j) = (V m c main_call0_v11 : S1728x32.Idx → EReal) (ix2 i j) := by
  blk_ext [iblk, (blocks t).2.2.2.1]

/-- Input 4 is read whole at each point. -/
theorem iblk4_at (t : Fin cfg0.N) (i : Fin 6) (j : Fin 32) :
    (iblk m c 4 t : S6x32.Idx → EReal) (ix2 i j) = (V m c main_call0_v18 : S6x32.Idx → EReal) (ix2 i j) := by
  blk_ext [iblk, (blocks t).2.2.2.2.1]

/-- Input 5 is read whole at each point. -/
theorem iblk5_at (t : Fin cfg0.N) (i : Fin 1024) (j : Fin 1) :
    (iblk m c 5 t : S1024x1.Idx → EReal) (ix2 i j) = (V m c main_call0_v68 : S1024x1.Idx → EReal) (ix2 i j) := by
  blk_ext [iblk, (blocks t).2.2.2.2.2.1]

/-- Input 6 is read whole at each point. -/
theorem iblk6_at (t : Fin cfg0.N) (i : Fin 1024) (j : Fin 4) :
    (iblk m c 6 t : S1024x4.Idx → EReal) (ix2 i j) = (V m c main_call0_v120 : S1024x4.Idx → EReal) (ix2 i j) := by
  blk_ext [iblk, (blocks t).2.2.2.2.2.2.1]

/-- Input 7 is read whole at each point. -/
theorem iblk7_at (t : Fin cfg0.N) (i : Fin 1024) (j : Fin 16) :
    (iblk m c 7 t : S1024x16.Idx → EReal) (ix2 i j) = (V m c main_call0_v172 : S1024x16.Idx → EReal) (ix2 i j) := by
  blk_ext [iblk, (blocks t).2.2.2.2.2.2.2.1]

/-- Input 8 is read whole at each point. -/
theorem iblk8_at (t : Fin cfg0.N) (i : Fin 1024) (j : Fin 64) :
    (iblk m c 8 t : S1024x64.Idx → EReal) (ix2 i j) = (V m c main_call0_v224 : S1024x64.Idx → EReal) (ix2 i j) := by
  blk_ext [iblk, (blocks t).2.2.2.2.2.2.2.2.1]

/-- Input 9 is read whole at each point. -/
theorem iblk9_at (t : Fin cfg0.N) (i : Fin 1024) (j : Fin 256) :
    (iblk m c 9 t : S1024x256.Idx → EReal) (ix2 i j) = (V m c main_call0_v276 : S1024x256.Idx → EReal) (ix2 i j) := by
  blk_ext [iblk, (blocks t).2.2.2.2.2.2.2.2.2.1]

/-- Input 10 is read whole at each point. -/
theorem iblk10_at (t : Fin cfg0.N) (i : Fin 1) (j : Fin 1024) :
    (iblk m c 10 t : S1x1024.Idx → EReal) (ix2 i j) = (V m c main_call0_v295 : S1x1024.Idx → EReal) (ix2 i j) := by
  blk_ext [iblk, (blocks t).2.2.2.2.2.2.2.2.2.2.1]

/-- Input 11 is read whole at each point. -/
theorem iblk11_at (t : Fin cfg0.N) (i : Fin 4) (j : Fin 1024) :
    (iblk m c 11 t : S4x1024.Idx → EReal) (ix2 i j) = (V m c main_call0_v314 : S4x1024.Idx → EReal) (ix2 i j) := by
  blk_ext [iblk, (blocks t).2.2.2.2.2.2.2.2.2.2.2.1]

/-- Input 12 is read whole at each point. -/
theorem iblk12_at (t : Fin cfg0.N) (i : Fin 16) (j : Fin 1024) :
    (iblk m c 12 t : S16x1024.Idx → EReal) (ix2 i j) = (V m c main_call0_v333 : S16x1024.Idx → EReal) (ix2 i j) := by
  blk_ext [iblk, (blocks t).2.2.2.2.2.2.2.2.2.2.2.2.1]

/-- Input 13 is read whole at each point. -/
theorem iblk13_at (t : Fin cfg0.N) (i : Fin 64) (j : Fin 1024) :
    (iblk m c 13 t : S64x1024.Idx → EReal) (ix2 i j) = (V m c main_call0_v352 : S64x1024.Idx → EReal) (ix2 i j) := by
  blk_ext [iblk, (blocks t).2.2.2.2.2.2.2.2.2.2.2.2.2.1]

/-- Input 14 is read whole at each point. -/
theorem iblk14_at (t : Fin cfg0.N) (i : Fin 256) (j : Fin 1024) :
    (iblk m c 14 t : S256x1024.Idx → EReal) (ix2 i j) = (V m c main_call0_v371 : S256x1024.Idx → EReal) (ix2 i j) := by
  blk_ext [iblk, (blocks t).2.2.2.2.2.2.2.2.2.2.2.2.2.2]

/-- The body's inputs are those of the point's image. -/
theorem means (t : Fin cfg0.N) (real : ∀ j o, Real' ((kprob m c ⟨t.val, t.isLt⟩).E j o)) (once : (kprob m c ⟨t.val, t.isLt⟩).Once) :
    Means (kins m c t) (kprob m c ⟨t.val, t.isLt⟩) where
  x p o := by
    unfold kins ins
    dsimp only
    rw [View.readAt_eq_ld, Memref.IsWhole.read_unread, View.ld_unit_zero off3]
    exact (iblk0_at m c t p o).trans (rows_at m c _ p o)
  e j o := by
    unfold kins ins
    dsimp only
    rw [View.readAt_eq_ld, Memref.IsWhole.read_unread, View.ld_unit_zero off2]
    exact (iblk1_at m c t j o).trans (congrFun (V_main_arg1 m c) _)
  et o j := by
    unfold kins ins
    dsimp only
    rw [View.readAt_eq_ld, Memref.IsWhole.read_unread, View.ld_unit_zero off2]
    exact (iblk2_at m c t o j).trans (embt_at m c o j)
  w s ky kx i o := by
    unfold kins ins
    dsimp only
    rw [View.readAt_eq_ld, Memref.IsWhole.read_unread]
    refine (View.ld_unit_apply_of _ _ _ _ _
      (ix2 ⟨288 * s.val + 32 * (3 * ky.val + kx.val) + i.val, by omega⟩ o) fun a => ?_).trans
      ((iblk3_at m c t _ o).trans (filt_at m c s ky kx i o))
    fin_cases a
    · rfl
    · exact (Nat.zero_add _).symm
  b s o := by
    unfold kins ins
    dsimp only
    rw [View.readAt_eq_ld, Memref.IsWhole.read_unread]
    refine (View.ld_unit_apply_of _ _ _ _ _ (ix2 s o) fun a => ?_).trans ((iblk4_at m c t s o).trans (bias_at m c s o))
    fin_cases a
    · rfl
    · exact (Nat.zero_add _).symm
  u1 p q := by
    unfold kins ins
    dsimp only
    rw [View.readAt_eq_ld, Memref.IsWhole.read_unread, View.ld_unit_zero off2]
    exact (iblk5_at m c t p q).trans (u1_at m c p q)
  p1 q p := by
    unfold kins ins
    dsimp only
    rw [View.readAt_eq_ld, Memref.IsWhole.read_unread, View.ld_unit_zero off2]
    exact (iblk10_at m c t q p).trans (p1_at m c q p)
  u4 p q := by
    unfold kins ins
    dsimp only
    rw [View.readAt_eq_ld, Memref.IsWhole.read_unread, View.ld_unit_zero off2]
    exact (iblk6_at m c t p q).trans (u4_at m c p q)
  p4 q p := by
    unfold kins ins
    dsimp only
    rw [View.readAt_eq_ld, Memref.IsWhole.read_unread, View.ld_unit_zero off2]
    exact (iblk11_at m c t q p).trans (p4_at m c q p)
  u16 p q := by
    unfold kins ins
    dsimp only
    rw [View.readAt_eq_ld, Memref.IsWhole.read_unread, View.ld_unit_zero off2]
    exact (iblk7_at m c t p q).trans (u16_at m c p q)
  p16 q p := by
    unfold kins ins
    dsimp only
    rw [View.readAt_eq_ld, Memref.IsWhole.read_unread, View.ld_unit_zero off2]
    exact (iblk12_at m c t q p).trans (p16_at m c q p)
  u64 p q := by
    unfold kins ins
    dsimp only
    rw [View.readAt_eq_ld, Memref.IsWhole.read_unread, View.ld_unit_zero off2]
    exact (iblk8_at m c t p q).trans (u64_at m c p q)
  p64 q p := by
    unfold kins ins
    dsimp only
    rw [View.readAt_eq_ld, Memref.IsWhole.read_unread, View.ld_unit_zero off2]
    exact (iblk13_at m c t q p).trans (p64_at m c q p)
  u256 p q := by
    unfold kins ins
    dsimp only
    rw [View.readAt_eq_ld, Memref.IsWhole.read_unread, View.ld_unit_zero off2]
    exact (iblk9_at m c t p q).trans (u256_at m c p q)
  p256 q p := by
    unfold kins ins
    dsimp only
    rw [View.readAt_eq_ld, Memref.IsWhole.read_unread, View.ld_unit_zero off2]
    exact (iblk14_at m c t q p).trans (p256_at m c q p)
  T L ky kx p o := by
    unfold kins ins
    dsimp only
    rw [View.readCov_eq_canon']
    refine congrArg (View.canon L) (funext fun a => Fin.ext ((Rect.idx_unit_val _ _ _ _ a).trans ?_))
    have h3 : (3 * ky.val + kx.val) / 3 = ky.val := by omega
    have h3' : (3 * ky.val + kx.val) % 3 = kx.val := by omega
    fin_cases a
    · show 7 + 32 * ((3 * ky.val + kx.val) / 3) + (3 * ky.val + kx.val) % 3 + p.val = 7 + 32 * ky.val + kx.val + p.val
      rw [h3, h3']
    · exact Nat.zero_add _
  real := real
  once := once

end Vq.K
-- ==== Proof.KResult.lean ====
/- The kernel's two results, from the blocks and the host lines after the region. -/
module

public import proofs.«01_k».proof.Proof.KBlock
public import Idealize.ShloMosaic.Lib.Claim

@[expose] public section

set_option maxRecDepth 16384

open Idealize.ShloMosaic Idealize.ShloMosaic.Pointwise Cert.KernelIdeal Cert.KernelIdeal.Gen
open Idealize.ShloMosaic.TcCoe Idealize.ShloMosaic.Tactic Idealize.SL.Sem

noncomputable section

namespace Vq.K

variable (m : (ℓ : Loc nD τ sig) → Buf (Elt Ideal) ℓ) (c : Dev nD)

/-- What is asked of the arguments: the codes are real numbers, and at the finest scale the nearest code is one. -/
def Fit : Prop := (∀ b j o, Real' ((kprob m c b).E j o)) ∧ ∀ b, (kprob m c b).Once

/-- Which block each output point writes. -/
theorem outs (t : Fin cfg0.N) : win0_15.index t = ![t.val, 0, 0] ∧ win0_16.index t = ![t.val, 0, 0] := by
  revert t
  decide +kernel

/-- The image result as the region leaves it. -/
theorem y_arr (h : Fit m c) : ((dats m 0 c).arrAt 15 cfg0.N : S16x1024x32.Idx → EReal)
    = fun i => (kprob m c (i 0)).out (i 1) (i 2) := by
  refine (dats m 0 c).arrAt_eq_of_covers 15 _ (by decide +kernel) fun t hf y => ?_
  blk_simp
  rw [after0_15, out_y]
  have e0 : (win0_15.blk t).view.emb y 0 = (⟨t.val, t.isLt⟩ : Fin 16) := Fin.ext (by blk_simp [(outs t).1])
  have e1 : (win0_15.blk t).view.emb y 1 = (y 1 : Fin 1024) := Fin.ext (by blk_simp [(outs t).1])
  have e2 : (win0_15.blk t).view.emb y 2 = (y 2 : Fin 32) := Fin.ext (by blk_simp [(outs t).1])
  rw [e0, e1, e2]
  refine Eq.trans (congrArg (kins m c t).yOut ?_) ((means m c t (h.1 _) (h.2 _)).out (y 1) (y 2))
  blk_ext []

/-- The losses as the region leaves them. -/
theorem l_arr (h : Fit m c) : ((dats m 0 c).arrAt 16 cfg0.N : S16x1x1.Idx → EReal)
    = fun i => (kprob m c (i 0)).missed := by
  refine (dats m 0 c).arrAt_eq_of_covers 16 _ (by decide +kernel) fun t hf y => ?_
  blk_simp
  rw [after0_16, out_loss]
  have e0 : (win0_16.blk t).view.emb y 0 = (⟨t.val, t.isLt⟩ : Fin 16) := Fin.ext (by blk_simp [(outs t).2])
  rw [e0]
  refine Eq.trans (congrArg (kins m c t).lossOut ?_) (means m c t (h.1 _) (h.2 _)).missed
  blk_ext []

/-- The region's image result, read after the region. -/
theorem y_after : Pipeline.withArrays (cfgs 0).spec c (V0 m c) (fun w => (dats m 0 c).arrAt w (cfgs 0).N)
    (Proc.tc.devRef main_call0_v372_0) = (dats m 0 c).arrAt 15 cfg0.N :=
  Pipeline.withArrays_arr (cfgs 0).spec winFacts0.arr_inj c (V0 m c) (fun w => (dats m 0 c).arrAt w (cfgs 0).N) 15

/-- The region's losses, read after the region. -/
theorem l_after : Pipeline.withArrays (cfgs 0).spec c (V0 m c) (fun w => (dats m 0 c).arrAt w (cfgs 0).N)
    (Proc.tc.devRef main_call0_v372_1) = (dats m 0 c).arrAt 16 cfg0.N :=
  Pipeline.withArrays_arr (cfgs 0).spec winFacts0.arr_inj c (V0 m c) (fun w => (dats m 0 c).arrAt w (cfgs 0).N) 16

/-- The image result, read at a place. -/
theorem y_end (h : Fit m c) (b : Fin 16) (o y x : Fin 32) :
    (Pipeline.afterTail₀ cfgs (dats m) 0 (V0 m) [hostOps1] c main_v0_0 : S16x32x32x32.Idx → EReal) (ix4 b o y x)
      = (kprob m c b).out ⟨32 * y.val + x.val, by omega⟩ o := by
  unfold Pipeline.afterTail₀
  after_reads_at
  rw [y_after, y_arr m c h]
  show (kprob m c b).out _ o = _
  congr 1
  exact Fin.ext (by show y.val * 32 + x.val = 32 * y.val + x.val; omega)

/-- The loss. -/
theorem l_end (h : Fit m c) :
    (Pipeline.afterTail₀ cfgs (dats m) 0 (V0 m) [hostOps1] c main_v0_1 : S_.Idx → EReal) ix0
      = (∑ b, (kprob m c b).missed) * Ideal.ofBits .f32 0x36200000#32 * Ideal.ofBits .f32 0x3E2AAAAB#32 := by
  unfold Pipeline.afterTail₀
  after_reads_at
  rw [l_after, l_arr m c h]
  simp only [Finset.univ_unique, Finset.sum_singleton]
  rfl

end Vq.K
-- ==== Proof.RTools.lean ====
/- Reading the reference's operations place by place. -/
module

public import proofs.«01_k».proof.Proof.Problem
public import proofs.«01_k».proof.Proof.Gather

@[expose] public section

set_option maxRecDepth 16384

open Idealize.ShloMosaic Idealize.ShloMosaic.Pointwise

noncomputable section

namespace Vq

/-! ## Operations of the reference, read at an index -/

/-- A sum over axes 3 and 5 of six. -/
theorem sum_axes_3_5 {a b n f m g : Nat}
    (h : (⟨6, ![a, b, n, f, m, g]⟩ : Shape).ReducesTo [3, 5] ⟨4, ![a, b, n, m]⟩)
    (v : (⟨6, ![a, b, n, f, m, g]⟩ : Shape).Idx → EReal) (init : EReal) (i : Fin a) (c : Fin b) (p : Fin n) (q : Fin m) :
    Ideal.hostReduceAdd h v init (ix4 i c p q) = init + ∑ y : Fin f, ∑ x : Fin g, v (ix6 i c p y q x) := by
  unfold Ideal.hostReduceAdd
  congr 1
  refine (Finset.sum_filter_eq_sum_of_fiber _ (fun k : Fin f × Fin g => ix6 i c p k.1 q k.2)
    (fun _ _ e => Prod.ext (congrFun e 3) (congrFun e 5)) (fun j => ?_) v).trans ?_
  · constructor
    · intro e
      refine ⟨(j 3, j 5), ?_⟩
      funext s; apply Fin.ext
      match s with
      | ⟨0, _⟩ => exact (congrArg Fin.val (congrFun e 0)).symm
      | ⟨1, _⟩ => exact (congrArg Fin.val (congrFun e 1)).symm
      | ⟨2, _⟩ => exact (congrArg Fin.val (congrFun e 2)).symm
      | ⟨3, _⟩ => rfl
      | ⟨4, _⟩ => exact (congrArg Fin.val (congrFun e 3)).symm
      | ⟨5, _⟩ => rfl
    · rintro ⟨k, rfl⟩
      funext s; apply Fin.ext
      match s with
      | ⟨0, _⟩ => rfl
      | ⟨1, _⟩ => rfl
      | ⟨2, _⟩ => rfl
      | ⟨3, _⟩ => rfl
  · simp only [Fintype.sum_prod_type]

/-- A sum over all four axes. -/
theorem sum_axes_all {a b n m : Nat} (h : (⟨4, ![a, b, n, m]⟩ : Shape).ReducesTo [0, 1, 2, 3] ⟨0, ![]⟩)
    (v : (⟨4, ![a, b, n, m]⟩ : Shape).Idx → EReal) (init : EReal) (j : (⟨0, ![]⟩ : Shape).Idx) :
    Ideal.hostReduceAdd h v init j = init + ∑ i : Fin a, ∑ c : Fin b, ∑ y : Fin n, ∑ x : Fin m, v (ix4 i c y x) := by
  unfold Ideal.hostReduceAdd
  rw [Finset.filter_true_of_mem (fun i _ => funext fun s => s.elim0), sum_idx4]

/-- An image bordered with zeros, read at a place: the image one up and one left, or zero on the border. -/
theorem bordered (A : (⟨4, ![16, 32, 32, 32]⟩ : Shape).Idx → EReal)
    (h : (⟨4, ![16, 32, 32, 32]⟩ : Shape).Pads ![0, 0, 1, 1] ![0, 0, 1, 1] ![0, 0, 0, 0] ⟨4, ![16, 32, 34, 34]⟩)
    (h0 : 0 < (⟨0, ![]⟩ : Shape).numel) (b : Fin 16) (c : Fin 32) (y x : Fin 34) :
    pad ⟨4, ![16, 32, 34, 34]⟩ ![0, 0, 1, 1] ![0, 0, 1, 1] ![0, 0, 0, 0] A
      (sitofp (F := Ideal) .f32 (constantI ⟨0, ![]⟩ 32 0#32)) h h0 (ix4 b c y x)
      = if l : (1 ≤ y.val ∧ y.val ≤ 32) ∧ 1 ≤ x.val ∧ x.val ≤ 32 then
          A (ix4 b c ⟨y.val - 1, by omega⟩ ⟨x.val - 1, by omega⟩) else 0 := by
  unfold pad
  by_cases l : (1 ≤ y.val ∧ y.val ≤ 32) ∧ 1 ≤ x.val ∧ x.val ≤ 32
  · rw [dif_pos l]
    refine (dif_pos (fun s => ?_)).trans ?_
    · match s with
      | ⟨0, _⟩ => exact ⟨Nat.zero_le _, Nat.mod_one _, by simp⟩
      | ⟨1, _⟩ => exact ⟨Nat.zero_le _, Nat.mod_one _, by simp⟩
      | ⟨2, _⟩ => exact ⟨l.1.1, Nat.mod_one _, by
          show (y.val - 1) / 1 < 32
          omega⟩
      | ⟨3, _⟩ => exact ⟨l.2.1, Nat.mod_one _, by
          show (x.val - 1) / 1 < 32
          omega⟩
    · congr 1
      funext s; apply Fin.ext
      match s with
      | ⟨0, _⟩ => exact Nat.div_one _
      | ⟨1, _⟩ => exact Nat.div_one _
      | ⟨2, _⟩ => exact Nat.div_one _
      | ⟨3, _⟩ => exact Nat.div_one _
  · rw [dif_neg l]
    refine (dif_neg (fun hs => l ?_)).trans ?_
    · have h2 := hs 2
      have h3 := hs 3
      have e2 : 1 ≤ y.val ∧ (y.val - 1) / 1 < 32 := ⟨h2.1, h2.2.2⟩
      have e3 : 1 ≤ x.val ∧ (x.val - 1) / 1 < 32 := ⟨h3.1, h3.2.2⟩
      rw [Nat.div_one] at e2 e3
      omega
    · show (((0#32 : BitVec 32).toInt : ℝ) : EReal) = 0
      simp

/-- The fold of the signed minimum over a row of code numbers, those off the least replaced by 8192, is the first place of
the least. -/
theorem fold_minsi_near (d : Fin 8192 → EReal) :
    Finset.fold IntOp.minsi (2147483647#32) (fun x : Fin 8192 => if d x = Finset.fold min (Ideal.ofBits .f32 0x7F800000#32) d Finset.univ
      then BitVec.ofNat 32 x.val else 8192#32) Finset.univ = BitVec.ofNat 32 (near d).val := by
  have hn := near_spec d
  set k := near d with hk
  rw [fold_min_eq d hn.1]
  have key : ∀ s : Finset (Fin 8192), (k ∈ s → Finset.fold IntOp.minsi (2147483647#32)
      (fun x : Fin 8192 => if d x = d k then BitVec.ofNat 32 x.val else 8192#32) s = BitVec.ofNat 32 k.val)
      ∧ (k ∉ s → k.val ≤ (Finset.fold IntOp.minsi (2147483647#32)
      (fun x : Fin 8192 => if d x = d k then BitVec.ofNat 32 x.val else 8192#32) s).toInt) := by
    have small : ∀ n : Nat, n ≤ 8192 → (BitVec.ofNat 32 n).toInt = (n : Int) := by
      intro n hn
      rw [BitVec.toInt_eq_toNat_of_lt (by rw [BitVec.toNat_ofNat]; omega), BitVec.toNat_ofNat]
      omega
    have val : ∀ a : Fin 8192, (k.val : Int) ≤ (if d a = d k then BitVec.ofNat 32 a.val else 8192#32).toInt := by
      intro a
      split
      · rename_i e
        rw [small _ (by omega)]
        by_contra l
        exact absurd (hn.2 a (by rw [Fin.lt_def]; omega)) (by rw [e]; exact lt_irrefl _)
      · have : (8192#32 : BitVec 32).toInt = 8192 := by decide
        have := k.isLt
        omega
    intro s
    induction s using Finset.cons_induction with
    | empty =>
      refine ⟨fun h => absurd h (Finset.notMem_empty _), fun _ => ?_⟩
      have : (2147483647#32 : BitVec 32).toInt = 2147483647 := by decide
      have := k.isLt
      simp only [Finset.fold_empty]
      omega
    | cons a s ha ih =>
      rw [Finset.fold_cons]
      set r := Finset.fold IntOp.minsi (2147483647#32)
        (fun x : Fin 8192 => if d x = d k then BitVec.ofNat 32 x.val else 8192#32) s
      have hk0 := small k.val (by omega)
      constructor
      · intro hm
        rcases Finset.mem_cons.mp hm with rfl | hm'
        · have h2 := ih.2 ha
          rw [if_pos rfl]
          unfold IntOp.minsi
          split
          · rfl
          · rename_i hs
            rw [BitVec.slt_iff_toInt_lt] at hs
            exact BitVec.eq_of_toInt_eq (by omega)
        · have h1 := ih.1 hm'
          rw [h1]
          have hv := val a
          generalize (if d a = d k then BitVec.ofNat 32 a.val else 8192#32) = u at hv ⊢
          unfold IntOp.minsi
          split
          · rename_i hs
            rw [BitVec.slt_iff_toInt_lt] at hs
            omega
          · rfl
      · intro hm
        rw [Finset.mem_cons, not_or] at hm
        have h2 := ih.2 hm.2
        have hv := val a
        generalize (if d a = d k then BitVec.ofNat 32 a.val else 8192#32) = u at hv ⊢
        unfold IntOp.minsi
        split
        · exact hv
        · exact h2
  exact (key Finset.univ).1 (Finset.mem_univ _)

/-- The reference's search for the nearest code of a row. -/
theorem near_at {N : Nat} (d : (⟨2, ![N, 8192]⟩ : Shape).Idx → EReal) (r : Fin N)
    (b1 : Shape.BroadcastsInDim ⟨1, ![N]⟩ ⟨2, ![N, 1]⟩ ![0]) (b2 : Shape.BroadcastsInDim ⟨2, ![N, 1]⟩ ⟨2, ![N, 8192]⟩ ![0, 1])
    (b3 : Shape.BroadcastsInDim ⟨0, ![]⟩ ⟨2, ![N, 8192]⟩ ![])
    (h : (⟨2, ![N, 8192]⟩ : Shape).ReducesTo [1] ⟨1, ![N]⟩) (h0 : 0 < (⟨0, ![]⟩ : Shape).numel) :
    Host.reduce IntOp.minsi (select (cmpf (F := Ideal) (φ := .f32) .oeq d (broadcastInDim ⟨2, ![N, 8192]⟩ ![0, 1] b2
        (broadcastInDim ⟨2, ![N, 1]⟩ ![0] b1 (Host.reduce (FloatOps.minimumf (F := Ideal) (φ := .f32)) d (constant (F := Ideal) ⟨0, ![]⟩ .f32 0x7F800000#32) h h0))))
        (iotaInDim ⟨2, ![N, 8192]⟩ 32 1) (broadcastInDim ⟨2, ![N, 8192]⟩ ![] b3 (id (constantI ⟨0, ![]⟩ 32 8192#32))))
      (constantI ⟨0, ![]⟩ 32 2147483647#32) h h0 (ix1 r) = BitVec.ofNat 32 (near fun j => d (ix2 r j)).val := by
  rw [Host.reduce_eq_fold, Shape.ReducesTo.fold_fiber_r2_a1, ← fold_minsi_near]
  pointwise
  have hr : ∀ w : Fin N, w = r → (Finset.fold min (Ideal.ofBits .f32 2139095040#32) (fun x => d (ix2 w x)) Finset.univ)
    = Finset.fold min (Ideal.ofBits .f32 2139095040#32) (fun x => d (ix2 r x)) Finset.univ := fun w e => by rw [e]
  congr 1
  funext x
  have hw : ∀ u v w : EReal, v = w → (if u = v then BitVec.ofNat 32 x.val else 8192#32) = if u = w then BitVec.ofNat 32 x.val else 8192#32 :=
    fun u v w e => by rw [e]
  refine hw _ _ _ (hr _ ?_)
  by_cases hN : N = 1
  · subst hN; exact Subsingleton.elim (α := Fin 1) _ _
  · refine Fin.ext ?_
    simp [Shape.Idx.norm, hN]

end Vq
-- ==== Proof.RConv.lean ====
/- The reference's nine weighted taps and bias are the mix. -/
module

public import proofs.«01_k».proof.Proof.RTools
public import proofs.«01_k».proof.Proof.Gen.ReferenceIdeal.Run

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

/-- Image `b` of an array of images, pixel by pixel. -/
def imOf (A : (⟨4, ![16, 32, 32, 32]⟩ : Shape).Idx → EReal) (b : Fin 16) : Im := fun p c =>
  A (ix4 b c ⟨p.val / 32, by omega⟩ ⟨p.val % 32, by omega⟩)

/-- One tap of an image, from its bordered copy. -/
theorem tap_bordered (A : (⟨4, ![16, 32, 32, 32]⟩ : Shape).Idx → EReal) (T : (⟨4, ![16, 32, 34, 34]⟩ : Shape).Idx → EReal)
    (hT : ∀ b c y x, T (ix4 b c y x) = if l : (1 ≤ y.val ∧ y.val ≤ 32) ∧ 1 ≤ x.val ∧ x.val ≤ 32 then
          A (ix4 b c ⟨y.val - 1, by omega⟩ ⟨x.val - 1, by omega⟩) else 0)
    (b : Fin 16) (ky kx : Fin 3) (p : Fin 1024) (c : Fin 32) (y x : Fin 34) (hy : y.val = ky.val + p.val / 32) (hx : x.val = kx.val + p.val % 32) :
    T (ix4 b c y x) = tap (imOf A b) ky kx p c := by
  have := ky.isLt
  have := kx.isLt
  rw [hT]
  unfold tap
  by_cases l : (1 ≤ y.val ∧ y.val ≤ 32) ∧ 1 ≤ x.val ∧ x.val ≤ 32
  · rw [dif_pos l, dif_pos (by omega)]
    unfold imOf
    congr 2 <;> exact Fin.ext (by simp only; omega)
  · rw [dif_neg l, dif_neg (by omega)]

/-- The nine taps of a bordered image, weighted and summed, with a bias and half the image, are the mix. -/
theorem mix_bordered (A : (⟨4, ![16, 32, 32, 32]⟩ : Shape).Idx → EReal) (T : (⟨4, ![16, 32, 34, 34]⟩ : Shape).Idx → EReal)
    (hT : ∀ b c y x, T (ix4 b c y x) = if l : (1 ≤ y.val ∧ y.val ≤ 32) ∧ 1 ≤ x.val ∧ x.val ≤ 32 then
          A (ix4 b c ⟨y.val - 1, by omega⟩ ⟨x.val - 1, by omega⟩) else 0)
    (W : Filter) (B : Fin 32 → EReal) (b : Fin 16) (p : Fin 1024) (o : Fin 32) :
    A (ix4 b o ⟨p.val / 32, by omega⟩ ⟨p.val % 32, by omega⟩) * half
      + (∑ c, T (ix4 b c ⟨p.val / 32, by omega⟩ ⟨p.val % 32, by omega⟩) * W 0 0 c o
        + ∑ c, T (ix4 b c ⟨p.val / 32, by omega⟩ ⟨1 + p.val % 32, by omega⟩) * W 0 1 c o
        + ∑ c, T (ix4 b c ⟨p.val / 32, by omega⟩ ⟨2 + p.val % 32, by omega⟩) * W 0 2 c o
        + ∑ c, T (ix4 b c ⟨1 + p.val / 32, by omega⟩ ⟨p.val % 32, by omega⟩) * W 1 0 c o
        + ∑ c, T (ix4 b c ⟨1 + p.val / 32, by omega⟩ ⟨1 + p.val % 32, by omega⟩) * W 1 1 c o
        + ∑ c, T (ix4 b c ⟨1 + p.val / 32, by omega⟩ ⟨2 + p.val % 32, by omega⟩) * W 1 2 c o
        + ∑ c, T (ix4 b c ⟨2 + p.val / 32, by omega⟩ ⟨p.val % 32, by omega⟩) * W 2 0 c o
        + ∑ c, T (ix4 b c ⟨2 + p.val / 32, by omega⟩ ⟨1 + p.val % 32, by omega⟩) * W 2 1 c o
        + ∑ c, T (ix4 b c ⟨2 + p.val / 32, by omega⟩ ⟨2 + p.val % 32, by omega⟩) * W 2 2 c o
        + B o) * half = mix (imOf A b) W B p o := by
  have t := tap_bordered A T hT b
  unfold mix conv tapDot
  congr 1
  congr 1
  congr 1
  congr 1
  · congr 1
    · congr 1
      · congr 1
        · congr 1
          · congr 1
            · congr 1
              · congr 1
                · exact Finset.sum_congr rfl fun c _ => by rw [t 0 0 p c _ _ (by simp) (by simp)]
                · exact Finset.sum_congr rfl fun c _ => by rw [t 0 1 p c _ _ (by simp) (by simp)]
              · exact Finset.sum_congr rfl fun c _ => by rw [t 0 2 p c _ _ (by simp) (by simp)]
            · exact Finset.sum_congr rfl fun c _ => by rw [t 1 0 p c _ _ (by simp) (by simp)]
          · exact Finset.sum_congr rfl fun c _ => by rw [t 1 1 p c _ _ (by simp) (by simp)]
        · exact Finset.sum_congr rfl fun c _ => by rw [t 1 2 p c _ _ (by simp) (by simp)]
      · exact Finset.sum_congr rfl fun c _ => by rw [t 2 0 p c _ _ (by simp) (by simp)]
    · exact Finset.sum_congr rfl fun c _ => by rw [t 2 1 p c _ _ (by simp) (by simp)]
  · exact Finset.sum_congr rfl fun c _ => by rw [t 2 2 p c _ _ (by simp) (by simp)]

variable (V : Valuation τ sig (Elt Ideal))

/-- The filters of scale `s`. -/
abbrev filt (s : Fin 6) : Filter := fun ky kx i o => (V (Proc.devRef .tc main_arg2) : S4x32x32x3x3.Idx → EReal) (ix5 (which s) o i ky kx)

/-- The biases of scale `s`. -/
abbrev bias (s : Fin 6) : Fin 32 → EReal := fun o => (V (Proc.devRef .tc main_arg3) : S4x32.Idx → EReal) (ix2 (which s) o)

/-- What the first scale takes off, in the reference's terms. -/
theorem mix0 (b : Fin 16) : imOf (res_main_v140 V) b = mix (imOf (res_main_v82 V) b) (filt V 0) (bias V 0) := by
  funext p o
  refine Eq.trans ?_ (mix_bordered (res_main_v82 V) (res_main_v87 V) (fun b c y x => bordered _ _ _ b c y x) _ _ b p o)
  unfold imOf res_main_v140 res_main_v84
  pointwise
  rfl

/-- What the second scale takes off, in the reference's terms. -/
theorem mix1 (b : Fin 16) : imOf (res_main_v291 V) b = mix (imOf (res_main_v233 V) b) (filt V 1) (bias V 1) := by
  funext p o
  refine Eq.trans ?_ (mix_bordered (res_main_v233 V) (res_main_v238 V) (fun b c y x => bordered _ _ _ b c y x) _ _ b p o)
  unfold imOf res_main_v291 res_main_v235
  pointwise
  rfl

/-- What the third scale takes off, in the reference's terms. -/
theorem mix2 (b : Fin 16) : imOf (res_main_v442 V) b = mix (imOf (res_main_v384 V) b) (filt V 2) (bias V 2) := by
  funext p o
  refine Eq.trans ?_ (mix_bordered (res_main_v384 V) (res_main_v389 V) (fun b c y x => bordered _ _ _ b c y x) _ _ b p o)
  unfold imOf res_main_v442 res_main_v386
  pointwise
  rfl

/-- What the fourth scale takes off, in the reference's terms. -/
theorem mix3 (b : Fin 16) : imOf (res_main_v593 V) b = mix (imOf (res_main_v535 V) b) (filt V 3) (bias V 3) := by
  funext p o
  refine Eq.trans ?_ (mix_bordered (res_main_v535 V) (res_main_v540 V) (fun b c y x => bordered _ _ _ b c y x) _ _ b p o)
  unfold imOf res_main_v593 res_main_v537
  pointwise
  rfl

/-- What the fifth scale takes off, in the reference's terms. -/
theorem mix4 (b : Fin 16) : imOf (res_main_v744 V) b = mix (imOf (res_main_v686 V) b) (filt V 4) (bias V 4) := by
  funext p o
  refine Eq.trans ?_ (mix_bordered (res_main_v686 V) (res_main_v691 V) (fun b c y x => bordered _ _ _ b c y x) _ _ b p o)
  unfold imOf res_main_v744 res_main_v688
  pointwise
  rfl

/-- What the last scale takes off, in the reference's terms. -/
theorem mix5 (b : Fin 16) : imOf (res_main_v837 V) b = mix (imOf (res_main_v779 V) b) (filt V 5) (bias V 5) := by
  funext p o
  refine Eq.trans ?_ (mix_bordered (res_main_v779 V) (res_main_v784 V) (fun b c y x => bordered _ _ _ b c y x) _ _ b p o)
  unfold imOf res_main_v837 res_main_v781
  pointwise
  rfl

end Vq
-- ==== Proof.Cubic.lean ====
/- The cubic's weights are real, and the same by either join of its pieces: an exact count over the rationals. -/
module

public import proofs.«01_k».proof.Proof.Problem

@[expose] public section

open Idealize.ShloMosaic Idealize.ShloMosaic.Pointwise

noncomputable section

namespace Vq

/-! ## The weights are real, and the two joins of the cubic agree -/

/-- A sum of reals, taken among the extended reals. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- The cubic on rationals. -/
def cubicQ (t : ℚ) : ℚ :=
  if 2 ≤ t then 0 else if 1 ≤ t then ((-(1 / 2) * t + 5 / 2) * t - 4) * t + 2 else (3 / 2 * t - 5 / 2) * t * t + 1

/-- How far output place `y` lies from input place `a`, on rationals. -/
def offQ (r : ℚ) (a y : ℕ) : ℚ := |((y : ℚ) + 1 / 2) * r - 1 / 2 - a|

/-- The word of one half. -/
theorem bits_half : Ideal.ofBits .f32 0x3F000000#32 = (((1 / 2 : ℚ) : ℝ) : EReal) := by
  simp [Ideal.ofBits, Ideal.ieee, -EReal.coe_mul]; norm_num

/-- The word of minus one half. -/
theorem bits_neg_half : Ideal.ofBits .f32 0xBF000000#32 = (((-(1 / 2) : ℚ) : ℝ) : EReal) := by
  simp [Ideal.ofBits, Ideal.ieee, -EReal.coe_mul]; norm_num

/-- The word of five halves. -/
theorem bits_five_halves : Ideal.ofBits .f32 0x40200000#32 = (((5 / 2 : ℚ) : ℝ) : EReal) := by
  simp [Ideal.ofBits, Ideal.ieee, -EReal.coe_mul]; norm_num

/-- The word of three halves. -/
theorem bits_three_halves : Ideal.ofBits .f32 0x3FC00000#32 = (((3 / 2 : ℚ) : ℝ) : EReal) := by
  simp [Ideal.ofBits, Ideal.ieee, -EReal.coe_mul]; norm_num

/-- The word of four. -/
theorem bits_four : Ideal.ofBits .f32 0x40800000#32 = (((4 : ℚ) : ℝ) : EReal) := by
  simp [Ideal.ofBits, Ideal.ieee, -EReal.coe_mul]; norm_num

/-- The word of two. -/
theorem bits_two : Ideal.ofBits .f32 0x40000000#32 = (((2 : ℚ) : ℝ) : EReal) := by
  simp [Ideal.ofBits, Ideal.ieee, -EReal.coe_mul]; norm_num

/-- One, as a rational's value. -/
theorem one_coe : (1 : EReal) = (((1 : ℚ) : ℝ) : EReal) := by simp

/-- Zero, as a rational's value. -/
theorem zero_coe : (0 : EReal) = (((0 : ℚ) : ℝ) : EReal) := by simp

/-- The cubic's outer piece at a rational. -/
theorem outer_coe (t : ℚ) : outer ((t : ℝ) : EReal) = (((((-(1 / 2) * t + 5 / 2) * t - 4) * t + 2 : ℚ) : ℝ) : EReal) := by
  unfold outer
  rw [bits_neg_half, bits_five_halves, bits_four, bits_two]
  simp only [← EReal.coe_mul, ← EReal.coe_add, ← EReal.coe_sub, ← Rat.cast_mul, ← Rat.cast_add, ← Rat.cast_sub]

/-- The cubic's inner piece at a rational. -/
theorem inner_coe (t : ℚ) : inner ((t : ℝ) : EReal) = ((((3 / 2 * t - 5 / 2) * t * t + 1 : ℚ) : ℝ) : EReal) := by
  unfold inner
  rw [bits_three_halves, bits_five_halves, one_coe]
  simp only [← EReal.coe_mul, ← EReal.coe_add, ← EReal.coe_sub, ← Rat.cast_mul, ← Rat.cast_add, ← Rat.cast_sub]

/-- The cubic of a rational. -/
theorem cubic_coe (t : ℚ) : cubic ((t : ℝ) : EReal) = ((cubicQ t : ℝ) : EReal) := by
  unfold cubic cubicQ
  rw [outer_coe, inner_coe, bits_two, one_coe, zero_coe]
  simp only [EReal.coe_le_coe_iff, Rat.cast_le]
  split
  · rfl
  · split <;> rfl

/-- The two joins of the cubic agree at a rational. -/
theorem cubicK_coe (t : ℚ) : cubicK ((t : ℝ) : EReal) = cubic ((t : ℝ) : EReal) := by
  rw [cubic_coe]
  unfold cubicK cubicQ
  rw [outer_coe, inner_coe, bits_two, one_coe, zero_coe]
  simp only [EReal.coe_le_coe_iff, EReal.coe_lt_coe_iff, Rat.cast_le, Rat.cast_lt]
  rcases lt_trichotomy t 1 with h | h | h
  · have h2 : ¬ (2 : ℚ) ≤ t := by linarith
    have h1 : ¬ (1 : ℚ) ≤ t := by linarith
    have h3 : ¬ (1 : ℚ) < t := by linarith
    simp [h1, h2, h3, h.le, Scalar.select, IntOp.andi]
  · subst h
    rw [show (3 / 2 * 1 - 5 / 2) * 1 * 1 + 1 = (0 : ℚ) by norm_num, show ((-(1 / 2) * 1 + 5 / 2) * 1 - 4) * 1 + 2 = (0 : ℚ) by norm_num]
    simp [Scalar.select, IntOp.andi]
  · have h1 : ¬ t ≤ (1 : ℚ) := by linarith
    by_cases h2 : t < 2
    · have h3 : ¬ (2 : ℚ) ≤ t := by linarith
      simp [h, h2, h3, h.le, Scalar.select, IntOp.andi]
    · have h3 : (2 : ℚ) ≤ t := by linarith
      simp [h, h1, h2, h3, Scalar.select, IntOp.andi]

/-- A small natural number read as a float is itself. -/
theorem sitofp_ofNat (n : ℕ) (h : n < 2 ^ 31) : (FloatOps.sitofp (F := Ideal) .f32 (BitVec.ofNat 32 n) : EReal) = (((n : ℚ) : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The absolute value of a rational. -/
theorem abs_coe (t : ℚ) : FloatOps.absf (F := Ideal) (φ := .f32) ((t : ℝ) : EReal) = ((|t| : ℚ) : ℝ) := by
  show max ((t : ℝ) : EReal) (-((t : ℝ) : EReal)) = _
  rw [← EReal.coe_neg, ← Rat.cast_neg]
  rcases le_total 0 t with h | h
  · rw [abs_of_nonneg h, max_eq_left (EReal.coe_le_coe_iff.mpr (Rat.cast_le.mpr (by linarith)))]
  · rw [abs_of_nonpos h, max_eq_right (EReal.coe_le_coe_iff.mpr (Rat.cast_le.mpr (by linarith)))]

/-- The distance of two places is rational. -/
theorem off_coe {k : BitVec 32} {r : ℚ} (hk : Ideal.ofBits .f32 k = ((r : ℝ) : EReal)) (a y : ℕ) (ha : a < 2 ^ 31) (hy : y < 2 ^ 31) :
    off k a y = ((offQ r a y : ℝ) : EReal) := by
  unfold off offQ
  rw [sitofp_ofNat y hy, sitofp_ofNat a ha, hk, bits_half]
  simp only [← EReal.coe_mul, ← EReal.coe_add, ← EReal.coe_sub, ← Rat.cast_mul, ← Rat.cast_add, ← Rat.cast_sub]
  rw [abs_coe]

/-- The sum of the weights at an output place, before scaling. -/
def totQ (n : ℕ) (r : ℚ) (y : ℕ) : ℚ := ∑ x : Fin n, cubicQ (offQ r x.val y)

/-- A weight is the same by either join, and real where the weights do not cancel. -/
theorem weight_coe {n : ℕ} {k : BitVec 32} {r : ℚ} (hk : Ideal.ofBits .f32 k = ((r : ℝ) : EReal)) (hn : n ≤ 32)
    (ht : ∀ y : Fin 32, totQ n r y.val ≠ 0) (a y : ℕ) (ha : a < n) (hy : y < 32) :
    weight cubicK n k a y = weight cubic n k a y ∧ Real' (weight cubic n k a y) := by
  have e : ∀ x : ℕ, x < 32 → off k x y = ((offQ r x y : ℝ) : EReal) := fun x hx => off_coe hk x y (by omega) (by omega)
  have s : (∑ x : Fin n, cubic (off k x.val y)) = ((totQ n r y : ℝ) : EReal) := by
    unfold totQ
    rw [Rat.cast_sum, coe_sum]
    exact Finset.sum_congr rfl fun x _ => by rw [e x.val (by omega), cubic_coe]
  refine ⟨?_, ?_⟩
  · unfold weight
    rw [e a (by omega), cubicK_coe]
    congr 1
    exact Finset.sum_congr rfl fun x _ => by rw [e x.val (by omega), cubicK_coe]
  · unfold weight
    rw [s, e a (by omega), cubic_coe]
    have h0 : ((totQ n r y : ℝ) : EReal) ≠ 0 := by
      have := ht ⟨y, hy⟩
      rw [← EReal.coe_zero, Ne, EReal.coe_eq_coe_iff, Rat.cast_eq_zero]
      exact this
    unfold Ideal.div
    rw [if_neg h0, ← EReal.coe_inv, ← EReal.coe_mul]
    exact ⟨_, rfl⟩

/-- What a scale's interpolation needs: the ratio of the sizes is rational, and the weights do not cancel. -/
structure Even (n : ℕ) (k : BitVec 32) : Prop where
  small : n ≤ 32
  weight : ∀ a y : ℕ, a < n → y < 32 → weight cubicK n k a y = weight cubic n k a y ∧ Real' (Vq.weight cubic n k a y)

/-- From 1 pixels a side, no output pixel's weights cancel. -/
theorem tot1 : ∀ y : Fin 32, totQ 1 (1 / 32) y.val ≠ 0 := by decide +kernel
/-- From 2 pixels a side, no output pixel's weights cancel. -/
theorem tot2 : ∀ y : Fin 32, totQ 2 (1 / 16) y.val ≠ 0 := by decide +kernel
/-- From 4 pixels a side, no output pixel's weights cancel. -/
theorem tot4 : ∀ y : Fin 32, totQ 4 (1 / 8) y.val ≠ 0 := by decide +kernel
/-- From 8 pixels a side, no output pixel's weights cancel. -/
theorem tot8 : ∀ y : Fin 32, totQ 8 (1 / 4) y.val ≠ 0 := by decide +kernel
/-- From 16 pixels a side, no output pixel's weights cancel. -/
theorem tot16 : ∀ y : Fin 32, totQ 16 (1 / 2) y.val ≠ 0 := by decide +kernel

/-- From 1 pixels a side, both joins give the same real weights. -/
theorem even1 : Even 1 0x3D000000#32 := ⟨by decide, weight_coe (r := 1 / 32) (by
  simp [Ideal.ofBits, Ideal.ieee, -EReal.coe_mul]; norm_num) (by decide) tot1⟩
/-- From 2 pixels a side, both joins give the same real weights. -/
theorem even2 : Even 2 0x3D800000#32 := ⟨by decide, weight_coe (r := 1 / 16) (by
  simp [Ideal.ofBits, Ideal.ieee, -EReal.coe_mul]; norm_num) (by decide) tot2⟩
/-- From 4 pixels a side, both joins give the same real weights. -/
theorem even4 : Even 4 0x3E000000#32 := ⟨by decide, weight_coe (r := 1 / 8) (by
  simp [Ideal.ofBits, Ideal.ieee, -EReal.coe_mul]; norm_num) (by decide) tot4⟩
/-- From 8 pixels a side, both joins give the same real weights. -/
theorem even8 : Even 8 0x3E800000#32 := ⟨by decide, weight_coe (r := 1 / 4) (by
  simp [Ideal.ofBits, Ideal.ieee, -EReal.coe_mul]; norm_num) (by decide) tot8⟩
/-- From 16 pixels a side, both joins give the same real weights. -/
theorem even16 : Even 16 0x3F000000#32 := ⟨by decide, weight_coe (r := 1 / 2) (by
  simp [Ideal.ofBits, Ideal.ieee, -EReal.coe_mul]; norm_num) (by decide) tot16⟩

/-- The weights that bring rows back are the same by either join. -/
theorem upBy_eq {n N : ℕ} {k : BitVec 32} (h : Even n k) (hN : N = n * n) : upBy cubicK n k N = upBy cubic n k N := by
  funext p q
  have hq : q.val < n * n := hN ▸ q.isLt
  have hn : 0 < n := Nat.pos_of_ne_zero fun e => by subst e; simp at hq
  unfold upBy
  rw [(h.weight _ _ (Nat.div_lt_of_lt_mul hq) (by omega)).1, (h.weight _ _ (Nat.mod_lt _ hn) (by omega)).1]

/-- The problem is the same by either join of the cubic. -/
theorem prob_eq (x : (⟨4, ![16, 32, 32, 32]⟩ : Shape).Idx → EReal) (emb : (⟨2, ![8192, 32]⟩ : Shape).Idx → EReal)
    (pw : (⟨5, ![4, 32, 32, 3, 3]⟩ : Shape).Idx → EReal) (pb : (⟨2, ![4, 32]⟩ : Shape).Idx → EReal) (b : Fin 16) :
    prob cubicK x emb pw pb b = prob cubic x emb pw pb b := by
  unfold prob
  rw [upBy_eq even1 rfl, upBy_eq even2 rfl, upBy_eq even4 rfl, upBy_eq even8 rfl, upBy_eq even16 rfl]

end Vq
-- ==== Proof.Sums.lean ====
/- Sums of extended reals: a real factor comes out, two weighted sums in turn are one sum, a masked sum is a block's average. -/
module

public import proofs.«01_k».proof.Proof.Cubic

@[expose] public section

open Idealize.ShloMosaic Idealize.ShloMosaic.Pointwise

noncomputable section

namespace Vq

/-! ## Sums over rows and pixels -/

/-- A real factor not below zero comes out of a sum of extended reals. -/
theorem mul_sum_nonneg {ι : Type*} (s : Finset ι) (k : ℝ) (hk : 0 ≤ k) (f : ι → EReal) :
    ∑ i ∈ s, (k : EReal) * f i = (k : EReal) * ∑ i ∈ s, f i := by
  induction s using Finset.cons_induction with
  | empty => simp
  | cons a s ha ih =>
    rw [Finset.sum_cons, Finset.sum_cons, ih,
      EReal.left_distrib_of_nonneg_of_ne_top (EReal.coe_nonneg.mpr hk) (EReal.coe_ne_top k)]

/-- Weighting first by rows and then by columns is weighting by their products, all values real. -/
theorem up_eq {n N : ℕ} (hN : N = n * n) (u v : ℕ → EReal) (s : Fin N → EReal)
    (hu : ∀ a < n, Real' (u a)) (hv : ∀ a < n, Real' (v a)) (hs : ∀ q, Real' (s q)) (S : Fin n → Fin n → EReal)
    (hS : ∀ (a b : Fin n) (q : Fin N), q.val = a.val * n + b.val → S a b = s q) :
    ∑ b : Fin n, (∑ a : Fin n, S a b * u a.val) * v b.val = ∑ q : Fin N, (u (q.val / n) * v (q.val % n)) * s q := by
  subst hN
  choose u' hu using hu
  choose v' hv using hv
  choose s' hs using hs
  have hS' : ∀ a b : Fin n, S a b = ((s' (finProdFinEquiv (a, b)) : ℝ) : EReal) := fun a b => by
    rw [← hs, hS a b]
    show b.val + n * a.val = _
    rw [Nat.mul_comm, Nat.add_comm]
  rw [← Equiv.sum_comp finProdFinEquiv, Fintype.sum_prod_type, Finset.sum_comm]
  refine Finset.sum_congr rfl fun b _ => ?_
  have hn : 0 < n := Nat.lt_of_le_of_lt (Nat.zero_le _) b.isLt
  have e1 : ∀ a : Fin n, (finProdFinEquiv (a, b)).val / n = a.val := fun a => by
    show (b.val + n * a.val) / n = _
    rw [Nat.add_mul_div_left _ _ hn, Nat.div_eq_of_lt b.isLt, Nat.zero_add]
  have e2 : ∀ a : Fin n, (finProdFinEquiv (a, b)).val % n = b.val := fun a => by
    show (b.val + n * a.val) % n = _
    rw [Nat.add_mul_mod_self_left, Nat.mod_eq_of_lt b.isLt]
  simp only [e1, e2, hS', hs, hv b.val b.isLt, fun a : Fin n => hu a.val a.isLt]
  simp only [← EReal.coe_mul, ← coe_sum]
  congr 1
  rw [Finset.sum_mul]
  exact Finset.sum_congr rfl fun a _ => by ring

/-- The place test, as numbers. -/
theorem inBlock_eq {f a y : ℕ} (hf : f ∈ [2, 4, 8, 16, 32]) (ha : a < 32) (hy : y < 32) :
    inBlock f a y = BitVec.ofBool (decide (y / f = a)) := by
  have key : ∀ f ∈ [2, 4, 8, 16, 32], ∀ a : Fin 32, ∀ y : Fin 32, inBlock f a.val y.val = BitVec.ofBool (decide (y.val / f = a.val)) := by
    decide +kernel
  exact key f hf ⟨a, ha⟩ ⟨y, hy⟩

/-- The weighted sum over all pixels is the block's sum over its size. -/
theorem pool_eq {n f N : ℕ} (hf : f ∈ [2, 4, 8, 16, 32]) (hn : n * f = 32) (hN : N = n * n) {k d : BitVec 32} (hk : Ideal.ofBits .f32 k = (((f : ℝ)⁻¹ : ℝ) : EReal))
    (hd : Ideal.ofBits .f32 d = (((f : ℝ) * f : ℝ) : EReal)) (r : Im) (q : Fin N) (c : Fin 32) :
    Ideal.div (∑ y : Fin f, ∑ x : Fin f, r ⟨(q.val / n * f + y.val) % 32 * 32 + (q.val % n * f + x.val) % 32, by omega⟩ c) (Ideal.ofBits .f32 d)
      = pool (avgBy n f k N) r q c := by
  have hq : q.val < n * n := hN ▸ q.isLt
  have hn0 : 0 < n := Nat.pos_of_ne_zero fun e => by subst e; simp at hn
  have hf0 : 0 < f := Nat.pos_of_ne_zero fun e => by subst e; simp at hn
  have hnl : n ≤ 32 := Nat.le_of_dvd (by decide) ⟨f, hn.symm⟩
  have hfl : f ≤ 32 := Nat.le_of_dvd (by decide) ⟨n, by rw [Nat.mul_comm]; exact hn.symm⟩
  have ha : q.val / n < n := Nat.div_lt_of_lt_mul hq
  have hb : q.val % n < n := Nat.mod_lt _ hn0
  set a := q.val / n
  set b := q.val % n
  have hw : ∀ e : ℕ, e < n → ∀ y : ℕ, y < f → e * f + y < 32 := fun e he y hy => by
    have : (e + 1) * f ≤ n * f := Nat.mul_le_mul_right _ he
    rw [Nat.add_mul, Nat.one_mul] at this
    omega
  have hfr : (f : ℝ) ≠ 0 := by exact_mod_cast hf0.ne'
  have e1 : pool (avgBy n f k N) r q c
      = ∑ p : Fin 1024, if p.val / 32 / f = a ∧ p.val % 32 / f = b then (((f : ℝ)⁻¹ * (f : ℝ)⁻¹ : ℝ) : EReal) * r p c else 0 := by
    unfold pool avgBy share
    refine Finset.sum_congr rfl fun p _ => ?_
    rw [inBlock_eq hf (by omega) (by omega), inBlock_eq hf (by omega) (by omega), hk, ← EReal.coe_mul]
    show Scalar.select (BitVec.ofBool (decide (p.val % 32 / f = b))) (Scalar.select (BitVec.ofBool (decide (p.val / 32 / f = a))) _ _) _ * _ = _
    by_cases h1 : p.val / 32 / f = a <;> by_cases h2 : p.val % 32 / f = b <;> simp [h1, h2, Scalar.select]
  rw [e1, ← Finset.sum_filter]
  have inj : Function.Injective fun z : Fin f × Fin f =>
      (⟨(a * f + z.1.val) * 32 + (b * f + z.2.val), by have := hw a ha z.1 z.1.isLt; have := hw b hb z.2 z.2.isLt; omega⟩ : Fin 1024) := by
    intro z z' e
    have e' := congrArg Fin.val e
    simp only at e'
    have := hw b hb z.2 z.2.isLt
    have := hw b hb z'.2 z'.2.isLt
    exact Prod.ext (Fin.ext (by omega)) (Fin.ext (by omega))
  rw [Finset.sum_filter_eq_sum_of_fiber _ _ inj fun p => ?_]
  · rw [mul_sum_nonneg _ _ (by positivity), Fintype.sum_prod_type, hd]
    unfold Ideal.div
    have hne : (((f : ℝ) * f : ℝ) : EReal) ≠ 0 := fun e => mul_ne_zero hfr hfr (EReal.coe_eq_zero.mp e)
    rw [if_neg hne, ← EReal.coe_inv, mul_inv]
    refine (mul_comm _ _).trans (congrArg ((((f : ℝ)⁻¹ * (f : ℝ)⁻¹ : ℝ) : EReal) * ·) ?_)
    refine Finset.sum_congr rfl fun y _ => Finset.sum_congr rfl fun x _ => ?_
    refine congrArg (fun p => r p c) (Fin.ext ?_)
    simp only
    rw [Nat.mod_eq_of_lt (hw a ha y y.isLt), Nat.mod_eq_of_lt (hw b hb x x.isLt)]
  · constructor
    · rintro ⟨h1, h2⟩
      refine ⟨(⟨p.val / 32 % f, Nat.mod_lt _ hf0⟩, ⟨p.val % 32 % f, Nat.mod_lt _ hf0⟩), Fin.ext ?_⟩
      simp only
      rw [← h1, ← h2, Nat.div_add_mod', Nat.div_add_mod']
      omega
    · rintro ⟨z, rfl⟩
      have h1 := hw a ha z.1 z.1.isLt
      have h2 := hw b hb z.2 z.2.isLt
      simp only
      rw [show ((a * f + z.1.val) * 32 + (b * f + z.2.val)) / 32 = a * f + z.1.val by omega,
        show ((a * f + z.1.val) * 32 + (b * f + z.2.val)) % 32 = b * f + z.2.val by omega]
      exact ⟨by rw [Nat.add_comm, Nat.add_mul_div_right _ _ hf0, Nat.div_eq_of_lt z.1.isLt, Nat.zero_add],
        by rw [Nat.add_comm, Nat.add_mul_div_right _ _ hf0, Nat.div_eq_of_lt z.2.isLt, Nat.zero_add]⟩

end Vq
-- ==== Proof.RScale.lean ====
/- The reference's rows, distances and images, scale by scale. -/
module

public import proofs.«01_k».proof.Proof.RConv
public import proofs.«01_k».proof.Proof.Sums
public import Idealize.ShloMosaic.Lib.Pipeline.Value

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

variable (V : Valuation τ sig (Elt Ideal))

/-- The codes. -/
abbrev book : Fin 8192 → Fin 32 → EReal := fun j c => (V (Proc.devRef .tc main_arg1) : S8192x32.Idx → EReal) (ix2 j c)

/-- A batch of rows, read as one list. -/
abbrev rowsOf {M : Nat} (A : (⟨2, ![M, 32]⟩ : Shape).Idx → EReal) : Fin M → Fin 32 → EReal := fun q c => A (ix2 q c)

/-- The rows a scale picks from the codes. -/
theorem picked {M n : Nat} (E : (⟨2, ![8192, 32]⟩ : Shape).Idx → EReal) (I : IVec ⟨1, ![M]⟩ 32) (k : Fin M → Fin 8192)
    (hI : ∀ r, I (ix1 r) = BitVec.ofNat 32 (k r).val)
    (wf : GatherDims.WF ⟨2, ![8192, 32]⟩ ⟨4, ![16, n, n, 1]⟩ ⟨4, ![16, n, n, 32]⟩ [3] [0] [] [0] [] 3 ![1, 32])
    (hb : Shape.BroadcastsInDim ⟨3, ![16, n, n]⟩ ⟨4, ![16, n, n, 1]⟩ ![0, 1, 2]) (hs : (⟨1, ![M]⟩ : Shape).ShapeCasts ⟨3, ![16, n, n]⟩)
    (b : Fin 16) (y x : Fin n) (c : Fin 32) (r : Fin M) (hr : r.val = (b.val * n + y.val) * n + x.val) :
    Host.gather (rowDims 8192 32 16 n n wf) E (broadcastInDim ⟨4, ![16, n, n, 1]⟩ ![0, 1, 2] hb (shapeCast ⟨3, ![16, n, n]⟩ I hs)) (ix4 b y x c)
      = E (ix2 (k r) c) := by
  rw [gather_row (by decide)]
  have e : broadcastInDim ⟨4, ![16, n, n, 1]⟩ ![0, 1, 2] hb (shapeCast ⟨3, ![16, n, n]⟩ I hs) (ix4 b y x 0) = BitVec.ofNat 32 (k r).val := by
    rw [broadcastInDim_apply ![0, 1, 2] hb _ _ (ix3 b y x) ?_, shapeCast_apply _ hs _ (ix1 r) ?_, hI]
    · rw [Shape.rowMajor_val_one, Shape.rowMajor_val_three]
      exact hr
    · intro a
      match a with
      | ⟨0, _⟩ => exact (if_neg (by show ¬ (16 : ℕ) = 1; decide)).symm
      | ⟨1, _⟩ =>
        show y.val = if n = 1 then 0 else y.val
        split <;> omega
      | ⟨2, _⟩ =>
        show x.val = if n = 1 then 0 else x.val
        split <;> omega
  refine congrArg (fun j => E (ix2 j c)) (Fin.ext ?_)
  have hk := (k r).isLt
  simp only [e]
  rw [BitVec.toInt_eq_toNat_of_lt (by rw [BitVec.toNat_ofNat]; omega), BitVec.toNat_ofNat]
  omega

/-- The distances of a row depend on that row only. -/
theorem dist_congr {N M : Nat} {z : Fin N → Fin 32 → EReal} {z' : Fin M → Fin 32 → EReal} {q : Fin N} {r : Fin M}
    (E : Fin 8192 → Fin 32 → EReal) (h : ∀ c, z q c = z' r c) : dist z E q = dist z' E r := by
  funext j
  unfold dist
  simp only [h]

/-- A coarse scale's image from its rows: the picked codes weighted by rows, then by columns. -/
theorem scale {n N M : Nat} {k : BitVec 32} (he : Even n k) (hN : N = n * n) (hM : M = 16 * N) (E : Fin 8192 → Fin 32 → EReal)
    (hE : ∀ j c, Real' (E j c)) (P : Fin N → Fin 1024 → EReal) (r : Im) (rows : (⟨2, ![M, 32]⟩ : Shape).Idx → EReal)
    (d : (⟨2, ![M, 8192]⟩ : Shape).Idx → EReal) (b : Fin 16) (A : Fin n → Fin n → Fin 32 → EReal)
    (hrows : ∀ (q : Fin N) c (i : Fin M), i.val = b.val * N + q.val → rows (ix2 i c) = pool P r q c)
    (hd : ∀ i j, d (ix2 i j) = dist (rowsOf rows) E i j)
    (hA : ∀ (y x : Fin n) (c : Fin 32) (i : Fin M), i.val = (b.val * n + y.val) * n + x.val → A y x c = E (near fun j => d (ix2 i j)) c)
    (p : Fin 1024) (c : Fin 32) :
    ∑ x : Fin n, (∑ a : Fin n, A a x c * weight cubic n k a.val (p.val / 32)) * weight cubic n k x.val (p.val % 32)
      = up (upBy cubic n k N) (codes (pool P r) E) p c := by
  refine up_eq hN (fun a => weight cubic n k a (p.val / 32)) (fun a => weight cubic n k a (p.val % 32))
    (fun q => codes (pool P r) E q c) (fun a ha => (he.weight a _ ha (by omega)).2) (fun a ha => (he.weight a _ ha (by omega)).2)
    (fun q => hE _ _) (fun a x => A a x c) fun a x q hq => ?_
  have hi : b.val * N + q.val < M := by
    have : (b.val + 1) * N ≤ 16 * N := Nat.mul_le_mul_right _ b.isLt
    rw [Nat.add_mul, Nat.one_mul] at this
    omega
  rw [hA a x c ⟨b.val * N + q.val, hi⟩ (by
    show b.val * N + q.val = _
    rw [hq, hN, Nat.add_mul, Nat.mul_assoc, Nat.add_assoc])]
  unfold codes
  congr 2
  exact (funext fun j => hd _ j).trans (dist_congr E fun c => hrows q c _ rfl)

/-! ### The rows -/

/-- The rows of the coarsest scale are the averages over its blocks. -/
theorem rows0 (b : Fin 16) (q : Fin 1) (c : Fin 32) (i : Fin 16) (hi : i.val = b.val * 1 + q.val) :
    (res_main_v6 V : S16x32.Idx → EReal) (ix2 i c) = pool (avgBy 1 32 0x3D000000#32 1) (imOf (V (Proc.devRef .tc main_arg0)) b) q c := by
  rw [← pool_eq (n := 1) (f := 32) (N := 1) (k := 0x3D000000#32) (d := 0x44800000#32) (by decide) (by decide) (by decide)]
  · unfold res_main_v6 imOf
    pointwise
    rw [sum_axes_3_5]
    pointwise
    refine congrArg (Ideal.div · _) (Finset.sum_congr rfl fun y _ => Finset.sum_congr rfl fun x _ => ?_)
    congr 2
    · exact Fin.ext (by omega)
    · exact Fin.ext (by show y.val = (y.val % 32 * 32 + x.val % 32) / 32; omega)
    · exact Fin.ext (by show x.val = (y.val % 32 * 32 + x.val % 32) % 32; omega)
  · simp [Ideal.ofBits, Ideal.ieee, -EReal.coe_mul]; norm_num
  · simp [Ideal.ofBits, Ideal.ieee, -EReal.coe_mul]; norm_num

/-- The rows of the second scale are the averages over its blocks. -/
theorem rows1 (b : Fin 16) (q : Fin 4) (c : Fin 32) (i : Fin 64) (hi : i.val = b.val * 4 + q.val) :
    (res_main_v155 V : S64x32.Idx → EReal) (ix2 i c) = pool (avgBy 2 16 0x3D800000#32 4) (imOf (res_main_v149 V) b) q c := by
  rw [← pool_eq (n := 2) (f := 16) (N := 4) (k := 0x3D800000#32) (d := 0x43800000#32) (by decide) (by decide) (by decide)]
  · unfold res_main_v155 imOf
    pointwise
    rw [sum_axes_3_5]
    pointwise
    refine congrArg (Ideal.div · _) (Finset.sum_congr rfl fun y _ => Finset.sum_congr rfl fun x _ => ?_)
    congr 2 <;> exact Fin.ext (by simp only; omega)
  · simp [Ideal.ofBits, Ideal.ieee, -EReal.coe_mul]; norm_num
  · simp [Ideal.ofBits, Ideal.ieee, -EReal.coe_mul]; norm_num

/-- The rows of the third scale are the averages over its blocks. -/
theorem rows2 (b : Fin 16) (q : Fin 16) (c : Fin 32) (i : Fin 256) (hi : i.val = b.val * 16 + q.val) :
    (res_main_v306 V : S256x32.Idx → EReal) (ix2 i c) = pool (avgBy 4 8 0x3E000000#32 16) (imOf (res_main_v300 V) b) q c := by
  rw [← pool_eq (n := 4) (f := 8) (N := 16) (k := 0x3E000000#32) (d := 0x42800000#32) (by decide) (by decide) (by decide)]
  · unfold res_main_v306 imOf
    pointwise
    rw [sum_axes_3_5]
    pointwise
    refine congrArg (Ideal.div · _) (Finset.sum_congr rfl fun y _ => Finset.sum_congr rfl fun x _ => ?_)
    congr 2 <;> exact Fin.ext (by simp only; omega)
  · simp [Ideal.ofBits, Ideal.ieee, -EReal.coe_mul]; norm_num
  · simp [Ideal.ofBits, Ideal.ieee, -EReal.coe_mul]; norm_num

/-- The rows of the fourth scale are the averages over its blocks. -/
theorem rows3 (b : Fin 16) (q : Fin 64) (c : Fin 32) (i : Fin 1024) (hi : i.val = b.val * 64 + q.val) :
    (res_main_v457 V : S1024x32.Idx → EReal) (ix2 i c) = pool (avgBy 8 4 0x3E800000#32 64) (imOf (res_main_v451 V) b) q c := by
  rw [← pool_eq (n := 8) (f := 4) (N := 64) (k := 0x3E800000#32) (d := 0x41800000#32) (by decide) (by decide) (by decide)]
  · unfold res_main_v457 imOf
    pointwise
    rw [sum_axes_3_5]
    pointwise
    refine congrArg (Ideal.div · _) (Finset.sum_congr rfl fun y _ => Finset.sum_congr rfl fun x _ => ?_)
    congr 2 <;> exact Fin.ext (by simp only; omega)
  · simp [Ideal.ofBits, Ideal.ieee, -EReal.coe_mul]; norm_num
  · simp [Ideal.ofBits, Ideal.ieee, -EReal.coe_mul]; norm_num

/-- The rows of the fifth scale are the averages over its blocks. -/
theorem rows4 (b : Fin 16) (q : Fin 256) (c : Fin 32) (i : Fin 4096) (hi : i.val = b.val * 256 + q.val) :
    (res_main_v608 V : S4096x32.Idx → EReal) (ix2 i c) = pool (avgBy 16 2 0x3F000000#32 256) (imOf (res_main_v602 V) b) q c := by
  rw [← pool_eq (n := 16) (f := 2) (N := 256) (k := 0x3F000000#32) (d := 0x40800000#32) (by decide) (by decide) (by decide)]
  · unfold res_main_v608 imOf
    pointwise
    rw [sum_axes_3_5]
    pointwise
    refine congrArg (Ideal.div · _) (Finset.sum_congr rfl fun y _ => Finset.sum_congr rfl fun x _ => ?_)
    congr 2 <;> exact Fin.ext (by simp only; omega)
  · simp [Ideal.ofBits, Ideal.ieee, -EReal.coe_mul]; norm_num
  · simp [Ideal.ofBits, Ideal.ieee, -EReal.coe_mul]; norm_num

/-! ### The distances -/

/-- The distances of the coarsest scale. -/
theorem dist0 (r : Fin 16) (j : Fin 8192) :
    (res_main_v20 V : S16x8192.Idx → EReal) (ix2 r j) = dist (rowsOf (res_main_v6 V)) (book V) r j := by
  unfold res_main_v20
  pointwise
  rfl

/-- The distances of the second scale. -/
theorem dist1 (r : Fin 64) (j : Fin 8192) :
    (res_main_v169 V : S64x8192.Idx → EReal) (ix2 r j) = dist (rowsOf (res_main_v155 V)) (book V) r j := by
  unfold res_main_v169
  pointwise
  rfl

/-- The distances of the third scale. -/
theorem dist2 (r : Fin 256) (j : Fin 8192) :
    (res_main_v320 V : S256x8192.Idx → EReal) (ix2 r j) = dist (rowsOf (res_main_v306 V)) (book V) r j := by
  unfold res_main_v320
  pointwise
  rfl

/-- The distances of the fourth scale. -/
theorem dist3 (r : Fin 1024) (j : Fin 8192) :
    (res_main_v471 V : S1024x8192.Idx → EReal) (ix2 r j) = dist (rowsOf (res_main_v457 V)) (book V) r j := by
  unfold res_main_v471
  pointwise
  rfl

/-- The distances of the fifth scale. -/
theorem dist4 (r : Fin 4096) (j : Fin 8192) :
    (res_main_v622 V : S4096x8192.Idx → EReal) (ix2 r j) = dist (rowsOf (res_main_v608 V)) (book V) r j := by
  unfold res_main_v622
  pointwise
  rfl

/-! ### The weights -/

/-- The interpolation weights of the coarsest scale. -/
theorem weight0 (a : Fin 1) (y : Fin 32) : (res_main_v70 V : S1x32.Idx → EReal) (ix2 a y) = weight cubic 1 0x3D000000#32 a.val y.val := by
  unfold res_main_v70 res_main_v67 res_main_v43
  pointwise
  simp only [id_eq]
  pointwise
  rfl

/-- The interpolation weights of the second scale. -/
theorem weight1 (a : Fin 2) (y : Fin 32) : (res_main_v221 V : S2x32.Idx → EReal) (ix2 a y) = weight cubic 2 0x3D800000#32 a.val y.val := by
  unfold res_main_v221 res_main_v217 res_main_v193
  pointwise
  simp only [id_eq]
  pointwise
  rfl

/-- The interpolation weights of the third scale. -/
theorem weight2 (a : Fin 4) (y : Fin 32) : (res_main_v372 V : S4x32.Idx → EReal) (ix2 a y) = weight cubic 4 0x3E000000#32 a.val y.val := by
  unfold res_main_v372 res_main_v368 res_main_v344
  pointwise
  simp only [id_eq]
  pointwise
  rfl

/-- The interpolation weights of the fourth scale. -/
theorem weight3 (a : Fin 8) (y : Fin 32) : (res_main_v523 V : S8x32.Idx → EReal) (ix2 a y) = weight cubic 8 0x3E800000#32 a.val y.val := by
  unfold res_main_v523 res_main_v519 res_main_v495
  pointwise
  simp only [id_eq]
  pointwise
  rfl

/-- The interpolation weights of the fifth scale. -/
theorem weight4 (a : Fin 16) (y : Fin 32) : (res_main_v674 V : S16x32.Idx → EReal) (ix2 a y) = weight cubic 16 0x3F000000#32 a.val y.val := by
  unfold res_main_v674 res_main_v670 res_main_v646
  pointwise
  simp only [id_eq]
  pointwise
  rfl

/-! ### The images -/

/-- The coarsest scale's image: the nearest codes of its rows, brought back to the image's size. -/
theorem up0 (b : Fin 16) (hb : ∀ j c, Real' (book V j c)) :
    imOf (res_main_v82 V) b
      = up (upBy cubic 1 0x3D000000#32 1) (codes (pool (avgBy 1 32 0x3D000000#32 1) (imOf (V (Proc.devRef .tc main_arg0)) b)) (book V)) := by
  funext p c
  rw [← scale (n := 1) (N := 1) (M := 16) even1 rfl rfl (book V) hb _ _ (res_main_v6 V) (res_main_v20 V) b _ (rows0 V b) (dist0 V)
    (fun y x c i hi => picked _ _ _ (fun r => near_at _ r bcast_S16_S16x1_0 bcast_S16x1_S16x8192_0_1 bcast_S_S16x8192
      reducesTo_S16x8192_S16_d1 h_S_) gather_S8192x32_S16x1x1x1_S16x1x1x32_3_0_n_n_0_3_132.wf
      bcast_S16x1x1_S16x1x1x1_0_1_2 shapeCasts_S16_S16x1x1 b y x c i hi) p c]
  unfold imOf res_main_v82
  pointwise
  refine Finset.sum_congr rfl fun x' _ => ?_
  obtain rfl : x' = 0 := Subsingleton.elim _ _
  refine congrArg₂ (· * ·) (Finset.sum_congr rfl fun a _ => ?_) (weight0 V 0 _)
  obtain rfl : a = 0 := Subsingleton.elim _ _
  exact congrArg₂ (· * ·) rfl (weight0 V 0 _)

/-- The second scale's image: the nearest codes of its rows, brought back to the image's size. -/
theorem up1 (b : Fin 16) (hb : ∀ j c, Real' (book V j c)) :
    imOf (res_main_v233 V) b
      = up (upBy cubic 2 0x3D800000#32 4) (codes (pool (avgBy 2 16 0x3D800000#32 4) (imOf (res_main_v149 V) b)) (book V)) := by
  funext p c
  rw [← scale (n := 2) (N := 4) (M := 64) even2 rfl rfl (book V) hb _ _ (res_main_v155 V) (res_main_v169 V) b _ (rows1 V b) (dist1 V)
    (fun y x c i hi => picked _ _ _ (fun r => near_at _ r bcast_S64_S64x1_0 bcast_S64x1_S64x8192_0_1 bcast_S_S64x8192
      reducesTo_S64x8192_S64_d1 h_S_) gather_S8192x32_S16x2x2x1_S16x2x2x32_3_0_n_n_0_3_132.wf
      bcast_S16x2x2_S16x2x2x1_0_1_2 shapeCasts_S64_S16x2x2 b y x c i hi) p c]
  unfold imOf res_main_v233
  pointwise
  exact Finset.sum_congr rfl fun x' _ => congrArg₂ (· * ·)
    (Finset.sum_congr rfl fun a _ => congrArg₂ (· * ·) rfl (weight1 V a _)) (weight1 V x' _)

/-- The third scale's image: the nearest codes of its rows, brought back to the image's size. -/
theorem up2 (b : Fin 16) (hb : ∀ j c, Real' (book V j c)) :
    imOf (res_main_v384 V) b
      = up (upBy cubic 4 0x3E000000#32 16) (codes (pool (avgBy 4 8 0x3E000000#32 16) (imOf (res_main_v300 V) b)) (book V)) := by
  funext p c
  rw [← scale (n := 4) (N := 16) (M := 256) even4 rfl rfl (book V) hb _ _ (res_main_v306 V) (res_main_v320 V) b _ (rows2 V b) (dist2 V)
    (fun y x c i hi => picked _ _ _ (fun r => near_at _ r bcast_S256_S256x1_0 bcast_S256x1_S256x8192_0_1 bcast_S_S256x8192
      reducesTo_S256x8192_S256_d1 h_S_) gather_S8192x32_S16x4x4x1_S16x4x4x32_3_0_n_n_0_3_132.wf
      bcast_S16x4x4_S16x4x4x1_0_1_2 shapeCasts_S256_S16x4x4 b y x c i hi) p c]
  unfold imOf res_main_v384
  pointwise
  exact Finset.sum_congr rfl fun x' _ => congrArg₂ (· * ·)
    (Finset.sum_congr rfl fun a _ => congrArg₂ (· * ·) rfl (weight2 V a _)) (weight2 V x' _)

/-- The fourth scale's image: the nearest codes of its rows, brought back to the image's size. -/
theorem up3 (b : Fin 16) (hb : ∀ j c, Real' (book V j c)) :
    imOf (res_main_v535 V) b
      = up (upBy cubic 8 0x3E800000#32 64) (codes (pool (avgBy 8 4 0x3E800000#32 64) (imOf (res_main_v451 V) b)) (book V)) := by
  funext p c
  rw [← scale (n := 8) (N := 64) (M := 1024) even8 rfl rfl (book V) hb _ _ (res_main_v457 V) (res_main_v471 V) b _ (rows3 V b) (dist3 V)
    (fun y x c i hi => picked _ _ _ (fun r => near_at _ r bcast_S1024_S1024x1_0 bcast_S1024x1_S1024x8192_0_1 bcast_S_S1024x8192
      reducesTo_S1024x8192_S1024_d1 h_S_) gather_S8192x32_S16x8x8x1_S16x8x8x32_3_0_n_n_0_3_132.wf
      bcast_S16x8x8_S16x8x8x1_0_1_2 shapeCasts_S1024_S16x8x8 b y x c i hi) p c]
  unfold imOf res_main_v535
  pointwise
  exact Finset.sum_congr rfl fun x' _ => congrArg₂ (· * ·)
    (Finset.sum_congr rfl fun a _ => congrArg₂ (· * ·) rfl (weight3 V a _)) (weight3 V x' _)

/-- The fifth scale's image: the nearest codes of its rows, brought back to the image's size. -/
theorem up4 (b : Fin 16) (hb : ∀ j c, Real' (book V j c)) :
    imOf (res_main_v686 V) b
      = up (upBy cubic 16 0x3F000000#32 256) (codes (pool (avgBy 16 2 0x3F000000#32 256) (imOf (res_main_v602 V) b)) (book V)) := by
  funext p c
  rw [← scale (n := 16) (N := 256) (M := 4096) even16 rfl rfl (book V) hb _ _ (res_main_v608 V) (res_main_v622 V) b _ (rows4 V b) (dist4 V)
    (fun y x c i hi => picked _ _ _ (fun r => near_at _ r bcast_S4096_S4096x1_0 bcast_S4096x1_S4096x8192_0_1 bcast_S_S4096x8192
      reducesTo_S4096x8192_S4096_d1 h_S_) gather_S8192x32_S16x16x16x1_S16x16x16x32_3_0_n_n_0_3_132.wf
      bcast_S16x16x16_S16x16x16x1_0_1_2 shapeCasts_S4096_S16x16x16 b y x c i hi) p c]
  unfold imOf res_main_v686
  pointwise
  exact Finset.sum_congr rfl fun x' _ => congrArg₂ (· * ·)
    (Finset.sum_congr rfl fun a _ => congrArg₂ (· * ·) rfl (weight4 V a _)) (weight4 V x' _)

end Vq
-- ==== Proof.RChain.lean ====
/- The reference's residuals are the problem's. -/
module

public import proofs.«01_k».proof.Proof.RScale

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

variable (V : Valuation τ sig (Elt Ideal))

/-! ### The finest scale -/

/-- The rows of the finest scale are the residual's pixels. -/
theorem rows5 (b : Fin 16) (p : Fin 1024) (c : Fin 32) (i : Fin 16384) (hi : i.val = b.val * 1024 + p.val) :
    (res_main_v755 V : S16384x32.Idx → EReal) (ix2 i c) = imOf (res_main_v753 V) b p c := by
  unfold res_main_v755 imOf
  pointwise
  congr 2 <;> exact Fin.ext (by simp only; omega)

/-- The distances of the finest scale. -/
theorem dist5 (r : Fin 16384) (j : Fin 8192) :
    (res_main_v769 V : S16384x8192.Idx → EReal) (ix2 r j) = dist (rowsOf (res_main_v755 V)) (book V) r j := by
  unfold res_main_v769
  pointwise
  rfl

/-- The finest scale's image: the nearest code of each pixel. -/
theorem up5 (b : Fin 16) : imOf (res_main_v779 V) b = codes (imOf (res_main_v753 V) b) (book V) := by
  funext p c
  have h := picked (n := 32) (V (Proc.devRef .tc main_arg1)) _ _ (fun r => near_at (res_main_v769 V) r bcast_S16384_S16384x1_0
      bcast_S16384x1_S16384x8192_0_1 bcast_S_S16384x8192 reducesTo_S16384x8192_S16384_d1 h_S_)
      gather_S8192x32_S16x32x32x1_S16x32x32x32_3_0_n_n_0_3_132.wf bcast_S16x32x32_S16x32x32x1_0_1_2 shapeCasts_S16384_S16x32x32
      b ⟨p.val / 32, by omega⟩ ⟨p.val % 32, by omega⟩ c ⟨b.val * 1024 + p.val, by omega⟩
      (by show b.val * 1024 + p.val = (b.val * 32 + p.val / 32) * 32 + p.val % 32; omega)
  unfold imOf res_main_v779
  pointwise
  refine Eq.trans h ?_
  exact congrArg (fun d => book V (near d) c)
    ((funext fun j => dist5 V _ j).trans (dist_congr _ fun c => rows5 V b p c _ rfl))

/-! ### The chain -/

/-- The problem of image `b`, from the reference's arguments. -/
abbrev rprob (b : Fin 16) : Prob :=
  prob cubic (V (Proc.devRef .tc main_arg0)) (V (Proc.devRef .tc main_arg1)) (V (Proc.devRef .tc main_arg2)) (V (Proc.devRef .tc main_arg3)) b

/-- The first residual. -/
theorem res0 (b : Fin 16) : imOf (V (Proc.devRef .tc main_arg0)) b = (rprob V b).R0 := rfl

section
variable (b : Fin 16) (hb : ∀ j c, Real' (book V j c))
include hb

/-- What the first scale takes off. -/
theorem got0 : imOf (res_main_v140 V) b = (rprob V b).G0 := by
  rw [mix0, up0 V b hb, res0]
  rfl

/-- The second residual. -/
theorem res1 : imOf (res_main_v149 V) b = (rprob V b).R1 := by
  show _ = rest (rprob V b).R0 (rprob V b).G0
  rw [← res0, ← got0 V b hb]
  rfl

/-- What the second scale takes off. -/
theorem got1 : imOf (res_main_v291 V) b = (rprob V b).G1 := by
  rw [mix1, up1 V b hb, res1 V b hb]
  rfl

/-- The third residual. -/
theorem res2 : imOf (res_main_v300 V) b = (rprob V b).R2 := by
  show _ = rest (rprob V b).R1 (rprob V b).G1
  rw [← res1 V b hb, ← got1 V b hb]
  rfl

/-- What the third scale takes off. -/
theorem got2 : imOf (res_main_v442 V) b = (rprob V b).G2 := by
  rw [mix2, up2 V b hb, res2 V b hb]
  rfl

/-- The fourth residual. -/
theorem res3 : imOf (res_main_v451 V) b = (rprob V b).R3 := by
  show _ = rest (rprob V b).R2 (rprob V b).G2
  rw [← res2 V b hb, ← got2 V b hb]
  rfl

/-- What the fourth scale takes off. -/
theorem got3 : imOf (res_main_v593 V) b = (rprob V b).G3 := by
  rw [mix3, up3 V b hb, res3 V b hb]
  rfl

/-- The fifth residual. -/
theorem res4 : imOf (res_main_v602 V) b = (rprob V b).R4 := by
  show _ = rest (rprob V b).R3 (rprob V b).G3
  rw [← res3 V b hb, ← got3 V b hb]
  rfl

/-- What the fifth scale takes off. -/
theorem got4 : imOf (res_main_v744 V) b = (rprob V b).G4 := by
  rw [mix4, up4 V b hb, res4 V b hb]
  rfl

/-- The last residual. -/
theorem res5 : imOf (res_main_v753 V) b = (rprob V b).R5 := by
  show _ = rest (rprob V b).R4 (rprob V b).G4
  rw [← res4 V b hb, ← got4 V b hb]
  rfl

/-- What the last scale takes off. -/
theorem got5 : imOf (res_main_v837 V) b = (rprob V b).G5 := by
  rw [mix5, up5, res5 V b hb]
  rfl

/-- The distances of the finest scale, image by image. -/
theorem dist_last (p : Fin 1024) (i : Fin 16384) (hi : i.val = b.val * 1024 + p.val) (j : Fin 8192) :
    (res_main_v769 V : S16384x8192.Idx → EReal) (ix2 i j) = dist (rprob V b).R5 (rprob V b).E p j := by
  rw [dist5, ← res5 V b hb]
  exact congrFun (dist_congr _ fun c => rows5 V b p c i hi) j

end

end Vq
-- ==== Proof.RResult.lean ====
/- The reference's two results, from its residuals. -/
module

public import proofs.«01_k».proof.Proof.RChain

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

/-- An array of images at a place, read from its image. -/
theorem imOf_at (A : (⟨4, ![16, 32, 32, 32]⟩ : Shape).Idx → EReal) (b : Fin 16) (o y x : Fin 32) :
    A (ix4 b o y x) = imOf A b ⟨32 * y.val + x.val, by omega⟩ o := by
  unfold imOf
  congr 2 <;> exact Fin.ext (by simp only; omega)

/-- A sum over the pixels, row by row. -/
theorem sum_pixels (f : Fin 32 → Fin 32 → EReal) :
    ∑ y, ∑ x, f y x = ∑ p : Fin 1024, f ⟨p.val / 32, by omega⟩ ⟨p.val % 32, by omega⟩ := by
  rw [← Fintype.sum_prod_type']
  exact (Equiv.sum_comp (finProdFinEquiv (m := 32) (n := 32)).symm fun q => f q.1 q.2).symm

/-- The squares of the differences of two arrays of images, summed. -/
theorem sum_miss (A H : (⟨4, ![16, 32, 32, 32]⟩ : Shape).Idx → EReal) :
    ∑ b : Fin 16, ∑ c : Fin 32, ∑ y : Fin 32, ∑ x : Fin 32,
        (H (ix4 b c y x) - A (ix4 b c y x)) * (H (ix4 b c y x) - A (ix4 b c y x))
      = ∑ b, miss (imOf A b) (imOf H b) := by
  refine Finset.sum_congr rfl fun b _ => ?_
  exact (Finset.sum_congr rfl fun c _ => sum_pixels fun y x =>
    (H (ix4 b c y x) - A (ix4 b c y x)) * (H (ix4 b c y x) - A (ix4 b c y x))).trans Finset.sum_comm

/-- A scale's mean, weighted a quarter and once, from its sum. -/
theorem mean_share (s : EReal) : Ideal.div s (Ideal.ofBits .f32 0x49000000#32) * Ideal.ofBits .f32 0x3E800000#32
    + Ideal.div s (Ideal.ofBits .f32 0x49000000#32) = s * Ideal.ofBits .f32 0x36200000#32 := by
  have e1 : Ideal.ofBits .f32 0x49000000#32 = ((524288 : ℝ) : EReal) := by
    simp [Ideal.ofBits, Ideal.ieee, -EReal.coe_mul]; norm_num
  have e2 : Ideal.ofBits .f32 0x3E800000#32 = ((1 / 4 : ℝ) : EReal) := by
    simp [Ideal.ofBits, Ideal.ieee, -EReal.coe_mul]; norm_num
  have e3 : Ideal.ofBits .f32 0x36200000#32 = ((5 / 2097152 : ℝ) : EReal) := by
    simp [Ideal.ofBits, Ideal.ieee, -EReal.coe_mul]; norm_num
  have hne : ((524288 : ℝ) : EReal) ≠ 0 := fun e => absurd (EReal.coe_eq_zero.mp e) (by norm_num)
  rw [e1, e2, e3]
  unfold Ideal.div
  rw [if_neg hne, ← EReal.coe_inv, mul_assoc, ← EReal.coe_mul, ← EReal.left_distrib_of_nonneg
    (EReal.coe_nonneg.mpr (by norm_num)) (EReal.coe_nonneg.mpr (by norm_num)), ← EReal.coe_add]
  norm_num

/-- The six scales' means, weighted and summed, from the images' misses. -/
theorem loss_sum (M : Fin 16 → Fin 6 → EReal) (k : EReal) :
    (0 + (Ideal.div (∑ b, M b 0) (Ideal.ofBits .f32 0x49000000#32)) * Ideal.ofBits .f32 0x3E800000#32 + (Ideal.div (∑ b, M b 0) (Ideal.ofBits .f32 0x49000000#32))
      + (Ideal.div (∑ b, M b 1) (Ideal.ofBits .f32 0x49000000#32)) * Ideal.ofBits .f32 0x3E800000#32 + (Ideal.div (∑ b, M b 1) (Ideal.ofBits .f32 0x49000000#32))
      + (Ideal.div (∑ b, M b 2) (Ideal.ofBits .f32 0x49000000#32)) * Ideal.ofBits .f32 0x3E800000#32 + (Ideal.div (∑ b, M b 2) (Ideal.ofBits .f32 0x49000000#32))
      + (Ideal.div (∑ b, M b 3) (Ideal.ofBits .f32 0x49000000#32)) * Ideal.ofBits .f32 0x3E800000#32 + (Ideal.div (∑ b, M b 3) (Ideal.ofBits .f32 0x49000000#32))
      + (Ideal.div (∑ b, M b 4) (Ideal.ofBits .f32 0x49000000#32)) * Ideal.ofBits .f32 0x3E800000#32 + (Ideal.div (∑ b, M b 4) (Ideal.ofBits .f32 0x49000000#32))
      + (Ideal.div (∑ b, M b 5) (Ideal.ofBits .f32 0x49000000#32)) * Ideal.ofBits .f32 0x3E800000#32 + (Ideal.div (∑ b, M b 5) (Ideal.ofBits .f32 0x49000000#32))) * k
    = (∑ b, (M b 0 + M b 1 + M b 2 + M b 3 + M b 4 + M b 5)) * Ideal.ofBits .f32 0x36200000#32 * k := by
  have e3 : Ideal.ofBits .f32 0x36200000#32 = ((5 / 2097152 : ℝ) : EReal) := by
    simp [Ideal.ofBits, Ideal.ieee, -EReal.coe_mul]; norm_num
  have hd : ∀ a b : EReal, (a + b) * Ideal.ofBits .f32 0x36200000#32 = a * Ideal.ofBits .f32 0x36200000#32 + b * Ideal.ofBits .f32 0x36200000#32 := by
    intro a b
    rw [e3]
    exact EReal.right_distrib_of_nonneg_of_ne_top (EReal.coe_nonneg.mpr (by norm_num)) (EReal.coe_ne_top _) a b
  have hm : ∀ a s : EReal, a + (Ideal.div s (Ideal.ofBits .f32 0x49000000#32)) * Ideal.ofBits .f32 0x3E800000#32
      + Ideal.div s (Ideal.ofBits .f32 0x49000000#32) = a + s * Ideal.ofBits .f32 0x36200000#32 := fun a s => by
    rw [add_assoc, mean_share]
  rw [hm, hm, hm, hm, hm, hm, zero_add]
  simp only [Finset.sum_add_distrib, hd]

variable (V : Valuation τ sig (Elt Ideal)) (hb : ∀ j c, Real' (book V j c))

/-- A scale's mean, from the sum of its misses. -/
theorem mean_of (A H : (⟨4, ![16, 32, 32, 32]⟩ : Shape).Idx → EReal) :
    Host.divf (F := Ideal) (φ := .f32) (Host.reduceAdd (F := Ideal) (φ := .f32) (mulf (F := Ideal) (φ := .f32) (subf (F := Ideal) (φ := .f32) H A) (subf (F := Ideal) (φ := .f32) H A)) (constant (F := Ideal) S_ .f32 0x00000000#32)
        reducesTo_S16x32x32x32_S_d0_1_2_3 h_S_) (constant (F := Ideal) S_ .f32 0x49000000#32) ix0
      = Ideal.div (∑ b, miss (imOf A b) (imOf H b)) (Ideal.ofBits .f32 0x49000000#32) := by
  rw [← sum_miss]
  have h := sum_axes_all reducesTo_S16x32x32x32_S_d0_1_2_3 (mulf (F := Ideal) (φ := .f32) (subf (F := Ideal) (φ := .f32) H A) (subf (F := Ideal) (φ := .f32) H A))
    (Ideal.ofBits .f32 0x00000000#32) ix0
  rw [Ideal.ofBits_zero_f32, zero_add] at h
  exact congrArg (Ideal.div · _) (Eq.trans (by rw [← Ideal.ofBits_zero_f32]; rfl) h)

/-- The image result from its arrays, at a place. -/
theorem y_of (X A0 A1 A2 A3 A4 A5 : S16x32x32x32.Idx → EReal) (i : S16x32x32x32.Idx) :
    addf (F := Ideal) (φ := .f32) X (subf (F := Ideal) (φ := .f32) (addf (addf (addf (addf (addf (addf (broadcastInDim S16x32x32x32 ![] bcast_S_S16x32x32x32 (constant S_ .f32 0x00000000#32)) A0) A1) A2) A3) A4) A5) X) i
      = X i + (A0 i + A1 i + A2 i + A3 i + A4 i + A5 i - X i) := by
  have h : addf (F := Ideal) (φ := .f32) X (subf (F := Ideal) (φ := .f32) (addf (addf (addf (addf (addf (addf (broadcastInDim S16x32x32x32 ![] bcast_S_S16x32x32x32 (constant S_ .f32 0x00000000#32)) A0) A1) A2) A3) A4) A5) X) i
      = X i + (Ideal.ofBits .f32 0x00000000#32 + A0 i + A1 i + A2 i + A3 i + A4 i + A5 i - X i) := rfl
  rw [h, Ideal.ofBits_zero_f32, zero_add]

/-- The loss from the six means. -/
theorem l_of (m0 m1 m2 m3 m4 m5 : S_.Idx → EReal) (i : S_.Idx) :
    mulf (F := Ideal) (φ := .f32) (addf (addf (addf (addf (addf (addf (addf (addf (addf (addf (addf (addf (constant S_ .f32 0x00000000#32) (mulf m0 (constant S_ .f32 0x3E800000#32))) m0) (mulf m1 (constant S_ .f32 0x3E800000#32))) m1) (mulf m2 (constant S_ .f32 0x3E800000#32))) m2) (mulf m3 (constant S_ .f32 0x3E800000#32))) m3) (mulf m4 (constant S_ .f32 0x3E800000#32))) m4) (mulf m5 (constant S_ .f32 0x3E800000#32))) m5) (constant S_ .f32 0x3E2AAAAB#32) i
      = (0 + m0 i * Ideal.ofBits .f32 0x3E800000#32 + m0 i + m1 i * Ideal.ofBits .f32 0x3E800000#32 + m1 i
        + m2 i * Ideal.ofBits .f32 0x3E800000#32 + m2 i + m3 i * Ideal.ofBits .f32 0x3E800000#32 + m3 i
        + m4 i * Ideal.ofBits .f32 0x3E800000#32 + m4 i + m5 i * Ideal.ofBits .f32 0x3E800000#32 + m5 i) * Ideal.ofBits .f32 0x3E2AAAAB#32 := by
  rw [← Ideal.ofBits_zero_f32]
  rfl

include hb

/-- The image result, at a place. -/
theorem y_ref (b : Fin 16) (o y x : Fin 32) :
    (addf (F := Ideal) (φ := .f32) (V (Proc.devRef .tc main_arg0)) (subf (addf (addf (addf (addf (addf (addf (broadcastInDim S16x32x32x32 ![] bcast_S_S16x32x32x32 (constant S_ .f32 0x00000000#32)) (res_main_v140 V)) (res_main_v291 V)) (res_main_v442 V)) (res_main_v593 V)) (res_main_v744 V)) (res_main_v837 V)) (V (Proc.devRef .tc main_arg0))) : S16x32x32x32.Idx → EReal) (ix4 b o y x)
      = (rprob V b).out ⟨32 * y.val + x.val, by omega⟩ o := by
  have h0 := congrFun (congrFun (got0 V b hb) ⟨32 * y.val + x.val, by omega⟩) o
  have h1 := congrFun (congrFun (got1 V b hb) ⟨32 * y.val + x.val, by omega⟩) o
  have h2 := congrFun (congrFun (got2 V b hb) ⟨32 * y.val + x.val, by omega⟩) o
  have h3 := congrFun (congrFun (got3 V b hb) ⟨32 * y.val + x.val, by omega⟩) o
  have h4 := congrFun (congrFun (got4 V b hb) ⟨32 * y.val + x.val, by omega⟩) o
  have h5 := congrFun (congrFun (got5 V b hb) ⟨32 * y.val + x.val, by omega⟩) o
  have hx := imOf_at (V (Proc.devRef .tc main_arg0)) b o y x
  rw [← imOf_at] at h0 h1 h2 h3 h4 h5
  unfold Prob.out Prob.total
  rw [← h0, ← h1, ← h2, ← h3, ← h4, ← h5]
  refine (y_of _ _ _ _ _ _ _ _).trans ?_
  rw [hx]
  rfl

/-- The loss. -/
theorem l_ref :
    (mulf (F := Ideal) (φ := .f32) (addf (addf (addf (addf (addf (addf (addf (addf (addf (addf (addf (addf (constant S_ .f32 0x00000000#32) (mulf (res_main_v144 V) (constant S_ .f32 0x3E800000#32))) (res_main_v144 V)) (mulf (res_main_v295 V) (constant S_ .f32 0x3E800000#32))) (res_main_v295 V)) (mulf (res_main_v446 V) (constant S_ .f32 0x3E800000#32))) (res_main_v446 V)) (mulf (res_main_v597 V) (constant S_ .f32 0x3E800000#32))) (res_main_v597 V)) (mulf (res_main_v748 V) (constant S_ .f32 0x3E800000#32))) (res_main_v748 V)) (mulf (res_main_v841 V) (constant S_ .f32 0x3E800000#32))) (res_main_v841 V)) (constant S_ .f32 0x3E2AAAAB#32) : S_.Idx → EReal) ix0
      = (∑ b, (rprob V b).missed) * Ideal.ofBits .f32 0x36200000#32 * Ideal.ofBits .f32 0x3E2AAAAB#32 := by
  have e0 := mean_of (V (Proc.devRef .tc main_arg0)) (res_main_v140 V)
  have e1 := mean_of (res_main_v149 V) (res_main_v291 V)
  have e2 := mean_of (res_main_v300 V) (res_main_v442 V)
  have e3 := mean_of (res_main_v451 V) (res_main_v593 V)
  have e4 := mean_of (res_main_v602 V) (res_main_v744 V)
  have e5 := mean_of (res_main_v753 V) (res_main_v837 V)
  simp only [res0, got0 V _ hb] at e0
  simp only [res1 V _ hb, got1 V _ hb] at e1
  simp only [res2 V _ hb, got2 V _ hb] at e2
  simp only [res3 V _ hb, got3 V _ hb] at e3
  simp only [res4 V _ hb, got4 V _ hb] at e4
  simp only [res5 V _ hb, got5 V _ hb] at e5
  have h := loss_sum (fun b => ![miss (rprob V b).R0 (rprob V b).G0, miss (rprob V b).R1 (rprob V b).G1, miss (rprob V b).R2 (rprob V b).G2,
    miss (rprob V b).R3 (rprob V b).G3, miss (rprob V b).R4 (rprob V b).G4, miss (rprob V b).R5 (rprob V b).G5]) (Ideal.ofBits .f32 0x3E2AAAAB#32)
  refine (l_of _ _ _ _ _ _ _).trans (Eq.trans ?_ h)
  rw [show (res_main_v144 V : S_.Idx → EReal) ix0 = _ from e0, show (res_main_v295 V : S_.Idx → EReal) ix0 = _ from e1,
    show (res_main_v446 V : S_.Idx → EReal) ix0 = _ from e2, show (res_main_v597 V : S_.Idx → EReal) ix0 = _ from e3,
    show (res_main_v748 V : S_.Idx → EReal) ix0 = _ from e4, show (res_main_v841 V : S_.Idx → EReal) ix0 = _ from e5]
  rfl

end Vq
-- ==== Proof.PreCount.lean ====
/- A row whose least places number one has one nearest code. -/
module

public import proofs.«01_k».proof.Proof.RChain
public import proofs.«01_k».proof.Proof.Gen.Pre_no_tie
public import Idealize.ShloMosaic.Lib.ReduceAll

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

/-- Adding up the places at which a property holds counts them. -/
theorem fold_count {m : Nat} (P : Fin m → Prop) [DecidablePred P] (s : Finset (Fin m)) :
    Finset.fold IntOp.addi (0#32) (fun x => if P x then 1#32 else 0#32) s = BitVec.ofNat 32 (s.filter P).card := by
  induction s using Finset.cons_induction with
  | empty => simp
  | cons a s ha ih =>
    rw [Finset.fold_cons, ih, Finset.filter_cons]
    split
    · rw [Finset.card_cons]
      unfold IntOp.addi
      rw [Nat.add_comm, BitVec.ofNat_add]
    · unfold IntOp.addi
      simp

/-- A row whose count of least places is one has one least place. -/
theorem once_at {N : Nat} (d : (⟨2, ![N, 8192]⟩ : Shape).Idx → EReal) (r : Fin N) (hlt : 1 < 32)
    (b1 : Shape.BroadcastsInDim ⟨1, ![N]⟩ ⟨2, ![N, 1]⟩ ![0]) (b2 : Shape.BroadcastsInDim ⟨2, ![N, 1]⟩ ⟨2, ![N, 8192]⟩ ![0, 1])
    (h : (⟨2, ![N, 8192]⟩ : Shape).ReducesTo [1] ⟨1, ![N]⟩) (h0 : 0 < (⟨0, ![]⟩ : Shape).numel)
    (e : Host.reduce IntOp.addi (extui 32 (cmpf (F := Ideal) (φ := .f32) .oeq d (broadcastInDim ⟨2, ![N, 8192]⟩ ![0, 1] b2
        (broadcastInDim ⟨2, ![N, 1]⟩ ![0] b1 (Host.reduce (FloatOps.minimumf (F := Ideal) (φ := .f32)) d (constant (F := Ideal) ⟨0, ![]⟩ .f32 0x7F800000#32) h h0)))) hlt)
      (constantI ⟨0, ![]⟩ 32 0#32) h h0 (ix1 r) = 1#32)
    (i j : Fin 8192) (hi : ∀ k, d (ix2 r i) ≤ d (ix2 r k)) (hj : ∀ k, d (ix2 r j) ≤ d (ix2 r k)) : i = j := by
  rw [Host.reduce_eq_fold, Shape.ReducesTo.fold_fiber_r2_a1] at e
  have e' : Finset.fold IntOp.addi (0#32) (fun x : Fin 8192 => if d (ix2 r x) = d (ix2 r i) then 1#32 else 0#32) Finset.univ = 1#32 := by
    refine Eq.trans ?_ e
    pointwise
    have hr : ∀ w : Fin N, w = r → Finset.fold min (Ideal.ofBits .f32 2139095040#32) (fun x => d (ix2 w x)) Finset.univ = d (ix2 r i) :=
      fun w e => by rw [e]; exact fold_min_eq (fun x => d (ix2 r x)) hi
    have hw : ∀ u v w : EReal, v = w → (if u = w then 1#32 else 0#32) = BitVec.setWidth 32 (BitVec.ofBool (decide (u = v))) := by
      intro u v w e
      subst e
      by_cases c : u = v
      · rw [if_pos c, decide_eq_true c]; rfl
      · rw [if_neg c, decide_eq_false c]; rfl
    congr 1
    funext x
    refine hw _ _ _ (hr _ ?_)
    by_cases hN : N = 1
    · subst hN; exact Subsingleton.elim (α := Fin 1) _ _
    · refine Fin.ext ?_
      simp [Shape.Idx.norm, hN]
  rw [fold_count] at e'
  have hc : (Finset.univ.filter fun x : Fin 8192 => d (ix2 r x) = d (ix2 r i)).card ≤ 8192 := by
    simpa using Finset.card_filter_le (Finset.univ : Finset (Fin 8192)) fun x => d (ix2 r x) = d (ix2 r i)
  have h1 : (Finset.univ.filter fun x : Fin 8192 => d (ix2 r x) = d (ix2 r i)).card = 1 := by
    have := congrArg BitVec.toNat e'
    simp only [BitVec.toNat_ofNat] at this
    omega
  obtain ⟨a, ha⟩ := Finset.card_eq_one.mp h1
  have mi : i ∈ ({a} : Finset (Fin 8192)) := ha ▸ Finset.mem_filter.mpr ⟨Finset.mem_univ _, rfl⟩
  have mj : j ∈ ({a} : Finset (Fin 8192)) := ha ▸ Finset.mem_filter.mpr ⟨Finset.mem_univ _, le_antisymm (hj i) (hi j)⟩
  rw [Finset.mem_singleton.mp mi, Finset.mem_singleton.mp mj]

end Vq
-- ==== Proof.PreScales.lean ====
/- The precondition's residuals are the reference's, scale by scale. -/
module

public import proofs.«01_k».proof.Proof.PreCount
public import proofs.«01_k».proof.Proof.Gen.Pre_no_tie
public import Idealize.ShloMosaic.Lib.ReduceAll

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

variable (V : Valuation τ sig (Elt Ideal))

/-- A truth value of the precondition. -/
abbrev Bit := IVec Cert.Pre_no_tie.S_ 1

/-- The zero the sums start from. -/
abbrev none0 : FVec Ideal Cert.Pre_no_tie.S_ .f32 := constant (F := Ideal) Cert.Pre_no_tie.S_ .f32 0x00000000#32

/-- Whether every code is finite. -/
abbrev finite : Bit := (Host.reduce IntOp.andi (cmpf (F := Ideal) (φ := .f32) .olt (Host.absf (F := Ideal) (φ := .f32) (V (Proc.devRef .tc main_arg1))) (broadcastInDim Cert.Pre_no_tie.S8192x32 ![] Cert.Pre_no_tie.Gen.bcast_S_S8192x32 (constant (F := Ideal) Cert.Pre_no_tie.S_ .f32 0x7F800000#32))) (constantI Cert.Pre_no_tie.S_ 1 1#1) Cert.Pre_no_tie.Gen.reducesTo_S8192x32_S_d0_1 Cert.Pre_no_tie.Gen.h_S_)

open Cert.Pre_no_tie (fn fn_part8 fn_part16 fn_part24 fn_part31 fn_part39)

/-- The precondition's first scale leaves the second residual. -/
theorem pre0 : ∃ u : Bit, fn (F := Ideal) (V (Proc.devRef .tc main_arg0)) (V (Proc.devRef .tc main_arg1)) (V (Proc.devRef .tc main_arg2)) (V (Proc.devRef .tc main_arg3))
    = fn_part8 (F := Ideal) (V (Proc.devRef .tc main_arg1)) (V (Proc.devRef .tc main_arg2)) (V (Proc.devRef .tc main_arg3)) (andi (finite V) u) (res_main_v149 V) (Host.reduceAdd (F := Ideal) (φ := .f32) (shapeCast Cert.Pre_no_tie.S16x32x2x16x2x16 (res_main_v149 V) Cert.Pre_no_tie.Gen.shapeCasts_S16x32x32x32_S16x32x2x16x2x16) none0 Cert.Pre_no_tie.Gen.reducesTo_S16x32x2x16x2x16_S16x32x2x2_d3_5 Cert.Pre_no_tie.Gen.h_S_) (constant (F := Ideal) Cert.Pre_no_tie.S_ .f32 0x43800000#32) :=
  ⟨_, rfl⟩

/-- The precondition's second scale leaves the third residual. -/
theorem pre1 (t : Bit) : ∃ u : Bit, fn_part8 (F := Ideal) (V (Proc.devRef .tc main_arg1)) (V (Proc.devRef .tc main_arg2)) (V (Proc.devRef .tc main_arg3)) t (res_main_v149 V) (Host.reduceAdd (F := Ideal) (φ := .f32) (shapeCast Cert.Pre_no_tie.S16x32x2x16x2x16 (res_main_v149 V) Cert.Pre_no_tie.Gen.shapeCasts_S16x32x32x32_S16x32x2x16x2x16) none0 Cert.Pre_no_tie.Gen.reducesTo_S16x32x2x16x2x16_S16x32x2x2_d3_5 Cert.Pre_no_tie.Gen.h_S_) (constant (F := Ideal) Cert.Pre_no_tie.S_ .f32 0x43800000#32)
    = fn_part16 (F := Ideal) (V (Proc.devRef .tc main_arg1)) (V (Proc.devRef .tc main_arg2)) (V (Proc.devRef .tc main_arg3)) (andi t u) (res_main_v300 V) (res_main_v306 V) (broadcastInDim Cert.Pre_no_tie.S256x1 ![0] Cert.Pre_no_tie.Gen.bcast_S256_S256x1_0 (Host.reduceAdd (F := Ideal) (φ := .f32) (mulf (F := Ideal) (φ := .f32) (res_main_v306 V) (res_main_v306 V)) none0 Cert.Pre_no_tie.Gen.reducesTo_S256x32_S256_d1 Cert.Pre_no_tie.Gen.h_S_)) :=
  ⟨_, rfl⟩

/-- The precondition's third scale leaves the fourth residual. -/
theorem pre2 (t : Bit) : ∃ u : Bit, fn_part16 (F := Ideal) (V (Proc.devRef .tc main_arg1)) (V (Proc.devRef .tc main_arg2)) (V (Proc.devRef .tc main_arg3)) t (res_main_v300 V) (res_main_v306 V) (broadcastInDim Cert.Pre_no_tie.S256x1 ![0] Cert.Pre_no_tie.Gen.bcast_S256_S256x1_0 (Host.reduceAdd (F := Ideal) (φ := .f32) (mulf (F := Ideal) (φ := .f32) (res_main_v306 V) (res_main_v306 V)) none0 Cert.Pre_no_tie.Gen.reducesTo_S256x32_S256_d1 Cert.Pre_no_tie.Gen.h_S_))
    = fn_part24 (F := Ideal) (V (Proc.devRef .tc main_arg1)) (V (Proc.devRef .tc main_arg2)) (V (Proc.devRef .tc main_arg3)) (andi t u) (res_main_v451 V) (Host.dotGeneral (F := Ideal) (φ₁ := .f32) (φ₂ := .f32) dot_S1024x32_S32x8192_S1024x8192_1_0_0_1_n_n none (res_main_v457 V) (transpose Cert.Pre_no_tie.S32x8192 [1, 0] (V (Proc.devRef .tc main_arg1)) Cert.Pre_no_tie.Gen.transposes_S8192x32_S32x8192_1_0)) (broadcastInDim Cert.Pre_no_tie.S1024x8192 ![0, 1] Cert.Pre_no_tie.Gen.bcast_S1024x1_S1024x8192_0_1 (broadcastInDim Cert.Pre_no_tie.S1024x1 ![0] Cert.Pre_no_tie.Gen.bcast_S1024_S1024x1_0 (Host.reduceAdd (F := Ideal) (φ := .f32) (mulf (F := Ideal) (φ := .f32) (res_main_v457 V) (res_main_v457 V)) none0 Cert.Pre_no_tie.Gen.reducesTo_S1024x32_S1024_d1 Cert.Pre_no_tie.Gen.h_S_))) (broadcastInDim Cert.Pre_no_tie.S1024x8192 ![0, 1] Cert.Pre_no_tie.Gen.bcast_S1x8192_S1024x8192_0_1 (broadcastInDim Cert.Pre_no_tie.S1x8192 ![1] Cert.Pre_no_tie.Gen.bcast_S8192_S1x8192_1 (Host.reduceAdd (F := Ideal) (φ := .f32) (mulf (F := Ideal) (φ := .f32) (V (Proc.devRef .tc main_arg1)) (V (Proc.devRef .tc main_arg1))) none0 Cert.Pre_no_tie.Gen.reducesTo_S8192x32_S8192_d1 Cert.Pre_no_tie.Gen.h_S_))) :=
  ⟨_, rfl⟩

/-- The precondition's fourth scale leaves the fifth residual. -/
theorem pre3 (t : Bit) : ∃ u : Bit, fn_part24 (F := Ideal) (V (Proc.devRef .tc main_arg1)) (V (Proc.devRef .tc main_arg2)) (V (Proc.devRef .tc main_arg3)) t (res_main_v451 V) (Host.dotGeneral (F := Ideal) (φ₁ := .f32) (φ₂ := .f32) dot_S1024x32_S32x8192_S1024x8192_1_0_0_1_n_n none (res_main_v457 V) (transpose Cert.Pre_no_tie.S32x8192 [1, 0] (V (Proc.devRef .tc main_arg1)) Cert.Pre_no_tie.Gen.transposes_S8192x32_S32x8192_1_0)) (broadcastInDim Cert.Pre_no_tie.S1024x8192 ![0, 1] Cert.Pre_no_tie.Gen.bcast_S1024x1_S1024x8192_0_1 (broadcastInDim Cert.Pre_no_tie.S1024x1 ![0] Cert.Pre_no_tie.Gen.bcast_S1024_S1024x1_0 (Host.reduceAdd (F := Ideal) (φ := .f32) (mulf (F := Ideal) (φ := .f32) (res_main_v457 V) (res_main_v457 V)) none0 Cert.Pre_no_tie.Gen.reducesTo_S1024x32_S1024_d1 Cert.Pre_no_tie.Gen.h_S_))) (broadcastInDim Cert.Pre_no_tie.S1024x8192 ![0, 1] Cert.Pre_no_tie.Gen.bcast_S1x8192_S1024x8192_0_1 (broadcastInDim Cert.Pre_no_tie.S1x8192 ![1] Cert.Pre_no_tie.Gen.bcast_S8192_S1x8192_1 (Host.reduceAdd (F := Ideal) (φ := .f32) (mulf (F := Ideal) (φ := .f32) (V (Proc.devRef .tc main_arg1)) (V (Proc.devRef .tc main_arg1))) none0 Cert.Pre_no_tie.Gen.reducesTo_S8192x32_S8192_d1 Cert.Pre_no_tie.Gen.h_S_)))
    = fn_part31 (F := Ideal) (V (Proc.devRef .tc main_arg1)) (V (Proc.devRef .tc main_arg2)) (V (Proc.devRef .tc main_arg3)) (andi t u) (res_main_v602 V) (Host.reduceAdd (F := Ideal) (φ := .f32) (shapeCast Cert.Pre_no_tie.S16x32x16x2x16x2 (res_main_v602 V) Cert.Pre_no_tie.Gen.shapeCasts_S16x32x32x32_S16x32x16x2x16x2) none0 Cert.Pre_no_tie.Gen.reducesTo_S16x32x16x2x16x2_S16x32x16x16_d3_5 Cert.Pre_no_tie.Gen.h_S_) (constant (F := Ideal) Cert.Pre_no_tie.S_ .f32 0x40800000#32) :=
  ⟨_, rfl⟩

/-- The precondition's fifth scale leaves the last residual. -/
theorem pre4 (t : Bit) : ∃ u : Bit, fn_part31 (F := Ideal) (V (Proc.devRef .tc main_arg1)) (V (Proc.devRef .tc main_arg2)) (V (Proc.devRef .tc main_arg3)) t (res_main_v602 V) (Host.reduceAdd (F := Ideal) (φ := .f32) (shapeCast Cert.Pre_no_tie.S16x32x16x2x16x2 (res_main_v602 V) Cert.Pre_no_tie.Gen.shapeCasts_S16x32x32x32_S16x32x16x2x16x2) none0 Cert.Pre_no_tie.Gen.reducesTo_S16x32x16x2x16x2_S16x32x16x16_d3_5 Cert.Pre_no_tie.Gen.h_S_) (constant (F := Ideal) Cert.Pre_no_tie.S_ .f32 0x40800000#32)
    = fn_part39 (F := Ideal) (andi t u) (broadcastInDim Cert.Pre_no_tie.S16384x1 ![0] Cert.Pre_no_tie.Gen.bcast_S16384_S16384x1_0 (Host.reduceAdd (F := Ideal) (φ := .f32) (mulf (F := Ideal) (φ := .f32) (res_main_v755 V) (res_main_v755 V)) none0 Cert.Pre_no_tie.Gen.reducesTo_S16384x32_S16384_d1 Cert.Pre_no_tie.Gen.h_S_)) (Host.dotGeneral (F := Ideal) (φ₁ := .f32) (φ₂ := .f32) dot_S16384x32_S32x8192_S16384x8192_1_0_0_1_n_n none (res_main_v755 V) (transpose Cert.Pre_no_tie.S32x8192 [1, 0] (V (Proc.devRef .tc main_arg1)) Cert.Pre_no_tie.Gen.transposes_S8192x32_S32x8192_1_0)) (broadcastInDim Cert.Pre_no_tie.S1x8192 ![1] Cert.Pre_no_tie.Gen.bcast_S8192_S1x8192_1 (Host.reduceAdd (F := Ideal) (φ := .f32) (mulf (F := Ideal) (φ := .f32) (V (Proc.devRef .tc main_arg1)) (V (Proc.devRef .tc main_arg1))) none0 Cert.Pre_no_tie.Gen.reducesTo_S8192x32_S8192_d1 Cert.Pre_no_tie.Gen.h_S_)) :=
  ⟨_, rfl⟩

/-- The precondition's last scale counts the least places of each pixel's distances. -/
theorem pre5 (t : Bit) : ∃ u : Bit, fn_part39 (F := Ideal) t (broadcastInDim Cert.Pre_no_tie.S16384x1 ![0] Cert.Pre_no_tie.Gen.bcast_S16384_S16384x1_0 (Host.reduceAdd (F := Ideal) (φ := .f32) (mulf (F := Ideal) (φ := .f32) (res_main_v755 V) (res_main_v755 V)) none0 Cert.Pre_no_tie.Gen.reducesTo_S16384x32_S16384_d1 Cert.Pre_no_tie.Gen.h_S_)) (Host.dotGeneral (F := Ideal) (φ₁ := .f32) (φ₂ := .f32) dot_S16384x32_S32x8192_S16384x8192_1_0_0_1_n_n none (res_main_v755 V) (transpose Cert.Pre_no_tie.S32x8192 [1, 0] (V (Proc.devRef .tc main_arg1)) Cert.Pre_no_tie.Gen.transposes_S8192x32_S32x8192_1_0)) (broadcastInDim Cert.Pre_no_tie.S1x8192 ![1] Cert.Pre_no_tie.Gen.bcast_S8192_S1x8192_1 (Host.reduceAdd (F := Ideal) (φ := .f32) (mulf (F := Ideal) (φ := .f32) (V (Proc.devRef .tc main_arg1)) (V (Proc.devRef .tc main_arg1))) none0 Cert.Pre_no_tie.Gen.reducesTo_S8192x32_S8192_d1 Cert.Pre_no_tie.Gen.h_S_))
    = andi (andi t (Host.reduce IntOp.andi (cmpi .eq (Host.reduce IntOp.addi (extui 32 (cmpf (F := Ideal) (φ := .f32) .oeq (res_main_v769 V)
        (broadcastInDim S16384x8192 ![0, 1] bcast_S16384x1_S16384x8192_0_1 (broadcastInDim S16384x1 ![0] bcast_S16384_S16384x1_0
          (Host.reduce (FloatOps.minimumf (F := Ideal) (φ := .f32)) (res_main_v769 V) (constant (F := Ideal) S_ .f32 0x7F800000#32)
            reducesTo_S16384x8192_S16384_d1 h_S_)))) Cert.Pre_no_tie.Gen.natLt_1_32) (constantI S_ 32 0#32) reducesTo_S16384x8192_S16384_d1 h_S_)
          (broadcastInDim Cert.Pre_no_tie.S16384 ![] Cert.Pre_no_tie.Gen.bcast_S_S16384 (constantI S_ 32 1#32)))
        (constantI S_ 1 1#1) Cert.Pre_no_tie.Gen.reducesTo_S16384_S_d0 h_S_)) u :=
  ⟨_, rfl⟩

end Vq
-- ==== Proof.PreParts.lean ====
/- What the precondition says: the codes are real, and each pixel of the finest scale has one nearest code. -/
module

public import proofs.«01_k».proof.Proof.PreScales

@[expose] public section

set_option maxRecDepth 16384

open Idealize.ShloMosaic Idealize.ShloMosaic.Pointwise Cert.ReferenceIdeal Cert.ReferenceIdeal.Gen Cert.ReferenceIdeal.Value
open Idealize.ShloMosaic.TcCoe

noncomputable section

namespace Vq

variable (V : Valuation τ sig (Elt Ideal))

open Cert.Pre_no_tie (fn)

/-- A conjunction that is true is true on both sides. -/
theorem andi_one {s : Shape} {a b : IVec s 1} {i : s.Idx} (h : andi a b i = 1#1) : a i = 1#1 ∧ b i = 1#1 :=
  IntOp.andi_eq_one.mp h

/-- The distances of the finest scale. -/
abbrev lastDist : Fin 16384 → Fin 8192 → EReal := fun r j => (res_main_v769 V : S16384x8192.Idx → EReal) (ix2 r j)

/-- The codes, one array. -/
abbrev codeArr : S8192x32.Idx → EReal := V (Proc.devRef .tc main_arg1)

/-- What the precondition says of a program's arguments: the codes are finite, and each row of the finest scale's distances has
one least place. -/
theorem pre_parts (h : fn (F := Ideal) (V (Proc.devRef .tc main_arg0)) (V (Proc.devRef .tc main_arg1)) (V (Proc.devRef .tc main_arg2)) (V (Proc.devRef .tc main_arg3)) = fun _ => 1#1) :
    (∀ j c, Real' (book V j c)) ∧ ∀ (r : Fin 16384) (i j : Fin 8192),
      (∀ k, lastDist V r i ≤ lastDist V r k) →
      (∀ k, lastDist V r j ≤ lastDist V r k) → i = j := by
  obtain ⟨u0, h0⟩ := pre0 V
  obtain ⟨u1, h1⟩ := pre1 V (andi (finite V) u0)
  obtain ⟨u2, h2⟩ := pre2 V (andi (andi (finite V) u0) u1)
  obtain ⟨u3, h3⟩ := pre3 V (andi (andi (andi (finite V) u0) u1) u2)
  obtain ⟨u4, h4⟩ := pre4 V (andi (andi (andi (andi (finite V) u0) u1) u2) u3)
  obtain ⟨u5, h5⟩ := pre5 V (andi (andi (andi (andi (andi (finite V) u0) u1) u2) u3) u4)
  rw [h0, h1, h2, h3, h4, h5] at h
  have e := congrFun h (fun a => a.elim0)
  have e5 := andi_one (andi_one e).1
  have ef := (andi_one (andi_one (andi_one (andi_one (andi_one e5.1).1).1).1).1).1
  constructor
  · intro j c
    have g := Host.reduce_andi_all _ _ _ _ _ ef (ix2 j c)
    have g' : codeArr V (ix2 j c) ⊔ -codeArr V (ix2 j c) < ⊤ := by
      have g2 : BitVec.ofBool (decide (codeArr V (ix2 j c) ⊔ -codeArr V (ix2 j c) < Ideal.ofBits .f32 0x7F800000#32)) = 1#1 := g
      rw [ofBits_inf] at g2
      by_contra n
      rw [decide_eq_false n] at g2
      exact absurd g2 (by decide)
    show Real' (codeArr V (ix2 j c))
    generalize codeArr V (ix2 j c) = w at g'
    induction w with
    | bot => simp at g'
    | coe a => exact ⟨a, rfl⟩
    | top => simp at g'
  · intro r i j hi hj
    have g := Host.reduce_andi_all _ _ _ _ _ e5.2 (ix1 r)
    refine once_at (res_main_v769 V) r Cert.Pre_no_tie.Gen.natLt_1_32 bcast_S16384_S16384x1_0 bcast_S16384x1_S16384x8192_0_1
      reducesTo_S16384x8192_S16384_d1 h_S_ ?_ i j hi hj
    exact IntOp.cmpi_eq.mp g

/-- Under the precondition, each pixel of the finest scale has one nearest code. -/
theorem pre_once (h : fn (F := Ideal) (V (Proc.devRef .tc main_arg0)) (V (Proc.devRef .tc main_arg1)) (V (Proc.devRef .tc main_arg2)) (V (Proc.devRef .tc main_arg3)) = fun _ => 1#1)
    (b : Fin 16) : (rprob V b).Once := by
  obtain ⟨hb, ho⟩ := pre_parts V h
  intro p i j hi hj
  have d : ∀ k, lastDist V ⟨b.val * 1024 + p.val, by omega⟩ k = dist (rprob V b).R5 (rprob V b).E p k := dist_last V b hb p _ rfl
  refine ho ⟨b.val * 1024 + p.val, by omega⟩ i j (fun k => ?_) (fun k => ?_)
  · rw [d, d]; exact hi k
  · rw [d, d]; exact hj k

end Vq
-- ==== Proof.Meet.lean ====
/- Both programs compute the same problem from the same arguments. -/
module

public import proofs.«01_k».proof.Proof.KResult
public import proofs.«01_k».proof.Proof.RResult
public import proofs.«01_k».proof.Proof.PreParts
public import proofs.«01_k».proof.Proof.Cubic

@[expose] public section

set_option maxRecDepth 16384

open Idealize.ShloMosaic Idealize.ShloMosaic.Pointwise Idealize.ShloMosaic.TcCoe

noncomputable section

namespace Vq

variable (m : (ℓ : Loc Cert.KernelIdeal.nD Cert.KernelIdeal.τ Cert.KernelIdeal.sig) → Buf (Elt Ideal) ℓ) (c : Dev Cert.KernelIdeal.nD)
  (V : Valuation Cert.ReferenceIdeal.τ Cert.ReferenceIdeal.sig (Elt Ideal))

/-- The reference starts from the kernel's arguments. -/
def Same : Prop :=
  (V (Proc.devRef .tc Cert.ReferenceIdeal.main_arg0) : Cert.ReferenceIdeal.S16x32x32x32.Idx → EReal) = m (c.tc.loc Cert.KernelIdeal.main_arg0)
  ∧ (V (Proc.devRef .tc Cert.ReferenceIdeal.main_arg1) : Cert.ReferenceIdeal.S8192x32.Idx → EReal) = m (c.tc.loc Cert.KernelIdeal.main_arg1)
  ∧ (V (Proc.devRef .tc Cert.ReferenceIdeal.main_arg2) : Cert.ReferenceIdeal.S4x32x32x3x3.Idx → EReal) = m (c.tc.loc Cert.KernelIdeal.main_arg2)
  ∧ (V (Proc.devRef .tc Cert.ReferenceIdeal.main_arg3) : Cert.ReferenceIdeal.S4x32.Idx → EReal) = m (c.tc.loc Cert.KernelIdeal.main_arg3)

/-- Equal arguments give equal problems. -/
theorem prob_congr {x x' : (⟨4, ![16, 32, 32, 32]⟩ : Shape).Idx → EReal} {emb emb' : (⟨2, ![8192, 32]⟩ : Shape).Idx → EReal}
    {pw pw' : (⟨5, ![4, 32, 32, 3, 3]⟩ : Shape).Idx → EReal} {pb pb' : (⟨2, ![4, 32]⟩ : Shape).Idx → EReal} (b : Fin 16)
    (hx : x = x') (he : emb = emb') (hw : pw = pw') (hb : pb = pb') : prob cubic x emb pw pb b = prob cubic x' emb' pw' pb' b := by
  subst hx he hw hb
  rfl

/-- Equal arguments give equal preconditions. -/
theorem pre_congr {x x' : FVec Ideal Cert.Pre_no_tie.S16x32x32x32 .f32} {emb emb' : FVec Ideal Cert.Pre_no_tie.S8192x32 .f32}
    {pw pw' : FVec Ideal Cert.Pre_no_tie.S4x32x32x3x3 .f32} {pb pb' : FVec Ideal Cert.Pre_no_tie.S4x32 .f32}
    (hx : x = x') (he : emb = emb') (hw : pw = pw') (hb : pb = pb') :
    Cert.Pre_no_tie.fn (F := Ideal) x emb pw pb = Cert.Pre_no_tie.fn (F := Ideal) x' emb' pw' pb' := by
  subst hx he hw hb
  rfl

variable {m c V} (hs : Same m c V)
  (hp : Cert.Pre_no_tie.fn (F := Ideal) (m (c.tc.loc Cert.KernelIdeal.main_arg0)) (m (c.tc.loc Cert.KernelIdeal.main_arg1)) (m (c.tc.loc Cert.KernelIdeal.main_arg2)) (m (c.tc.loc Cert.KernelIdeal.main_arg3)) = fun _ => 1#1)

include hs in
/-- The kernel's problem is the reference's. -/
theorem kprob_eq (b : Fin 16) : K.kprob m c b = rprob V b := by
  exact (prob_eq _ _ _ _ b).trans (prob_congr b hs.1.symm hs.2.1.symm hs.2.2.1.symm hs.2.2.2.symm)

include hs hp

/-- The precondition, at the reference's arguments. -/
theorem pre_ref : Cert.Pre_no_tie.fn (F := Ideal) (V (Proc.devRef .tc Cert.ReferenceIdeal.main_arg0)) (V (Proc.devRef .tc Cert.ReferenceIdeal.main_arg1))
    (V (Proc.devRef .tc Cert.ReferenceIdeal.main_arg2)) (V (Proc.devRef .tc Cert.ReferenceIdeal.main_arg3)) = fun _ => 1#1 := by
  exact (pre_congr hs.1 hs.2.1 hs.2.2.1 hs.2.2.2).trans hp

/-- The precondition gives the kernel what it asks of its arguments. -/
theorem fit : K.Fit m c := by
  constructor
  · intro b j o
    rw [kprob_eq hs]
    exact (pre_parts V (pre_ref hs hp)).1 j o
  · intro b
    rw [kprob_eq hs]
    exact pre_once V (pre_ref hs hp) b

open Cert.ReferenceIdeal Cert.ReferenceIdeal.Gen Cert.ReferenceIdeal.Value

/-- The two image results are equal. -/
theorem y_eq : addf (F := Ideal) (φ := .f32) (V (Proc.devRef .tc main_arg0)) (subf (addf (addf (addf (addf (addf (addf (broadcastInDim S16x32x32x32 ![] bcast_S_S16x32x32x32 (constant S_ .f32 0x00000000#32)) (res_main_v140 V)) (res_main_v291 V)) (res_main_v442 V)) (res_main_v593 V)) (res_main_v744 V)) (res_main_v837 V)) (V (Proc.devRef .tc main_arg0)))
    = Pipeline.afterTail₀ Cert.KernelIdeal.cfgs (Cert.KernelIdeal.Gen.dats m) 0 (Cert.KernelIdeal.Gen.V0 m) [Cert.KernelIdeal.Gen.hostOps1] c Cert.KernelIdeal.main_v0_0 := by
  refine funext fun (i : S16x32x32x32.Idx) => ?_
  obtain ⟨b, o, y, x, rfl⟩ : ∃ (b : Fin 16) (o y x : Fin 32), i = ix4 b o y x :=
    ⟨i 0, i 1, i 2, i 3, funext fun a => by fin_cases a <;> rfl⟩
  refine (y_ref V (pre_parts V (pre_ref hs hp)).1 b o y x).trans ?_
  rw [← kprob_eq hs]
  exact (K.y_end m c (fit hs hp) b o y x).symm

/-- The two losses are equal. -/
theorem l_eq : mulf (F := Ideal) (φ := .f32) (addf (addf (addf (addf (addf (addf (addf (addf (addf (addf (addf (addf (constant S_ .f32 0x00000000#32) (mulf (res_main_v144 V) (constant S_ .f32 0x3E800000#32))) (res_main_v144 V)) (mulf (res_main_v295 V) (constant S_ .f32 0x3E800000#32))) (res_main_v295 V)) (mulf (res_main_v446 V) (constant S_ .f32 0x3E800000#32))) (res_main_v446 V)) (mulf (res_main_v597 V) (constant S_ .f32 0x3E800000#32))) (res_main_v597 V)) (mulf (res_main_v748 V) (constant S_ .f32 0x3E800000#32))) (res_main_v748 V)) (mulf (res_main_v841 V) (constant S_ .f32 0x3E800000#32))) (res_main_v841 V)) (constant S_ .f32 0x3E2AAAAB#32)
    = Pipeline.afterTail₀ Cert.KernelIdeal.cfgs (Cert.KernelIdeal.Gen.dats m) 0 (Cert.KernelIdeal.Gen.V0 m) [Cert.KernelIdeal.Gen.hostOps1] c Cert.KernelIdeal.main_v0_1 := by
  refine funext fun (i : S_.Idx) => ?_
  have e : i = ix0 := funext fun a => a.elim0
  rw [e]
  refine (l_ref V (pre_parts V (pre_ref hs hp)).1).trans ?_
  simp only [← kprob_eq hs]
  exact (K.l_end m c (fit hs hp)).symm

end Vq
-- ==== Proof.lean ====
/- The proof of the certificate: the frames come from the generated runs, the values from `Proof/`. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_no_tie
public import proofs.«01_k».proof.Proof.Meet

@[expose] public section

open Idealize Idealize.SL Idealize.SL.Sem Idealize.ShloMosaic

/-- The reference's run leaves its arguments as they were; it declares no semaphore. -/
theorem Cert.Proof.frame_reference : Cert.quiescent_ReferenceIdeal (hReferenceIdeal := Cert.ReferenceIdeal.Gen.facts) :=
  fun m g _ => (θ_run Cert.ReferenceIdeal.defs _ _).mono (fun r h => ⟨fun c => (h c).2.2, sem_eq_zero_of_no_sems (by decide) r.2⟩)
    (Cert.ReferenceIdeal.Value.run (F := Ideal) m g)

/-- Both results of the kernel are the reference's: the kernel's final arrays are named, and the reference's final terms equal
them. -/
theorem Cert.Proof.values : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' hpre hagree
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v0_0,
    fun c => Pipeline.afterTail₀ Cert.KernelIdeal.cfgs (Cert.KernelIdeal.Gen.dats m) 0 (Cert.KernelIdeal.Gen.V0 m) [Cert.KernelIdeal.Gen.hostOps1] c Cert.KernelIdeal.main_v0_1,
    ?_, ?_⟩
  · exact (θ_run Cert.KernelIdeal.defs _ _).mono (fun r h c =>
      ⟨(h.1 c).2 Cert.KernelIdeal.main_v0_0 (Pipeline.mem_restRefs_of Cert.KernelIdeal.main_v0_0 (by decide) (by decide)),
        (h.1 c).2 Cert.KernelIdeal.main_v0_1 (Pipeline.mem_restRefs_of Cert.KernelIdeal.main_v0_1 (by decide) (by decide)), h.2 c⟩)
      (θ_run_and (Cert.KernelIdeal.Gen.run_main m g) (Cert.KernelIdeal.Gen.unchanged m g))
  · refine (θ_run Cert.ReferenceIdeal.defs _ _).mono (fun r h c => ?_) (Cert.ReferenceIdeal.Value.run (F := Ideal) m' g')
    have hs : Vq.Same m c (StableHlo.launchContents m' c) :=
      ⟨(hagree c).1, (hagree c).2.1, (hagree c).2.2.1, (hagree c).2.2.2⟩
    exact ⟨(h c).1.trans (Vq.y_eq hs (hpre c)), (h c).2.1.trans (Vq.l_eq hs (hpre c)), (h c).2.2⟩

/-- The certificate. -/
theorem Cert.Proof.claim : Cert.Claim :=
  ⟨Cert.Kernel.Gen.facts, Cert.KernelIdeal.Gen.facts, Cert.ReferenceIdeal.Gen.facts, Cert.Pre_no_tie.Gen.facts,
    fun m g _ => Cert.Kernel.Gen.frame m g, fun m g _ => Cert.Kernel.Gen.frame m g,
    fun m g _ => Cert.KernelIdeal.Gen.frame m g, Cert.Proof.frame_reference, fun m g _ => Cert.Proof.frame_reference m g trivial,
    trivial, Cert.Proof.values⟩
